-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_on_products_fit [hKernelIdeal : Cert.KernelIdeal.Facts] [hReferenceIdeal : Cert.ReferenceIdeal.Facts] [hOn_products_fit : Cert.On_products_fit.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![128, 4096]⟩ ⟨2, ![4096, 4096]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![4096, 256]⟩ : Shape).Idx, (Layout.block ⟨2, ![4096, 256]⟩ ⟨2, ![4096, 8192]⟩ 1 32 c ((Cert.On_products_fit.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)) (m' (((0 : Dev Cert.ReferenceIdeal.nD).tc : Thread Cert.ReferenceIdeal.nD Cert.ReferenceIdeal.τ).loc Cert.ReferenceIdeal.main_arg2)) (m' (((0 : Dev Cert.ReferenceIdeal.nD).tc : Thread Cert.ReferenceIdeal.nD Cert.ReferenceIdeal.τ).loc Cert.ReferenceIdeal.main_arg3)))) : (⟨2, ![4096, 256]⟩ : Shape).Idx → _) i = 1#1 → r.2.mem ((c.tc : Thread Cert.KernelIdeal.nD Cert.KernelIdeal.τ).loc Cert.KernelIdeal.main_v1) i = (Layout.block ⟨2, ![4096, 256]⟩ ⟨2, ![4096, 8192]⟩ 1 32 c v0 : (⟨2, ![4096, 256]⟩ : Shape).Idx → _) i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          (∀ i : (⟨2, ![4096, 8192]⟩ : Shape).Idx, (Cert.On_products_fit.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)) (m' (((0 : Dev Cert.ReferenceIdeal.nD).tc : Thread Cert.ReferenceIdeal.nD Cert.ReferenceIdeal.τ).loc Cert.ReferenceIdeal.main_arg2)) (m' (((0 : Dev Cert.ReferenceIdeal.nD).tc : Thread Cert.ReferenceIdeal.nD Cert.ReferenceIdeal.τ).loc Cert.ReferenceIdeal.main_arg3))) i = 1#1 → r.2.mem (((0 : Dev Cert.ReferenceIdeal.nD).tc : Thread Cert.ReferenceIdeal.nD Cert.ReferenceIdeal.τ).loc Cert.ReferenceIdeal.main_v13) i = v0 i)
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hOn_products_fit : Cert.On_products_fit.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_products_fit (hKernelIdeal := hKernelIdeal) (hReferenceIdeal := hReferenceIdeal) (hOn_products_fit := hOn_products_fit)
-- ==== On_products_fit.lean ====
abbrev S4096x4096 : Shape := ⟨2, ![4096, 4096]⟩
abbrev S4096x8192 : Shape := ⟨2, ![4096, 8192]⟩
abbrev S1 : Shape := ⟨1, ![1]⟩
abbrev S_ : Shape := ⟨0, ![]⟩

class Facts : Prop where
  natLt_8_32 : 8 < 32
  bcast_S_S4096x8192 : S_.BroadcastsInDim S4096x8192 (![] : Fin 0 → Fin S4096x8192.rank)
  dot_S4096x4096_S4096x8192_S4096x8192_1_0_0_1_n_n_wf : DotDims.WF S4096x4096 S4096x8192 S4096x8192 [1] [0] [0] [1] [] []

variable [Facts]

def dot_S4096x4096_S4096x8192_S4096x8192_1_0_0_1_n_n : DotDims S4096x4096 S4096x8192 S4096x8192 where
  lhsContracting := [1]
  rhsContracting := [0]
  lhsNonContracting := [0]
  rhsNonContracting := [1]
  lhsBatch := []
  rhsBatch := []
  wf := dot_S4096x4096_S4096x8192_S4096x8192_1_0_0_1_n_n_wf
def fn {F : FTy → Type} [FloatOps F] (main_arg0 : IVec S4096x4096 8) (main_arg1 : IVec S4096x8192 8) (main_arg2 : FVec F S1 .f32) (main_arg3 : FVec F S1 .f32) : IVec S4096x8192 1 :=
  let main_v0 : IVec S4096x4096 32 := (extsi 32 · natLt_8_32) main_arg0
  let main_v1 : FVec F S4096x4096 .f32 := sitofp .f32 main_v0
  let main_v2 : FVec F S4096x4096 .f32 := Host.absf main_v1
  let main_v3 : IVec S4096x8192 32 := (extsi 32 · natLt_8_32) main_arg1
  let main_v4 : FVec F S4096x8192 .f32 := sitofp .f32 main_v3
  let main_v5 : FVec F S4096x8192 .f32 := Host.absf main_v4
  let main_v6 : FVec F S4096x8192 .f32 := (fun l r => Host.dotGeneral dot_S4096x4096_S4096x8192_S4096x8192_1_0_0_1_n_n (some .fp32) l r) main_v2 main_v5
  let main_cst : FVec F S_ .f32 := constant S_ .f32 0x4B800000#32
  let main_v7 : FVec F S4096x8192 .f32 := broadcastInDim S4096x8192 ![] bcast_S_S4096x8192 main_cst
  let main_v8 : IVec S4096x8192 1 := cmpf .olt main_v6 main_v7
  main_v8
-- ==== Kernel.lean ====
abbrev S128x4096 : Shape := ⟨2, ![128, 4096]⟩
abbrev S4096x8192 : Shape := ⟨2, ![4096, 8192]⟩
abbrev S1 : Shape := ⟨1, ![1]⟩
abbrev S4096x256 : Shape := ⟨2, ![4096, 256]⟩
abbrev S2x4096x2048 : Shape := ⟨3, ![2, 4096, 2048]⟩
abbrev S32x128x256 : Shape := ⟨3, ![32, 128, 256]⟩
abbrev S2 : Shape := ⟨1, ![2]⟩
abbrev S32 : Shape := ⟨1, ![32]⟩
abbrev S_ : Shape := ⟨0, ![]⟩
abbrev S1x4096x2048 : Shape := ⟨3, ![1, 4096, 2048]⟩
abbrev S4096x2048 : Shape := ⟨2, ![4096, 2048]⟩
abbrev S128x2048 : Shape := ⟨2, ![128, 2048]⟩
abbrev S128x256 : Shape := ⟨2, ![128, 256]⟩
abbrev S1x128x256 : Shape := ⟨3, ![1, 128, 256]⟩

abbrev nBuf : Space → Nat
  | .hbm => 5
  | .vmem => 5
  | .smem => 2
  | _ => 0

abbrev bufTy : (tb : Table) → Fin (tcTables nBuf tb) → BufTy
  | .hbm, ⟨0, _⟩ => ⟨S128x4096, .i8⟩
  | .hbm, ⟨1, _⟩ => ⟨S4096x8192, .i8⟩
  | .hbm, ⟨2, _⟩ => ⟨S1, .f32⟩
  | .hbm, ⟨3, _⟩ => ⟨S1, .f32⟩
  | .hbm, ⟨4, _⟩ => ⟨S4096x256, .f32⟩
  | .local _ .vmem, ⟨0, _⟩ => ⟨S128x4096, .i8⟩
  | .local _ .vmem, ⟨1, _⟩ => ⟨S4096x256, .f32⟩
  | .local _ .vmem, ⟨2, _⟩ => ⟨S2x4096x2048, .i8⟩
  | .local _ .vmem, ⟨3, _⟩ => ⟨S32x128x256, .bf16⟩
  | .local _ .vmem, ⟨4, _⟩ => ⟨S32x128x256, .bf16⟩
  | .local _ .smem, ⟨0, _⟩ => ⟨S1, .f32⟩
  | .local _ .smem, ⟨1, _⟩ => ⟨S1, .f32⟩
  | _, _ => ⟨S128x4096, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | _, _ => false

abbrev semScoped : Fin 1 → Bool
  | ⟨0, _⟩ => false
  | _ => false

abbrev dmaSemScoped : Fin 70 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | _ => false

abbrev sig : RefSig :=
  (ofTc nBuf bufTy 1 70 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg3_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_stg1_0 : Ref sig .tc := ⟨.smem, 0, rfl⟩
abbrev cc0_stg2_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 32
abbrev τ : Topo := Topo.v7x

variable {F : FTy → Type} [FloatOps F]

abbrev grid0 : Pipeline.Grid := .none

@[reducible] def k0_t1_loop : Scf.Loop 32 :=
  let c0_i32_7 : BitVec 32 := 0#32
  let c31_i32 : BitVec 32 := 31#32
  let v25 : BitVec 32 := Scalar.addi c0_i32_7 c31_i32
  let c1_i32_8 : BitVec 32 := 1#32
  ⟨c0_i32_7, v25, c1_i32_8⟩
def k0_dev1 (d0 : Dev nD) (k0_t1 : Fin k0_t1_loop.trips) : Nat :=
  let c0_i32_1336 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1327 : BitVec 32 := 1#32
  let c0_i32_7 : BitVec 32 := 0#32
  let c1_i32_8 : BitVec 32 := 1#32
  let arg11 : BitVec 32 := Scf.iv c0_i32_7 c1_i32_8 k0_t1
  let c1_i32_1326 : BitVec 32 := 1#32
  let v2143 : BitVec 32 := Scalar.muli arg11 c1_i32_1326
  let v2144 : BitVec 32 := Scalar.addi c1_i32_1327 v2143
  let v2145 : BitVec 32 := Scalar.addi v2 v2144
  let c32_i32_1328 : BitVec 32 := 32#32
  let c0_i32_1329 : BitVec 32 := 0#32
  let v2146 : BitVec 1 := Scalar.cmpi .eq c32_i32_1328 c0_i32_1329
  let c1_i32_1330 : BitVec 32 := 1#32
  let v2147 : BitVec 32 := Scalar.select v2146 c1_i32_1330 c32_i32_1328
  let v2148 : BitVec 32 := Scalar.remsi v2145 v2147
  let c0_i32_1332 : BitVec 32 := 0#32
  let v2150 : BitVec 1 := Scalar.cmpi .slt v2148 c0_i32_1332
  let c0_i32_1333 : BitVec 32 := 0#32
  let v2151 : BitVec 1 := Scalar.cmpi .slt v2147 c0_i32_1333
  let v2152 : BitVec 1 := Scalar.xori v2150 v2151
  let c0_i32_1331 : BitVec 32 := 0#32
  let v2149 : BitVec 1 := Scalar.cmpi .ne v2148 c0_i32_1331
  let v2153 : BitVec 1 := Scalar.andi v2152 v2149
  let v2154 : BitVec 32 := Scalar.addi v2148 v2147
  let v2155 : BitVec 32 := Scalar.select v2153 v2154 v2148
  let c1_i32_1335 : BitVec 32 := 1#32
  let v2156 : BitVec 32 := Scalar.muli v2155 c1_i32_1335
  let v2157 : BitVec 32 := Scalar.addi c0_i32_1336 v2156
  v2157.toNat
def k0_off1 (d0 : Dev nD) (c0_i32_11 : BitVec 32) : Fin 2 → Nat :=
  let c0_i32_22 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let v26 : BitVec 32 := Scalar.addi v20 c0_i32_11
  let c32_i32_12 : BitVec 32 := 32#32
  let c0_i32_13 : BitVec 32 := 0#32
  let v27 : BitVec 1 := Scalar.cmpi .eq c32_i32_12 c0_i32_13
  let c1_i32_14 : BitVec 32 := 1#32
  let v28 : BitVec 32 := Scalar.select v27 c1_i32_14 c32_i32_12
  let v29 : BitVec 32 := Scalar.remsi v26 v28
  let c0_i32_16 : BitVec 32 := 0#32
  let v31 : BitVec 1 := Scalar.cmpi .slt v29 c0_i32_16
  let c0_i32_17 : BitVec 32 := 0#32
  let v32 : BitVec 1 := Scalar.cmpi .slt v28 c0_i32_17
  let v33 : BitVec 1 := Scalar.xori v31 v32
  let c0_i32_15 : BitVec 32 := 0#32
  let v30 : BitVec 1 := Scalar.cmpi .ne v29 c0_i32_15
  let v34 : BitVec 1 := Scalar.andi v33 v30
  let v35 : BitVec 32 := Scalar.addi v29 v28
  let v36 : BitVec 32 := Scalar.select v34 v35 v29
  let c256_i32 : BitVec 32 := 256#32
  let v37 : BitVec 32 := Scalar.muli v36 c256_i32
  ![0, v37.toNat]
def k0_cond1 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c0_i32_54 : BitVec 32 := 0#32
  let v88 : BitVec 32 := Scalar.addi v20 c0_i32_54
  let c0_i32_55 : BitVec 32 := 0#32
  let v89 : BitVec 32 := Scalar.addi v88 c0_i32_55
  let c32_i32_56 : BitVec 32 := 32#32
  let c0_i32_57 : BitVec 32 := 0#32
  let v90 : BitVec 1 := Scalar.cmpi .eq c32_i32_56 c0_i32_57
  let c1_i32_58 : BitVec 32 := 1#32
  let v91 : BitVec 32 := Scalar.select v90 c1_i32_58 c32_i32_56
  let v92 : BitVec 32 := Scalar.remsi v89 v91
  let c0_i32_60 : BitVec 32 := 0#32
  let v94 : BitVec 1 := Scalar.cmpi .slt v92 c0_i32_60
  let c0_i32_61 : BitVec 32 := 0#32
  let v95 : BitVec 1 := Scalar.cmpi .slt v91 c0_i32_61
  let v96 : BitVec 1 := Scalar.xori v94 v95
  let c0_i32_59 : BitVec 32 := 0#32
  let v93 : BitVec 1 := Scalar.cmpi .ne v92 c0_i32_59
  let v97 : BitVec 1 := Scalar.andi v96 v93
  let v98 : BitVec 32 := Scalar.addi v92 v91
  let v99 : BitVec 32 := Scalar.select v97 v98 v92
  let v100 : BitVec 1 := Scalar.cmpi .eq v99 v2
  let v101 : BitVec 32 := Scalar.extui v100
  let c0_i32_62 : BitVec 32 := 0#32
  let v102 : BitVec 1 := Scalar.cmpi .ne v101 c0_i32_62
  v102

def k0_off2 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1326 : BitVec 32 := 128#32
  let v2143 : BitVec 32 := Scalar.muli v2 c128_i32_1326
  let v2144 : Index := Scalar.indexCast v2143
  let c0_1327 : Index := 0#32
  ![v2144.toNat, 0]
def k0_cond2 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c0_i32_54 : BitVec 32 := 0#32
  let v88 : BitVec 32 := Scalar.addi v20 c0_i32_54
  let c0_i32_55 : BitVec 32 := 0#32
  let v89 : BitVec 32 := Scalar.addi v88 c0_i32_55
  let c32_i32_56 : BitVec 32 := 32#32
  let c0_i32_57 : BitVec 32 := 0#32
  let v90 : BitVec 1 := Scalar.cmpi .eq c32_i32_56 c0_i32_57
  let c1_i32_58 : BitVec 32 := 1#32
  let v91 : BitVec 32 := Scalar.select v90 c1_i32_58 c32_i32_56
  let v92 : BitVec 32 := Scalar.remsi v89 v91
  let c0_i32_60 : BitVec 32 := 0#32
  let v94 : BitVec 1 := Scalar.cmpi .slt v92 c0_i32_60
  let c0_i32_61 : BitVec 32 := 0#32
  let v95 : BitVec 1 := Scalar.cmpi .slt v91 c0_i32_61
  let v96 : BitVec 1 := Scalar.xori v94 v95
  let c0_i32_59 : BitVec 32 := 0#32
  let v93 : BitVec 1 := Scalar.cmpi .ne v92 c0_i32_59
  let v97 : BitVec 1 := Scalar.andi v96 v93
  let v98 : BitVec 32 := Scalar.addi v92 v91
  let v99 : BitVec 32 := Scalar.select v97 v98 v92
  let v103 : BitVec 1 := Scalar.cmpi .ne v99 v2
  let v104 : BitVec 32 := Scalar.extui v103
  let c0_i32_63 : BitVec 32 := 0#32
  let v105 : BitVec 1 := Scalar.cmpi .ne v104 c0_i32_63
  v105

def k0_off3 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c0_i32_54 : BitVec 32 := 0#32
  let v88 : BitVec 32 := Scalar.addi v20 c0_i32_54
  let c0_i32_55 : BitVec 32 := 0#32
  let v89 : BitVec 32 := Scalar.addi v88 c0_i32_55
  let c32_i32_56 : BitVec 32 := 32#32
  let c0_i32_57 : BitVec 32 := 0#32
  let v90 : BitVec 1 := Scalar.cmpi .eq c32_i32_56 c0_i32_57
  let c1_i32_58 : BitVec 32 := 1#32
  let v91 : BitVec 32 := Scalar.select v90 c1_i32_58 c32_i32_56
  let v92 : BitVec 32 := Scalar.remsi v89 v91
  let c0_i32_60 : BitVec 32 := 0#32
  let v94 : BitVec 1 := Scalar.cmpi .slt v92 c0_i32_60
  let c0_i32_61 : BitVec 32 := 0#32
  let v95 : BitVec 1 := Scalar.cmpi .slt v91 c0_i32_61
  let v96 : BitVec 1 := Scalar.xori v94 v95
  let c0_i32_59 : BitVec 32 := 0#32
  let v93 : BitVec 1 := Scalar.cmpi .ne v92 c0_i32_59
  let v97 : BitVec 1 := Scalar.andi v96 v93
  let v98 : BitVec 32 := Scalar.addi v92 v91
  let v99 : BitVec 32 := Scalar.select v97 v98 v92
  let v2144 : Index := Scalar.indexCast v99
  let c0_1326 : Index := 0#32
  let c0_1327 : Index := 0#32
  ![v2144.toNat, 0, 0]
def k0_off4 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c0_i32_54 : BitVec 32 := 0#32
  let v88 : BitVec 32 := Scalar.addi v20 c0_i32_54
  let c0_i32_55 : BitVec 32 := 0#32
  let v89 : BitVec 32 := Scalar.addi v88 c0_i32_55
  let c32_i32_56 : BitVec 32 := 32#32
  let c0_i32_57 : BitVec 32 := 0#32
  let v90 : BitVec 1 := Scalar.cmpi .eq c32_i32_56 c0_i32_57
  let c1_i32_58 : BitVec 32 := 1#32
  let v91 : BitVec 32 := Scalar.select v90 c1_i32_58 c32_i32_56
  let v92 : BitVec 32 := Scalar.remsi v89 v91
  let c0_i32_60 : BitVec 32 := 0#32
  let v94 : BitVec 1 := Scalar.cmpi .slt v92 c0_i32_60
  let c0_i32_61 : BitVec 32 := 0#32
  let v95 : BitVec 1 := Scalar.cmpi .slt v91 c0_i32_61
  let v96 : BitVec 1 := Scalar.xori v94 v95
  let c0_i32_59 : BitVec 32 := 0#32
  let v93 : BitVec 1 := Scalar.cmpi .ne v92 c0_i32_59
  let v97 : BitVec 1 := Scalar.andi v96 v93
  let v98 : BitVec 32 := Scalar.addi v92 v91
  let v99 : BitVec 32 := Scalar.select v97 v98 v92
  ![v99.toNat]
def k0_off5 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off6 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1330 : BitVec 32 := 0#32
  let c0_i32_1331 : BitVec 32 := 0#32
  ![v2.toNat, 0, 0]
def k0_off7 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c0_i32_54 : BitVec 32 := 0#32
  let v88 : BitVec 32 := Scalar.addi v20 c0_i32_54
  let c0_i32_55 : BitVec 32 := 0#32
  let v89 : BitVec 32 := Scalar.addi v88 c0_i32_55
  let c32_i32_56 : BitVec 32 := 32#32
  let c0_i32_57 : BitVec 32 := 0#32
  let v90 : BitVec 1 := Scalar.cmpi .eq c32_i32_56 c0_i32_57
  let c1_i32_58 : BitVec 32 := 1#32
  let v91 : BitVec 32 := Scalar.select v90 c1_i32_58 c32_i32_56
  let v92 : BitVec 32 := Scalar.remsi v89 v91
  let c0_i32_60 : BitVec 32 := 0#32
  let v94 : BitVec 1 := Scalar.cmpi .slt v92 c0_i32_60
  let c0_i32_61 : BitVec 32 := 0#32
  let v95 : BitVec 1 := Scalar.cmpi .slt v91 c0_i32_61
  let v96 : BitVec 1 := Scalar.xori v94 v95
  let c0_i32_59 : BitVec 32 := 0#32
  let v93 : BitVec 1 := Scalar.cmpi .ne v92 c0_i32_59
  let v97 : BitVec 1 := Scalar.andi v96 v93
  let v98 : BitVec 32 := Scalar.addi v92 v91
  let v99 : BitVec 32 := Scalar.select v97 v98 v92
  let c0_i32_1332 : BitVec 32 := 0#32
  let c0_i32_1333 : BitVec 32 := 0#32
  ![v99.toNat, 0, 0]
def k0_dev2 (d0 : Dev nD) : Nat :=
  let c0_i32_1329 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c0_i32_54 : BitVec 32 := 0#32
  let v88 : BitVec 32 := Scalar.addi v20 c0_i32_54
  let c0_i32_55 : BitVec 32 := 0#32
  let v89 : BitVec 32 := Scalar.addi v88 c0_i32_55
  let c32_i32_56 : BitVec 32 := 32#32
  let c0_i32_57 : BitVec 32 := 0#32
  let v90 : BitVec 1 := Scalar.cmpi .eq c32_i32_56 c0_i32_57
  let c1_i32_58 : BitVec 32 := 1#32
  let v91 : BitVec 32 := Scalar.select v90 c1_i32_58 c32_i32_56
  let v92 : BitVec 32 := Scalar.remsi v89 v91
  let c0_i32_60 : BitVec 32 := 0#32
  let v94 : BitVec 1 := Scalar.cmpi .slt v92 c0_i32_60
  let c0_i32_61 : BitVec 32 := 0#32
  let v95 : BitVec 1 := Scalar.cmpi .slt v91 c0_i32_61
  let v96 : BitVec 1 := Scalar.xori v94 v95
  let c0_i32_59 : BitVec 32 := 0#32
  let v93 : BitVec 1 := Scalar.cmpi .ne v92 c0_i32_59
  let v97 : BitVec 1 := Scalar.andi v96 v93
  let v98 : BitVec 32 := Scalar.addi v92 v91
  let v99 : BitVec 32 := Scalar.select v97 v98 v92
  let c1_i32_1328 : BitVec 32 := 1#32
  let v2148 : BitVec 32 := Scalar.muli v99 c1_i32_1328
  let v2149 : BitVec 32 := Scalar.addi c0_i32_1329 v2148
  v2149.toNat
def k0_cond3 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c0_i32_64 : BitVec 32 := 0#32
  let v107 : BitVec 32 := Scalar.addi v20 c0_i32_64
  let c1_i32_65 : BitVec 32 := 1#32
  let v108 : BitVec 32 := Scalar.addi v107 c1_i32_65
  let c32_i32_66 : BitVec 32 := 32#32
  let c0_i32_67 : BitVec 32 := 0#32
  let v109 : BitVec 1 := Scalar.cmpi .eq c32_i32_66 c0_i32_67
  let c1_i32_68 : BitVec 32 := 1#32
  let v110 : BitVec 32 := Scalar.select v109 c1_i32_68 c32_i32_66
  let v111 : BitVec 32 := Scalar.remsi v108 v110
  let c0_i32_70 : BitVec 32 := 0#32
  let v113 : BitVec 1 := Scalar.cmpi .slt v111 c0_i32_70
  let c0_i32_71 : BitVec 32 := 0#32
  let v114 : BitVec 1 := Scalar.cmpi .slt v110 c0_i32_71
  let v115 : BitVec 1 := Scalar.xori v113 v114
  let c0_i32_69 : BitVec 32 := 0#32
  let v112 : BitVec 1 := Scalar.cmpi .ne v111 c0_i32_69
  let v116 : BitVec 1 := Scalar.andi v115 v112
  let v117 : BitVec 32 := Scalar.addi v111 v110
  let v118 : BitVec 32 := Scalar.select v116 v117 v111
  let v119 : BitVec 1 := Scalar.cmpi .eq v118 v2
  let v120 : BitVec 32 := Scalar.extui v119
  let c0_i32_72 : BitVec 32 := 0#32
  let v121 : BitVec 1 := Scalar.cmpi .ne v120 c0_i32_72
  v121

def k0_off8 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1326 : BitVec 32 := 128#32
  let v2143 : BitVec 32 := Scalar.muli v2 c128_i32_1326
  let v2144 : Index := Scalar.indexCast v2143
  let c0_1327 : Index := 0#32
  ![v2144.toNat, 0]
def k0_cond4 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c0_i32_64 : BitVec 32 := 0#32
  let v107 : BitVec 32 := Scalar.addi v20 c0_i32_64
  let c1_i32_65 : BitVec 32 := 1#32
  let v108 : BitVec 32 := Scalar.addi v107 c1_i32_65
  let c32_i32_66 : BitVec 32 := 32#32
  let c0_i32_67 : BitVec 32 := 0#32
  let v109 : BitVec 1 := Scalar.cmpi .eq c32_i32_66 c0_i32_67
  let c1_i32_68 : BitVec 32 := 1#32
  let v110 : BitVec 32 := Scalar.select v109 c1_i32_68 c32_i32_66
  let v111 : BitVec 32 := Scalar.remsi v108 v110
  let c0_i32_70 : BitVec 32 := 0#32
  let v113 : BitVec 1 := Scalar.cmpi .slt v111 c0_i32_70
  let c0_i32_71 : BitVec 32 := 0#32
  let v114 : BitVec 1 := Scalar.cmpi .slt v110 c0_i32_71
  let v115 : BitVec 1 := Scalar.xori v113 v114
  let c0_i32_69 : BitVec 32 := 0#32
  let v112 : BitVec 1 := Scalar.cmpi .ne v111 c0_i32_69
  let v116 : BitVec 1 := Scalar.andi v115 v112
  let v117 : BitVec 32 := Scalar.addi v111 v110
  let v118 : BitVec 32 := Scalar.select v116 v117 v111
  let v122 : BitVec 1 := Scalar.cmpi .ne v118 v2
  let v123 : BitVec 32 := Scalar.extui v122
  let c0_i32_73 : BitVec 32 := 0#32
  let v124 : BitVec 1 := Scalar.cmpi .ne v123 c0_i32_73
  v124

def k0_off9 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c0_i32_64 : BitVec 32 := 0#32
  let v107 : BitVec 32 := Scalar.addi v20 c0_i32_64
  let c1_i32_65 : BitVec 32 := 1#32
  let v108 : BitVec 32 := Scalar.addi v107 c1_i32_65
  let c32_i32_66 : BitVec 32 := 32#32
  let c0_i32_67 : BitVec 32 := 0#32
  let v109 : BitVec 1 := Scalar.cmpi .eq c32_i32_66 c0_i32_67
  let c1_i32_68 : BitVec 32 := 1#32
  let v110 : BitVec 32 := Scalar.select v109 c1_i32_68 c32_i32_66
  let v111 : BitVec 32 := Scalar.remsi v108 v110
  let c0_i32_70 : BitVec 32 := 0#32
  let v113 : BitVec 1 := Scalar.cmpi .slt v111 c0_i32_70
  let c0_i32_71 : BitVec 32 := 0#32
  let v114 : BitVec 1 := Scalar.cmpi .slt v110 c0_i32_71
  let v115 : BitVec 1 := Scalar.xori v113 v114
  let c0_i32_69 : BitVec 32 := 0#32
  let v112 : BitVec 1 := Scalar.cmpi .ne v111 c0_i32_69
  let v116 : BitVec 1 := Scalar.andi v115 v112
  let v117 : BitVec 32 := Scalar.addi v111 v110
  let v118 : BitVec 32 := Scalar.select v116 v117 v111
  let v2144 : Index := Scalar.indexCast v118
  let c0_1326 : Index := 0#32
  let c0_1327 : Index := 0#32
  ![v2144.toNat, 0, 0]
def k0_off10 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c0_i32_64 : BitVec 32 := 0#32
  let v107 : BitVec 32 := Scalar.addi v20 c0_i32_64
  let c1_i32_65 : BitVec 32 := 1#32
  let v108 : BitVec 32 := Scalar.addi v107 c1_i32_65
  let c32_i32_66 : BitVec 32 := 32#32
  let c0_i32_67 : BitVec 32 := 0#32
  let v109 : BitVec 1 := Scalar.cmpi .eq c32_i32_66 c0_i32_67
  let c1_i32_68 : BitVec 32 := 1#32
  let v110 : BitVec 32 := Scalar.select v109 c1_i32_68 c32_i32_66
  let v111 : BitVec 32 := Scalar.remsi v108 v110
  let c0_i32_70 : BitVec 32 := 0#32
  let v113 : BitVec 1 := Scalar.cmpi .slt v111 c0_i32_70
  let c0_i32_71 : BitVec 32 := 0#32
  let v114 : BitVec 1 := Scalar.cmpi .slt v110 c0_i32_71
  let v115 : BitVec 1 := Scalar.xori v113 v114
  let c0_i32_69 : BitVec 32 := 0#32
  let v112 : BitVec 1 := Scalar.cmpi .ne v111 c0_i32_69
  let v116 : BitVec 1 := Scalar.andi v115 v112
  let v117 : BitVec 32 := Scalar.addi v111 v110
  let v118 : BitVec 32 := Scalar.select v116 v117 v111
  ![v118.toNat]
def k0_off11 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off12 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1330 : BitVec 32 := 0#32
  let c0_i32_1331 : BitVec 32 := 0#32
  ![v2.toNat, 0, 0]
def k0_off13 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c0_i32_64 : BitVec 32 := 0#32
  let v107 : BitVec 32 := Scalar.addi v20 c0_i32_64
  let c1_i32_65 : BitVec 32 := 1#32
  let v108 : BitVec 32 := Scalar.addi v107 c1_i32_65
  let c32_i32_66 : BitVec 32 := 32#32
  let c0_i32_67 : BitVec 32 := 0#32
  let v109 : BitVec 1 := Scalar.cmpi .eq c32_i32_66 c0_i32_67
  let c1_i32_68 : BitVec 32 := 1#32
  let v110 : BitVec 32 := Scalar.select v109 c1_i32_68 c32_i32_66
  let v111 : BitVec 32 := Scalar.remsi v108 v110
  let c0_i32_70 : BitVec 32 := 0#32
  let v113 : BitVec 1 := Scalar.cmpi .slt v111 c0_i32_70
  let c0_i32_71 : BitVec 32 := 0#32
  let v114 : BitVec 1 := Scalar.cmpi .slt v110 c0_i32_71
  let v115 : BitVec 1 := Scalar.xori v113 v114
  let c0_i32_69 : BitVec 32 := 0#32
  let v112 : BitVec 1 := Scalar.cmpi .ne v111 c0_i32_69
  let v116 : BitVec 1 := Scalar.andi v115 v112
  let v117 : BitVec 32 := Scalar.addi v111 v110
  let v118 : BitVec 32 := Scalar.select v116 v117 v111
  let c0_i32_1332 : BitVec 32 := 0#32
  let c0_i32_1333 : BitVec 32 := 0#32
  ![v118.toNat, 0, 0]
def k0_dev3 (d0 : Dev nD) : Nat :=
  let c0_i32_1329 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c0_i32_64 : BitVec 32 := 0#32
  let v107 : BitVec 32 := Scalar.addi v20 c0_i32_64
  let c1_i32_65 : BitVec 32 := 1#32
  let v108 : BitVec 32 := Scalar.addi v107 c1_i32_65
  let c32_i32_66 : BitVec 32 := 32#32
  let c0_i32_67 : BitVec 32 := 0#32
  let v109 : BitVec 1 := Scalar.cmpi .eq c32_i32_66 c0_i32_67
  let c1_i32_68 : BitVec 32 := 1#32
  let v110 : BitVec 32 := Scalar.select v109 c1_i32_68 c32_i32_66
  let v111 : BitVec 32 := Scalar.remsi v108 v110
  let c0_i32_70 : BitVec 32 := 0#32
  let v113 : BitVec 1 := Scalar.cmpi .slt v111 c0_i32_70
  let c0_i32_71 : BitVec 32 := 0#32
  let v114 : BitVec 1 := Scalar.cmpi .slt v110 c0_i32_71
  let v115 : BitVec 1 := Scalar.xori v113 v114
  let c0_i32_69 : BitVec 32 := 0#32
  let v112 : BitVec 1 := Scalar.cmpi .ne v111 c0_i32_69
  let v116 : BitVec 1 := Scalar.andi v115 v112
  let v117 : BitVec 32 := Scalar.addi v111 v110
  let v118 : BitVec 32 := Scalar.select v116 v117 v111
  let c1_i32_1328 : BitVec 32 := 1#32
  let v2148 : BitVec 32 := Scalar.muli v118 c1_i32_1328
  let v2149 : BitVec 32 := Scalar.addi c0_i32_1329 v2148
  v2149.toNat
def k0_cond5 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c0_i32_74 : BitVec 32 := 0#32
  let v126 : BitVec 32 := Scalar.addi v20 c0_i32_74
  let c2_i32 : BitVec 32 := 2#32
  let v127 : BitVec 32 := Scalar.addi v126 c2_i32
  let c32_i32_75 : BitVec 32 := 32#32
  let c0_i32_76 : BitVec 32 := 0#32
  let v128 : BitVec 1 := Scalar.cmpi .eq c32_i32_75 c0_i32_76
  let c1_i32_77 : BitVec 32 := 1#32
  let v129 : BitVec 32 := Scalar.select v128 c1_i32_77 c32_i32_75
  let v130 : BitVec 32 := Scalar.remsi v127 v129
  let c0_i32_79 : BitVec 32 := 0#32
  let v132 : BitVec 1 := Scalar.cmpi .slt v130 c0_i32_79
  let c0_i32_80 : BitVec 32 := 0#32
  let v133 : BitVec 1 := Scalar.cmpi .slt v129 c0_i32_80
  let v134 : BitVec 1 := Scalar.xori v132 v133
  let c0_i32_78 : BitVec 32 := 0#32
  let v131 : BitVec 1 := Scalar.cmpi .ne v130 c0_i32_78
  let v135 : BitVec 1 := Scalar.andi v134 v131
  let v136 : BitVec 32 := Scalar.addi v130 v129
  let v137 : BitVec 32 := Scalar.select v135 v136 v130
  let v138 : BitVec 1 := Scalar.cmpi .eq v137 v2
  let v139 : BitVec 32 := Scalar.extui v138
  let c0_i32_81 : BitVec 32 := 0#32
  let v140 : BitVec 1 := Scalar.cmpi .ne v139 c0_i32_81
  v140

def k0_off14 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1326 : BitVec 32 := 128#32
  let v2143 : BitVec 32 := Scalar.muli v2 c128_i32_1326
  let v2144 : Index := Scalar.indexCast v2143
  let c0_1327 : Index := 0#32
  ![v2144.toNat, 0]
def k0_cond6 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c0_i32_74 : BitVec 32 := 0#32
  let v126 : BitVec 32 := Scalar.addi v20 c0_i32_74
  let c2_i32 : BitVec 32 := 2#32
  let v127 : BitVec 32 := Scalar.addi v126 c2_i32
  let c32_i32_75 : BitVec 32 := 32#32
  let c0_i32_76 : BitVec 32 := 0#32
  let v128 : BitVec 1 := Scalar.cmpi .eq c32_i32_75 c0_i32_76
  let c1_i32_77 : BitVec 32 := 1#32
  let v129 : BitVec 32 := Scalar.select v128 c1_i32_77 c32_i32_75
  let v130 : BitVec 32 := Scalar.remsi v127 v129
  let c0_i32_79 : BitVec 32 := 0#32
  let v132 : BitVec 1 := Scalar.cmpi .slt v130 c0_i32_79
  let c0_i32_80 : BitVec 32 := 0#32
  let v133 : BitVec 1 := Scalar.cmpi .slt v129 c0_i32_80
  let v134 : BitVec 1 := Scalar.xori v132 v133
  let c0_i32_78 : BitVec 32 := 0#32
  let v131 : BitVec 1 := Scalar.cmpi .ne v130 c0_i32_78
  let v135 : BitVec 1 := Scalar.andi v134 v131
  let v136 : BitVec 32 := Scalar.addi v130 v129
  let v137 : BitVec 32 := Scalar.select v135 v136 v130
  let v141 : BitVec 1 := Scalar.cmpi .ne v137 v2
  let v142 : BitVec 32 := Scalar.extui v141
  let c0_i32_82 : BitVec 32 := 0#32
  let v143 : BitVec 1 := Scalar.cmpi .ne v142 c0_i32_82
  v143

def k0_off15 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c0_i32_74 : BitVec 32 := 0#32
  let v126 : BitVec 32 := Scalar.addi v20 c0_i32_74
  let c2_i32 : BitVec 32 := 2#32
  let v127 : BitVec 32 := Scalar.addi v126 c2_i32
  let c32_i32_75 : BitVec 32 := 32#32
  let c0_i32_76 : BitVec 32 := 0#32
  let v128 : BitVec 1 := Scalar.cmpi .eq c32_i32_75 c0_i32_76
  let c1_i32_77 : BitVec 32 := 1#32
  let v129 : BitVec 32 := Scalar.select v128 c1_i32_77 c32_i32_75
  let v130 : BitVec 32 := Scalar.remsi v127 v129
  let c0_i32_79 : BitVec 32 := 0#32
  let v132 : BitVec 1 := Scalar.cmpi .slt v130 c0_i32_79
  let c0_i32_80 : BitVec 32 := 0#32
  let v133 : BitVec 1 := Scalar.cmpi .slt v129 c0_i32_80
  let v134 : BitVec 1 := Scalar.xori v132 v133
  let c0_i32_78 : BitVec 32 := 0#32
  let v131 : BitVec 1 := Scalar.cmpi .ne v130 c0_i32_78
  let v135 : BitVec 1 := Scalar.andi v134 v131
  let v136 : BitVec 32 := Scalar.addi v130 v129
  let v137 : BitVec 32 := Scalar.select v135 v136 v130
  let v2144 : Index := Scalar.indexCast v137
  let c0_1326 : Index := 0#32
  let c0_1327 : Index := 0#32
  ![v2144.toNat, 0, 0]
def k0_off16 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c0_i32_74 : BitVec 32 := 0#32
  let v126 : BitVec 32 := Scalar.addi v20 c0_i32_74
  let c2_i32 : BitVec 32 := 2#32
  let v127 : BitVec 32 := Scalar.addi v126 c2_i32
  let c32_i32_75 : BitVec 32 := 32#32
  let c0_i32_76 : BitVec 32 := 0#32
  let v128 : BitVec 1 := Scalar.cmpi .eq c32_i32_75 c0_i32_76
  let c1_i32_77 : BitVec 32 := 1#32
  let v129 : BitVec 32 := Scalar.select v128 c1_i32_77 c32_i32_75
  let v130 : BitVec 32 := Scalar.remsi v127 v129
  let c0_i32_79 : BitVec 32 := 0#32
  let v132 : BitVec 1 := Scalar.cmpi .slt v130 c0_i32_79
  let c0_i32_80 : BitVec 32 := 0#32
  let v133 : BitVec 1 := Scalar.cmpi .slt v129 c0_i32_80
  let v134 : BitVec 1 := Scalar.xori v132 v133
  let c0_i32_78 : BitVec 32 := 0#32
  let v131 : BitVec 1 := Scalar.cmpi .ne v130 c0_i32_78
  let v135 : BitVec 1 := Scalar.andi v134 v131
  let v136 : BitVec 32 := Scalar.addi v130 v129
  let v137 : BitVec 32 := Scalar.select v135 v136 v130
  ![v137.toNat]
def k0_off17 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off18 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1330 : BitVec 32 := 0#32
  let c0_i32_1331 : BitVec 32 := 0#32
  ![v2.toNat, 0, 0]
def k0_off19 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c0_i32_74 : BitVec 32 := 0#32
  let v126 : BitVec 32 := Scalar.addi v20 c0_i32_74
  let c2_i32 : BitVec 32 := 2#32
  let v127 : BitVec 32 := Scalar.addi v126 c2_i32
  let c32_i32_75 : BitVec 32 := 32#32
  let c0_i32_76 : BitVec 32 := 0#32
  let v128 : BitVec 1 := Scalar.cmpi .eq c32_i32_75 c0_i32_76
  let c1_i32_77 : BitVec 32 := 1#32
  let v129 : BitVec 32 := Scalar.select v128 c1_i32_77 c32_i32_75
  let v130 : BitVec 32 := Scalar.remsi v127 v129
  let c0_i32_79 : BitVec 32 := 0#32
  let v132 : BitVec 1 := Scalar.cmpi .slt v130 c0_i32_79
  let c0_i32_80 : BitVec 32 := 0#32
  let v133 : BitVec 1 := Scalar.cmpi .slt v129 c0_i32_80
  let v134 : BitVec 1 := Scalar.xori v132 v133
  let c0_i32_78 : BitVec 32 := 0#32
  let v131 : BitVec 1 := Scalar.cmpi .ne v130 c0_i32_78
  let v135 : BitVec 1 := Scalar.andi v134 v131
  let v136 : BitVec 32 := Scalar.addi v130 v129
  let v137 : BitVec 32 := Scalar.select v135 v136 v130
  let c0_i32_1332 : BitVec 32 := 0#32
  let c0_i32_1333 : BitVec 32 := 0#32
  ![v137.toNat, 0, 0]
def k0_dev4 (d0 : Dev nD) : Nat :=
  let c0_i32_1329 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c0_i32_74 : BitVec 32 := 0#32
  let v126 : BitVec 32 := Scalar.addi v20 c0_i32_74
  let c2_i32 : BitVec 32 := 2#32
  let v127 : BitVec 32 := Scalar.addi v126 c2_i32
  let c32_i32_75 : BitVec 32 := 32#32
  let c0_i32_76 : BitVec 32 := 0#32
  let v128 : BitVec 1 := Scalar.cmpi .eq c32_i32_75 c0_i32_76
  let c1_i32_77 : BitVec 32 := 1#32
  let v129 : BitVec 32 := Scalar.select v128 c1_i32_77 c32_i32_75
  let v130 : BitVec 32 := Scalar.remsi v127 v129
  let c0_i32_79 : BitVec 32 := 0#32
  let v132 : BitVec 1 := Scalar.cmpi .slt v130 c0_i32_79
  let c0_i32_80 : BitVec 32 := 0#32
  let v133 : BitVec 1 := Scalar.cmpi .slt v129 c0_i32_80
  let v134 : BitVec 1 := Scalar.xori v132 v133
  let c0_i32_78 : BitVec 32 := 0#32
  let v131 : BitVec 1 := Scalar.cmpi .ne v130 c0_i32_78
  let v135 : BitVec 1 := Scalar.andi v134 v131
  let v136 : BitVec 32 := Scalar.addi v130 v129
  let v137 : BitVec 32 := Scalar.select v135 v136 v130
  let c1_i32_1328 : BitVec 32 := 1#32
  let v2148 : BitVec 32 := Scalar.muli v137 c1_i32_1328
  let v2149 : BitVec 32 := Scalar.addi c0_i32_1329 v2148
  v2149.toNat
def k0_cond7 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c0_i32_83 : BitVec 32 := 0#32
  let v145 : BitVec 32 := Scalar.addi v20 c0_i32_83
  let c3_i32 : BitVec 32 := 3#32
  let v146 : BitVec 32 := Scalar.addi v145 c3_i32
  let c32_i32_84 : BitVec 32 := 32#32
  let c0_i32_85 : BitVec 32 := 0#32
  let v147 : BitVec 1 := Scalar.cmpi .eq c32_i32_84 c0_i32_85
  let c1_i32_86 : BitVec 32 := 1#32
  let v148 : BitVec 32 := Scalar.select v147 c1_i32_86 c32_i32_84
  let v149 : BitVec 32 := Scalar.remsi v146 v148
  let c0_i32_88 : BitVec 32 := 0#32
  let v151 : BitVec 1 := Scalar.cmpi .slt v149 c0_i32_88
  let c0_i32_89 : BitVec 32 := 0#32
  let v152 : BitVec 1 := Scalar.cmpi .slt v148 c0_i32_89
  let v153 : BitVec 1 := Scalar.xori v151 v152
  let c0_i32_87 : BitVec 32 := 0#32
  let v150 : BitVec 1 := Scalar.cmpi .ne v149 c0_i32_87
  let v154 : BitVec 1 := Scalar.andi v153 v150
  let v155 : BitVec 32 := Scalar.addi v149 v148
  let v156 : BitVec 32 := Scalar.select v154 v155 v149
  let v157 : BitVec 1 := Scalar.cmpi .eq v156 v2
  let v158 : BitVec 32 := Scalar.extui v157
  let c0_i32_90 : BitVec 32 := 0#32
  let v159 : BitVec 1 := Scalar.cmpi .ne v158 c0_i32_90
  v159

def k0_off20 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1326 : BitVec 32 := 128#32
  let v2143 : BitVec 32 := Scalar.muli v2 c128_i32_1326
  let v2144 : Index := Scalar.indexCast v2143
  let c0_1327 : Index := 0#32
  ![v2144.toNat, 0]
def k0_cond8 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c0_i32_83 : BitVec 32 := 0#32
  let v145 : BitVec 32 := Scalar.addi v20 c0_i32_83
  let c3_i32 : BitVec 32 := 3#32
  let v146 : BitVec 32 := Scalar.addi v145 c3_i32
  let c32_i32_84 : BitVec 32 := 32#32
  let c0_i32_85 : BitVec 32 := 0#32
  let v147 : BitVec 1 := Scalar.cmpi .eq c32_i32_84 c0_i32_85
  let c1_i32_86 : BitVec 32 := 1#32
  let v148 : BitVec 32 := Scalar.select v147 c1_i32_86 c32_i32_84
  let v149 : BitVec 32 := Scalar.remsi v146 v148
  let c0_i32_88 : BitVec 32 := 0#32
  let v151 : BitVec 1 := Scalar.cmpi .slt v149 c0_i32_88
  let c0_i32_89 : BitVec 32 := 0#32
  let v152 : BitVec 1 := Scalar.cmpi .slt v148 c0_i32_89
  let v153 : BitVec 1 := Scalar.xori v151 v152
  let c0_i32_87 : BitVec 32 := 0#32
  let v150 : BitVec 1 := Scalar.cmpi .ne v149 c0_i32_87
  let v154 : BitVec 1 := Scalar.andi v153 v150
  let v155 : BitVec 32 := Scalar.addi v149 v148
  let v156 : BitVec 32 := Scalar.select v154 v155 v149
  let v160 : BitVec 1 := Scalar.cmpi .ne v156 v2
  let v161 : BitVec 32 := Scalar.extui v160
  let c0_i32_91 : BitVec 32 := 0#32
  let v162 : BitVec 1 := Scalar.cmpi .ne v161 c0_i32_91
  v162

def k0_off21 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c0_i32_83 : BitVec 32 := 0#32
  let v145 : BitVec 32 := Scalar.addi v20 c0_i32_83
  let c3_i32 : BitVec 32 := 3#32
  let v146 : BitVec 32 := Scalar.addi v145 c3_i32
  let c32_i32_84 : BitVec 32 := 32#32
  let c0_i32_85 : BitVec 32 := 0#32
  let v147 : BitVec 1 := Scalar.cmpi .eq c32_i32_84 c0_i32_85
  let c1_i32_86 : BitVec 32 := 1#32
  let v148 : BitVec 32 := Scalar.select v147 c1_i32_86 c32_i32_84
  let v149 : BitVec 32 := Scalar.remsi v146 v148
  let c0_i32_88 : BitVec 32 := 0#32
  let v151 : BitVec 1 := Scalar.cmpi .slt v149 c0_i32_88
  let c0_i32_89 : BitVec 32 := 0#32
  let v152 : BitVec 1 := Scalar.cmpi .slt v148 c0_i32_89
  let v153 : BitVec 1 := Scalar.xori v151 v152
  let c0_i32_87 : BitVec 32 := 0#32
  let v150 : BitVec 1 := Scalar.cmpi .ne v149 c0_i32_87
  let v154 : BitVec 1 := Scalar.andi v153 v150
  let v155 : BitVec 32 := Scalar.addi v149 v148
  let v156 : BitVec 32 := Scalar.select v154 v155 v149
  let v2144 : Index := Scalar.indexCast v156
  let c0_1326 : Index := 0#32
  let c0_1327 : Index := 0#32
  ![v2144.toNat, 0, 0]
def k0_off22 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c0_i32_83 : BitVec 32 := 0#32
  let v145 : BitVec 32 := Scalar.addi v20 c0_i32_83
  let c3_i32 : BitVec 32 := 3#32
  let v146 : BitVec 32 := Scalar.addi v145 c3_i32
  let c32_i32_84 : BitVec 32 := 32#32
  let c0_i32_85 : BitVec 32 := 0#32
  let v147 : BitVec 1 := Scalar.cmpi .eq c32_i32_84 c0_i32_85
  let c1_i32_86 : BitVec 32 := 1#32
  let v148 : BitVec 32 := Scalar.select v147 c1_i32_86 c32_i32_84
  let v149 : BitVec 32 := Scalar.remsi v146 v148
  let c0_i32_88 : BitVec 32 := 0#32
  let v151 : BitVec 1 := Scalar.cmpi .slt v149 c0_i32_88
  let c0_i32_89 : BitVec 32 := 0#32
  let v152 : BitVec 1 := Scalar.cmpi .slt v148 c0_i32_89
  let v153 : BitVec 1 := Scalar.xori v151 v152
  let c0_i32_87 : BitVec 32 := 0#32
  let v150 : BitVec 1 := Scalar.cmpi .ne v149 c0_i32_87
  let v154 : BitVec 1 := Scalar.andi v153 v150
  let v155 : BitVec 32 := Scalar.addi v149 v148
  let v156 : BitVec 32 := Scalar.select v154 v155 v149
  ![v156.toNat]
def k0_off23 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off24 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1330 : BitVec 32 := 0#32
  let c0_i32_1331 : BitVec 32 := 0#32
  ![v2.toNat, 0, 0]
def k0_off25 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c0_i32_83 : BitVec 32 := 0#32
  let v145 : BitVec 32 := Scalar.addi v20 c0_i32_83
  let c3_i32 : BitVec 32 := 3#32
  let v146 : BitVec 32 := Scalar.addi v145 c3_i32
  let c32_i32_84 : BitVec 32 := 32#32
  let c0_i32_85 : BitVec 32 := 0#32
  let v147 : BitVec 1 := Scalar.cmpi .eq c32_i32_84 c0_i32_85
  let c1_i32_86 : BitVec 32 := 1#32
  let v148 : BitVec 32 := Scalar.select v147 c1_i32_86 c32_i32_84
  let v149 : BitVec 32 := Scalar.remsi v146 v148
  let c0_i32_88 : BitVec 32 := 0#32
  let v151 : BitVec 1 := Scalar.cmpi .slt v149 c0_i32_88
  let c0_i32_89 : BitVec 32 := 0#32
  let v152 : BitVec 1 := Scalar.cmpi .slt v148 c0_i32_89
  let v153 : BitVec 1 := Scalar.xori v151 v152
  let c0_i32_87 : BitVec 32 := 0#32
  let v150 : BitVec 1 := Scalar.cmpi .ne v149 c0_i32_87
  let v154 : BitVec 1 := Scalar.andi v153 v150
  let v155 : BitVec 32 := Scalar.addi v149 v148
  let v156 : BitVec 32 := Scalar.select v154 v155 v149
  let c0_i32_1332 : BitVec 32 := 0#32
  let c0_i32_1333 : BitVec 32 := 0#32
  ![v156.toNat, 0, 0]
def k0_dev5 (d0 : Dev nD) : Nat :=
  let c0_i32_1329 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c0_i32_83 : BitVec 32 := 0#32
  let v145 : BitVec 32 := Scalar.addi v20 c0_i32_83
  let c3_i32 : BitVec 32 := 3#32
  let v146 : BitVec 32 := Scalar.addi v145 c3_i32
  let c32_i32_84 : BitVec 32 := 32#32
  let c0_i32_85 : BitVec 32 := 0#32
  let v147 : BitVec 1 := Scalar.cmpi .eq c32_i32_84 c0_i32_85
  let c1_i32_86 : BitVec 32 := 1#32
  let v148 : BitVec 32 := Scalar.select v147 c1_i32_86 c32_i32_84
  let v149 : BitVec 32 := Scalar.remsi v146 v148
  let c0_i32_88 : BitVec 32 := 0#32
  let v151 : BitVec 1 := Scalar.cmpi .slt v149 c0_i32_88
  let c0_i32_89 : BitVec 32 := 0#32
  let v152 : BitVec 1 := Scalar.cmpi .slt v148 c0_i32_89
  let v153 : BitVec 1 := Scalar.xori v151 v152
  let c0_i32_87 : BitVec 32 := 0#32
  let v150 : BitVec 1 := Scalar.cmpi .ne v149 c0_i32_87
  let v154 : BitVec 1 := Scalar.andi v153 v150
  let v155 : BitVec 32 := Scalar.addi v149 v148
  let v156 : BitVec 32 := Scalar.select v154 v155 v149
  let c1_i32_1328 : BitVec 32 := 1#32
  let v2148 : BitVec 32 := Scalar.muli v156 c1_i32_1328
  let v2149 : BitVec 32 := Scalar.addi c0_i32_1329 v2148
  v2149.toNat
def k0_cond9 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c0_i32_92 : BitVec 32 := 0#32
  let v164 : BitVec 32 := Scalar.addi v20 c0_i32_92
  let c4_i32 : BitVec 32 := 4#32
  let v165 : BitVec 32 := Scalar.addi v164 c4_i32
  let c32_i32_93 : BitVec 32 := 32#32
  let c0_i32_94 : BitVec 32 := 0#32
  let v166 : BitVec 1 := Scalar.cmpi .eq c32_i32_93 c0_i32_94
  let c1_i32_95 : BitVec 32 := 1#32
  let v167 : BitVec 32 := Scalar.select v166 c1_i32_95 c32_i32_93
  let v168 : BitVec 32 := Scalar.remsi v165 v167
  let c0_i32_97 : BitVec 32 := 0#32
  let v170 : BitVec 1 := Scalar.cmpi .slt v168 c0_i32_97
  let c0_i32_98 : BitVec 32 := 0#32
  let v171 : BitVec 1 := Scalar.cmpi .slt v167 c0_i32_98
  let v172 : BitVec 1 := Scalar.xori v170 v171
  let c0_i32_96 : BitVec 32 := 0#32
  let v169 : BitVec 1 := Scalar.cmpi .ne v168 c0_i32_96
  let v173 : BitVec 1 := Scalar.andi v172 v169
  let v174 : BitVec 32 := Scalar.addi v168 v167
  let v175 : BitVec 32 := Scalar.select v173 v174 v168
  let v176 : BitVec 1 := Scalar.cmpi .eq v175 v2
  let v177 : BitVec 32 := Scalar.extui v176
  let c0_i32_99 : BitVec 32 := 0#32
  let v178 : BitVec 1 := Scalar.cmpi .ne v177 c0_i32_99
  v178

def k0_off26 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1326 : BitVec 32 := 128#32
  let v2143 : BitVec 32 := Scalar.muli v2 c128_i32_1326
  let v2144 : Index := Scalar.indexCast v2143
  let c0_1327 : Index := 0#32
  ![v2144.toNat, 0]
def k0_cond10 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c0_i32_92 : BitVec 32 := 0#32
  let v164 : BitVec 32 := Scalar.addi v20 c0_i32_92
  let c4_i32 : BitVec 32 := 4#32
  let v165 : BitVec 32 := Scalar.addi v164 c4_i32
  let c32_i32_93 : BitVec 32 := 32#32
  let c0_i32_94 : BitVec 32 := 0#32
  let v166 : BitVec 1 := Scalar.cmpi .eq c32_i32_93 c0_i32_94
  let c1_i32_95 : BitVec 32 := 1#32
  let v167 : BitVec 32 := Scalar.select v166 c1_i32_95 c32_i32_93
  let v168 : BitVec 32 := Scalar.remsi v165 v167
  let c0_i32_97 : BitVec 32 := 0#32
  let v170 : BitVec 1 := Scalar.cmpi .slt v168 c0_i32_97
  let c0_i32_98 : BitVec 32 := 0#32
  let v171 : BitVec 1 := Scalar.cmpi .slt v167 c0_i32_98
  let v172 : BitVec 1 := Scalar.xori v170 v171
  let c0_i32_96 : BitVec 32 := 0#32
  let v169 : BitVec 1 := Scalar.cmpi .ne v168 c0_i32_96
  let v173 : BitVec 1 := Scalar.andi v172 v169
  let v174 : BitVec 32 := Scalar.addi v168 v167
  let v175 : BitVec 32 := Scalar.select v173 v174 v168
  let v179 : BitVec 1 := Scalar.cmpi .ne v175 v2
  let v180 : BitVec 32 := Scalar.extui v179
  let c0_i32_100 : BitVec 32 := 0#32
  let v181 : BitVec 1 := Scalar.cmpi .ne v180 c0_i32_100
  v181

def k0_off27 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c0_i32_92 : BitVec 32 := 0#32
  let v164 : BitVec 32 := Scalar.addi v20 c0_i32_92
  let c4_i32 : BitVec 32 := 4#32
  let v165 : BitVec 32 := Scalar.addi v164 c4_i32
  let c32_i32_93 : BitVec 32 := 32#32
  let c0_i32_94 : BitVec 32 := 0#32
  let v166 : BitVec 1 := Scalar.cmpi .eq c32_i32_93 c0_i32_94
  let c1_i32_95 : BitVec 32 := 1#32
  let v167 : BitVec 32 := Scalar.select v166 c1_i32_95 c32_i32_93
  let v168 : BitVec 32 := Scalar.remsi v165 v167
  let c0_i32_97 : BitVec 32 := 0#32
  let v170 : BitVec 1 := Scalar.cmpi .slt v168 c0_i32_97
  let c0_i32_98 : BitVec 32 := 0#32
  let v171 : BitVec 1 := Scalar.cmpi .slt v167 c0_i32_98
  let v172 : BitVec 1 := Scalar.xori v170 v171
  let c0_i32_96 : BitVec 32 := 0#32
  let v169 : BitVec 1 := Scalar.cmpi .ne v168 c0_i32_96
  let v173 : BitVec 1 := Scalar.andi v172 v169
  let v174 : BitVec 32 := Scalar.addi v168 v167
  let v175 : BitVec 32 := Scalar.select v173 v174 v168
  let v2144 : Index := Scalar.indexCast v175
  let c0_1326 : Index := 0#32
  let c0_1327 : Index := 0#32
  ![v2144.toNat, 0, 0]
def k0_off28 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c0_i32_92 : BitVec 32 := 0#32
  let v164 : BitVec 32 := Scalar.addi v20 c0_i32_92
  let c4_i32 : BitVec 32 := 4#32
  let v165 : BitVec 32 := Scalar.addi v164 c4_i32
  let c32_i32_93 : BitVec 32 := 32#32
  let c0_i32_94 : BitVec 32 := 0#32
  let v166 : BitVec 1 := Scalar.cmpi .eq c32_i32_93 c0_i32_94
  let c1_i32_95 : BitVec 32 := 1#32
  let v167 : BitVec 32 := Scalar.select v166 c1_i32_95 c32_i32_93
  let v168 : BitVec 32 := Scalar.remsi v165 v167
  let c0_i32_97 : BitVec 32 := 0#32
  let v170 : BitVec 1 := Scalar.cmpi .slt v168 c0_i32_97
  let c0_i32_98 : BitVec 32 := 0#32
  let v171 : BitVec 1 := Scalar.cmpi .slt v167 c0_i32_98
  let v172 : BitVec 1 := Scalar.xori v170 v171
  let c0_i32_96 : BitVec 32 := 0#32
  let v169 : BitVec 1 := Scalar.cmpi .ne v168 c0_i32_96
  let v173 : BitVec 1 := Scalar.andi v172 v169
  let v174 : BitVec 32 := Scalar.addi v168 v167
  let v175 : BitVec 32 := Scalar.select v173 v174 v168
  ![v175.toNat]
def k0_off29 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off30 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1330 : BitVec 32 := 0#32
  let c0_i32_1331 : BitVec 32 := 0#32
  ![v2.toNat, 0, 0]
def k0_off31 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c0_i32_92 : BitVec 32 := 0#32
  let v164 : BitVec 32 := Scalar.addi v20 c0_i32_92
  let c4_i32 : BitVec 32 := 4#32
  let v165 : BitVec 32 := Scalar.addi v164 c4_i32
  let c32_i32_93 : BitVec 32 := 32#32
  let c0_i32_94 : BitVec 32 := 0#32
  let v166 : BitVec 1 := Scalar.cmpi .eq c32_i32_93 c0_i32_94
  let c1_i32_95 : BitVec 32 := 1#32
  let v167 : BitVec 32 := Scalar.select v166 c1_i32_95 c32_i32_93
  let v168 : BitVec 32 := Scalar.remsi v165 v167
  let c0_i32_97 : BitVec 32 := 0#32
  let v170 : BitVec 1 := Scalar.cmpi .slt v168 c0_i32_97
  let c0_i32_98 : BitVec 32 := 0#32
  let v171 : BitVec 1 := Scalar.cmpi .slt v167 c0_i32_98
  let v172 : BitVec 1 := Scalar.xori v170 v171
  let c0_i32_96 : BitVec 32 := 0#32
  let v169 : BitVec 1 := Scalar.cmpi .ne v168 c0_i32_96
  let v173 : BitVec 1 := Scalar.andi v172 v169
  let v174 : BitVec 32 := Scalar.addi v168 v167
  let v175 : BitVec 32 := Scalar.select v173 v174 v168
  let c0_i32_1332 : BitVec 32 := 0#32
  let c0_i32_1333 : BitVec 32 := 0#32
  ![v175.toNat, 0, 0]
def k0_dev6 (d0 : Dev nD) : Nat :=
  let c0_i32_1329 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c0_i32_92 : BitVec 32 := 0#32
  let v164 : BitVec 32 := Scalar.addi v20 c0_i32_92
  let c4_i32 : BitVec 32 := 4#32
  let v165 : BitVec 32 := Scalar.addi v164 c4_i32
  let c32_i32_93 : BitVec 32 := 32#32
  let c0_i32_94 : BitVec 32 := 0#32
  let v166 : BitVec 1 := Scalar.cmpi .eq c32_i32_93 c0_i32_94
  let c1_i32_95 : BitVec 32 := 1#32
  let v167 : BitVec 32 := Scalar.select v166 c1_i32_95 c32_i32_93
  let v168 : BitVec 32 := Scalar.remsi v165 v167
  let c0_i32_97 : BitVec 32 := 0#32
  let v170 : BitVec 1 := Scalar.cmpi .slt v168 c0_i32_97
  let c0_i32_98 : BitVec 32 := 0#32
  let v171 : BitVec 1 := Scalar.cmpi .slt v167 c0_i32_98
  let v172 : BitVec 1 := Scalar.xori v170 v171
  let c0_i32_96 : BitVec 32 := 0#32
  let v169 : BitVec 1 := Scalar.cmpi .ne v168 c0_i32_96
  let v173 : BitVec 1 := Scalar.andi v172 v169
  let v174 : BitVec 32 := Scalar.addi v168 v167
  let v175 : BitVec 32 := Scalar.select v173 v174 v168
  let c1_i32_1328 : BitVec 32 := 1#32
  let v2148 : BitVec 32 := Scalar.muli v175 c1_i32_1328
  let v2149 : BitVec 32 := Scalar.addi c0_i32_1329 v2148
  v2149.toNat
def k0_cond11 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c0_i32_101 : BitVec 32 := 0#32
  let v183 : BitVec 32 := Scalar.addi v20 c0_i32_101
  let c5_i32 : BitVec 32 := 5#32
  let v184 : BitVec 32 := Scalar.addi v183 c5_i32
  let c32_i32_102 : BitVec 32 := 32#32
  let c0_i32_103 : BitVec 32 := 0#32
  let v185 : BitVec 1 := Scalar.cmpi .eq c32_i32_102 c0_i32_103
  let c1_i32_104 : BitVec 32 := 1#32
  let v186 : BitVec 32 := Scalar.select v185 c1_i32_104 c32_i32_102
  let v187 : BitVec 32 := Scalar.remsi v184 v186
  let c0_i32_106 : BitVec 32 := 0#32
  let v189 : BitVec 1 := Scalar.cmpi .slt v187 c0_i32_106
  let c0_i32_107 : BitVec 32 := 0#32
  let v190 : BitVec 1 := Scalar.cmpi .slt v186 c0_i32_107
  let v191 : BitVec 1 := Scalar.xori v189 v190
  let c0_i32_105 : BitVec 32 := 0#32
  let v188 : BitVec 1 := Scalar.cmpi .ne v187 c0_i32_105
  let v192 : BitVec 1 := Scalar.andi v191 v188
  let v193 : BitVec 32 := Scalar.addi v187 v186
  let v194 : BitVec 32 := Scalar.select v192 v193 v187
  let v195 : BitVec 1 := Scalar.cmpi .eq v194 v2
  let v196 : BitVec 32 := Scalar.extui v195
  let c0_i32_108 : BitVec 32 := 0#32
  let v197 : BitVec 1 := Scalar.cmpi .ne v196 c0_i32_108
  v197

def k0_off32 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1326 : BitVec 32 := 128#32
  let v2143 : BitVec 32 := Scalar.muli v2 c128_i32_1326
  let v2144 : Index := Scalar.indexCast v2143
  let c0_1327 : Index := 0#32
  ![v2144.toNat, 0]
def k0_cond12 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c0_i32_101 : BitVec 32 := 0#32
  let v183 : BitVec 32 := Scalar.addi v20 c0_i32_101
  let c5_i32 : BitVec 32 := 5#32
  let v184 : BitVec 32 := Scalar.addi v183 c5_i32
  let c32_i32_102 : BitVec 32 := 32#32
  let c0_i32_103 : BitVec 32 := 0#32
  let v185 : BitVec 1 := Scalar.cmpi .eq c32_i32_102 c0_i32_103
  let c1_i32_104 : BitVec 32 := 1#32
  let v186 : BitVec 32 := Scalar.select v185 c1_i32_104 c32_i32_102
  let v187 : BitVec 32 := Scalar.remsi v184 v186
  let c0_i32_106 : BitVec 32 := 0#32
  let v189 : BitVec 1 := Scalar.cmpi .slt v187 c0_i32_106
  let c0_i32_107 : BitVec 32 := 0#32
  let v190 : BitVec 1 := Scalar.cmpi .slt v186 c0_i32_107
  let v191 : BitVec 1 := Scalar.xori v189 v190
  let c0_i32_105 : BitVec 32 := 0#32
  let v188 : BitVec 1 := Scalar.cmpi .ne v187 c0_i32_105
  let v192 : BitVec 1 := Scalar.andi v191 v188
  let v193 : BitVec 32 := Scalar.addi v187 v186
  let v194 : BitVec 32 := Scalar.select v192 v193 v187
  let v198 : BitVec 1 := Scalar.cmpi .ne v194 v2
  let v199 : BitVec 32 := Scalar.extui v198
  let c0_i32_109 : BitVec 32 := 0#32
  let v200 : BitVec 1 := Scalar.cmpi .ne v199 c0_i32_109
  v200

def k0_off33 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c0_i32_101 : BitVec 32 := 0#32
  let v183 : BitVec 32 := Scalar.addi v20 c0_i32_101
  let c5_i32 : BitVec 32 := 5#32
  let v184 : BitVec 32 := Scalar.addi v183 c5_i32
  let c32_i32_102 : BitVec 32 := 32#32
  let c0_i32_103 : BitVec 32 := 0#32
  let v185 : BitVec 1 := Scalar.cmpi .eq c32_i32_102 c0_i32_103
  let c1_i32_104 : BitVec 32 := 1#32
  let v186 : BitVec 32 := Scalar.select v185 c1_i32_104 c32_i32_102
  let v187 : BitVec 32 := Scalar.remsi v184 v186
  let c0_i32_106 : BitVec 32 := 0#32
  let v189 : BitVec 1 := Scalar.cmpi .slt v187 c0_i32_106
  let c0_i32_107 : BitVec 32 := 0#32
  let v190 : BitVec 1 := Scalar.cmpi .slt v186 c0_i32_107
  let v191 : BitVec 1 := Scalar.xori v189 v190
  let c0_i32_105 : BitVec 32 := 0#32
  let v188 : BitVec 1 := Scalar.cmpi .ne v187 c0_i32_105
  let v192 : BitVec 1 := Scalar.andi v191 v188
  let v193 : BitVec 32 := Scalar.addi v187 v186
  let v194 : BitVec 32 := Scalar.select v192 v193 v187
  let v2144 : Index := Scalar.indexCast v194
  let c0_1326 : Index := 0#32
  let c0_1327 : Index := 0#32
  ![v2144.toNat, 0, 0]
def k0_off34 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c0_i32_101 : BitVec 32 := 0#32
  let v183 : BitVec 32 := Scalar.addi v20 c0_i32_101
  let c5_i32 : BitVec 32 := 5#32
  let v184 : BitVec 32 := Scalar.addi v183 c5_i32
  let c32_i32_102 : BitVec 32 := 32#32
  let c0_i32_103 : BitVec 32 := 0#32
  let v185 : BitVec 1 := Scalar.cmpi .eq c32_i32_102 c0_i32_103
  let c1_i32_104 : BitVec 32 := 1#32
  let v186 : BitVec 32 := Scalar.select v185 c1_i32_104 c32_i32_102
  let v187 : BitVec 32 := Scalar.remsi v184 v186
  let c0_i32_106 : BitVec 32 := 0#32
  let v189 : BitVec 1 := Scalar.cmpi .slt v187 c0_i32_106
  let c0_i32_107 : BitVec 32 := 0#32
  let v190 : BitVec 1 := Scalar.cmpi .slt v186 c0_i32_107
  let v191 : BitVec 1 := Scalar.xori v189 v190
  let c0_i32_105 : BitVec 32 := 0#32
  let v188 : BitVec 1 := Scalar.cmpi .ne v187 c0_i32_105
  let v192 : BitVec 1 := Scalar.andi v191 v188
  let v193 : BitVec 32 := Scalar.addi v187 v186
  let v194 : BitVec 32 := Scalar.select v192 v193 v187
  ![v194.toNat]
def k0_off35 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off36 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1330 : BitVec 32 := 0#32
  let c0_i32_1331 : BitVec 32 := 0#32
  ![v2.toNat, 0, 0]
def k0_off37 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c0_i32_101 : BitVec 32 := 0#32
  let v183 : BitVec 32 := Scalar.addi v20 c0_i32_101
  let c5_i32 : BitVec 32 := 5#32
  let v184 : BitVec 32 := Scalar.addi v183 c5_i32
  let c32_i32_102 : BitVec 32 := 32#32
  let c0_i32_103 : BitVec 32 := 0#32
  let v185 : BitVec 1 := Scalar.cmpi .eq c32_i32_102 c0_i32_103
  let c1_i32_104 : BitVec 32 := 1#32
  let v186 : BitVec 32 := Scalar.select v185 c1_i32_104 c32_i32_102
  let v187 : BitVec 32 := Scalar.remsi v184 v186
  let c0_i32_106 : BitVec 32 := 0#32
  let v189 : BitVec 1 := Scalar.cmpi .slt v187 c0_i32_106
  let c0_i32_107 : BitVec 32 := 0#32
  let v190 : BitVec 1 := Scalar.cmpi .slt v186 c0_i32_107
  let v191 : BitVec 1 := Scalar.xori v189 v190
  let c0_i32_105 : BitVec 32 := 0#32
  let v188 : BitVec 1 := Scalar.cmpi .ne v187 c0_i32_105
  let v192 : BitVec 1 := Scalar.andi v191 v188
  let v193 : BitVec 32 := Scalar.addi v187 v186
  let v194 : BitVec 32 := Scalar.select v192 v193 v187
  let c0_i32_1332 : BitVec 32 := 0#32
  let c0_i32_1333 : BitVec 32 := 0#32
  ![v194.toNat, 0, 0]
def k0_dev7 (d0 : Dev nD) : Nat :=
  let c0_i32_1329 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c0_i32_101 : BitVec 32 := 0#32
  let v183 : BitVec 32 := Scalar.addi v20 c0_i32_101
  let c5_i32 : BitVec 32 := 5#32
  let v184 : BitVec 32 := Scalar.addi v183 c5_i32
  let c32_i32_102 : BitVec 32 := 32#32
  let c0_i32_103 : BitVec 32 := 0#32
  let v185 : BitVec 1 := Scalar.cmpi .eq c32_i32_102 c0_i32_103
  let c1_i32_104 : BitVec 32 := 1#32
  let v186 : BitVec 32 := Scalar.select v185 c1_i32_104 c32_i32_102
  let v187 : BitVec 32 := Scalar.remsi v184 v186
  let c0_i32_106 : BitVec 32 := 0#32
  let v189 : BitVec 1 := Scalar.cmpi .slt v187 c0_i32_106
  let c0_i32_107 : BitVec 32 := 0#32
  let v190 : BitVec 1 := Scalar.cmpi .slt v186 c0_i32_107
  let v191 : BitVec 1 := Scalar.xori v189 v190
  let c0_i32_105 : BitVec 32 := 0#32
  let v188 : BitVec 1 := Scalar.cmpi .ne v187 c0_i32_105
  let v192 : BitVec 1 := Scalar.andi v191 v188
  let v193 : BitVec 32 := Scalar.addi v187 v186
  let v194 : BitVec 32 := Scalar.select v192 v193 v187
  let c1_i32_1328 : BitVec 32 := 1#32
  let v2148 : BitVec 32 := Scalar.muli v194 c1_i32_1328
  let v2149 : BitVec 32 := Scalar.addi c0_i32_1329 v2148
  v2149.toNat
def k0_cond13 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c0_i32_110 : BitVec 32 := 0#32
  let v202 : BitVec 32 := Scalar.addi v20 c0_i32_110
  let c6_i32 : BitVec 32 := 6#32
  let v203 : BitVec 32 := Scalar.addi v202 c6_i32
  let c32_i32_111 : BitVec 32 := 32#32
  let c0_i32_112 : BitVec 32 := 0#32
  let v204 : BitVec 1 := Scalar.cmpi .eq c32_i32_111 c0_i32_112
  let c1_i32_113 : BitVec 32 := 1#32
  let v205 : BitVec 32 := Scalar.select v204 c1_i32_113 c32_i32_111
  let v206 : BitVec 32 := Scalar.remsi v203 v205
  let c0_i32_115 : BitVec 32 := 0#32
  let v208 : BitVec 1 := Scalar.cmpi .slt v206 c0_i32_115
  let c0_i32_116 : BitVec 32 := 0#32
  let v209 : BitVec 1 := Scalar.cmpi .slt v205 c0_i32_116
  let v210 : BitVec 1 := Scalar.xori v208 v209
  let c0_i32_114 : BitVec 32 := 0#32
  let v207 : BitVec 1 := Scalar.cmpi .ne v206 c0_i32_114
  let v211 : BitVec 1 := Scalar.andi v210 v207
  let v212 : BitVec 32 := Scalar.addi v206 v205
  let v213 : BitVec 32 := Scalar.select v211 v212 v206
  let v214 : BitVec 1 := Scalar.cmpi .eq v213 v2
  let v215 : BitVec 32 := Scalar.extui v214
  let c0_i32_117 : BitVec 32 := 0#32
  let v216 : BitVec 1 := Scalar.cmpi .ne v215 c0_i32_117
  v216

def k0_off38 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1326 : BitVec 32 := 128#32
  let v2143 : BitVec 32 := Scalar.muli v2 c128_i32_1326
  let v2144 : Index := Scalar.indexCast v2143
  let c0_1327 : Index := 0#32
  ![v2144.toNat, 0]
def k0_cond14 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c0_i32_110 : BitVec 32 := 0#32
  let v202 : BitVec 32 := Scalar.addi v20 c0_i32_110
  let c6_i32 : BitVec 32 := 6#32
  let v203 : BitVec 32 := Scalar.addi v202 c6_i32
  let c32_i32_111 : BitVec 32 := 32#32
  let c0_i32_112 : BitVec 32 := 0#32
  let v204 : BitVec 1 := Scalar.cmpi .eq c32_i32_111 c0_i32_112
  let c1_i32_113 : BitVec 32 := 1#32
  let v205 : BitVec 32 := Scalar.select v204 c1_i32_113 c32_i32_111
  let v206 : BitVec 32 := Scalar.remsi v203 v205
  let c0_i32_115 : BitVec 32 := 0#32
  let v208 : BitVec 1 := Scalar.cmpi .slt v206 c0_i32_115
  let c0_i32_116 : BitVec 32 := 0#32
  let v209 : BitVec 1 := Scalar.cmpi .slt v205 c0_i32_116
  let v210 : BitVec 1 := Scalar.xori v208 v209
  let c0_i32_114 : BitVec 32 := 0#32
  let v207 : BitVec 1 := Scalar.cmpi .ne v206 c0_i32_114
  let v211 : BitVec 1 := Scalar.andi v210 v207
  let v212 : BitVec 32 := Scalar.addi v206 v205
  let v213 : BitVec 32 := Scalar.select v211 v212 v206
  let v217 : BitVec 1 := Scalar.cmpi .ne v213 v2
  let v218 : BitVec 32 := Scalar.extui v217
  let c0_i32_118 : BitVec 32 := 0#32
  let v219 : BitVec 1 := Scalar.cmpi .ne v218 c0_i32_118
  v219

def k0_off39 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c0_i32_110 : BitVec 32 := 0#32
  let v202 : BitVec 32 := Scalar.addi v20 c0_i32_110
  let c6_i32 : BitVec 32 := 6#32
  let v203 : BitVec 32 := Scalar.addi v202 c6_i32
  let c32_i32_111 : BitVec 32 := 32#32
  let c0_i32_112 : BitVec 32 := 0#32
  let v204 : BitVec 1 := Scalar.cmpi .eq c32_i32_111 c0_i32_112
  let c1_i32_113 : BitVec 32 := 1#32
  let v205 : BitVec 32 := Scalar.select v204 c1_i32_113 c32_i32_111
  let v206 : BitVec 32 := Scalar.remsi v203 v205
  let c0_i32_115 : BitVec 32 := 0#32
  let v208 : BitVec 1 := Scalar.cmpi .slt v206 c0_i32_115
  let c0_i32_116 : BitVec 32 := 0#32
  let v209 : BitVec 1 := Scalar.cmpi .slt v205 c0_i32_116
  let v210 : BitVec 1 := Scalar.xori v208 v209
  let c0_i32_114 : BitVec 32 := 0#32
  let v207 : BitVec 1 := Scalar.cmpi .ne v206 c0_i32_114
  let v211 : BitVec 1 := Scalar.andi v210 v207
  let v212 : BitVec 32 := Scalar.addi v206 v205
  let v213 : BitVec 32 := Scalar.select v211 v212 v206
  let v2144 : Index := Scalar.indexCast v213
  let c0_1326 : Index := 0#32
  let c0_1327 : Index := 0#32
  ![v2144.toNat, 0, 0]
def k0_off40 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c0_i32_110 : BitVec 32 := 0#32
  let v202 : BitVec 32 := Scalar.addi v20 c0_i32_110
  let c6_i32 : BitVec 32 := 6#32
  let v203 : BitVec 32 := Scalar.addi v202 c6_i32
  let c32_i32_111 : BitVec 32 := 32#32
  let c0_i32_112 : BitVec 32 := 0#32
  let v204 : BitVec 1 := Scalar.cmpi .eq c32_i32_111 c0_i32_112
  let c1_i32_113 : BitVec 32 := 1#32
  let v205 : BitVec 32 := Scalar.select v204 c1_i32_113 c32_i32_111
  let v206 : BitVec 32 := Scalar.remsi v203 v205
  let c0_i32_115 : BitVec 32 := 0#32
  let v208 : BitVec 1 := Scalar.cmpi .slt v206 c0_i32_115
  let c0_i32_116 : BitVec 32 := 0#32
  let v209 : BitVec 1 := Scalar.cmpi .slt v205 c0_i32_116
  let v210 : BitVec 1 := Scalar.xori v208 v209
  let c0_i32_114 : BitVec 32 := 0#32
  let v207 : BitVec 1 := Scalar.cmpi .ne v206 c0_i32_114
  let v211 : BitVec 1 := Scalar.andi v210 v207
  let v212 : BitVec 32 := Scalar.addi v206 v205
  let v213 : BitVec 32 := Scalar.select v211 v212 v206
  ![v213.toNat]
def k0_off41 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off42 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1330 : BitVec 32 := 0#32
  let c0_i32_1331 : BitVec 32 := 0#32
  ![v2.toNat, 0, 0]
def k0_off43 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c0_i32_110 : BitVec 32 := 0#32
  let v202 : BitVec 32 := Scalar.addi v20 c0_i32_110
  let c6_i32 : BitVec 32 := 6#32
  let v203 : BitVec 32 := Scalar.addi v202 c6_i32
  let c32_i32_111 : BitVec 32 := 32#32
  let c0_i32_112 : BitVec 32 := 0#32
  let v204 : BitVec 1 := Scalar.cmpi .eq c32_i32_111 c0_i32_112
  let c1_i32_113 : BitVec 32 := 1#32
  let v205 : BitVec 32 := Scalar.select v204 c1_i32_113 c32_i32_111
  let v206 : BitVec 32 := Scalar.remsi v203 v205
  let c0_i32_115 : BitVec 32 := 0#32
  let v208 : BitVec 1 := Scalar.cmpi .slt v206 c0_i32_115
  let c0_i32_116 : BitVec 32 := 0#32
  let v209 : BitVec 1 := Scalar.cmpi .slt v205 c0_i32_116
  let v210 : BitVec 1 := Scalar.xori v208 v209
  let c0_i32_114 : BitVec 32 := 0#32
  let v207 : BitVec 1 := Scalar.cmpi .ne v206 c0_i32_114
  let v211 : BitVec 1 := Scalar.andi v210 v207
  let v212 : BitVec 32 := Scalar.addi v206 v205
  let v213 : BitVec 32 := Scalar.select v211 v212 v206
  let c0_i32_1332 : BitVec 32 := 0#32
  let c0_i32_1333 : BitVec 32 := 0#32
  ![v213.toNat, 0, 0]
def k0_dev8 (d0 : Dev nD) : Nat :=
  let c0_i32_1329 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c0_i32_110 : BitVec 32 := 0#32
  let v202 : BitVec 32 := Scalar.addi v20 c0_i32_110
  let c6_i32 : BitVec 32 := 6#32
  let v203 : BitVec 32 := Scalar.addi v202 c6_i32
  let c32_i32_111 : BitVec 32 := 32#32
  let c0_i32_112 : BitVec 32 := 0#32
  let v204 : BitVec 1 := Scalar.cmpi .eq c32_i32_111 c0_i32_112
  let c1_i32_113 : BitVec 32 := 1#32
  let v205 : BitVec 32 := Scalar.select v204 c1_i32_113 c32_i32_111
  let v206 : BitVec 32 := Scalar.remsi v203 v205
  let c0_i32_115 : BitVec 32 := 0#32
  let v208 : BitVec 1 := Scalar.cmpi .slt v206 c0_i32_115
  let c0_i32_116 : BitVec 32 := 0#32
  let v209 : BitVec 1 := Scalar.cmpi .slt v205 c0_i32_116
  let v210 : BitVec 1 := Scalar.xori v208 v209
  let c0_i32_114 : BitVec 32 := 0#32
  let v207 : BitVec 1 := Scalar.cmpi .ne v206 c0_i32_114
  let v211 : BitVec 1 := Scalar.andi v210 v207
  let v212 : BitVec 32 := Scalar.addi v206 v205
  let v213 : BitVec 32 := Scalar.select v211 v212 v206
  let c1_i32_1328 : BitVec 32 := 1#32
  let v2148 : BitVec 32 := Scalar.muli v213 c1_i32_1328
  let v2149 : BitVec 32 := Scalar.addi c0_i32_1329 v2148
  v2149.toNat
def k0_cond15 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c0_i32_119 : BitVec 32 := 0#32
  let v221 : BitVec 32 := Scalar.addi v20 c0_i32_119
  let c7_i32 : BitVec 32 := 7#32
  let v222 : BitVec 32 := Scalar.addi v221 c7_i32
  let c32_i32_120 : BitVec 32 := 32#32
  let c0_i32_121 : BitVec 32 := 0#32
  let v223 : BitVec 1 := Scalar.cmpi .eq c32_i32_120 c0_i32_121
  let c1_i32_122 : BitVec 32 := 1#32
  let v224 : BitVec 32 := Scalar.select v223 c1_i32_122 c32_i32_120
  let v225 : BitVec 32 := Scalar.remsi v222 v224
  let c0_i32_124 : BitVec 32 := 0#32
  let v227 : BitVec 1 := Scalar.cmpi .slt v225 c0_i32_124
  let c0_i32_125 : BitVec 32 := 0#32
  let v228 : BitVec 1 := Scalar.cmpi .slt v224 c0_i32_125
  let v229 : BitVec 1 := Scalar.xori v227 v228
  let c0_i32_123 : BitVec 32 := 0#32
  let v226 : BitVec 1 := Scalar.cmpi .ne v225 c0_i32_123
  let v230 : BitVec 1 := Scalar.andi v229 v226
  let v231 : BitVec 32 := Scalar.addi v225 v224
  let v232 : BitVec 32 := Scalar.select v230 v231 v225
  let v233 : BitVec 1 := Scalar.cmpi .eq v232 v2
  let v234 : BitVec 32 := Scalar.extui v233
  let c0_i32_126 : BitVec 32 := 0#32
  let v235 : BitVec 1 := Scalar.cmpi .ne v234 c0_i32_126
  v235

def k0_off44 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1326 : BitVec 32 := 128#32
  let v2143 : BitVec 32 := Scalar.muli v2 c128_i32_1326
  let v2144 : Index := Scalar.indexCast v2143
  let c0_1327 : Index := 0#32
  ![v2144.toNat, 0]
def k0_cond16 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c0_i32_119 : BitVec 32 := 0#32
  let v221 : BitVec 32 := Scalar.addi v20 c0_i32_119
  let c7_i32 : BitVec 32 := 7#32
  let v222 : BitVec 32 := Scalar.addi v221 c7_i32
  let c32_i32_120 : BitVec 32 := 32#32
  let c0_i32_121 : BitVec 32 := 0#32
  let v223 : BitVec 1 := Scalar.cmpi .eq c32_i32_120 c0_i32_121
  let c1_i32_122 : BitVec 32 := 1#32
  let v224 : BitVec 32 := Scalar.select v223 c1_i32_122 c32_i32_120
  let v225 : BitVec 32 := Scalar.remsi v222 v224
  let c0_i32_124 : BitVec 32 := 0#32
  let v227 : BitVec 1 := Scalar.cmpi .slt v225 c0_i32_124
  let c0_i32_125 : BitVec 32 := 0#32
  let v228 : BitVec 1 := Scalar.cmpi .slt v224 c0_i32_125
  let v229 : BitVec 1 := Scalar.xori v227 v228
  let c0_i32_123 : BitVec 32 := 0#32
  let v226 : BitVec 1 := Scalar.cmpi .ne v225 c0_i32_123
  let v230 : BitVec 1 := Scalar.andi v229 v226
  let v231 : BitVec 32 := Scalar.addi v225 v224
  let v232 : BitVec 32 := Scalar.select v230 v231 v225
  let v236 : BitVec 1 := Scalar.cmpi .ne v232 v2
  let v237 : BitVec 32 := Scalar.extui v236
  let c0_i32_127 : BitVec 32 := 0#32
  let v238 : BitVec 1 := Scalar.cmpi .ne v237 c0_i32_127
  v238

def k0_off45 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c0_i32_119 : BitVec 32 := 0#32
  let v221 : BitVec 32 := Scalar.addi v20 c0_i32_119
  let c7_i32 : BitVec 32 := 7#32
  let v222 : BitVec 32 := Scalar.addi v221 c7_i32
  let c32_i32_120 : BitVec 32 := 32#32
  let c0_i32_121 : BitVec 32 := 0#32
  let v223 : BitVec 1 := Scalar.cmpi .eq c32_i32_120 c0_i32_121
  let c1_i32_122 : BitVec 32 := 1#32
  let v224 : BitVec 32 := Scalar.select v223 c1_i32_122 c32_i32_120
  let v225 : BitVec 32 := Scalar.remsi v222 v224
  let c0_i32_124 : BitVec 32 := 0#32
  let v227 : BitVec 1 := Scalar.cmpi .slt v225 c0_i32_124
  let c0_i32_125 : BitVec 32 := 0#32
  let v228 : BitVec 1 := Scalar.cmpi .slt v224 c0_i32_125
  let v229 : BitVec 1 := Scalar.xori v227 v228
  let c0_i32_123 : BitVec 32 := 0#32
  let v226 : BitVec 1 := Scalar.cmpi .ne v225 c0_i32_123
  let v230 : BitVec 1 := Scalar.andi v229 v226
  let v231 : BitVec 32 := Scalar.addi v225 v224
  let v232 : BitVec 32 := Scalar.select v230 v231 v225
  let v2144 : Index := Scalar.indexCast v232
  let c0_1326 : Index := 0#32
  let c0_1327 : Index := 0#32
  ![v2144.toNat, 0, 0]
def k0_off46 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c0_i32_119 : BitVec 32 := 0#32
  let v221 : BitVec 32 := Scalar.addi v20 c0_i32_119
  let c7_i32 : BitVec 32 := 7#32
  let v222 : BitVec 32 := Scalar.addi v221 c7_i32
  let c32_i32_120 : BitVec 32 := 32#32
  let c0_i32_121 : BitVec 32 := 0#32
  let v223 : BitVec 1 := Scalar.cmpi .eq c32_i32_120 c0_i32_121
  let c1_i32_122 : BitVec 32 := 1#32
  let v224 : BitVec 32 := Scalar.select v223 c1_i32_122 c32_i32_120
  let v225 : BitVec 32 := Scalar.remsi v222 v224
  let c0_i32_124 : BitVec 32 := 0#32
  let v227 : BitVec 1 := Scalar.cmpi .slt v225 c0_i32_124
  let c0_i32_125 : BitVec 32 := 0#32
  let v228 : BitVec 1 := Scalar.cmpi .slt v224 c0_i32_125
  let v229 : BitVec 1 := Scalar.xori v227 v228
  let c0_i32_123 : BitVec 32 := 0#32
  let v226 : BitVec 1 := Scalar.cmpi .ne v225 c0_i32_123
  let v230 : BitVec 1 := Scalar.andi v229 v226
  let v231 : BitVec 32 := Scalar.addi v225 v224
  let v232 : BitVec 32 := Scalar.select v230 v231 v225
  ![v232.toNat]
def k0_off47 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off48 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1330 : BitVec 32 := 0#32
  let c0_i32_1331 : BitVec 32 := 0#32
  ![v2.toNat, 0, 0]
def k0_off49 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c0_i32_119 : BitVec 32 := 0#32
  let v221 : BitVec 32 := Scalar.addi v20 c0_i32_119
  let c7_i32 : BitVec 32 := 7#32
  let v222 : BitVec 32 := Scalar.addi v221 c7_i32
  let c32_i32_120 : BitVec 32 := 32#32
  let c0_i32_121 : BitVec 32 := 0#32
  let v223 : BitVec 1 := Scalar.cmpi .eq c32_i32_120 c0_i32_121
  let c1_i32_122 : BitVec 32 := 1#32
  let v224 : BitVec 32 := Scalar.select v223 c1_i32_122 c32_i32_120
  let v225 : BitVec 32 := Scalar.remsi v222 v224
  let c0_i32_124 : BitVec 32 := 0#32
  let v227 : BitVec 1 := Scalar.cmpi .slt v225 c0_i32_124
  let c0_i32_125 : BitVec 32 := 0#32
  let v228 : BitVec 1 := Scalar.cmpi .slt v224 c0_i32_125
  let v229 : BitVec 1 := Scalar.xori v227 v228
  let c0_i32_123 : BitVec 32 := 0#32
  let v226 : BitVec 1 := Scalar.cmpi .ne v225 c0_i32_123
  let v230 : BitVec 1 := Scalar.andi v229 v226
  let v231 : BitVec 32 := Scalar.addi v225 v224
  let v232 : BitVec 32 := Scalar.select v230 v231 v225
  let c0_i32_1332 : BitVec 32 := 0#32
  let c0_i32_1333 : BitVec 32 := 0#32
  ![v232.toNat, 0, 0]
def k0_dev9 (d0 : Dev nD) : Nat :=
  let c0_i32_1329 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c0_i32_119 : BitVec 32 := 0#32
  let v221 : BitVec 32 := Scalar.addi v20 c0_i32_119
  let c7_i32 : BitVec 32 := 7#32
  let v222 : BitVec 32 := Scalar.addi v221 c7_i32
  let c32_i32_120 : BitVec 32 := 32#32
  let c0_i32_121 : BitVec 32 := 0#32
  let v223 : BitVec 1 := Scalar.cmpi .eq c32_i32_120 c0_i32_121
  let c1_i32_122 : BitVec 32 := 1#32
  let v224 : BitVec 32 := Scalar.select v223 c1_i32_122 c32_i32_120
  let v225 : BitVec 32 := Scalar.remsi v222 v224
  let c0_i32_124 : BitVec 32 := 0#32
  let v227 : BitVec 1 := Scalar.cmpi .slt v225 c0_i32_124
  let c0_i32_125 : BitVec 32 := 0#32
  let v228 : BitVec 1 := Scalar.cmpi .slt v224 c0_i32_125
  let v229 : BitVec 1 := Scalar.xori v227 v228
  let c0_i32_123 : BitVec 32 := 0#32
  let v226 : BitVec 1 := Scalar.cmpi .ne v225 c0_i32_123
  let v230 : BitVec 1 := Scalar.andi v229 v226
  let v231 : BitVec 32 := Scalar.addi v225 v224
  let v232 : BitVec 32 := Scalar.select v230 v231 v225
  let c1_i32_1328 : BitVec 32 := 1#32
  let v2148 : BitVec 32 := Scalar.muli v232 c1_i32_1328
  let v2149 : BitVec 32 := Scalar.addi c0_i32_1329 v2148
  v2149.toNat
def k0_cond17 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c8_i32_158 : BitVec 32 := 8#32
  let v284 : BitVec 32 := Scalar.addi v20 c8_i32_158
  let c0_i32_159 : BitVec 32 := 0#32
  let v285 : BitVec 32 := Scalar.addi v284 c0_i32_159
  let c32_i32_160 : BitVec 32 := 32#32
  let c0_i32_161 : BitVec 32 := 0#32
  let v286 : BitVec 1 := Scalar.cmpi .eq c32_i32_160 c0_i32_161
  let c1_i32_162 : BitVec 32 := 1#32
  let v287 : BitVec 32 := Scalar.select v286 c1_i32_162 c32_i32_160
  let v288 : BitVec 32 := Scalar.remsi v285 v287
  let c0_i32_164 : BitVec 32 := 0#32
  let v290 : BitVec 1 := Scalar.cmpi .slt v288 c0_i32_164
  let c0_i32_165 : BitVec 32 := 0#32
  let v291 : BitVec 1 := Scalar.cmpi .slt v287 c0_i32_165
  let v292 : BitVec 1 := Scalar.xori v290 v291
  let c0_i32_163 : BitVec 32 := 0#32
  let v289 : BitVec 1 := Scalar.cmpi .ne v288 c0_i32_163
  let v293 : BitVec 1 := Scalar.andi v292 v289
  let v294 : BitVec 32 := Scalar.addi v288 v287
  let v295 : BitVec 32 := Scalar.select v293 v294 v288
  let v296 : BitVec 1 := Scalar.cmpi .eq v295 v2
  let v297 : BitVec 32 := Scalar.extui v296
  let c0_i32_166 : BitVec 32 := 0#32
  let v298 : BitVec 1 := Scalar.cmpi .ne v297 c0_i32_166
  v298

def k0_off50 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1326 : BitVec 32 := 128#32
  let v2143 : BitVec 32 := Scalar.muli v2 c128_i32_1326
  let v2144 : Index := Scalar.indexCast v2143
  let c0_1327 : Index := 0#32
  ![v2144.toNat, 0]
def k0_cond18 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c8_i32_158 : BitVec 32 := 8#32
  let v284 : BitVec 32 := Scalar.addi v20 c8_i32_158
  let c0_i32_159 : BitVec 32 := 0#32
  let v285 : BitVec 32 := Scalar.addi v284 c0_i32_159
  let c32_i32_160 : BitVec 32 := 32#32
  let c0_i32_161 : BitVec 32 := 0#32
  let v286 : BitVec 1 := Scalar.cmpi .eq c32_i32_160 c0_i32_161
  let c1_i32_162 : BitVec 32 := 1#32
  let v287 : BitVec 32 := Scalar.select v286 c1_i32_162 c32_i32_160
  let v288 : BitVec 32 := Scalar.remsi v285 v287
  let c0_i32_164 : BitVec 32 := 0#32
  let v290 : BitVec 1 := Scalar.cmpi .slt v288 c0_i32_164
  let c0_i32_165 : BitVec 32 := 0#32
  let v291 : BitVec 1 := Scalar.cmpi .slt v287 c0_i32_165
  let v292 : BitVec 1 := Scalar.xori v290 v291
  let c0_i32_163 : BitVec 32 := 0#32
  let v289 : BitVec 1 := Scalar.cmpi .ne v288 c0_i32_163
  let v293 : BitVec 1 := Scalar.andi v292 v289
  let v294 : BitVec 32 := Scalar.addi v288 v287
  let v295 : BitVec 32 := Scalar.select v293 v294 v288
  let v299 : BitVec 1 := Scalar.cmpi .ne v295 v2
  let v300 : BitVec 32 := Scalar.extui v299
  let c0_i32_167 : BitVec 32 := 0#32
  let v301 : BitVec 1 := Scalar.cmpi .ne v300 c0_i32_167
  v301

def k0_off51 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c8_i32_158 : BitVec 32 := 8#32
  let v284 : BitVec 32 := Scalar.addi v20 c8_i32_158
  let c0_i32_159 : BitVec 32 := 0#32
  let v285 : BitVec 32 := Scalar.addi v284 c0_i32_159
  let c32_i32_160 : BitVec 32 := 32#32
  let c0_i32_161 : BitVec 32 := 0#32
  let v286 : BitVec 1 := Scalar.cmpi .eq c32_i32_160 c0_i32_161
  let c1_i32_162 : BitVec 32 := 1#32
  let v287 : BitVec 32 := Scalar.select v286 c1_i32_162 c32_i32_160
  let v288 : BitVec 32 := Scalar.remsi v285 v287
  let c0_i32_164 : BitVec 32 := 0#32
  let v290 : BitVec 1 := Scalar.cmpi .slt v288 c0_i32_164
  let c0_i32_165 : BitVec 32 := 0#32
  let v291 : BitVec 1 := Scalar.cmpi .slt v287 c0_i32_165
  let v292 : BitVec 1 := Scalar.xori v290 v291
  let c0_i32_163 : BitVec 32 := 0#32
  let v289 : BitVec 1 := Scalar.cmpi .ne v288 c0_i32_163
  let v293 : BitVec 1 := Scalar.andi v292 v289
  let v294 : BitVec 32 := Scalar.addi v288 v287
  let v295 : BitVec 32 := Scalar.select v293 v294 v288
  let v2144 : Index := Scalar.indexCast v295
  let c0_1326 : Index := 0#32
  let c0_1327 : Index := 0#32
  ![v2144.toNat, 0, 0]
def k0_off52 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c8_i32_158 : BitVec 32 := 8#32
  let v284 : BitVec 32 := Scalar.addi v20 c8_i32_158
  let c0_i32_159 : BitVec 32 := 0#32
  let v285 : BitVec 32 := Scalar.addi v284 c0_i32_159
  let c32_i32_160 : BitVec 32 := 32#32
  let c0_i32_161 : BitVec 32 := 0#32
  let v286 : BitVec 1 := Scalar.cmpi .eq c32_i32_160 c0_i32_161
  let c1_i32_162 : BitVec 32 := 1#32
  let v287 : BitVec 32 := Scalar.select v286 c1_i32_162 c32_i32_160
  let v288 : BitVec 32 := Scalar.remsi v285 v287
  let c0_i32_164 : BitVec 32 := 0#32
  let v290 : BitVec 1 := Scalar.cmpi .slt v288 c0_i32_164
  let c0_i32_165 : BitVec 32 := 0#32
  let v291 : BitVec 1 := Scalar.cmpi .slt v287 c0_i32_165
  let v292 : BitVec 1 := Scalar.xori v290 v291
  let c0_i32_163 : BitVec 32 := 0#32
  let v289 : BitVec 1 := Scalar.cmpi .ne v288 c0_i32_163
  let v293 : BitVec 1 := Scalar.andi v292 v289
  let v294 : BitVec 32 := Scalar.addi v288 v287
  let v295 : BitVec 32 := Scalar.select v293 v294 v288
  ![v295.toNat]
def k0_off53 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off54 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1330 : BitVec 32 := 0#32
  let c0_i32_1331 : BitVec 32 := 0#32
  ![v2.toNat, 0, 0]
def k0_off55 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c8_i32_158 : BitVec 32 := 8#32
  let v284 : BitVec 32 := Scalar.addi v20 c8_i32_158
  let c0_i32_159 : BitVec 32 := 0#32
  let v285 : BitVec 32 := Scalar.addi v284 c0_i32_159
  let c32_i32_160 : BitVec 32 := 32#32
  let c0_i32_161 : BitVec 32 := 0#32
  let v286 : BitVec 1 := Scalar.cmpi .eq c32_i32_160 c0_i32_161
  let c1_i32_162 : BitVec 32 := 1#32
  let v287 : BitVec 32 := Scalar.select v286 c1_i32_162 c32_i32_160
  let v288 : BitVec 32 := Scalar.remsi v285 v287
  let c0_i32_164 : BitVec 32 := 0#32
  let v290 : BitVec 1 := Scalar.cmpi .slt v288 c0_i32_164
  let c0_i32_165 : BitVec 32 := 0#32
  let v291 : BitVec 1 := Scalar.cmpi .slt v287 c0_i32_165
  let v292 : BitVec 1 := Scalar.xori v290 v291
  let c0_i32_163 : BitVec 32 := 0#32
  let v289 : BitVec 1 := Scalar.cmpi .ne v288 c0_i32_163
  let v293 : BitVec 1 := Scalar.andi v292 v289
  let v294 : BitVec 32 := Scalar.addi v288 v287
  let v295 : BitVec 32 := Scalar.select v293 v294 v288
  let c0_i32_1332 : BitVec 32 := 0#32
  let c0_i32_1333 : BitVec 32 := 0#32
  ![v295.toNat, 0, 0]
def k0_dev10 (d0 : Dev nD) : Nat :=
  let c0_i32_1329 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c8_i32_158 : BitVec 32 := 8#32
  let v284 : BitVec 32 := Scalar.addi v20 c8_i32_158
  let c0_i32_159 : BitVec 32 := 0#32
  let v285 : BitVec 32 := Scalar.addi v284 c0_i32_159
  let c32_i32_160 : BitVec 32 := 32#32
  let c0_i32_161 : BitVec 32 := 0#32
  let v286 : BitVec 1 := Scalar.cmpi .eq c32_i32_160 c0_i32_161
  let c1_i32_162 : BitVec 32 := 1#32
  let v287 : BitVec 32 := Scalar.select v286 c1_i32_162 c32_i32_160
  let v288 : BitVec 32 := Scalar.remsi v285 v287
  let c0_i32_164 : BitVec 32 := 0#32
  let v290 : BitVec 1 := Scalar.cmpi .slt v288 c0_i32_164
  let c0_i32_165 : BitVec 32 := 0#32
  let v291 : BitVec 1 := Scalar.cmpi .slt v287 c0_i32_165
  let v292 : BitVec 1 := Scalar.xori v290 v291
  let c0_i32_163 : BitVec 32 := 0#32
  let v289 : BitVec 1 := Scalar.cmpi .ne v288 c0_i32_163
  let v293 : BitVec 1 := Scalar.andi v292 v289
  let v294 : BitVec 32 := Scalar.addi v288 v287
  let v295 : BitVec 32 := Scalar.select v293 v294 v288
  let c1_i32_1328 : BitVec 32 := 1#32
  let v2148 : BitVec 32 := Scalar.muli v295 c1_i32_1328
  let v2149 : BitVec 32 := Scalar.addi c0_i32_1329 v2148
  v2149.toNat
def k0_cond19 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c8_i32_168 : BitVec 32 := 8#32
  let v303 : BitVec 32 := Scalar.addi v20 c8_i32_168
  let c1_i32_169 : BitVec 32 := 1#32
  let v304 : BitVec 32 := Scalar.addi v303 c1_i32_169
  let c32_i32_170 : BitVec 32 := 32#32
  let c0_i32_171 : BitVec 32 := 0#32
  let v305 : BitVec 1 := Scalar.cmpi .eq c32_i32_170 c0_i32_171
  let c1_i32_172 : BitVec 32 := 1#32
  let v306 : BitVec 32 := Scalar.select v305 c1_i32_172 c32_i32_170
  let v307 : BitVec 32 := Scalar.remsi v304 v306
  let c0_i32_174 : BitVec 32 := 0#32
  let v309 : BitVec 1 := Scalar.cmpi .slt v307 c0_i32_174
  let c0_i32_175 : BitVec 32 := 0#32
  let v310 : BitVec 1 := Scalar.cmpi .slt v306 c0_i32_175
  let v311 : BitVec 1 := Scalar.xori v309 v310
  let c0_i32_173 : BitVec 32 := 0#32
  let v308 : BitVec 1 := Scalar.cmpi .ne v307 c0_i32_173
  let v312 : BitVec 1 := Scalar.andi v311 v308
  let v313 : BitVec 32 := Scalar.addi v307 v306
  let v314 : BitVec 32 := Scalar.select v312 v313 v307
  let v315 : BitVec 1 := Scalar.cmpi .eq v314 v2
  let v316 : BitVec 32 := Scalar.extui v315
  let c0_i32_176 : BitVec 32 := 0#32
  let v317 : BitVec 1 := Scalar.cmpi .ne v316 c0_i32_176
  v317

def k0_off56 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1326 : BitVec 32 := 128#32
  let v2143 : BitVec 32 := Scalar.muli v2 c128_i32_1326
  let v2144 : Index := Scalar.indexCast v2143
  let c0_1327 : Index := 0#32
  ![v2144.toNat, 0]
def k0_cond20 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c8_i32_168 : BitVec 32 := 8#32
  let v303 : BitVec 32 := Scalar.addi v20 c8_i32_168
  let c1_i32_169 : BitVec 32 := 1#32
  let v304 : BitVec 32 := Scalar.addi v303 c1_i32_169
  let c32_i32_170 : BitVec 32 := 32#32
  let c0_i32_171 : BitVec 32 := 0#32
  let v305 : BitVec 1 := Scalar.cmpi .eq c32_i32_170 c0_i32_171
  let c1_i32_172 : BitVec 32 := 1#32
  let v306 : BitVec 32 := Scalar.select v305 c1_i32_172 c32_i32_170
  let v307 : BitVec 32 := Scalar.remsi v304 v306
  let c0_i32_174 : BitVec 32 := 0#32
  let v309 : BitVec 1 := Scalar.cmpi .slt v307 c0_i32_174
  let c0_i32_175 : BitVec 32 := 0#32
  let v310 : BitVec 1 := Scalar.cmpi .slt v306 c0_i32_175
  let v311 : BitVec 1 := Scalar.xori v309 v310
  let c0_i32_173 : BitVec 32 := 0#32
  let v308 : BitVec 1 := Scalar.cmpi .ne v307 c0_i32_173
  let v312 : BitVec 1 := Scalar.andi v311 v308
  let v313 : BitVec 32 := Scalar.addi v307 v306
  let v314 : BitVec 32 := Scalar.select v312 v313 v307
  let v318 : BitVec 1 := Scalar.cmpi .ne v314 v2
  let v319 : BitVec 32 := Scalar.extui v318
  let c0_i32_177 : BitVec 32 := 0#32
  let v320 : BitVec 1 := Scalar.cmpi .ne v319 c0_i32_177
  v320

def k0_off57 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c8_i32_168 : BitVec 32 := 8#32
  let v303 : BitVec 32 := Scalar.addi v20 c8_i32_168
  let c1_i32_169 : BitVec 32 := 1#32
  let v304 : BitVec 32 := Scalar.addi v303 c1_i32_169
  let c32_i32_170 : BitVec 32 := 32#32
  let c0_i32_171 : BitVec 32 := 0#32
  let v305 : BitVec 1 := Scalar.cmpi .eq c32_i32_170 c0_i32_171
  let c1_i32_172 : BitVec 32 := 1#32
  let v306 : BitVec 32 := Scalar.select v305 c1_i32_172 c32_i32_170
  let v307 : BitVec 32 := Scalar.remsi v304 v306
  let c0_i32_174 : BitVec 32 := 0#32
  let v309 : BitVec 1 := Scalar.cmpi .slt v307 c0_i32_174
  let c0_i32_175 : BitVec 32 := 0#32
  let v310 : BitVec 1 := Scalar.cmpi .slt v306 c0_i32_175
  let v311 : BitVec 1 := Scalar.xori v309 v310
  let c0_i32_173 : BitVec 32 := 0#32
  let v308 : BitVec 1 := Scalar.cmpi .ne v307 c0_i32_173
  let v312 : BitVec 1 := Scalar.andi v311 v308
  let v313 : BitVec 32 := Scalar.addi v307 v306
  let v314 : BitVec 32 := Scalar.select v312 v313 v307
  let v2144 : Index := Scalar.indexCast v314
  let c0_1326 : Index := 0#32
  let c0_1327 : Index := 0#32
  ![v2144.toNat, 0, 0]
def k0_off58 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c8_i32_168 : BitVec 32 := 8#32
  let v303 : BitVec 32 := Scalar.addi v20 c8_i32_168
  let c1_i32_169 : BitVec 32 := 1#32
  let v304 : BitVec 32 := Scalar.addi v303 c1_i32_169
  let c32_i32_170 : BitVec 32 := 32#32
  let c0_i32_171 : BitVec 32 := 0#32
  let v305 : BitVec 1 := Scalar.cmpi .eq c32_i32_170 c0_i32_171
  let c1_i32_172 : BitVec 32 := 1#32
  let v306 : BitVec 32 := Scalar.select v305 c1_i32_172 c32_i32_170
  let v307 : BitVec 32 := Scalar.remsi v304 v306
  let c0_i32_174 : BitVec 32 := 0#32
  let v309 : BitVec 1 := Scalar.cmpi .slt v307 c0_i32_174
  let c0_i32_175 : BitVec 32 := 0#32
  let v310 : BitVec 1 := Scalar.cmpi .slt v306 c0_i32_175
  let v311 : BitVec 1 := Scalar.xori v309 v310
  let c0_i32_173 : BitVec 32 := 0#32
  let v308 : BitVec 1 := Scalar.cmpi .ne v307 c0_i32_173
  let v312 : BitVec 1 := Scalar.andi v311 v308
  let v313 : BitVec 32 := Scalar.addi v307 v306
  let v314 : BitVec 32 := Scalar.select v312 v313 v307
  ![v314.toNat]
def k0_off59 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off60 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1330 : BitVec 32 := 0#32
  let c0_i32_1331 : BitVec 32 := 0#32
  ![v2.toNat, 0, 0]
def k0_off61 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c8_i32_168 : BitVec 32 := 8#32
  let v303 : BitVec 32 := Scalar.addi v20 c8_i32_168
  let c1_i32_169 : BitVec 32 := 1#32
  let v304 : BitVec 32 := Scalar.addi v303 c1_i32_169
  let c32_i32_170 : BitVec 32 := 32#32
  let c0_i32_171 : BitVec 32 := 0#32
  let v305 : BitVec 1 := Scalar.cmpi .eq c32_i32_170 c0_i32_171
  let c1_i32_172 : BitVec 32 := 1#32
  let v306 : BitVec 32 := Scalar.select v305 c1_i32_172 c32_i32_170
  let v307 : BitVec 32 := Scalar.remsi v304 v306
  let c0_i32_174 : BitVec 32 := 0#32
  let v309 : BitVec 1 := Scalar.cmpi .slt v307 c0_i32_174
  let c0_i32_175 : BitVec 32 := 0#32
  let v310 : BitVec 1 := Scalar.cmpi .slt v306 c0_i32_175
  let v311 : BitVec 1 := Scalar.xori v309 v310
  let c0_i32_173 : BitVec 32 := 0#32
  let v308 : BitVec 1 := Scalar.cmpi .ne v307 c0_i32_173
  let v312 : BitVec 1 := Scalar.andi v311 v308
  let v313 : BitVec 32 := Scalar.addi v307 v306
  let v314 : BitVec 32 := Scalar.select v312 v313 v307
  let c0_i32_1332 : BitVec 32 := 0#32
  let c0_i32_1333 : BitVec 32 := 0#32
  ![v314.toNat, 0, 0]
def k0_dev11 (d0 : Dev nD) : Nat :=
  let c0_i32_1329 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c8_i32_168 : BitVec 32 := 8#32
  let v303 : BitVec 32 := Scalar.addi v20 c8_i32_168
  let c1_i32_169 : BitVec 32 := 1#32
  let v304 : BitVec 32 := Scalar.addi v303 c1_i32_169
  let c32_i32_170 : BitVec 32 := 32#32
  let c0_i32_171 : BitVec 32 := 0#32
  let v305 : BitVec 1 := Scalar.cmpi .eq c32_i32_170 c0_i32_171
  let c1_i32_172 : BitVec 32 := 1#32
  let v306 : BitVec 32 := Scalar.select v305 c1_i32_172 c32_i32_170
  let v307 : BitVec 32 := Scalar.remsi v304 v306
  let c0_i32_174 : BitVec 32 := 0#32
  let v309 : BitVec 1 := Scalar.cmpi .slt v307 c0_i32_174
  let c0_i32_175 : BitVec 32 := 0#32
  let v310 : BitVec 1 := Scalar.cmpi .slt v306 c0_i32_175
  let v311 : BitVec 1 := Scalar.xori v309 v310
  let c0_i32_173 : BitVec 32 := 0#32
  let v308 : BitVec 1 := Scalar.cmpi .ne v307 c0_i32_173
  let v312 : BitVec 1 := Scalar.andi v311 v308
  let v313 : BitVec 32 := Scalar.addi v307 v306
  let v314 : BitVec 32 := Scalar.select v312 v313 v307
  let c1_i32_1328 : BitVec 32 := 1#32
  let v2148 : BitVec 32 := Scalar.muli v314 c1_i32_1328
  let v2149 : BitVec 32 := Scalar.addi c0_i32_1329 v2148
  v2149.toNat
def k0_cond21 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c8_i32_178 : BitVec 32 := 8#32
  let v322 : BitVec 32 := Scalar.addi v20 c8_i32_178
  let c2_i32_179 : BitVec 32 := 2#32
  let v323 : BitVec 32 := Scalar.addi v322 c2_i32_179
  let c32_i32_180 : BitVec 32 := 32#32
  let c0_i32_181 : BitVec 32 := 0#32
  let v324 : BitVec 1 := Scalar.cmpi .eq c32_i32_180 c0_i32_181
  let c1_i32_182 : BitVec 32 := 1#32
  let v325 : BitVec 32 := Scalar.select v324 c1_i32_182 c32_i32_180
  let v326 : BitVec 32 := Scalar.remsi v323 v325
  let c0_i32_184 : BitVec 32 := 0#32
  let v328 : BitVec 1 := Scalar.cmpi .slt v326 c0_i32_184
  let c0_i32_185 : BitVec 32 := 0#32
  let v329 : BitVec 1 := Scalar.cmpi .slt v325 c0_i32_185
  let v330 : BitVec 1 := Scalar.xori v328 v329
  let c0_i32_183 : BitVec 32 := 0#32
  let v327 : BitVec 1 := Scalar.cmpi .ne v326 c0_i32_183
  let v331 : BitVec 1 := Scalar.andi v330 v327
  let v332 : BitVec 32 := Scalar.addi v326 v325
  let v333 : BitVec 32 := Scalar.select v331 v332 v326
  let v334 : BitVec 1 := Scalar.cmpi .eq v333 v2
  let v335 : BitVec 32 := Scalar.extui v334
  let c0_i32_186 : BitVec 32 := 0#32
  let v336 : BitVec 1 := Scalar.cmpi .ne v335 c0_i32_186
  v336

def k0_off62 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1326 : BitVec 32 := 128#32
  let v2143 : BitVec 32 := Scalar.muli v2 c128_i32_1326
  let v2144 : Index := Scalar.indexCast v2143
  let c0_1327 : Index := 0#32
  ![v2144.toNat, 0]
def k0_cond22 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c8_i32_178 : BitVec 32 := 8#32
  let v322 : BitVec 32 := Scalar.addi v20 c8_i32_178
  let c2_i32_179 : BitVec 32 := 2#32
  let v323 : BitVec 32 := Scalar.addi v322 c2_i32_179
  let c32_i32_180 : BitVec 32 := 32#32
  let c0_i32_181 : BitVec 32 := 0#32
  let v324 : BitVec 1 := Scalar.cmpi .eq c32_i32_180 c0_i32_181
  let c1_i32_182 : BitVec 32 := 1#32
  let v325 : BitVec 32 := Scalar.select v324 c1_i32_182 c32_i32_180
  let v326 : BitVec 32 := Scalar.remsi v323 v325
  let c0_i32_184 : BitVec 32 := 0#32
  let v328 : BitVec 1 := Scalar.cmpi .slt v326 c0_i32_184
  let c0_i32_185 : BitVec 32 := 0#32
  let v329 : BitVec 1 := Scalar.cmpi .slt v325 c0_i32_185
  let v330 : BitVec 1 := Scalar.xori v328 v329
  let c0_i32_183 : BitVec 32 := 0#32
  let v327 : BitVec 1 := Scalar.cmpi .ne v326 c0_i32_183
  let v331 : BitVec 1 := Scalar.andi v330 v327
  let v332 : BitVec 32 := Scalar.addi v326 v325
  let v333 : BitVec 32 := Scalar.select v331 v332 v326
  let v337 : BitVec 1 := Scalar.cmpi .ne v333 v2
  let v338 : BitVec 32 := Scalar.extui v337
  let c0_i32_187 : BitVec 32 := 0#32
  let v339 : BitVec 1 := Scalar.cmpi .ne v338 c0_i32_187
  v339

def k0_off63 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c8_i32_178 : BitVec 32 := 8#32
  let v322 : BitVec 32 := Scalar.addi v20 c8_i32_178
  let c2_i32_179 : BitVec 32 := 2#32
  let v323 : BitVec 32 := Scalar.addi v322 c2_i32_179
  let c32_i32_180 : BitVec 32 := 32#32
  let c0_i32_181 : BitVec 32 := 0#32
  let v324 : BitVec 1 := Scalar.cmpi .eq c32_i32_180 c0_i32_181
  let c1_i32_182 : BitVec 32 := 1#32
  let v325 : BitVec 32 := Scalar.select v324 c1_i32_182 c32_i32_180
  let v326 : BitVec 32 := Scalar.remsi v323 v325
  let c0_i32_184 : BitVec 32 := 0#32
  let v328 : BitVec 1 := Scalar.cmpi .slt v326 c0_i32_184
  let c0_i32_185 : BitVec 32 := 0#32
  let v329 : BitVec 1 := Scalar.cmpi .slt v325 c0_i32_185
  let v330 : BitVec 1 := Scalar.xori v328 v329
  let c0_i32_183 : BitVec 32 := 0#32
  let v327 : BitVec 1 := Scalar.cmpi .ne v326 c0_i32_183
  let v331 : BitVec 1 := Scalar.andi v330 v327
  let v332 : BitVec 32 := Scalar.addi v326 v325
  let v333 : BitVec 32 := Scalar.select v331 v332 v326
  let v2144 : Index := Scalar.indexCast v333
  let c0_1326 : Index := 0#32
  let c0_1327 : Index := 0#32
  ![v2144.toNat, 0, 0]
def k0_off64 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c8_i32_178 : BitVec 32 := 8#32
  let v322 : BitVec 32 := Scalar.addi v20 c8_i32_178
  let c2_i32_179 : BitVec 32 := 2#32
  let v323 : BitVec 32 := Scalar.addi v322 c2_i32_179
  let c32_i32_180 : BitVec 32 := 32#32
  let c0_i32_181 : BitVec 32 := 0#32
  let v324 : BitVec 1 := Scalar.cmpi .eq c32_i32_180 c0_i32_181
  let c1_i32_182 : BitVec 32 := 1#32
  let v325 : BitVec 32 := Scalar.select v324 c1_i32_182 c32_i32_180
  let v326 : BitVec 32 := Scalar.remsi v323 v325
  let c0_i32_184 : BitVec 32 := 0#32
  let v328 : BitVec 1 := Scalar.cmpi .slt v326 c0_i32_184
  let c0_i32_185 : BitVec 32 := 0#32
  let v329 : BitVec 1 := Scalar.cmpi .slt v325 c0_i32_185
  let v330 : BitVec 1 := Scalar.xori v328 v329
  let c0_i32_183 : BitVec 32 := 0#32
  let v327 : BitVec 1 := Scalar.cmpi .ne v326 c0_i32_183
  let v331 : BitVec 1 := Scalar.andi v330 v327
  let v332 : BitVec 32 := Scalar.addi v326 v325
  let v333 : BitVec 32 := Scalar.select v331 v332 v326
  ![v333.toNat]
def k0_off65 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off66 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1330 : BitVec 32 := 0#32
  let c0_i32_1331 : BitVec 32 := 0#32
  ![v2.toNat, 0, 0]
def k0_off67 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c8_i32_178 : BitVec 32 := 8#32
  let v322 : BitVec 32 := Scalar.addi v20 c8_i32_178
  let c2_i32_179 : BitVec 32 := 2#32
  let v323 : BitVec 32 := Scalar.addi v322 c2_i32_179
  let c32_i32_180 : BitVec 32 := 32#32
  let c0_i32_181 : BitVec 32 := 0#32
  let v324 : BitVec 1 := Scalar.cmpi .eq c32_i32_180 c0_i32_181
  let c1_i32_182 : BitVec 32 := 1#32
  let v325 : BitVec 32 := Scalar.select v324 c1_i32_182 c32_i32_180
  let v326 : BitVec 32 := Scalar.remsi v323 v325
  let c0_i32_184 : BitVec 32 := 0#32
  let v328 : BitVec 1 := Scalar.cmpi .slt v326 c0_i32_184
  let c0_i32_185 : BitVec 32 := 0#32
  let v329 : BitVec 1 := Scalar.cmpi .slt v325 c0_i32_185
  let v330 : BitVec 1 := Scalar.xori v328 v329
  let c0_i32_183 : BitVec 32 := 0#32
  let v327 : BitVec 1 := Scalar.cmpi .ne v326 c0_i32_183
  let v331 : BitVec 1 := Scalar.andi v330 v327
  let v332 : BitVec 32 := Scalar.addi v326 v325
  let v333 : BitVec 32 := Scalar.select v331 v332 v326
  let c0_i32_1332 : BitVec 32 := 0#32
  let c0_i32_1333 : BitVec 32 := 0#32
  ![v333.toNat, 0, 0]
def k0_dev12 (d0 : Dev nD) : Nat :=
  let c0_i32_1329 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c8_i32_178 : BitVec 32 := 8#32
  let v322 : BitVec 32 := Scalar.addi v20 c8_i32_178
  let c2_i32_179 : BitVec 32 := 2#32
  let v323 : BitVec 32 := Scalar.addi v322 c2_i32_179
  let c32_i32_180 : BitVec 32 := 32#32
  let c0_i32_181 : BitVec 32 := 0#32
  let v324 : BitVec 1 := Scalar.cmpi .eq c32_i32_180 c0_i32_181
  let c1_i32_182 : BitVec 32 := 1#32
  let v325 : BitVec 32 := Scalar.select v324 c1_i32_182 c32_i32_180
  let v326 : BitVec 32 := Scalar.remsi v323 v325
  let c0_i32_184 : BitVec 32 := 0#32
  let v328 : BitVec 1 := Scalar.cmpi .slt v326 c0_i32_184
  let c0_i32_185 : BitVec 32 := 0#32
  let v329 : BitVec 1 := Scalar.cmpi .slt v325 c0_i32_185
  let v330 : BitVec 1 := Scalar.xori v328 v329
  let c0_i32_183 : BitVec 32 := 0#32
  let v327 : BitVec 1 := Scalar.cmpi .ne v326 c0_i32_183
  let v331 : BitVec 1 := Scalar.andi v330 v327
  let v332 : BitVec 32 := Scalar.addi v326 v325
  let v333 : BitVec 32 := Scalar.select v331 v332 v326
  let c1_i32_1328 : BitVec 32 := 1#32
  let v2148 : BitVec 32 := Scalar.muli v333 c1_i32_1328
  let v2149 : BitVec 32 := Scalar.addi c0_i32_1329 v2148
  v2149.toNat
def k0_cond23 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c8_i32_188 : BitVec 32 := 8#32
  let v341 : BitVec 32 := Scalar.addi v20 c8_i32_188
  let c3_i32_189 : BitVec 32 := 3#32
  let v342 : BitVec 32 := Scalar.addi v341 c3_i32_189
  let c32_i32_190 : BitVec 32 := 32#32
  let c0_i32_191 : BitVec 32 := 0#32
  let v343 : BitVec 1 := Scalar.cmpi .eq c32_i32_190 c0_i32_191
  let c1_i32_192 : BitVec 32 := 1#32
  let v344 : BitVec 32 := Scalar.select v343 c1_i32_192 c32_i32_190
  let v345 : BitVec 32 := Scalar.remsi v342 v344
  let c0_i32_194 : BitVec 32 := 0#32
  let v347 : BitVec 1 := Scalar.cmpi .slt v345 c0_i32_194
  let c0_i32_195 : BitVec 32 := 0#32
  let v348 : BitVec 1 := Scalar.cmpi .slt v344 c0_i32_195
  let v349 : BitVec 1 := Scalar.xori v347 v348
  let c0_i32_193 : BitVec 32 := 0#32
  let v346 : BitVec 1 := Scalar.cmpi .ne v345 c0_i32_193
  let v350 : BitVec 1 := Scalar.andi v349 v346
  let v351 : BitVec 32 := Scalar.addi v345 v344
  let v352 : BitVec 32 := Scalar.select v350 v351 v345
  let v353 : BitVec 1 := Scalar.cmpi .eq v352 v2
  let v354 : BitVec 32 := Scalar.extui v353
  let c0_i32_196 : BitVec 32 := 0#32
  let v355 : BitVec 1 := Scalar.cmpi .ne v354 c0_i32_196
  v355

def k0_off68 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1326 : BitVec 32 := 128#32
  let v2143 : BitVec 32 := Scalar.muli v2 c128_i32_1326
  let v2144 : Index := Scalar.indexCast v2143
  let c0_1327 : Index := 0#32
  ![v2144.toNat, 0]
def k0_cond24 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c8_i32_188 : BitVec 32 := 8#32
  let v341 : BitVec 32 := Scalar.addi v20 c8_i32_188
  let c3_i32_189 : BitVec 32 := 3#32
  let v342 : BitVec 32 := Scalar.addi v341 c3_i32_189
  let c32_i32_190 : BitVec 32 := 32#32
  let c0_i32_191 : BitVec 32 := 0#32
  let v343 : BitVec 1 := Scalar.cmpi .eq c32_i32_190 c0_i32_191
  let c1_i32_192 : BitVec 32 := 1#32
  let v344 : BitVec 32 := Scalar.select v343 c1_i32_192 c32_i32_190
  let v345 : BitVec 32 := Scalar.remsi v342 v344
  let c0_i32_194 : BitVec 32 := 0#32
  let v347 : BitVec 1 := Scalar.cmpi .slt v345 c0_i32_194
  let c0_i32_195 : BitVec 32 := 0#32
  let v348 : BitVec 1 := Scalar.cmpi .slt v344 c0_i32_195
  let v349 : BitVec 1 := Scalar.xori v347 v348
  let c0_i32_193 : BitVec 32 := 0#32
  let v346 : BitVec 1 := Scalar.cmpi .ne v345 c0_i32_193
  let v350 : BitVec 1 := Scalar.andi v349 v346
  let v351 : BitVec 32 := Scalar.addi v345 v344
  let v352 : BitVec 32 := Scalar.select v350 v351 v345
  let v356 : BitVec 1 := Scalar.cmpi .ne v352 v2
  let v357 : BitVec 32 := Scalar.extui v356
  let c0_i32_197 : BitVec 32 := 0#32
  let v358 : BitVec 1 := Scalar.cmpi .ne v357 c0_i32_197
  v358

def k0_off69 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c8_i32_188 : BitVec 32 := 8#32
  let v341 : BitVec 32 := Scalar.addi v20 c8_i32_188
  let c3_i32_189 : BitVec 32 := 3#32
  let v342 : BitVec 32 := Scalar.addi v341 c3_i32_189
  let c32_i32_190 : BitVec 32 := 32#32
  let c0_i32_191 : BitVec 32 := 0#32
  let v343 : BitVec 1 := Scalar.cmpi .eq c32_i32_190 c0_i32_191
  let c1_i32_192 : BitVec 32 := 1#32
  let v344 : BitVec 32 := Scalar.select v343 c1_i32_192 c32_i32_190
  let v345 : BitVec 32 := Scalar.remsi v342 v344
  let c0_i32_194 : BitVec 32 := 0#32
  let v347 : BitVec 1 := Scalar.cmpi .slt v345 c0_i32_194
  let c0_i32_195 : BitVec 32 := 0#32
  let v348 : BitVec 1 := Scalar.cmpi .slt v344 c0_i32_195
  let v349 : BitVec 1 := Scalar.xori v347 v348
  let c0_i32_193 : BitVec 32 := 0#32
  let v346 : BitVec 1 := Scalar.cmpi .ne v345 c0_i32_193
  let v350 : BitVec 1 := Scalar.andi v349 v346
  let v351 : BitVec 32 := Scalar.addi v345 v344
  let v352 : BitVec 32 := Scalar.select v350 v351 v345
  let v2144 : Index := Scalar.indexCast v352
  let c0_1326 : Index := 0#32
  let c0_1327 : Index := 0#32
  ![v2144.toNat, 0, 0]
def k0_off70 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c8_i32_188 : BitVec 32 := 8#32
  let v341 : BitVec 32 := Scalar.addi v20 c8_i32_188
  let c3_i32_189 : BitVec 32 := 3#32
  let v342 : BitVec 32 := Scalar.addi v341 c3_i32_189
  let c32_i32_190 : BitVec 32 := 32#32
  let c0_i32_191 : BitVec 32 := 0#32
  let v343 : BitVec 1 := Scalar.cmpi .eq c32_i32_190 c0_i32_191
  let c1_i32_192 : BitVec 32 := 1#32
  let v344 : BitVec 32 := Scalar.select v343 c1_i32_192 c32_i32_190
  let v345 : BitVec 32 := Scalar.remsi v342 v344
  let c0_i32_194 : BitVec 32 := 0#32
  let v347 : BitVec 1 := Scalar.cmpi .slt v345 c0_i32_194
  let c0_i32_195 : BitVec 32 := 0#32
  let v348 : BitVec 1 := Scalar.cmpi .slt v344 c0_i32_195
  let v349 : BitVec 1 := Scalar.xori v347 v348
  let c0_i32_193 : BitVec 32 := 0#32
  let v346 : BitVec 1 := Scalar.cmpi .ne v345 c0_i32_193
  let v350 : BitVec 1 := Scalar.andi v349 v346
  let v351 : BitVec 32 := Scalar.addi v345 v344
  let v352 : BitVec 32 := Scalar.select v350 v351 v345
  ![v352.toNat]
def k0_off71 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off72 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1330 : BitVec 32 := 0#32
  let c0_i32_1331 : BitVec 32 := 0#32
  ![v2.toNat, 0, 0]
def k0_off73 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c8_i32_188 : BitVec 32 := 8#32
  let v341 : BitVec 32 := Scalar.addi v20 c8_i32_188
  let c3_i32_189 : BitVec 32 := 3#32
  let v342 : BitVec 32 := Scalar.addi v341 c3_i32_189
  let c32_i32_190 : BitVec 32 := 32#32
  let c0_i32_191 : BitVec 32 := 0#32
  let v343 : BitVec 1 := Scalar.cmpi .eq c32_i32_190 c0_i32_191
  let c1_i32_192 : BitVec 32 := 1#32
  let v344 : BitVec 32 := Scalar.select v343 c1_i32_192 c32_i32_190
  let v345 : BitVec 32 := Scalar.remsi v342 v344
  let c0_i32_194 : BitVec 32 := 0#32
  let v347 : BitVec 1 := Scalar.cmpi .slt v345 c0_i32_194
  let c0_i32_195 : BitVec 32 := 0#32
  let v348 : BitVec 1 := Scalar.cmpi .slt v344 c0_i32_195
  let v349 : BitVec 1 := Scalar.xori v347 v348
  let c0_i32_193 : BitVec 32 := 0#32
  let v346 : BitVec 1 := Scalar.cmpi .ne v345 c0_i32_193
  let v350 : BitVec 1 := Scalar.andi v349 v346
  let v351 : BitVec 32 := Scalar.addi v345 v344
  let v352 : BitVec 32 := Scalar.select v350 v351 v345
  let c0_i32_1332 : BitVec 32 := 0#32
  let c0_i32_1333 : BitVec 32 := 0#32
  ![v352.toNat, 0, 0]
def k0_dev13 (d0 : Dev nD) : Nat :=
  let c0_i32_1329 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c8_i32_188 : BitVec 32 := 8#32
  let v341 : BitVec 32 := Scalar.addi v20 c8_i32_188
  let c3_i32_189 : BitVec 32 := 3#32
  let v342 : BitVec 32 := Scalar.addi v341 c3_i32_189
  let c32_i32_190 : BitVec 32 := 32#32
  let c0_i32_191 : BitVec 32 := 0#32
  let v343 : BitVec 1 := Scalar.cmpi .eq c32_i32_190 c0_i32_191
  let c1_i32_192 : BitVec 32 := 1#32
  let v344 : BitVec 32 := Scalar.select v343 c1_i32_192 c32_i32_190
  let v345 : BitVec 32 := Scalar.remsi v342 v344
  let c0_i32_194 : BitVec 32 := 0#32
  let v347 : BitVec 1 := Scalar.cmpi .slt v345 c0_i32_194
  let c0_i32_195 : BitVec 32 := 0#32
  let v348 : BitVec 1 := Scalar.cmpi .slt v344 c0_i32_195
  let v349 : BitVec 1 := Scalar.xori v347 v348
  let c0_i32_193 : BitVec 32 := 0#32
  let v346 : BitVec 1 := Scalar.cmpi .ne v345 c0_i32_193
  let v350 : BitVec 1 := Scalar.andi v349 v346
  let v351 : BitVec 32 := Scalar.addi v345 v344
  let v352 : BitVec 32 := Scalar.select v350 v351 v345
  let c1_i32_1328 : BitVec 32 := 1#32
  let v2148 : BitVec 32 := Scalar.muli v352 c1_i32_1328
  let v2149 : BitVec 32 := Scalar.addi c0_i32_1329 v2148
  v2149.toNat
def k0_cond25 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c8_i32_198 : BitVec 32 := 8#32
  let v360 : BitVec 32 := Scalar.addi v20 c8_i32_198
  let c4_i32_199 : BitVec 32 := 4#32
  let v361 : BitVec 32 := Scalar.addi v360 c4_i32_199
  let c32_i32_200 : BitVec 32 := 32#32
  let c0_i32_201 : BitVec 32 := 0#32
  let v362 : BitVec 1 := Scalar.cmpi .eq c32_i32_200 c0_i32_201
  let c1_i32_202 : BitVec 32 := 1#32
  let v363 : BitVec 32 := Scalar.select v362 c1_i32_202 c32_i32_200
  let v364 : BitVec 32 := Scalar.remsi v361 v363
  let c0_i32_204 : BitVec 32 := 0#32
  let v366 : BitVec 1 := Scalar.cmpi .slt v364 c0_i32_204
  let c0_i32_205 : BitVec 32 := 0#32
  let v367 : BitVec 1 := Scalar.cmpi .slt v363 c0_i32_205
  let v368 : BitVec 1 := Scalar.xori v366 v367
  let c0_i32_203 : BitVec 32 := 0#32
  let v365 : BitVec 1 := Scalar.cmpi .ne v364 c0_i32_203
  let v369 : BitVec 1 := Scalar.andi v368 v365
  let v370 : BitVec 32 := Scalar.addi v364 v363
  let v371 : BitVec 32 := Scalar.select v369 v370 v364
  let v372 : BitVec 1 := Scalar.cmpi .eq v371 v2
  let v373 : BitVec 32 := Scalar.extui v372
  let c0_i32_206 : BitVec 32 := 0#32
  let v374 : BitVec 1 := Scalar.cmpi .ne v373 c0_i32_206
  v374

def k0_off74 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1326 : BitVec 32 := 128#32
  let v2143 : BitVec 32 := Scalar.muli v2 c128_i32_1326
  let v2144 : Index := Scalar.indexCast v2143
  let c0_1327 : Index := 0#32
  ![v2144.toNat, 0]
def k0_cond26 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c8_i32_198 : BitVec 32 := 8#32
  let v360 : BitVec 32 := Scalar.addi v20 c8_i32_198
  let c4_i32_199 : BitVec 32 := 4#32
  let v361 : BitVec 32 := Scalar.addi v360 c4_i32_199
  let c32_i32_200 : BitVec 32 := 32#32
  let c0_i32_201 : BitVec 32 := 0#32
  let v362 : BitVec 1 := Scalar.cmpi .eq c32_i32_200 c0_i32_201
  let c1_i32_202 : BitVec 32 := 1#32
  let v363 : BitVec 32 := Scalar.select v362 c1_i32_202 c32_i32_200
  let v364 : BitVec 32 := Scalar.remsi v361 v363
  let c0_i32_204 : BitVec 32 := 0#32
  let v366 : BitVec 1 := Scalar.cmpi .slt v364 c0_i32_204
  let c0_i32_205 : BitVec 32 := 0#32
  let v367 : BitVec 1 := Scalar.cmpi .slt v363 c0_i32_205
  let v368 : BitVec 1 := Scalar.xori v366 v367
  let c0_i32_203 : BitVec 32 := 0#32
  let v365 : BitVec 1 := Scalar.cmpi .ne v364 c0_i32_203
  let v369 : BitVec 1 := Scalar.andi v368 v365
  let v370 : BitVec 32 := Scalar.addi v364 v363
  let v371 : BitVec 32 := Scalar.select v369 v370 v364
  let v375 : BitVec 1 := Scalar.cmpi .ne v371 v2
  let v376 : BitVec 32 := Scalar.extui v375
  let c0_i32_207 : BitVec 32 := 0#32
  let v377 : BitVec 1 := Scalar.cmpi .ne v376 c0_i32_207
  v377

def k0_off75 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c8_i32_198 : BitVec 32 := 8#32
  let v360 : BitVec 32 := Scalar.addi v20 c8_i32_198
  let c4_i32_199 : BitVec 32 := 4#32
  let v361 : BitVec 32 := Scalar.addi v360 c4_i32_199
  let c32_i32_200 : BitVec 32 := 32#32
  let c0_i32_201 : BitVec 32 := 0#32
  let v362 : BitVec 1 := Scalar.cmpi .eq c32_i32_200 c0_i32_201
  let c1_i32_202 : BitVec 32 := 1#32
  let v363 : BitVec 32 := Scalar.select v362 c1_i32_202 c32_i32_200
  let v364 : BitVec 32 := Scalar.remsi v361 v363
  let c0_i32_204 : BitVec 32 := 0#32
  let v366 : BitVec 1 := Scalar.cmpi .slt v364 c0_i32_204
  let c0_i32_205 : BitVec 32 := 0#32
  let v367 : BitVec 1 := Scalar.cmpi .slt v363 c0_i32_205
  let v368 : BitVec 1 := Scalar.xori v366 v367
  let c0_i32_203 : BitVec 32 := 0#32
  let v365 : BitVec 1 := Scalar.cmpi .ne v364 c0_i32_203
  let v369 : BitVec 1 := Scalar.andi v368 v365
  let v370 : BitVec 32 := Scalar.addi v364 v363
  let v371 : BitVec 32 := Scalar.select v369 v370 v364
  let v2144 : Index := Scalar.indexCast v371
  let c0_1326 : Index := 0#32
  let c0_1327 : Index := 0#32
  ![v2144.toNat, 0, 0]
def k0_off76 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c8_i32_198 : BitVec 32 := 8#32
  let v360 : BitVec 32 := Scalar.addi v20 c8_i32_198
  let c4_i32_199 : BitVec 32 := 4#32
  let v361 : BitVec 32 := Scalar.addi v360 c4_i32_199
  let c32_i32_200 : BitVec 32 := 32#32
  let c0_i32_201 : BitVec 32 := 0#32
  let v362 : BitVec 1 := Scalar.cmpi .eq c32_i32_200 c0_i32_201
  let c1_i32_202 : BitVec 32 := 1#32
  let v363 : BitVec 32 := Scalar.select v362 c1_i32_202 c32_i32_200
  let v364 : BitVec 32 := Scalar.remsi v361 v363
  let c0_i32_204 : BitVec 32 := 0#32
  let v366 : BitVec 1 := Scalar.cmpi .slt v364 c0_i32_204
  let c0_i32_205 : BitVec 32 := 0#32
  let v367 : BitVec 1 := Scalar.cmpi .slt v363 c0_i32_205
  let v368 : BitVec 1 := Scalar.xori v366 v367
  let c0_i32_203 : BitVec 32 := 0#32
  let v365 : BitVec 1 := Scalar.cmpi .ne v364 c0_i32_203
  let v369 : BitVec 1 := Scalar.andi v368 v365
  let v370 : BitVec 32 := Scalar.addi v364 v363
  let v371 : BitVec 32 := Scalar.select v369 v370 v364
  ![v371.toNat]
def k0_off77 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off78 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1330 : BitVec 32 := 0#32
  let c0_i32_1331 : BitVec 32 := 0#32
  ![v2.toNat, 0, 0]
def k0_off79 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c8_i32_198 : BitVec 32 := 8#32
  let v360 : BitVec 32 := Scalar.addi v20 c8_i32_198
  let c4_i32_199 : BitVec 32 := 4#32
  let v361 : BitVec 32 := Scalar.addi v360 c4_i32_199
  let c32_i32_200 : BitVec 32 := 32#32
  let c0_i32_201 : BitVec 32 := 0#32
  let v362 : BitVec 1 := Scalar.cmpi .eq c32_i32_200 c0_i32_201
  let c1_i32_202 : BitVec 32 := 1#32
  let v363 : BitVec 32 := Scalar.select v362 c1_i32_202 c32_i32_200
  let v364 : BitVec 32 := Scalar.remsi v361 v363
  let c0_i32_204 : BitVec 32 := 0#32
  let v366 : BitVec 1 := Scalar.cmpi .slt v364 c0_i32_204
  let c0_i32_205 : BitVec 32 := 0#32
  let v367 : BitVec 1 := Scalar.cmpi .slt v363 c0_i32_205
  let v368 : BitVec 1 := Scalar.xori v366 v367
  let c0_i32_203 : BitVec 32 := 0#32
  let v365 : BitVec 1 := Scalar.cmpi .ne v364 c0_i32_203
  let v369 : BitVec 1 := Scalar.andi v368 v365
  let v370 : BitVec 32 := Scalar.addi v364 v363
  let v371 : BitVec 32 := Scalar.select v369 v370 v364
  let c0_i32_1332 : BitVec 32 := 0#32
  let c0_i32_1333 : BitVec 32 := 0#32
  ![v371.toNat, 0, 0]
def k0_dev14 (d0 : Dev nD) : Nat :=
  let c0_i32_1329 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c8_i32_198 : BitVec 32 := 8#32
  let v360 : BitVec 32 := Scalar.addi v20 c8_i32_198
  let c4_i32_199 : BitVec 32 := 4#32
  let v361 : BitVec 32 := Scalar.addi v360 c4_i32_199
  let c32_i32_200 : BitVec 32 := 32#32
  let c0_i32_201 : BitVec 32 := 0#32
  let v362 : BitVec 1 := Scalar.cmpi .eq c32_i32_200 c0_i32_201
  let c1_i32_202 : BitVec 32 := 1#32
  let v363 : BitVec 32 := Scalar.select v362 c1_i32_202 c32_i32_200
  let v364 : BitVec 32 := Scalar.remsi v361 v363
  let c0_i32_204 : BitVec 32 := 0#32
  let v366 : BitVec 1 := Scalar.cmpi .slt v364 c0_i32_204
  let c0_i32_205 : BitVec 32 := 0#32
  let v367 : BitVec 1 := Scalar.cmpi .slt v363 c0_i32_205
  let v368 : BitVec 1 := Scalar.xori v366 v367
  let c0_i32_203 : BitVec 32 := 0#32
  let v365 : BitVec 1 := Scalar.cmpi .ne v364 c0_i32_203
  let v369 : BitVec 1 := Scalar.andi v368 v365
  let v370 : BitVec 32 := Scalar.addi v364 v363
  let v371 : BitVec 32 := Scalar.select v369 v370 v364
  let c1_i32_1328 : BitVec 32 := 1#32
  let v2148 : BitVec 32 := Scalar.muli v371 c1_i32_1328
  let v2149 : BitVec 32 := Scalar.addi c0_i32_1329 v2148
  v2149.toNat
def k0_cond27 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c8_i32_208 : BitVec 32 := 8#32
  let v379 : BitVec 32 := Scalar.addi v20 c8_i32_208
  let c5_i32_209 : BitVec 32 := 5#32
  let v380 : BitVec 32 := Scalar.addi v379 c5_i32_209
  let c32_i32_210 : BitVec 32 := 32#32
  let c0_i32_211 : BitVec 32 := 0#32
  let v381 : BitVec 1 := Scalar.cmpi .eq c32_i32_210 c0_i32_211
  let c1_i32_212 : BitVec 32 := 1#32
  let v382 : BitVec 32 := Scalar.select v381 c1_i32_212 c32_i32_210
  let v383 : BitVec 32 := Scalar.remsi v380 v382
  let c0_i32_214 : BitVec 32 := 0#32
  let v385 : BitVec 1 := Scalar.cmpi .slt v383 c0_i32_214
  let c0_i32_215 : BitVec 32 := 0#32
  let v386 : BitVec 1 := Scalar.cmpi .slt v382 c0_i32_215
  let v387 : BitVec 1 := Scalar.xori v385 v386
  let c0_i32_213 : BitVec 32 := 0#32
  let v384 : BitVec 1 := Scalar.cmpi .ne v383 c0_i32_213
  let v388 : BitVec 1 := Scalar.andi v387 v384
  let v389 : BitVec 32 := Scalar.addi v383 v382
  let v390 : BitVec 32 := Scalar.select v388 v389 v383
  let v391 : BitVec 1 := Scalar.cmpi .eq v390 v2
  let v392 : BitVec 32 := Scalar.extui v391
  let c0_i32_216 : BitVec 32 := 0#32
  let v393 : BitVec 1 := Scalar.cmpi .ne v392 c0_i32_216
  v393

def k0_off80 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1326 : BitVec 32 := 128#32
  let v2143 : BitVec 32 := Scalar.muli v2 c128_i32_1326
  let v2144 : Index := Scalar.indexCast v2143
  let c0_1327 : Index := 0#32
  ![v2144.toNat, 0]
def k0_cond28 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c8_i32_208 : BitVec 32 := 8#32
  let v379 : BitVec 32 := Scalar.addi v20 c8_i32_208
  let c5_i32_209 : BitVec 32 := 5#32
  let v380 : BitVec 32 := Scalar.addi v379 c5_i32_209
  let c32_i32_210 : BitVec 32 := 32#32
  let c0_i32_211 : BitVec 32 := 0#32
  let v381 : BitVec 1 := Scalar.cmpi .eq c32_i32_210 c0_i32_211
  let c1_i32_212 : BitVec 32 := 1#32
  let v382 : BitVec 32 := Scalar.select v381 c1_i32_212 c32_i32_210
  let v383 : BitVec 32 := Scalar.remsi v380 v382
  let c0_i32_214 : BitVec 32 := 0#32
  let v385 : BitVec 1 := Scalar.cmpi .slt v383 c0_i32_214
  let c0_i32_215 : BitVec 32 := 0#32
  let v386 : BitVec 1 := Scalar.cmpi .slt v382 c0_i32_215
  let v387 : BitVec 1 := Scalar.xori v385 v386
  let c0_i32_213 : BitVec 32 := 0#32
  let v384 : BitVec 1 := Scalar.cmpi .ne v383 c0_i32_213
  let v388 : BitVec 1 := Scalar.andi v387 v384
  let v389 : BitVec 32 := Scalar.addi v383 v382
  let v390 : BitVec 32 := Scalar.select v388 v389 v383
  let v394 : BitVec 1 := Scalar.cmpi .ne v390 v2
  let v395 : BitVec 32 := Scalar.extui v394
  let c0_i32_217 : BitVec 32 := 0#32
  let v396 : BitVec 1 := Scalar.cmpi .ne v395 c0_i32_217
  v396

def k0_off81 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c8_i32_208 : BitVec 32 := 8#32
  let v379 : BitVec 32 := Scalar.addi v20 c8_i32_208
  let c5_i32_209 : BitVec 32 := 5#32
  let v380 : BitVec 32 := Scalar.addi v379 c5_i32_209
  let c32_i32_210 : BitVec 32 := 32#32
  let c0_i32_211 : BitVec 32 := 0#32
  let v381 : BitVec 1 := Scalar.cmpi .eq c32_i32_210 c0_i32_211
  let c1_i32_212 : BitVec 32 := 1#32
  let v382 : BitVec 32 := Scalar.select v381 c1_i32_212 c32_i32_210
  let v383 : BitVec 32 := Scalar.remsi v380 v382
  let c0_i32_214 : BitVec 32 := 0#32
  let v385 : BitVec 1 := Scalar.cmpi .slt v383 c0_i32_214
  let c0_i32_215 : BitVec 32 := 0#32
  let v386 : BitVec 1 := Scalar.cmpi .slt v382 c0_i32_215
  let v387 : BitVec 1 := Scalar.xori v385 v386
  let c0_i32_213 : BitVec 32 := 0#32
  let v384 : BitVec 1 := Scalar.cmpi .ne v383 c0_i32_213
  let v388 : BitVec 1 := Scalar.andi v387 v384
  let v389 : BitVec 32 := Scalar.addi v383 v382
  let v390 : BitVec 32 := Scalar.select v388 v389 v383
  let v2144 : Index := Scalar.indexCast v390
  let c0_1326 : Index := 0#32
  let c0_1327 : Index := 0#32
  ![v2144.toNat, 0, 0]
def k0_off82 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c8_i32_208 : BitVec 32 := 8#32
  let v379 : BitVec 32 := Scalar.addi v20 c8_i32_208
  let c5_i32_209 : BitVec 32 := 5#32
  let v380 : BitVec 32 := Scalar.addi v379 c5_i32_209
  let c32_i32_210 : BitVec 32 := 32#32
  let c0_i32_211 : BitVec 32 := 0#32
  let v381 : BitVec 1 := Scalar.cmpi .eq c32_i32_210 c0_i32_211
  let c1_i32_212 : BitVec 32 := 1#32
  let v382 : BitVec 32 := Scalar.select v381 c1_i32_212 c32_i32_210
  let v383 : BitVec 32 := Scalar.remsi v380 v382
  let c0_i32_214 : BitVec 32 := 0#32
  let v385 : BitVec 1 := Scalar.cmpi .slt v383 c0_i32_214
  let c0_i32_215 : BitVec 32 := 0#32
  let v386 : BitVec 1 := Scalar.cmpi .slt v382 c0_i32_215
  let v387 : BitVec 1 := Scalar.xori v385 v386
  let c0_i32_213 : BitVec 32 := 0#32
  let v384 : BitVec 1 := Scalar.cmpi .ne v383 c0_i32_213
  let v388 : BitVec 1 := Scalar.andi v387 v384
  let v389 : BitVec 32 := Scalar.addi v383 v382
  let v390 : BitVec 32 := Scalar.select v388 v389 v383
  ![v390.toNat]
def k0_off83 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off84 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1330 : BitVec 32 := 0#32
  let c0_i32_1331 : BitVec 32 := 0#32
  ![v2.toNat, 0, 0]
def k0_off85 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c8_i32_208 : BitVec 32 := 8#32
  let v379 : BitVec 32 := Scalar.addi v20 c8_i32_208
  let c5_i32_209 : BitVec 32 := 5#32
  let v380 : BitVec 32 := Scalar.addi v379 c5_i32_209
  let c32_i32_210 : BitVec 32 := 32#32
  let c0_i32_211 : BitVec 32 := 0#32
  let v381 : BitVec 1 := Scalar.cmpi .eq c32_i32_210 c0_i32_211
  let c1_i32_212 : BitVec 32 := 1#32
  let v382 : BitVec 32 := Scalar.select v381 c1_i32_212 c32_i32_210
  let v383 : BitVec 32 := Scalar.remsi v380 v382
  let c0_i32_214 : BitVec 32 := 0#32
  let v385 : BitVec 1 := Scalar.cmpi .slt v383 c0_i32_214
  let c0_i32_215 : BitVec 32 := 0#32
  let v386 : BitVec 1 := Scalar.cmpi .slt v382 c0_i32_215
  let v387 : BitVec 1 := Scalar.xori v385 v386
  let c0_i32_213 : BitVec 32 := 0#32
  let v384 : BitVec 1 := Scalar.cmpi .ne v383 c0_i32_213
  let v388 : BitVec 1 := Scalar.andi v387 v384
  let v389 : BitVec 32 := Scalar.addi v383 v382
  let v390 : BitVec 32 := Scalar.select v388 v389 v383
  let c0_i32_1332 : BitVec 32 := 0#32
  let c0_i32_1333 : BitVec 32 := 0#32
  ![v390.toNat, 0, 0]
def k0_dev15 (d0 : Dev nD) : Nat :=
  let c0_i32_1329 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c8_i32_208 : BitVec 32 := 8#32
  let v379 : BitVec 32 := Scalar.addi v20 c8_i32_208
  let c5_i32_209 : BitVec 32 := 5#32
  let v380 : BitVec 32 := Scalar.addi v379 c5_i32_209
  let c32_i32_210 : BitVec 32 := 32#32
  let c0_i32_211 : BitVec 32 := 0#32
  let v381 : BitVec 1 := Scalar.cmpi .eq c32_i32_210 c0_i32_211
  let c1_i32_212 : BitVec 32 := 1#32
  let v382 : BitVec 32 := Scalar.select v381 c1_i32_212 c32_i32_210
  let v383 : BitVec 32 := Scalar.remsi v380 v382
  let c0_i32_214 : BitVec 32 := 0#32
  let v385 : BitVec 1 := Scalar.cmpi .slt v383 c0_i32_214
  let c0_i32_215 : BitVec 32 := 0#32
  let v386 : BitVec 1 := Scalar.cmpi .slt v382 c0_i32_215
  let v387 : BitVec 1 := Scalar.xori v385 v386
  let c0_i32_213 : BitVec 32 := 0#32
  let v384 : BitVec 1 := Scalar.cmpi .ne v383 c0_i32_213
  let v388 : BitVec 1 := Scalar.andi v387 v384
  let v389 : BitVec 32 := Scalar.addi v383 v382
  let v390 : BitVec 32 := Scalar.select v388 v389 v383
  let c1_i32_1328 : BitVec 32 := 1#32
  let v2148 : BitVec 32 := Scalar.muli v390 c1_i32_1328
  let v2149 : BitVec 32 := Scalar.addi c0_i32_1329 v2148
  v2149.toNat
def k0_cond29 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c8_i32_218 : BitVec 32 := 8#32
  let v398 : BitVec 32 := Scalar.addi v20 c8_i32_218
  let c6_i32_219 : BitVec 32 := 6#32
  let v399 : BitVec 32 := Scalar.addi v398 c6_i32_219
  let c32_i32_220 : BitVec 32 := 32#32
  let c0_i32_221 : BitVec 32 := 0#32
  let v400 : BitVec 1 := Scalar.cmpi .eq c32_i32_220 c0_i32_221
  let c1_i32_222 : BitVec 32 := 1#32
  let v401 : BitVec 32 := Scalar.select v400 c1_i32_222 c32_i32_220
  let v402 : BitVec 32 := Scalar.remsi v399 v401
  let c0_i32_224 : BitVec 32 := 0#32
  let v404 : BitVec 1 := Scalar.cmpi .slt v402 c0_i32_224
  let c0_i32_225 : BitVec 32 := 0#32
  let v405 : BitVec 1 := Scalar.cmpi .slt v401 c0_i32_225
  let v406 : BitVec 1 := Scalar.xori v404 v405
  let c0_i32_223 : BitVec 32 := 0#32
  let v403 : BitVec 1 := Scalar.cmpi .ne v402 c0_i32_223
  let v407 : BitVec 1 := Scalar.andi v406 v403
  let v408 : BitVec 32 := Scalar.addi v402 v401
  let v409 : BitVec 32 := Scalar.select v407 v408 v402
  let v410 : BitVec 1 := Scalar.cmpi .eq v409 v2
  let v411 : BitVec 32 := Scalar.extui v410
  let c0_i32_226 : BitVec 32 := 0#32
  let v412 : BitVec 1 := Scalar.cmpi .ne v411 c0_i32_226
  v412

def k0_off86 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1326 : BitVec 32 := 128#32
  let v2143 : BitVec 32 := Scalar.muli v2 c128_i32_1326
  let v2144 : Index := Scalar.indexCast v2143
  let c0_1327 : Index := 0#32
  ![v2144.toNat, 0]
def k0_cond30 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c8_i32_218 : BitVec 32 := 8#32
  let v398 : BitVec 32 := Scalar.addi v20 c8_i32_218
  let c6_i32_219 : BitVec 32 := 6#32
  let v399 : BitVec 32 := Scalar.addi v398 c6_i32_219
  let c32_i32_220 : BitVec 32 := 32#32
  let c0_i32_221 : BitVec 32 := 0#32
  let v400 : BitVec 1 := Scalar.cmpi .eq c32_i32_220 c0_i32_221
  let c1_i32_222 : BitVec 32 := 1#32
  let v401 : BitVec 32 := Scalar.select v400 c1_i32_222 c32_i32_220
  let v402 : BitVec 32 := Scalar.remsi v399 v401
  let c0_i32_224 : BitVec 32 := 0#32
  let v404 : BitVec 1 := Scalar.cmpi .slt v402 c0_i32_224
  let c0_i32_225 : BitVec 32 := 0#32
  let v405 : BitVec 1 := Scalar.cmpi .slt v401 c0_i32_225
  let v406 : BitVec 1 := Scalar.xori v404 v405
  let c0_i32_223 : BitVec 32 := 0#32
  let v403 : BitVec 1 := Scalar.cmpi .ne v402 c0_i32_223
  let v407 : BitVec 1 := Scalar.andi v406 v403
  let v408 : BitVec 32 := Scalar.addi v402 v401
  let v409 : BitVec 32 := Scalar.select v407 v408 v402
  let v413 : BitVec 1 := Scalar.cmpi .ne v409 v2
  let v414 : BitVec 32 := Scalar.extui v413
  let c0_i32_227 : BitVec 32 := 0#32
  let v415 : BitVec 1 := Scalar.cmpi .ne v414 c0_i32_227
  v415

def k0_off87 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c8_i32_218 : BitVec 32 := 8#32
  let v398 : BitVec 32 := Scalar.addi v20 c8_i32_218
  let c6_i32_219 : BitVec 32 := 6#32
  let v399 : BitVec 32 := Scalar.addi v398 c6_i32_219
  let c32_i32_220 : BitVec 32 := 32#32
  let c0_i32_221 : BitVec 32 := 0#32
  let v400 : BitVec 1 := Scalar.cmpi .eq c32_i32_220 c0_i32_221
  let c1_i32_222 : BitVec 32 := 1#32
  let v401 : BitVec 32 := Scalar.select v400 c1_i32_222 c32_i32_220
  let v402 : BitVec 32 := Scalar.remsi v399 v401
  let c0_i32_224 : BitVec 32 := 0#32
  let v404 : BitVec 1 := Scalar.cmpi .slt v402 c0_i32_224
  let c0_i32_225 : BitVec 32 := 0#32
  let v405 : BitVec 1 := Scalar.cmpi .slt v401 c0_i32_225
  let v406 : BitVec 1 := Scalar.xori v404 v405
  let c0_i32_223 : BitVec 32 := 0#32
  let v403 : BitVec 1 := Scalar.cmpi .ne v402 c0_i32_223
  let v407 : BitVec 1 := Scalar.andi v406 v403
  let v408 : BitVec 32 := Scalar.addi v402 v401
  let v409 : BitVec 32 := Scalar.select v407 v408 v402
  let v2144 : Index := Scalar.indexCast v409
  let c0_1326 : Index := 0#32
  let c0_1327 : Index := 0#32
  ![v2144.toNat, 0, 0]
def k0_off88 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c8_i32_218 : BitVec 32 := 8#32
  let v398 : BitVec 32 := Scalar.addi v20 c8_i32_218
  let c6_i32_219 : BitVec 32 := 6#32
  let v399 : BitVec 32 := Scalar.addi v398 c6_i32_219
  let c32_i32_220 : BitVec 32 := 32#32
  let c0_i32_221 : BitVec 32 := 0#32
  let v400 : BitVec 1 := Scalar.cmpi .eq c32_i32_220 c0_i32_221
  let c1_i32_222 : BitVec 32 := 1#32
  let v401 : BitVec 32 := Scalar.select v400 c1_i32_222 c32_i32_220
  let v402 : BitVec 32 := Scalar.remsi v399 v401
  let c0_i32_224 : BitVec 32 := 0#32
  let v404 : BitVec 1 := Scalar.cmpi .slt v402 c0_i32_224
  let c0_i32_225 : BitVec 32 := 0#32
  let v405 : BitVec 1 := Scalar.cmpi .slt v401 c0_i32_225
  let v406 : BitVec 1 := Scalar.xori v404 v405
  let c0_i32_223 : BitVec 32 := 0#32
  let v403 : BitVec 1 := Scalar.cmpi .ne v402 c0_i32_223
  let v407 : BitVec 1 := Scalar.andi v406 v403
  let v408 : BitVec 32 := Scalar.addi v402 v401
  let v409 : BitVec 32 := Scalar.select v407 v408 v402
  ![v409.toNat]
def k0_off89 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off90 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1330 : BitVec 32 := 0#32
  let c0_i32_1331 : BitVec 32 := 0#32
  ![v2.toNat, 0, 0]
def k0_off91 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c8_i32_218 : BitVec 32 := 8#32
  let v398 : BitVec 32 := Scalar.addi v20 c8_i32_218
  let c6_i32_219 : BitVec 32 := 6#32
  let v399 : BitVec 32 := Scalar.addi v398 c6_i32_219
  let c32_i32_220 : BitVec 32 := 32#32
  let c0_i32_221 : BitVec 32 := 0#32
  let v400 : BitVec 1 := Scalar.cmpi .eq c32_i32_220 c0_i32_221
  let c1_i32_222 : BitVec 32 := 1#32
  let v401 : BitVec 32 := Scalar.select v400 c1_i32_222 c32_i32_220
  let v402 : BitVec 32 := Scalar.remsi v399 v401
  let c0_i32_224 : BitVec 32 := 0#32
  let v404 : BitVec 1 := Scalar.cmpi .slt v402 c0_i32_224
  let c0_i32_225 : BitVec 32 := 0#32
  let v405 : BitVec 1 := Scalar.cmpi .slt v401 c0_i32_225
  let v406 : BitVec 1 := Scalar.xori v404 v405
  let c0_i32_223 : BitVec 32 := 0#32
  let v403 : BitVec 1 := Scalar.cmpi .ne v402 c0_i32_223
  let v407 : BitVec 1 := Scalar.andi v406 v403
  let v408 : BitVec 32 := Scalar.addi v402 v401
  let v409 : BitVec 32 := Scalar.select v407 v408 v402
  let c0_i32_1332 : BitVec 32 := 0#32
  let c0_i32_1333 : BitVec 32 := 0#32
  ![v409.toNat, 0, 0]
def k0_dev16 (d0 : Dev nD) : Nat :=
  let c0_i32_1329 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c8_i32_218 : BitVec 32 := 8#32
  let v398 : BitVec 32 := Scalar.addi v20 c8_i32_218
  let c6_i32_219 : BitVec 32 := 6#32
  let v399 : BitVec 32 := Scalar.addi v398 c6_i32_219
  let c32_i32_220 : BitVec 32 := 32#32
  let c0_i32_221 : BitVec 32 := 0#32
  let v400 : BitVec 1 := Scalar.cmpi .eq c32_i32_220 c0_i32_221
  let c1_i32_222 : BitVec 32 := 1#32
  let v401 : BitVec 32 := Scalar.select v400 c1_i32_222 c32_i32_220
  let v402 : BitVec 32 := Scalar.remsi v399 v401
  let c0_i32_224 : BitVec 32 := 0#32
  let v404 : BitVec 1 := Scalar.cmpi .slt v402 c0_i32_224
  let c0_i32_225 : BitVec 32 := 0#32
  let v405 : BitVec 1 := Scalar.cmpi .slt v401 c0_i32_225
  let v406 : BitVec 1 := Scalar.xori v404 v405
  let c0_i32_223 : BitVec 32 := 0#32
  let v403 : BitVec 1 := Scalar.cmpi .ne v402 c0_i32_223
  let v407 : BitVec 1 := Scalar.andi v406 v403
  let v408 : BitVec 32 := Scalar.addi v402 v401
  let v409 : BitVec 32 := Scalar.select v407 v408 v402
  let c1_i32_1328 : BitVec 32 := 1#32
  let v2148 : BitVec 32 := Scalar.muli v409 c1_i32_1328
  let v2149 : BitVec 32 := Scalar.addi c0_i32_1329 v2148
  v2149.toNat
def k0_cond31 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c8_i32_228 : BitVec 32 := 8#32
  let v417 : BitVec 32 := Scalar.addi v20 c8_i32_228
  let c7_i32_229 : BitVec 32 := 7#32
  let v418 : BitVec 32 := Scalar.addi v417 c7_i32_229
  let c32_i32_230 : BitVec 32 := 32#32
  let c0_i32_231 : BitVec 32 := 0#32
  let v419 : BitVec 1 := Scalar.cmpi .eq c32_i32_230 c0_i32_231
  let c1_i32_232 : BitVec 32 := 1#32
  let v420 : BitVec 32 := Scalar.select v419 c1_i32_232 c32_i32_230
  let v421 : BitVec 32 := Scalar.remsi v418 v420
  let c0_i32_234 : BitVec 32 := 0#32
  let v423 : BitVec 1 := Scalar.cmpi .slt v421 c0_i32_234
  let c0_i32_235 : BitVec 32 := 0#32
  let v424 : BitVec 1 := Scalar.cmpi .slt v420 c0_i32_235
  let v425 : BitVec 1 := Scalar.xori v423 v424
  let c0_i32_233 : BitVec 32 := 0#32
  let v422 : BitVec 1 := Scalar.cmpi .ne v421 c0_i32_233
  let v426 : BitVec 1 := Scalar.andi v425 v422
  let v427 : BitVec 32 := Scalar.addi v421 v420
  let v428 : BitVec 32 := Scalar.select v426 v427 v421
  let v429 : BitVec 1 := Scalar.cmpi .eq v428 v2
  let v430 : BitVec 32 := Scalar.extui v429
  let c0_i32_236 : BitVec 32 := 0#32
  let v431 : BitVec 1 := Scalar.cmpi .ne v430 c0_i32_236
  v431

def k0_off92 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1326 : BitVec 32 := 128#32
  let v2143 : BitVec 32 := Scalar.muli v2 c128_i32_1326
  let v2144 : Index := Scalar.indexCast v2143
  let c0_1327 : Index := 0#32
  ![v2144.toNat, 0]
def k0_cond32 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c8_i32_228 : BitVec 32 := 8#32
  let v417 : BitVec 32 := Scalar.addi v20 c8_i32_228
  let c7_i32_229 : BitVec 32 := 7#32
  let v418 : BitVec 32 := Scalar.addi v417 c7_i32_229
  let c32_i32_230 : BitVec 32 := 32#32
  let c0_i32_231 : BitVec 32 := 0#32
  let v419 : BitVec 1 := Scalar.cmpi .eq c32_i32_230 c0_i32_231
  let c1_i32_232 : BitVec 32 := 1#32
  let v420 : BitVec 32 := Scalar.select v419 c1_i32_232 c32_i32_230
  let v421 : BitVec 32 := Scalar.remsi v418 v420
  let c0_i32_234 : BitVec 32 := 0#32
  let v423 : BitVec 1 := Scalar.cmpi .slt v421 c0_i32_234
  let c0_i32_235 : BitVec 32 := 0#32
  let v424 : BitVec 1 := Scalar.cmpi .slt v420 c0_i32_235
  let v425 : BitVec 1 := Scalar.xori v423 v424
  let c0_i32_233 : BitVec 32 := 0#32
  let v422 : BitVec 1 := Scalar.cmpi .ne v421 c0_i32_233
  let v426 : BitVec 1 := Scalar.andi v425 v422
  let v427 : BitVec 32 := Scalar.addi v421 v420
  let v428 : BitVec 32 := Scalar.select v426 v427 v421
  let v432 : BitVec 1 := Scalar.cmpi .ne v428 v2
  let v433 : BitVec 32 := Scalar.extui v432
  let c0_i32_237 : BitVec 32 := 0#32
  let v434 : BitVec 1 := Scalar.cmpi .ne v433 c0_i32_237
  v434

def k0_off93 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c8_i32_228 : BitVec 32 := 8#32
  let v417 : BitVec 32 := Scalar.addi v20 c8_i32_228
  let c7_i32_229 : BitVec 32 := 7#32
  let v418 : BitVec 32 := Scalar.addi v417 c7_i32_229
  let c32_i32_230 : BitVec 32 := 32#32
  let c0_i32_231 : BitVec 32 := 0#32
  let v419 : BitVec 1 := Scalar.cmpi .eq c32_i32_230 c0_i32_231
  let c1_i32_232 : BitVec 32 := 1#32
  let v420 : BitVec 32 := Scalar.select v419 c1_i32_232 c32_i32_230
  let v421 : BitVec 32 := Scalar.remsi v418 v420
  let c0_i32_234 : BitVec 32 := 0#32
  let v423 : BitVec 1 := Scalar.cmpi .slt v421 c0_i32_234
  let c0_i32_235 : BitVec 32 := 0#32
  let v424 : BitVec 1 := Scalar.cmpi .slt v420 c0_i32_235
  let v425 : BitVec 1 := Scalar.xori v423 v424
  let c0_i32_233 : BitVec 32 := 0#32
  let v422 : BitVec 1 := Scalar.cmpi .ne v421 c0_i32_233
  let v426 : BitVec 1 := Scalar.andi v425 v422
  let v427 : BitVec 32 := Scalar.addi v421 v420
  let v428 : BitVec 32 := Scalar.select v426 v427 v421
  let v2144 : Index := Scalar.indexCast v428
  let c0_1326 : Index := 0#32
  let c0_1327 : Index := 0#32
  ![v2144.toNat, 0, 0]
def k0_off94 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c8_i32_228 : BitVec 32 := 8#32
  let v417 : BitVec 32 := Scalar.addi v20 c8_i32_228
  let c7_i32_229 : BitVec 32 := 7#32
  let v418 : BitVec 32 := Scalar.addi v417 c7_i32_229
  let c32_i32_230 : BitVec 32 := 32#32
  let c0_i32_231 : BitVec 32 := 0#32
  let v419 : BitVec 1 := Scalar.cmpi .eq c32_i32_230 c0_i32_231
  let c1_i32_232 : BitVec 32 := 1#32
  let v420 : BitVec 32 := Scalar.select v419 c1_i32_232 c32_i32_230
  let v421 : BitVec 32 := Scalar.remsi v418 v420
  let c0_i32_234 : BitVec 32 := 0#32
  let v423 : BitVec 1 := Scalar.cmpi .slt v421 c0_i32_234
  let c0_i32_235 : BitVec 32 := 0#32
  let v424 : BitVec 1 := Scalar.cmpi .slt v420 c0_i32_235
  let v425 : BitVec 1 := Scalar.xori v423 v424
  let c0_i32_233 : BitVec 32 := 0#32
  let v422 : BitVec 1 := Scalar.cmpi .ne v421 c0_i32_233
  let v426 : BitVec 1 := Scalar.andi v425 v422
  let v427 : BitVec 32 := Scalar.addi v421 v420
  let v428 : BitVec 32 := Scalar.select v426 v427 v421
  ![v428.toNat]
def k0_off95 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off96 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1330 : BitVec 32 := 0#32
  let c0_i32_1331 : BitVec 32 := 0#32
  ![v2.toNat, 0, 0]
def k0_off97 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c8_i32_228 : BitVec 32 := 8#32
  let v417 : BitVec 32 := Scalar.addi v20 c8_i32_228
  let c7_i32_229 : BitVec 32 := 7#32
  let v418 : BitVec 32 := Scalar.addi v417 c7_i32_229
  let c32_i32_230 : BitVec 32 := 32#32
  let c0_i32_231 : BitVec 32 := 0#32
  let v419 : BitVec 1 := Scalar.cmpi .eq c32_i32_230 c0_i32_231
  let c1_i32_232 : BitVec 32 := 1#32
  let v420 : BitVec 32 := Scalar.select v419 c1_i32_232 c32_i32_230
  let v421 : BitVec 32 := Scalar.remsi v418 v420
  let c0_i32_234 : BitVec 32 := 0#32
  let v423 : BitVec 1 := Scalar.cmpi .slt v421 c0_i32_234
  let c0_i32_235 : BitVec 32 := 0#32
  let v424 : BitVec 1 := Scalar.cmpi .slt v420 c0_i32_235
  let v425 : BitVec 1 := Scalar.xori v423 v424
  let c0_i32_233 : BitVec 32 := 0#32
  let v422 : BitVec 1 := Scalar.cmpi .ne v421 c0_i32_233
  let v426 : BitVec 1 := Scalar.andi v425 v422
  let v427 : BitVec 32 := Scalar.addi v421 v420
  let v428 : BitVec 32 := Scalar.select v426 v427 v421
  let c0_i32_1332 : BitVec 32 := 0#32
  let c0_i32_1333 : BitVec 32 := 0#32
  ![v428.toNat, 0, 0]
def k0_dev17 (d0 : Dev nD) : Nat :=
  let c0_i32_1329 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c8_i32_228 : BitVec 32 := 8#32
  let v417 : BitVec 32 := Scalar.addi v20 c8_i32_228
  let c7_i32_229 : BitVec 32 := 7#32
  let v418 : BitVec 32 := Scalar.addi v417 c7_i32_229
  let c32_i32_230 : BitVec 32 := 32#32
  let c0_i32_231 : BitVec 32 := 0#32
  let v419 : BitVec 1 := Scalar.cmpi .eq c32_i32_230 c0_i32_231
  let c1_i32_232 : BitVec 32 := 1#32
  let v420 : BitVec 32 := Scalar.select v419 c1_i32_232 c32_i32_230
  let v421 : BitVec 32 := Scalar.remsi v418 v420
  let c0_i32_234 : BitVec 32 := 0#32
  let v423 : BitVec 1 := Scalar.cmpi .slt v421 c0_i32_234
  let c0_i32_235 : BitVec 32 := 0#32
  let v424 : BitVec 1 := Scalar.cmpi .slt v420 c0_i32_235
  let v425 : BitVec 1 := Scalar.xori v423 v424
  let c0_i32_233 : BitVec 32 := 0#32
  let v422 : BitVec 1 := Scalar.cmpi .ne v421 c0_i32_233
  let v426 : BitVec 1 := Scalar.andi v425 v422
  let v427 : BitVec 32 := Scalar.addi v421 v420
  let v428 : BitVec 32 := Scalar.select v426 v427 v421
  let c1_i32_1328 : BitVec 32 := 1#32
  let v2148 : BitVec 32 := Scalar.muli v428 c1_i32_1328
  let v2149 : BitVec 32 := Scalar.addi c0_i32_1329 v2148
  v2149.toNat
def k0_cond33 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c16_i32_269 : BitVec 32 := 16#32
  let v480 : BitVec 32 := Scalar.addi v20 c16_i32_269
  let c0_i32_270 : BitVec 32 := 0#32
  let v481 : BitVec 32 := Scalar.addi v480 c0_i32_270
  let c32_i32_271 : BitVec 32 := 32#32
  let c0_i32_272 : BitVec 32 := 0#32
  let v482 : BitVec 1 := Scalar.cmpi .eq c32_i32_271 c0_i32_272
  let c1_i32_273 : BitVec 32 := 1#32
  let v483 : BitVec 32 := Scalar.select v482 c1_i32_273 c32_i32_271
  let v484 : BitVec 32 := Scalar.remsi v481 v483
  let c0_i32_275 : BitVec 32 := 0#32
  let v486 : BitVec 1 := Scalar.cmpi .slt v484 c0_i32_275
  let c0_i32_276 : BitVec 32 := 0#32
  let v487 : BitVec 1 := Scalar.cmpi .slt v483 c0_i32_276
  let v488 : BitVec 1 := Scalar.xori v486 v487
  let c0_i32_274 : BitVec 32 := 0#32
  let v485 : BitVec 1 := Scalar.cmpi .ne v484 c0_i32_274
  let v489 : BitVec 1 := Scalar.andi v488 v485
  let v490 : BitVec 32 := Scalar.addi v484 v483
  let v491 : BitVec 32 := Scalar.select v489 v490 v484
  let v492 : BitVec 1 := Scalar.cmpi .eq v491 v2
  let v493 : BitVec 32 := Scalar.extui v492
  let c0_i32_277 : BitVec 32 := 0#32
  let v494 : BitVec 1 := Scalar.cmpi .ne v493 c0_i32_277
  v494

def k0_off98 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1326 : BitVec 32 := 128#32
  let v2143 : BitVec 32 := Scalar.muli v2 c128_i32_1326
  let v2144 : Index := Scalar.indexCast v2143
  let c0_1327 : Index := 0#32
  ![v2144.toNat, 0]
def k0_cond34 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c16_i32_269 : BitVec 32 := 16#32
  let v480 : BitVec 32 := Scalar.addi v20 c16_i32_269
  let c0_i32_270 : BitVec 32 := 0#32
  let v481 : BitVec 32 := Scalar.addi v480 c0_i32_270
  let c32_i32_271 : BitVec 32 := 32#32
  let c0_i32_272 : BitVec 32 := 0#32
  let v482 : BitVec 1 := Scalar.cmpi .eq c32_i32_271 c0_i32_272
  let c1_i32_273 : BitVec 32 := 1#32
  let v483 : BitVec 32 := Scalar.select v482 c1_i32_273 c32_i32_271
  let v484 : BitVec 32 := Scalar.remsi v481 v483
  let c0_i32_275 : BitVec 32 := 0#32
  let v486 : BitVec 1 := Scalar.cmpi .slt v484 c0_i32_275
  let c0_i32_276 : BitVec 32 := 0#32
  let v487 : BitVec 1 := Scalar.cmpi .slt v483 c0_i32_276
  let v488 : BitVec 1 := Scalar.xori v486 v487
  let c0_i32_274 : BitVec 32 := 0#32
  let v485 : BitVec 1 := Scalar.cmpi .ne v484 c0_i32_274
  let v489 : BitVec 1 := Scalar.andi v488 v485
  let v490 : BitVec 32 := Scalar.addi v484 v483
  let v491 : BitVec 32 := Scalar.select v489 v490 v484
  let v495 : BitVec 1 := Scalar.cmpi .ne v491 v2
  let v496 : BitVec 32 := Scalar.extui v495
  let c0_i32_278 : BitVec 32 := 0#32
  let v497 : BitVec 1 := Scalar.cmpi .ne v496 c0_i32_278
  v497

def k0_off99 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c16_i32_269 : BitVec 32 := 16#32
  let v480 : BitVec 32 := Scalar.addi v20 c16_i32_269
  let c0_i32_270 : BitVec 32 := 0#32
  let v481 : BitVec 32 := Scalar.addi v480 c0_i32_270
  let c32_i32_271 : BitVec 32 := 32#32
  let c0_i32_272 : BitVec 32 := 0#32
  let v482 : BitVec 1 := Scalar.cmpi .eq c32_i32_271 c0_i32_272
  let c1_i32_273 : BitVec 32 := 1#32
  let v483 : BitVec 32 := Scalar.select v482 c1_i32_273 c32_i32_271
  let v484 : BitVec 32 := Scalar.remsi v481 v483
  let c0_i32_275 : BitVec 32 := 0#32
  let v486 : BitVec 1 := Scalar.cmpi .slt v484 c0_i32_275
  let c0_i32_276 : BitVec 32 := 0#32
  let v487 : BitVec 1 := Scalar.cmpi .slt v483 c0_i32_276
  let v488 : BitVec 1 := Scalar.xori v486 v487
  let c0_i32_274 : BitVec 32 := 0#32
  let v485 : BitVec 1 := Scalar.cmpi .ne v484 c0_i32_274
  let v489 : BitVec 1 := Scalar.andi v488 v485
  let v490 : BitVec 32 := Scalar.addi v484 v483
  let v491 : BitVec 32 := Scalar.select v489 v490 v484
  let v2144 : Index := Scalar.indexCast v491
  let c0_1326 : Index := 0#32
  let c0_1327 : Index := 0#32
  ![v2144.toNat, 0, 0]
def k0_off100 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c16_i32_269 : BitVec 32 := 16#32
  let v480 : BitVec 32 := Scalar.addi v20 c16_i32_269
  let c0_i32_270 : BitVec 32 := 0#32
  let v481 : BitVec 32 := Scalar.addi v480 c0_i32_270
  let c32_i32_271 : BitVec 32 := 32#32
  let c0_i32_272 : BitVec 32 := 0#32
  let v482 : BitVec 1 := Scalar.cmpi .eq c32_i32_271 c0_i32_272
  let c1_i32_273 : BitVec 32 := 1#32
  let v483 : BitVec 32 := Scalar.select v482 c1_i32_273 c32_i32_271
  let v484 : BitVec 32 := Scalar.remsi v481 v483
  let c0_i32_275 : BitVec 32 := 0#32
  let v486 : BitVec 1 := Scalar.cmpi .slt v484 c0_i32_275
  let c0_i32_276 : BitVec 32 := 0#32
  let v487 : BitVec 1 := Scalar.cmpi .slt v483 c0_i32_276
  let v488 : BitVec 1 := Scalar.xori v486 v487
  let c0_i32_274 : BitVec 32 := 0#32
  let v485 : BitVec 1 := Scalar.cmpi .ne v484 c0_i32_274
  let v489 : BitVec 1 := Scalar.andi v488 v485
  let v490 : BitVec 32 := Scalar.addi v484 v483
  let v491 : BitVec 32 := Scalar.select v489 v490 v484
  ![v491.toNat]
def k0_off101 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off102 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1330 : BitVec 32 := 0#32
  let c0_i32_1331 : BitVec 32 := 0#32
  ![v2.toNat, 0, 0]
def k0_off103 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c16_i32_269 : BitVec 32 := 16#32
  let v480 : BitVec 32 := Scalar.addi v20 c16_i32_269
  let c0_i32_270 : BitVec 32 := 0#32
  let v481 : BitVec 32 := Scalar.addi v480 c0_i32_270
  let c32_i32_271 : BitVec 32 := 32#32
  let c0_i32_272 : BitVec 32 := 0#32
  let v482 : BitVec 1 := Scalar.cmpi .eq c32_i32_271 c0_i32_272
  let c1_i32_273 : BitVec 32 := 1#32
  let v483 : BitVec 32 := Scalar.select v482 c1_i32_273 c32_i32_271
  let v484 : BitVec 32 := Scalar.remsi v481 v483
  let c0_i32_275 : BitVec 32 := 0#32
  let v486 : BitVec 1 := Scalar.cmpi .slt v484 c0_i32_275
  let c0_i32_276 : BitVec 32 := 0#32
  let v487 : BitVec 1 := Scalar.cmpi .slt v483 c0_i32_276
  let v488 : BitVec 1 := Scalar.xori v486 v487
  let c0_i32_274 : BitVec 32 := 0#32
  let v485 : BitVec 1 := Scalar.cmpi .ne v484 c0_i32_274
  let v489 : BitVec 1 := Scalar.andi v488 v485
  let v490 : BitVec 32 := Scalar.addi v484 v483
  let v491 : BitVec 32 := Scalar.select v489 v490 v484
  let c0_i32_1332 : BitVec 32 := 0#32
  let c0_i32_1333 : BitVec 32 := 0#32
  ![v491.toNat, 0, 0]
def k0_dev18 (d0 : Dev nD) : Nat :=
  let c0_i32_1329 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c16_i32_269 : BitVec 32 := 16#32
  let v480 : BitVec 32 := Scalar.addi v20 c16_i32_269
  let c0_i32_270 : BitVec 32 := 0#32
  let v481 : BitVec 32 := Scalar.addi v480 c0_i32_270
  let c32_i32_271 : BitVec 32 := 32#32
  let c0_i32_272 : BitVec 32 := 0#32
  let v482 : BitVec 1 := Scalar.cmpi .eq c32_i32_271 c0_i32_272
  let c1_i32_273 : BitVec 32 := 1#32
  let v483 : BitVec 32 := Scalar.select v482 c1_i32_273 c32_i32_271
  let v484 : BitVec 32 := Scalar.remsi v481 v483
  let c0_i32_275 : BitVec 32 := 0#32
  let v486 : BitVec 1 := Scalar.cmpi .slt v484 c0_i32_275
  let c0_i32_276 : BitVec 32 := 0#32
  let v487 : BitVec 1 := Scalar.cmpi .slt v483 c0_i32_276
  let v488 : BitVec 1 := Scalar.xori v486 v487
  let c0_i32_274 : BitVec 32 := 0#32
  let v485 : BitVec 1 := Scalar.cmpi .ne v484 c0_i32_274
  let v489 : BitVec 1 := Scalar.andi v488 v485
  let v490 : BitVec 32 := Scalar.addi v484 v483
  let v491 : BitVec 32 := Scalar.select v489 v490 v484
  let c1_i32_1328 : BitVec 32 := 1#32
  let v2148 : BitVec 32 := Scalar.muli v491 c1_i32_1328
  let v2149 : BitVec 32 := Scalar.addi c0_i32_1329 v2148
  v2149.toNat
def k0_cond35 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c16_i32_279 : BitVec 32 := 16#32
  let v499 : BitVec 32 := Scalar.addi v20 c16_i32_279
  let c1_i32_280 : BitVec 32 := 1#32
  let v500 : BitVec 32 := Scalar.addi v499 c1_i32_280
  let c32_i32_281 : BitVec 32 := 32#32
  let c0_i32_282 : BitVec 32 := 0#32
  let v501 : BitVec 1 := Scalar.cmpi .eq c32_i32_281 c0_i32_282
  let c1_i32_283 : BitVec 32 := 1#32
  let v502 : BitVec 32 := Scalar.select v501 c1_i32_283 c32_i32_281
  let v503 : BitVec 32 := Scalar.remsi v500 v502
  let c0_i32_285 : BitVec 32 := 0#32
  let v505 : BitVec 1 := Scalar.cmpi .slt v503 c0_i32_285
  let c0_i32_286 : BitVec 32 := 0#32
  let v506 : BitVec 1 := Scalar.cmpi .slt v502 c0_i32_286
  let v507 : BitVec 1 := Scalar.xori v505 v506
  let c0_i32_284 : BitVec 32 := 0#32
  let v504 : BitVec 1 := Scalar.cmpi .ne v503 c0_i32_284
  let v508 : BitVec 1 := Scalar.andi v507 v504
  let v509 : BitVec 32 := Scalar.addi v503 v502
  let v510 : BitVec 32 := Scalar.select v508 v509 v503
  let v511 : BitVec 1 := Scalar.cmpi .eq v510 v2
  let v512 : BitVec 32 := Scalar.extui v511
  let c0_i32_287 : BitVec 32 := 0#32
  let v513 : BitVec 1 := Scalar.cmpi .ne v512 c0_i32_287
  v513

def k0_off104 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1326 : BitVec 32 := 128#32
  let v2143 : BitVec 32 := Scalar.muli v2 c128_i32_1326
  let v2144 : Index := Scalar.indexCast v2143
  let c0_1327 : Index := 0#32
  ![v2144.toNat, 0]
def k0_cond36 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c16_i32_279 : BitVec 32 := 16#32
  let v499 : BitVec 32 := Scalar.addi v20 c16_i32_279
  let c1_i32_280 : BitVec 32 := 1#32
  let v500 : BitVec 32 := Scalar.addi v499 c1_i32_280
  let c32_i32_281 : BitVec 32 := 32#32
  let c0_i32_282 : BitVec 32 := 0#32
  let v501 : BitVec 1 := Scalar.cmpi .eq c32_i32_281 c0_i32_282
  let c1_i32_283 : BitVec 32 := 1#32
  let v502 : BitVec 32 := Scalar.select v501 c1_i32_283 c32_i32_281
  let v503 : BitVec 32 := Scalar.remsi v500 v502
  let c0_i32_285 : BitVec 32 := 0#32
  let v505 : BitVec 1 := Scalar.cmpi .slt v503 c0_i32_285
  let c0_i32_286 : BitVec 32 := 0#32
  let v506 : BitVec 1 := Scalar.cmpi .slt v502 c0_i32_286
  let v507 : BitVec 1 := Scalar.xori v505 v506
  let c0_i32_284 : BitVec 32 := 0#32
  let v504 : BitVec 1 := Scalar.cmpi .ne v503 c0_i32_284
  let v508 : BitVec 1 := Scalar.andi v507 v504
  let v509 : BitVec 32 := Scalar.addi v503 v502
  let v510 : BitVec 32 := Scalar.select v508 v509 v503
  let v514 : BitVec 1 := Scalar.cmpi .ne v510 v2
  let v515 : BitVec 32 := Scalar.extui v514
  let c0_i32_288 : BitVec 32 := 0#32
  let v516 : BitVec 1 := Scalar.cmpi .ne v515 c0_i32_288
  v516

def k0_off105 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c16_i32_279 : BitVec 32 := 16#32
  let v499 : BitVec 32 := Scalar.addi v20 c16_i32_279
  let c1_i32_280 : BitVec 32 := 1#32
  let v500 : BitVec 32 := Scalar.addi v499 c1_i32_280
  let c32_i32_281 : BitVec 32 := 32#32
  let c0_i32_282 : BitVec 32 := 0#32
  let v501 : BitVec 1 := Scalar.cmpi .eq c32_i32_281 c0_i32_282
  let c1_i32_283 : BitVec 32 := 1#32
  let v502 : BitVec 32 := Scalar.select v501 c1_i32_283 c32_i32_281
  let v503 : BitVec 32 := Scalar.remsi v500 v502
  let c0_i32_285 : BitVec 32 := 0#32
  let v505 : BitVec 1 := Scalar.cmpi .slt v503 c0_i32_285
  let c0_i32_286 : BitVec 32 := 0#32
  let v506 : BitVec 1 := Scalar.cmpi .slt v502 c0_i32_286
  let v507 : BitVec 1 := Scalar.xori v505 v506
  let c0_i32_284 : BitVec 32 := 0#32
  let v504 : BitVec 1 := Scalar.cmpi .ne v503 c0_i32_284
  let v508 : BitVec 1 := Scalar.andi v507 v504
  let v509 : BitVec 32 := Scalar.addi v503 v502
  let v510 : BitVec 32 := Scalar.select v508 v509 v503
  let v2144 : Index := Scalar.indexCast v510
  let c0_1326 : Index := 0#32
  let c0_1327 : Index := 0#32
  ![v2144.toNat, 0, 0]
def k0_off106 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c16_i32_279 : BitVec 32 := 16#32
  let v499 : BitVec 32 := Scalar.addi v20 c16_i32_279
  let c1_i32_280 : BitVec 32 := 1#32
  let v500 : BitVec 32 := Scalar.addi v499 c1_i32_280
  let c32_i32_281 : BitVec 32 := 32#32
  let c0_i32_282 : BitVec 32 := 0#32
  let v501 : BitVec 1 := Scalar.cmpi .eq c32_i32_281 c0_i32_282
  let c1_i32_283 : BitVec 32 := 1#32
  let v502 : BitVec 32 := Scalar.select v501 c1_i32_283 c32_i32_281
  let v503 : BitVec 32 := Scalar.remsi v500 v502
  let c0_i32_285 : BitVec 32 := 0#32
  let v505 : BitVec 1 := Scalar.cmpi .slt v503 c0_i32_285
  let c0_i32_286 : BitVec 32 := 0#32
  let v506 : BitVec 1 := Scalar.cmpi .slt v502 c0_i32_286
  let v507 : BitVec 1 := Scalar.xori v505 v506
  let c0_i32_284 : BitVec 32 := 0#32
  let v504 : BitVec 1 := Scalar.cmpi .ne v503 c0_i32_284
  let v508 : BitVec 1 := Scalar.andi v507 v504
  let v509 : BitVec 32 := Scalar.addi v503 v502
  let v510 : BitVec 32 := Scalar.select v508 v509 v503
  ![v510.toNat]
def k0_off107 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off108 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1330 : BitVec 32 := 0#32
  let c0_i32_1331 : BitVec 32 := 0#32
  ![v2.toNat, 0, 0]
def k0_off109 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c16_i32_279 : BitVec 32 := 16#32
  let v499 : BitVec 32 := Scalar.addi v20 c16_i32_279
  let c1_i32_280 : BitVec 32 := 1#32
  let v500 : BitVec 32 := Scalar.addi v499 c1_i32_280
  let c32_i32_281 : BitVec 32 := 32#32
  let c0_i32_282 : BitVec 32 := 0#32
  let v501 : BitVec 1 := Scalar.cmpi .eq c32_i32_281 c0_i32_282
  let c1_i32_283 : BitVec 32 := 1#32
  let v502 : BitVec 32 := Scalar.select v501 c1_i32_283 c32_i32_281
  let v503 : BitVec 32 := Scalar.remsi v500 v502
  let c0_i32_285 : BitVec 32 := 0#32
  let v505 : BitVec 1 := Scalar.cmpi .slt v503 c0_i32_285
  let c0_i32_286 : BitVec 32 := 0#32
  let v506 : BitVec 1 := Scalar.cmpi .slt v502 c0_i32_286
  let v507 : BitVec 1 := Scalar.xori v505 v506
  let c0_i32_284 : BitVec 32 := 0#32
  let v504 : BitVec 1 := Scalar.cmpi .ne v503 c0_i32_284
  let v508 : BitVec 1 := Scalar.andi v507 v504
  let v509 : BitVec 32 := Scalar.addi v503 v502
  let v510 : BitVec 32 := Scalar.select v508 v509 v503
  let c0_i32_1332 : BitVec 32 := 0#32
  let c0_i32_1333 : BitVec 32 := 0#32
  ![v510.toNat, 0, 0]
def k0_dev19 (d0 : Dev nD) : Nat :=
  let c0_i32_1329 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c16_i32_279 : BitVec 32 := 16#32
  let v499 : BitVec 32 := Scalar.addi v20 c16_i32_279
  let c1_i32_280 : BitVec 32 := 1#32
  let v500 : BitVec 32 := Scalar.addi v499 c1_i32_280
  let c32_i32_281 : BitVec 32 := 32#32
  let c0_i32_282 : BitVec 32 := 0#32
  let v501 : BitVec 1 := Scalar.cmpi .eq c32_i32_281 c0_i32_282
  let c1_i32_283 : BitVec 32 := 1#32
  let v502 : BitVec 32 := Scalar.select v501 c1_i32_283 c32_i32_281
  let v503 : BitVec 32 := Scalar.remsi v500 v502
  let c0_i32_285 : BitVec 32 := 0#32
  let v505 : BitVec 1 := Scalar.cmpi .slt v503 c0_i32_285
  let c0_i32_286 : BitVec 32 := 0#32
  let v506 : BitVec 1 := Scalar.cmpi .slt v502 c0_i32_286
  let v507 : BitVec 1 := Scalar.xori v505 v506
  let c0_i32_284 : BitVec 32 := 0#32
  let v504 : BitVec 1 := Scalar.cmpi .ne v503 c0_i32_284
  let v508 : BitVec 1 := Scalar.andi v507 v504
  let v509 : BitVec 32 := Scalar.addi v503 v502
  let v510 : BitVec 32 := Scalar.select v508 v509 v503
  let c1_i32_1328 : BitVec 32 := 1#32
  let v2148 : BitVec 32 := Scalar.muli v510 c1_i32_1328
  let v2149 : BitVec 32 := Scalar.addi c0_i32_1329 v2148
  v2149.toNat
def k0_cond37 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c16_i32_289 : BitVec 32 := 16#32
  let v518 : BitVec 32 := Scalar.addi v20 c16_i32_289
  let c2_i32_290 : BitVec 32 := 2#32
  let v519 : BitVec 32 := Scalar.addi v518 c2_i32_290
  let c32_i32_291 : BitVec 32 := 32#32
  let c0_i32_292 : BitVec 32 := 0#32
  let v520 : BitVec 1 := Scalar.cmpi .eq c32_i32_291 c0_i32_292
  let c1_i32_293 : BitVec 32 := 1#32
  let v521 : BitVec 32 := Scalar.select v520 c1_i32_293 c32_i32_291
  let v522 : BitVec 32 := Scalar.remsi v519 v521
  let c0_i32_295 : BitVec 32 := 0#32
  let v524 : BitVec 1 := Scalar.cmpi .slt v522 c0_i32_295
  let c0_i32_296 : BitVec 32 := 0#32
  let v525 : BitVec 1 := Scalar.cmpi .slt v521 c0_i32_296
  let v526 : BitVec 1 := Scalar.xori v524 v525
  let c0_i32_294 : BitVec 32 := 0#32
  let v523 : BitVec 1 := Scalar.cmpi .ne v522 c0_i32_294
  let v527 : BitVec 1 := Scalar.andi v526 v523
  let v528 : BitVec 32 := Scalar.addi v522 v521
  let v529 : BitVec 32 := Scalar.select v527 v528 v522
  let v530 : BitVec 1 := Scalar.cmpi .eq v529 v2
  let v531 : BitVec 32 := Scalar.extui v530
  let c0_i32_297 : BitVec 32 := 0#32
  let v532 : BitVec 1 := Scalar.cmpi .ne v531 c0_i32_297
  v532

def k0_off110 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1326 : BitVec 32 := 128#32
  let v2143 : BitVec 32 := Scalar.muli v2 c128_i32_1326
  let v2144 : Index := Scalar.indexCast v2143
  let c0_1327 : Index := 0#32
  ![v2144.toNat, 0]
def k0_cond38 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c16_i32_289 : BitVec 32 := 16#32
  let v518 : BitVec 32 := Scalar.addi v20 c16_i32_289
  let c2_i32_290 : BitVec 32 := 2#32
  let v519 : BitVec 32 := Scalar.addi v518 c2_i32_290
  let c32_i32_291 : BitVec 32 := 32#32
  let c0_i32_292 : BitVec 32 := 0#32
  let v520 : BitVec 1 := Scalar.cmpi .eq c32_i32_291 c0_i32_292
  let c1_i32_293 : BitVec 32 := 1#32
  let v521 : BitVec 32 := Scalar.select v520 c1_i32_293 c32_i32_291
  let v522 : BitVec 32 := Scalar.remsi v519 v521
  let c0_i32_295 : BitVec 32 := 0#32
  let v524 : BitVec 1 := Scalar.cmpi .slt v522 c0_i32_295
  let c0_i32_296 : BitVec 32 := 0#32
  let v525 : BitVec 1 := Scalar.cmpi .slt v521 c0_i32_296
  let v526 : BitVec 1 := Scalar.xori v524 v525
  let c0_i32_294 : BitVec 32 := 0#32
  let v523 : BitVec 1 := Scalar.cmpi .ne v522 c0_i32_294
  let v527 : BitVec 1 := Scalar.andi v526 v523
  let v528 : BitVec 32 := Scalar.addi v522 v521
  let v529 : BitVec 32 := Scalar.select v527 v528 v522
  let v533 : BitVec 1 := Scalar.cmpi .ne v529 v2
  let v534 : BitVec 32 := Scalar.extui v533
  let c0_i32_298 : BitVec 32 := 0#32
  let v535 : BitVec 1 := Scalar.cmpi .ne v534 c0_i32_298
  v535

def k0_off111 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c16_i32_289 : BitVec 32 := 16#32
  let v518 : BitVec 32 := Scalar.addi v20 c16_i32_289
  let c2_i32_290 : BitVec 32 := 2#32
  let v519 : BitVec 32 := Scalar.addi v518 c2_i32_290
  let c32_i32_291 : BitVec 32 := 32#32
  let c0_i32_292 : BitVec 32 := 0#32
  let v520 : BitVec 1 := Scalar.cmpi .eq c32_i32_291 c0_i32_292
  let c1_i32_293 : BitVec 32 := 1#32
  let v521 : BitVec 32 := Scalar.select v520 c1_i32_293 c32_i32_291
  let v522 : BitVec 32 := Scalar.remsi v519 v521
  let c0_i32_295 : BitVec 32 := 0#32
  let v524 : BitVec 1 := Scalar.cmpi .slt v522 c0_i32_295
  let c0_i32_296 : BitVec 32 := 0#32
  let v525 : BitVec 1 := Scalar.cmpi .slt v521 c0_i32_296
  let v526 : BitVec 1 := Scalar.xori v524 v525
  let c0_i32_294 : BitVec 32 := 0#32
  let v523 : BitVec 1 := Scalar.cmpi .ne v522 c0_i32_294
  let v527 : BitVec 1 := Scalar.andi v526 v523
  let v528 : BitVec 32 := Scalar.addi v522 v521
  let v529 : BitVec 32 := Scalar.select v527 v528 v522
  let v2144 : Index := Scalar.indexCast v529
  let c0_1326 : Index := 0#32
  let c0_1327 : Index := 0#32
  ![v2144.toNat, 0, 0]
def k0_off112 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c16_i32_289 : BitVec 32 := 16#32
  let v518 : BitVec 32 := Scalar.addi v20 c16_i32_289
  let c2_i32_290 : BitVec 32 := 2#32
  let v519 : BitVec 32 := Scalar.addi v518 c2_i32_290
  let c32_i32_291 : BitVec 32 := 32#32
  let c0_i32_292 : BitVec 32 := 0#32
  let v520 : BitVec 1 := Scalar.cmpi .eq c32_i32_291 c0_i32_292
  let c1_i32_293 : BitVec 32 := 1#32
  let v521 : BitVec 32 := Scalar.select v520 c1_i32_293 c32_i32_291
  let v522 : BitVec 32 := Scalar.remsi v519 v521
  let c0_i32_295 : BitVec 32 := 0#32
  let v524 : BitVec 1 := Scalar.cmpi .slt v522 c0_i32_295
  let c0_i32_296 : BitVec 32 := 0#32
  let v525 : BitVec 1 := Scalar.cmpi .slt v521 c0_i32_296
  let v526 : BitVec 1 := Scalar.xori v524 v525
  let c0_i32_294 : BitVec 32 := 0#32
  let v523 : BitVec 1 := Scalar.cmpi .ne v522 c0_i32_294
  let v527 : BitVec 1 := Scalar.andi v526 v523
  let v528 : BitVec 32 := Scalar.addi v522 v521
  let v529 : BitVec 32 := Scalar.select v527 v528 v522
  ![v529.toNat]
def k0_off113 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off114 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1330 : BitVec 32 := 0#32
  let c0_i32_1331 : BitVec 32 := 0#32
  ![v2.toNat, 0, 0]
def k0_off115 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c16_i32_289 : BitVec 32 := 16#32
  let v518 : BitVec 32 := Scalar.addi v20 c16_i32_289
  let c2_i32_290 : BitVec 32 := 2#32
  let v519 : BitVec 32 := Scalar.addi v518 c2_i32_290
  let c32_i32_291 : BitVec 32 := 32#32
  let c0_i32_292 : BitVec 32 := 0#32
  let v520 : BitVec 1 := Scalar.cmpi .eq c32_i32_291 c0_i32_292
  let c1_i32_293 : BitVec 32 := 1#32
  let v521 : BitVec 32 := Scalar.select v520 c1_i32_293 c32_i32_291
  let v522 : BitVec 32 := Scalar.remsi v519 v521
  let c0_i32_295 : BitVec 32 := 0#32
  let v524 : BitVec 1 := Scalar.cmpi .slt v522 c0_i32_295
  let c0_i32_296 : BitVec 32 := 0#32
  let v525 : BitVec 1 := Scalar.cmpi .slt v521 c0_i32_296
  let v526 : BitVec 1 := Scalar.xori v524 v525
  let c0_i32_294 : BitVec 32 := 0#32
  let v523 : BitVec 1 := Scalar.cmpi .ne v522 c0_i32_294
  let v527 : BitVec 1 := Scalar.andi v526 v523
  let v528 : BitVec 32 := Scalar.addi v522 v521
  let v529 : BitVec 32 := Scalar.select v527 v528 v522
  let c0_i32_1332 : BitVec 32 := 0#32
  let c0_i32_1333 : BitVec 32 := 0#32
  ![v529.toNat, 0, 0]
def k0_dev20 (d0 : Dev nD) : Nat :=
  let c0_i32_1329 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c16_i32_289 : BitVec 32 := 16#32
  let v518 : BitVec 32 := Scalar.addi v20 c16_i32_289
  let c2_i32_290 : BitVec 32 := 2#32
  let v519 : BitVec 32 := Scalar.addi v518 c2_i32_290
  let c32_i32_291 : BitVec 32 := 32#32
  let c0_i32_292 : BitVec 32 := 0#32
  let v520 : BitVec 1 := Scalar.cmpi .eq c32_i32_291 c0_i32_292
  let c1_i32_293 : BitVec 32 := 1#32
  let v521 : BitVec 32 := Scalar.select v520 c1_i32_293 c32_i32_291
  let v522 : BitVec 32 := Scalar.remsi v519 v521
  let c0_i32_295 : BitVec 32 := 0#32
  let v524 : BitVec 1 := Scalar.cmpi .slt v522 c0_i32_295
  let c0_i32_296 : BitVec 32 := 0#32
  let v525 : BitVec 1 := Scalar.cmpi .slt v521 c0_i32_296
  let v526 : BitVec 1 := Scalar.xori v524 v525
  let c0_i32_294 : BitVec 32 := 0#32
  let v523 : BitVec 1 := Scalar.cmpi .ne v522 c0_i32_294
  let v527 : BitVec 1 := Scalar.andi v526 v523
  let v528 : BitVec 32 := Scalar.addi v522 v521
  let v529 : BitVec 32 := Scalar.select v527 v528 v522
  let c1_i32_1328 : BitVec 32 := 1#32
  let v2148 : BitVec 32 := Scalar.muli v529 c1_i32_1328
  let v2149 : BitVec 32 := Scalar.addi c0_i32_1329 v2148
  v2149.toNat
def k0_cond39 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c16_i32_299 : BitVec 32 := 16#32
  let v537 : BitVec 32 := Scalar.addi v20 c16_i32_299
  let c3_i32_300 : BitVec 32 := 3#32
  let v538 : BitVec 32 := Scalar.addi v537 c3_i32_300
  let c32_i32_301 : BitVec 32 := 32#32
  let c0_i32_302 : BitVec 32 := 0#32
  let v539 : BitVec 1 := Scalar.cmpi .eq c32_i32_301 c0_i32_302
  let c1_i32_303 : BitVec 32 := 1#32
  let v540 : BitVec 32 := Scalar.select v539 c1_i32_303 c32_i32_301
  let v541 : BitVec 32 := Scalar.remsi v538 v540
  let c0_i32_305 : BitVec 32 := 0#32
  let v543 : BitVec 1 := Scalar.cmpi .slt v541 c0_i32_305
  let c0_i32_306 : BitVec 32 := 0#32
  let v544 : BitVec 1 := Scalar.cmpi .slt v540 c0_i32_306
  let v545 : BitVec 1 := Scalar.xori v543 v544
  let c0_i32_304 : BitVec 32 := 0#32
  let v542 : BitVec 1 := Scalar.cmpi .ne v541 c0_i32_304
  let v546 : BitVec 1 := Scalar.andi v545 v542
  let v547 : BitVec 32 := Scalar.addi v541 v540
  let v548 : BitVec 32 := Scalar.select v546 v547 v541
  let v549 : BitVec 1 := Scalar.cmpi .eq v548 v2
  let v550 : BitVec 32 := Scalar.extui v549
  let c0_i32_307 : BitVec 32 := 0#32
  let v551 : BitVec 1 := Scalar.cmpi .ne v550 c0_i32_307
  v551

def k0_off116 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1326 : BitVec 32 := 128#32
  let v2143 : BitVec 32 := Scalar.muli v2 c128_i32_1326
  let v2144 : Index := Scalar.indexCast v2143
  let c0_1327 : Index := 0#32
  ![v2144.toNat, 0]
def k0_cond40 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c16_i32_299 : BitVec 32 := 16#32
  let v537 : BitVec 32 := Scalar.addi v20 c16_i32_299
  let c3_i32_300 : BitVec 32 := 3#32
  let v538 : BitVec 32 := Scalar.addi v537 c3_i32_300
  let c32_i32_301 : BitVec 32 := 32#32
  let c0_i32_302 : BitVec 32 := 0#32
  let v539 : BitVec 1 := Scalar.cmpi .eq c32_i32_301 c0_i32_302
  let c1_i32_303 : BitVec 32 := 1#32
  let v540 : BitVec 32 := Scalar.select v539 c1_i32_303 c32_i32_301
  let v541 : BitVec 32 := Scalar.remsi v538 v540
  let c0_i32_305 : BitVec 32 := 0#32
  let v543 : BitVec 1 := Scalar.cmpi .slt v541 c0_i32_305
  let c0_i32_306 : BitVec 32 := 0#32
  let v544 : BitVec 1 := Scalar.cmpi .slt v540 c0_i32_306
  let v545 : BitVec 1 := Scalar.xori v543 v544
  let c0_i32_304 : BitVec 32 := 0#32
  let v542 : BitVec 1 := Scalar.cmpi .ne v541 c0_i32_304
  let v546 : BitVec 1 := Scalar.andi v545 v542
  let v547 : BitVec 32 := Scalar.addi v541 v540
  let v548 : BitVec 32 := Scalar.select v546 v547 v541
  let v552 : BitVec 1 := Scalar.cmpi .ne v548 v2
  let v553 : BitVec 32 := Scalar.extui v552
  let c0_i32_308 : BitVec 32 := 0#32
  let v554 : BitVec 1 := Scalar.cmpi .ne v553 c0_i32_308
  v554

def k0_off117 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c16_i32_299 : BitVec 32 := 16#32
  let v537 : BitVec 32 := Scalar.addi v20 c16_i32_299
  let c3_i32_300 : BitVec 32 := 3#32
  let v538 : BitVec 32 := Scalar.addi v537 c3_i32_300
  let c32_i32_301 : BitVec 32 := 32#32
  let c0_i32_302 : BitVec 32 := 0#32
  let v539 : BitVec 1 := Scalar.cmpi .eq c32_i32_301 c0_i32_302
  let c1_i32_303 : BitVec 32 := 1#32
  let v540 : BitVec 32 := Scalar.select v539 c1_i32_303 c32_i32_301
  let v541 : BitVec 32 := Scalar.remsi v538 v540
  let c0_i32_305 : BitVec 32 := 0#32
  let v543 : BitVec 1 := Scalar.cmpi .slt v541 c0_i32_305
  let c0_i32_306 : BitVec 32 := 0#32
  let v544 : BitVec 1 := Scalar.cmpi .slt v540 c0_i32_306
  let v545 : BitVec 1 := Scalar.xori v543 v544
  let c0_i32_304 : BitVec 32 := 0#32
  let v542 : BitVec 1 := Scalar.cmpi .ne v541 c0_i32_304
  let v546 : BitVec 1 := Scalar.andi v545 v542
  let v547 : BitVec 32 := Scalar.addi v541 v540
  let v548 : BitVec 32 := Scalar.select v546 v547 v541
  let v2144 : Index := Scalar.indexCast v548
  let c0_1326 : Index := 0#32
  let c0_1327 : Index := 0#32
  ![v2144.toNat, 0, 0]
def k0_off118 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c16_i32_299 : BitVec 32 := 16#32
  let v537 : BitVec 32 := Scalar.addi v20 c16_i32_299
  let c3_i32_300 : BitVec 32 := 3#32
  let v538 : BitVec 32 := Scalar.addi v537 c3_i32_300
  let c32_i32_301 : BitVec 32 := 32#32
  let c0_i32_302 : BitVec 32 := 0#32
  let v539 : BitVec 1 := Scalar.cmpi .eq c32_i32_301 c0_i32_302
  let c1_i32_303 : BitVec 32 := 1#32
  let v540 : BitVec 32 := Scalar.select v539 c1_i32_303 c32_i32_301
  let v541 : BitVec 32 := Scalar.remsi v538 v540
  let c0_i32_305 : BitVec 32 := 0#32
  let v543 : BitVec 1 := Scalar.cmpi .slt v541 c0_i32_305
  let c0_i32_306 : BitVec 32 := 0#32
  let v544 : BitVec 1 := Scalar.cmpi .slt v540 c0_i32_306
  let v545 : BitVec 1 := Scalar.xori v543 v544
  let c0_i32_304 : BitVec 32 := 0#32
  let v542 : BitVec 1 := Scalar.cmpi .ne v541 c0_i32_304
  let v546 : BitVec 1 := Scalar.andi v545 v542
  let v547 : BitVec 32 := Scalar.addi v541 v540
  let v548 : BitVec 32 := Scalar.select v546 v547 v541
  ![v548.toNat]
def k0_off119 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off120 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1330 : BitVec 32 := 0#32
  let c0_i32_1331 : BitVec 32 := 0#32
  ![v2.toNat, 0, 0]
def k0_off121 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c16_i32_299 : BitVec 32 := 16#32
  let v537 : BitVec 32 := Scalar.addi v20 c16_i32_299
  let c3_i32_300 : BitVec 32 := 3#32
  let v538 : BitVec 32 := Scalar.addi v537 c3_i32_300
  let c32_i32_301 : BitVec 32 := 32#32
  let c0_i32_302 : BitVec 32 := 0#32
  let v539 : BitVec 1 := Scalar.cmpi .eq c32_i32_301 c0_i32_302
  let c1_i32_303 : BitVec 32 := 1#32
  let v540 : BitVec 32 := Scalar.select v539 c1_i32_303 c32_i32_301
  let v541 : BitVec 32 := Scalar.remsi v538 v540
  let c0_i32_305 : BitVec 32 := 0#32
  let v543 : BitVec 1 := Scalar.cmpi .slt v541 c0_i32_305
  let c0_i32_306 : BitVec 32 := 0#32
  let v544 : BitVec 1 := Scalar.cmpi .slt v540 c0_i32_306
  let v545 : BitVec 1 := Scalar.xori v543 v544
  let c0_i32_304 : BitVec 32 := 0#32
  let v542 : BitVec 1 := Scalar.cmpi .ne v541 c0_i32_304
  let v546 : BitVec 1 := Scalar.andi v545 v542
  let v547 : BitVec 32 := Scalar.addi v541 v540
  let v548 : BitVec 32 := Scalar.select v546 v547 v541
  let c0_i32_1332 : BitVec 32 := 0#32
  let c0_i32_1333 : BitVec 32 := 0#32
  ![v548.toNat, 0, 0]
def k0_dev21 (d0 : Dev nD) : Nat :=
  let c0_i32_1329 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c16_i32_299 : BitVec 32 := 16#32
  let v537 : BitVec 32 := Scalar.addi v20 c16_i32_299
  let c3_i32_300 : BitVec 32 := 3#32
  let v538 : BitVec 32 := Scalar.addi v537 c3_i32_300
  let c32_i32_301 : BitVec 32 := 32#32
  let c0_i32_302 : BitVec 32 := 0#32
  let v539 : BitVec 1 := Scalar.cmpi .eq c32_i32_301 c0_i32_302
  let c1_i32_303 : BitVec 32 := 1#32
  let v540 : BitVec 32 := Scalar.select v539 c1_i32_303 c32_i32_301
  let v541 : BitVec 32 := Scalar.remsi v538 v540
  let c0_i32_305 : BitVec 32 := 0#32
  let v543 : BitVec 1 := Scalar.cmpi .slt v541 c0_i32_305
  let c0_i32_306 : BitVec 32 := 0#32
  let v544 : BitVec 1 := Scalar.cmpi .slt v540 c0_i32_306
  let v545 : BitVec 1 := Scalar.xori v543 v544
  let c0_i32_304 : BitVec 32 := 0#32
  let v542 : BitVec 1 := Scalar.cmpi .ne v541 c0_i32_304
  let v546 : BitVec 1 := Scalar.andi v545 v542
  let v547 : BitVec 32 := Scalar.addi v541 v540
  let v548 : BitVec 32 := Scalar.select v546 v547 v541
  let c1_i32_1328 : BitVec 32 := 1#32
  let v2148 : BitVec 32 := Scalar.muli v548 c1_i32_1328
  let v2149 : BitVec 32 := Scalar.addi c0_i32_1329 v2148
  v2149.toNat
def k0_cond41 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c16_i32_309 : BitVec 32 := 16#32
  let v556 : BitVec 32 := Scalar.addi v20 c16_i32_309
  let c4_i32_310 : BitVec 32 := 4#32
  let v557 : BitVec 32 := Scalar.addi v556 c4_i32_310
  let c32_i32_311 : BitVec 32 := 32#32
  let c0_i32_312 : BitVec 32 := 0#32
  let v558 : BitVec 1 := Scalar.cmpi .eq c32_i32_311 c0_i32_312
  let c1_i32_313 : BitVec 32 := 1#32
  let v559 : BitVec 32 := Scalar.select v558 c1_i32_313 c32_i32_311
  let v560 : BitVec 32 := Scalar.remsi v557 v559
  let c0_i32_315 : BitVec 32 := 0#32
  let v562 : BitVec 1 := Scalar.cmpi .slt v560 c0_i32_315
  let c0_i32_316 : BitVec 32 := 0#32
  let v563 : BitVec 1 := Scalar.cmpi .slt v559 c0_i32_316
  let v564 : BitVec 1 := Scalar.xori v562 v563
  let c0_i32_314 : BitVec 32 := 0#32
  let v561 : BitVec 1 := Scalar.cmpi .ne v560 c0_i32_314
  let v565 : BitVec 1 := Scalar.andi v564 v561
  let v566 : BitVec 32 := Scalar.addi v560 v559
  let v567 : BitVec 32 := Scalar.select v565 v566 v560
  let v568 : BitVec 1 := Scalar.cmpi .eq v567 v2
  let v569 : BitVec 32 := Scalar.extui v568
  let c0_i32_317 : BitVec 32 := 0#32
  let v570 : BitVec 1 := Scalar.cmpi .ne v569 c0_i32_317
  v570

def k0_off122 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1326 : BitVec 32 := 128#32
  let v2143 : BitVec 32 := Scalar.muli v2 c128_i32_1326
  let v2144 : Index := Scalar.indexCast v2143
  let c0_1327 : Index := 0#32
  ![v2144.toNat, 0]
def k0_cond42 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c16_i32_309 : BitVec 32 := 16#32
  let v556 : BitVec 32 := Scalar.addi v20 c16_i32_309
  let c4_i32_310 : BitVec 32 := 4#32
  let v557 : BitVec 32 := Scalar.addi v556 c4_i32_310
  let c32_i32_311 : BitVec 32 := 32#32
  let c0_i32_312 : BitVec 32 := 0#32
  let v558 : BitVec 1 := Scalar.cmpi .eq c32_i32_311 c0_i32_312
  let c1_i32_313 : BitVec 32 := 1#32
  let v559 : BitVec 32 := Scalar.select v558 c1_i32_313 c32_i32_311
  let v560 : BitVec 32 := Scalar.remsi v557 v559
  let c0_i32_315 : BitVec 32 := 0#32
  let v562 : BitVec 1 := Scalar.cmpi .slt v560 c0_i32_315
  let c0_i32_316 : BitVec 32 := 0#32
  let v563 : BitVec 1 := Scalar.cmpi .slt v559 c0_i32_316
  let v564 : BitVec 1 := Scalar.xori v562 v563
  let c0_i32_314 : BitVec 32 := 0#32
  let v561 : BitVec 1 := Scalar.cmpi .ne v560 c0_i32_314
  let v565 : BitVec 1 := Scalar.andi v564 v561
  let v566 : BitVec 32 := Scalar.addi v560 v559
  let v567 : BitVec 32 := Scalar.select v565 v566 v560
  let v571 : BitVec 1 := Scalar.cmpi .ne v567 v2
  let v572 : BitVec 32 := Scalar.extui v571
  let c0_i32_318 : BitVec 32 := 0#32
  let v573 : BitVec 1 := Scalar.cmpi .ne v572 c0_i32_318
  v573

def k0_off123 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c16_i32_309 : BitVec 32 := 16#32
  let v556 : BitVec 32 := Scalar.addi v20 c16_i32_309
  let c4_i32_310 : BitVec 32 := 4#32
  let v557 : BitVec 32 := Scalar.addi v556 c4_i32_310
  let c32_i32_311 : BitVec 32 := 32#32
  let c0_i32_312 : BitVec 32 := 0#32
  let v558 : BitVec 1 := Scalar.cmpi .eq c32_i32_311 c0_i32_312
  let c1_i32_313 : BitVec 32 := 1#32
  let v559 : BitVec 32 := Scalar.select v558 c1_i32_313 c32_i32_311
  let v560 : BitVec 32 := Scalar.remsi v557 v559
  let c0_i32_315 : BitVec 32 := 0#32
  let v562 : BitVec 1 := Scalar.cmpi .slt v560 c0_i32_315
  let c0_i32_316 : BitVec 32 := 0#32
  let v563 : BitVec 1 := Scalar.cmpi .slt v559 c0_i32_316
  let v564 : BitVec 1 := Scalar.xori v562 v563
  let c0_i32_314 : BitVec 32 := 0#32
  let v561 : BitVec 1 := Scalar.cmpi .ne v560 c0_i32_314
  let v565 : BitVec 1 := Scalar.andi v564 v561
  let v566 : BitVec 32 := Scalar.addi v560 v559
  let v567 : BitVec 32 := Scalar.select v565 v566 v560
  let v2144 : Index := Scalar.indexCast v567
  let c0_1326 : Index := 0#32
  let c0_1327 : Index := 0#32
  ![v2144.toNat, 0, 0]
def k0_off124 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c16_i32_309 : BitVec 32 := 16#32
  let v556 : BitVec 32 := Scalar.addi v20 c16_i32_309
  let c4_i32_310 : BitVec 32 := 4#32
  let v557 : BitVec 32 := Scalar.addi v556 c4_i32_310
  let c32_i32_311 : BitVec 32 := 32#32
  let c0_i32_312 : BitVec 32 := 0#32
  let v558 : BitVec 1 := Scalar.cmpi .eq c32_i32_311 c0_i32_312
  let c1_i32_313 : BitVec 32 := 1#32
  let v559 : BitVec 32 := Scalar.select v558 c1_i32_313 c32_i32_311
  let v560 : BitVec 32 := Scalar.remsi v557 v559
  let c0_i32_315 : BitVec 32 := 0#32
  let v562 : BitVec 1 := Scalar.cmpi .slt v560 c0_i32_315
  let c0_i32_316 : BitVec 32 := 0#32
  let v563 : BitVec 1 := Scalar.cmpi .slt v559 c0_i32_316
  let v564 : BitVec 1 := Scalar.xori v562 v563
  let c0_i32_314 : BitVec 32 := 0#32
  let v561 : BitVec 1 := Scalar.cmpi .ne v560 c0_i32_314
  let v565 : BitVec 1 := Scalar.andi v564 v561
  let v566 : BitVec 32 := Scalar.addi v560 v559
  let v567 : BitVec 32 := Scalar.select v565 v566 v560
  ![v567.toNat]
def k0_off125 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off126 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1330 : BitVec 32 := 0#32
  let c0_i32_1331 : BitVec 32 := 0#32
  ![v2.toNat, 0, 0]
def k0_off127 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c16_i32_309 : BitVec 32 := 16#32
  let v556 : BitVec 32 := Scalar.addi v20 c16_i32_309
  let c4_i32_310 : BitVec 32 := 4#32
  let v557 : BitVec 32 := Scalar.addi v556 c4_i32_310
  let c32_i32_311 : BitVec 32 := 32#32
  let c0_i32_312 : BitVec 32 := 0#32
  let v558 : BitVec 1 := Scalar.cmpi .eq c32_i32_311 c0_i32_312
  let c1_i32_313 : BitVec 32 := 1#32
  let v559 : BitVec 32 := Scalar.select v558 c1_i32_313 c32_i32_311
  let v560 : BitVec 32 := Scalar.remsi v557 v559
  let c0_i32_315 : BitVec 32 := 0#32
  let v562 : BitVec 1 := Scalar.cmpi .slt v560 c0_i32_315
  let c0_i32_316 : BitVec 32 := 0#32
  let v563 : BitVec 1 := Scalar.cmpi .slt v559 c0_i32_316
  let v564 : BitVec 1 := Scalar.xori v562 v563
  let c0_i32_314 : BitVec 32 := 0#32
  let v561 : BitVec 1 := Scalar.cmpi .ne v560 c0_i32_314
  let v565 : BitVec 1 := Scalar.andi v564 v561
  let v566 : BitVec 32 := Scalar.addi v560 v559
  let v567 : BitVec 32 := Scalar.select v565 v566 v560
  let c0_i32_1332 : BitVec 32 := 0#32
  let c0_i32_1333 : BitVec 32 := 0#32
  ![v567.toNat, 0, 0]
def k0_dev22 (d0 : Dev nD) : Nat :=
  let c0_i32_1329 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c16_i32_309 : BitVec 32 := 16#32
  let v556 : BitVec 32 := Scalar.addi v20 c16_i32_309
  let c4_i32_310 : BitVec 32 := 4#32
  let v557 : BitVec 32 := Scalar.addi v556 c4_i32_310
  let c32_i32_311 : BitVec 32 := 32#32
  let c0_i32_312 : BitVec 32 := 0#32
  let v558 : BitVec 1 := Scalar.cmpi .eq c32_i32_311 c0_i32_312
  let c1_i32_313 : BitVec 32 := 1#32
  let v559 : BitVec 32 := Scalar.select v558 c1_i32_313 c32_i32_311
  let v560 : BitVec 32 := Scalar.remsi v557 v559
  let c0_i32_315 : BitVec 32 := 0#32
  let v562 : BitVec 1 := Scalar.cmpi .slt v560 c0_i32_315
  let c0_i32_316 : BitVec 32 := 0#32
  let v563 : BitVec 1 := Scalar.cmpi .slt v559 c0_i32_316
  let v564 : BitVec 1 := Scalar.xori v562 v563
  let c0_i32_314 : BitVec 32 := 0#32
  let v561 : BitVec 1 := Scalar.cmpi .ne v560 c0_i32_314
  let v565 : BitVec 1 := Scalar.andi v564 v561
  let v566 : BitVec 32 := Scalar.addi v560 v559
  let v567 : BitVec 32 := Scalar.select v565 v566 v560
  let c1_i32_1328 : BitVec 32 := 1#32
  let v2148 : BitVec 32 := Scalar.muli v567 c1_i32_1328
  let v2149 : BitVec 32 := Scalar.addi c0_i32_1329 v2148
  v2149.toNat
def k0_cond43 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c16_i32_319 : BitVec 32 := 16#32
  let v575 : BitVec 32 := Scalar.addi v20 c16_i32_319
  let c5_i32_320 : BitVec 32 := 5#32
  let v576 : BitVec 32 := Scalar.addi v575 c5_i32_320
  let c32_i32_321 : BitVec 32 := 32#32
  let c0_i32_322 : BitVec 32 := 0#32
  let v577 : BitVec 1 := Scalar.cmpi .eq c32_i32_321 c0_i32_322
  let c1_i32_323 : BitVec 32 := 1#32
  let v578 : BitVec 32 := Scalar.select v577 c1_i32_323 c32_i32_321
  let v579 : BitVec 32 := Scalar.remsi v576 v578
  let c0_i32_325 : BitVec 32 := 0#32
  let v581 : BitVec 1 := Scalar.cmpi .slt v579 c0_i32_325
  let c0_i32_326 : BitVec 32 := 0#32
  let v582 : BitVec 1 := Scalar.cmpi .slt v578 c0_i32_326
  let v583 : BitVec 1 := Scalar.xori v581 v582
  let c0_i32_324 : BitVec 32 := 0#32
  let v580 : BitVec 1 := Scalar.cmpi .ne v579 c0_i32_324
  let v584 : BitVec 1 := Scalar.andi v583 v580
  let v585 : BitVec 32 := Scalar.addi v579 v578
  let v586 : BitVec 32 := Scalar.select v584 v585 v579
  let v587 : BitVec 1 := Scalar.cmpi .eq v586 v2
  let v588 : BitVec 32 := Scalar.extui v587
  let c0_i32_327 : BitVec 32 := 0#32
  let v589 : BitVec 1 := Scalar.cmpi .ne v588 c0_i32_327
  v589

def k0_off128 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1326 : BitVec 32 := 128#32
  let v2143 : BitVec 32 := Scalar.muli v2 c128_i32_1326
  let v2144 : Index := Scalar.indexCast v2143
  let c0_1327 : Index := 0#32
  ![v2144.toNat, 0]
def k0_cond44 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c16_i32_319 : BitVec 32 := 16#32
  let v575 : BitVec 32 := Scalar.addi v20 c16_i32_319
  let c5_i32_320 : BitVec 32 := 5#32
  let v576 : BitVec 32 := Scalar.addi v575 c5_i32_320
  let c32_i32_321 : BitVec 32 := 32#32
  let c0_i32_322 : BitVec 32 := 0#32
  let v577 : BitVec 1 := Scalar.cmpi .eq c32_i32_321 c0_i32_322
  let c1_i32_323 : BitVec 32 := 1#32
  let v578 : BitVec 32 := Scalar.select v577 c1_i32_323 c32_i32_321
  let v579 : BitVec 32 := Scalar.remsi v576 v578
  let c0_i32_325 : BitVec 32 := 0#32
  let v581 : BitVec 1 := Scalar.cmpi .slt v579 c0_i32_325
  let c0_i32_326 : BitVec 32 := 0#32
  let v582 : BitVec 1 := Scalar.cmpi .slt v578 c0_i32_326
  let v583 : BitVec 1 := Scalar.xori v581 v582
  let c0_i32_324 : BitVec 32 := 0#32
  let v580 : BitVec 1 := Scalar.cmpi .ne v579 c0_i32_324
  let v584 : BitVec 1 := Scalar.andi v583 v580
  let v585 : BitVec 32 := Scalar.addi v579 v578
  let v586 : BitVec 32 := Scalar.select v584 v585 v579
  let v590 : BitVec 1 := Scalar.cmpi .ne v586 v2
  let v591 : BitVec 32 := Scalar.extui v590
  let c0_i32_328 : BitVec 32 := 0#32
  let v592 : BitVec 1 := Scalar.cmpi .ne v591 c0_i32_328
  v592

def k0_off129 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c16_i32_319 : BitVec 32 := 16#32
  let v575 : BitVec 32 := Scalar.addi v20 c16_i32_319
  let c5_i32_320 : BitVec 32 := 5#32
  let v576 : BitVec 32 := Scalar.addi v575 c5_i32_320
  let c32_i32_321 : BitVec 32 := 32#32
  let c0_i32_322 : BitVec 32 := 0#32
  let v577 : BitVec 1 := Scalar.cmpi .eq c32_i32_321 c0_i32_322
  let c1_i32_323 : BitVec 32 := 1#32
  let v578 : BitVec 32 := Scalar.select v577 c1_i32_323 c32_i32_321
  let v579 : BitVec 32 := Scalar.remsi v576 v578
  let c0_i32_325 : BitVec 32 := 0#32
  let v581 : BitVec 1 := Scalar.cmpi .slt v579 c0_i32_325
  let c0_i32_326 : BitVec 32 := 0#32
  let v582 : BitVec 1 := Scalar.cmpi .slt v578 c0_i32_326
  let v583 : BitVec 1 := Scalar.xori v581 v582
  let c0_i32_324 : BitVec 32 := 0#32
  let v580 : BitVec 1 := Scalar.cmpi .ne v579 c0_i32_324
  let v584 : BitVec 1 := Scalar.andi v583 v580
  let v585 : BitVec 32 := Scalar.addi v579 v578
  let v586 : BitVec 32 := Scalar.select v584 v585 v579
  let v2144 : Index := Scalar.indexCast v586
  let c0_1326 : Index := 0#32
  let c0_1327 : Index := 0#32
  ![v2144.toNat, 0, 0]
def k0_off130 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c16_i32_319 : BitVec 32 := 16#32
  let v575 : BitVec 32 := Scalar.addi v20 c16_i32_319
  let c5_i32_320 : BitVec 32 := 5#32
  let v576 : BitVec 32 := Scalar.addi v575 c5_i32_320
  let c32_i32_321 : BitVec 32 := 32#32
  let c0_i32_322 : BitVec 32 := 0#32
  let v577 : BitVec 1 := Scalar.cmpi .eq c32_i32_321 c0_i32_322
  let c1_i32_323 : BitVec 32 := 1#32
  let v578 : BitVec 32 := Scalar.select v577 c1_i32_323 c32_i32_321
  let v579 : BitVec 32 := Scalar.remsi v576 v578
  let c0_i32_325 : BitVec 32 := 0#32
  let v581 : BitVec 1 := Scalar.cmpi .slt v579 c0_i32_325
  let c0_i32_326 : BitVec 32 := 0#32
  let v582 : BitVec 1 := Scalar.cmpi .slt v578 c0_i32_326
  let v583 : BitVec 1 := Scalar.xori v581 v582
  let c0_i32_324 : BitVec 32 := 0#32
  let v580 : BitVec 1 := Scalar.cmpi .ne v579 c0_i32_324
  let v584 : BitVec 1 := Scalar.andi v583 v580
  let v585 : BitVec 32 := Scalar.addi v579 v578
  let v586 : BitVec 32 := Scalar.select v584 v585 v579
  ![v586.toNat]
def k0_off131 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off132 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1330 : BitVec 32 := 0#32
  let c0_i32_1331 : BitVec 32 := 0#32
  ![v2.toNat, 0, 0]
def k0_off133 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c16_i32_319 : BitVec 32 := 16#32
  let v575 : BitVec 32 := Scalar.addi v20 c16_i32_319
  let c5_i32_320 : BitVec 32 := 5#32
  let v576 : BitVec 32 := Scalar.addi v575 c5_i32_320
  let c32_i32_321 : BitVec 32 := 32#32
  let c0_i32_322 : BitVec 32 := 0#32
  let v577 : BitVec 1 := Scalar.cmpi .eq c32_i32_321 c0_i32_322
  let c1_i32_323 : BitVec 32 := 1#32
  let v578 : BitVec 32 := Scalar.select v577 c1_i32_323 c32_i32_321
  let v579 : BitVec 32 := Scalar.remsi v576 v578
  let c0_i32_325 : BitVec 32 := 0#32
  let v581 : BitVec 1 := Scalar.cmpi .slt v579 c0_i32_325
  let c0_i32_326 : BitVec 32 := 0#32
  let v582 : BitVec 1 := Scalar.cmpi .slt v578 c0_i32_326
  let v583 : BitVec 1 := Scalar.xori v581 v582
  let c0_i32_324 : BitVec 32 := 0#32
  let v580 : BitVec 1 := Scalar.cmpi .ne v579 c0_i32_324
  let v584 : BitVec 1 := Scalar.andi v583 v580
  let v585 : BitVec 32 := Scalar.addi v579 v578
  let v586 : BitVec 32 := Scalar.select v584 v585 v579
  let c0_i32_1332 : BitVec 32 := 0#32
  let c0_i32_1333 : BitVec 32 := 0#32
  ![v586.toNat, 0, 0]
def k0_dev23 (d0 : Dev nD) : Nat :=
  let c0_i32_1329 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c16_i32_319 : BitVec 32 := 16#32
  let v575 : BitVec 32 := Scalar.addi v20 c16_i32_319
  let c5_i32_320 : BitVec 32 := 5#32
  let v576 : BitVec 32 := Scalar.addi v575 c5_i32_320
  let c32_i32_321 : BitVec 32 := 32#32
  let c0_i32_322 : BitVec 32 := 0#32
  let v577 : BitVec 1 := Scalar.cmpi .eq c32_i32_321 c0_i32_322
  let c1_i32_323 : BitVec 32 := 1#32
  let v578 : BitVec 32 := Scalar.select v577 c1_i32_323 c32_i32_321
  let v579 : BitVec 32 := Scalar.remsi v576 v578
  let c0_i32_325 : BitVec 32 := 0#32
  let v581 : BitVec 1 := Scalar.cmpi .slt v579 c0_i32_325
  let c0_i32_326 : BitVec 32 := 0#32
  let v582 : BitVec 1 := Scalar.cmpi .slt v578 c0_i32_326
  let v583 : BitVec 1 := Scalar.xori v581 v582
  let c0_i32_324 : BitVec 32 := 0#32
  let v580 : BitVec 1 := Scalar.cmpi .ne v579 c0_i32_324
  let v584 : BitVec 1 := Scalar.andi v583 v580
  let v585 : BitVec 32 := Scalar.addi v579 v578
  let v586 : BitVec 32 := Scalar.select v584 v585 v579
  let c1_i32_1328 : BitVec 32 := 1#32
  let v2148 : BitVec 32 := Scalar.muli v586 c1_i32_1328
  let v2149 : BitVec 32 := Scalar.addi c0_i32_1329 v2148
  v2149.toNat
def k0_cond45 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c16_i32_329 : BitVec 32 := 16#32
  let v594 : BitVec 32 := Scalar.addi v20 c16_i32_329
  let c6_i32_330 : BitVec 32 := 6#32
  let v595 : BitVec 32 := Scalar.addi v594 c6_i32_330
  let c32_i32_331 : BitVec 32 := 32#32
  let c0_i32_332 : BitVec 32 := 0#32
  let v596 : BitVec 1 := Scalar.cmpi .eq c32_i32_331 c0_i32_332
  let c1_i32_333 : BitVec 32 := 1#32
  let v597 : BitVec 32 := Scalar.select v596 c1_i32_333 c32_i32_331
  let v598 : BitVec 32 := Scalar.remsi v595 v597
  let c0_i32_335 : BitVec 32 := 0#32
  let v600 : BitVec 1 := Scalar.cmpi .slt v598 c0_i32_335
  let c0_i32_336 : BitVec 32 := 0#32
  let v601 : BitVec 1 := Scalar.cmpi .slt v597 c0_i32_336
  let v602 : BitVec 1 := Scalar.xori v600 v601
  let c0_i32_334 : BitVec 32 := 0#32
  let v599 : BitVec 1 := Scalar.cmpi .ne v598 c0_i32_334
  let v603 : BitVec 1 := Scalar.andi v602 v599
  let v604 : BitVec 32 := Scalar.addi v598 v597
  let v605 : BitVec 32 := Scalar.select v603 v604 v598
  let v606 : BitVec 1 := Scalar.cmpi .eq v605 v2
  let v607 : BitVec 32 := Scalar.extui v606
  let c0_i32_337 : BitVec 32 := 0#32
  let v608 : BitVec 1 := Scalar.cmpi .ne v607 c0_i32_337
  v608

def k0_off134 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1326 : BitVec 32 := 128#32
  let v2143 : BitVec 32 := Scalar.muli v2 c128_i32_1326
  let v2144 : Index := Scalar.indexCast v2143
  let c0_1327 : Index := 0#32
  ![v2144.toNat, 0]
def k0_cond46 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c16_i32_329 : BitVec 32 := 16#32
  let v594 : BitVec 32 := Scalar.addi v20 c16_i32_329
  let c6_i32_330 : BitVec 32 := 6#32
  let v595 : BitVec 32 := Scalar.addi v594 c6_i32_330
  let c32_i32_331 : BitVec 32 := 32#32
  let c0_i32_332 : BitVec 32 := 0#32
  let v596 : BitVec 1 := Scalar.cmpi .eq c32_i32_331 c0_i32_332
  let c1_i32_333 : BitVec 32 := 1#32
  let v597 : BitVec 32 := Scalar.select v596 c1_i32_333 c32_i32_331
  let v598 : BitVec 32 := Scalar.remsi v595 v597
  let c0_i32_335 : BitVec 32 := 0#32
  let v600 : BitVec 1 := Scalar.cmpi .slt v598 c0_i32_335
  let c0_i32_336 : BitVec 32 := 0#32
  let v601 : BitVec 1 := Scalar.cmpi .slt v597 c0_i32_336
  let v602 : BitVec 1 := Scalar.xori v600 v601
  let c0_i32_334 : BitVec 32 := 0#32
  let v599 : BitVec 1 := Scalar.cmpi .ne v598 c0_i32_334
  let v603 : BitVec 1 := Scalar.andi v602 v599
  let v604 : BitVec 32 := Scalar.addi v598 v597
  let v605 : BitVec 32 := Scalar.select v603 v604 v598
  let v609 : BitVec 1 := Scalar.cmpi .ne v605 v2
  let v610 : BitVec 32 := Scalar.extui v609
  let c0_i32_338 : BitVec 32 := 0#32
  let v611 : BitVec 1 := Scalar.cmpi .ne v610 c0_i32_338
  v611

def k0_off135 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c16_i32_329 : BitVec 32 := 16#32
  let v594 : BitVec 32 := Scalar.addi v20 c16_i32_329
  let c6_i32_330 : BitVec 32 := 6#32
  let v595 : BitVec 32 := Scalar.addi v594 c6_i32_330
  let c32_i32_331 : BitVec 32 := 32#32
  let c0_i32_332 : BitVec 32 := 0#32
  let v596 : BitVec 1 := Scalar.cmpi .eq c32_i32_331 c0_i32_332
  let c1_i32_333 : BitVec 32 := 1#32
  let v597 : BitVec 32 := Scalar.select v596 c1_i32_333 c32_i32_331
  let v598 : BitVec 32 := Scalar.remsi v595 v597
  let c0_i32_335 : BitVec 32 := 0#32
  let v600 : BitVec 1 := Scalar.cmpi .slt v598 c0_i32_335
  let c0_i32_336 : BitVec 32 := 0#32
  let v601 : BitVec 1 := Scalar.cmpi .slt v597 c0_i32_336
  let v602 : BitVec 1 := Scalar.xori v600 v601
  let c0_i32_334 : BitVec 32 := 0#32
  let v599 : BitVec 1 := Scalar.cmpi .ne v598 c0_i32_334
  let v603 : BitVec 1 := Scalar.andi v602 v599
  let v604 : BitVec 32 := Scalar.addi v598 v597
  let v605 : BitVec 32 := Scalar.select v603 v604 v598
  let v2144 : Index := Scalar.indexCast v605
  let c0_1326 : Index := 0#32
  let c0_1327 : Index := 0#32
  ![v2144.toNat, 0, 0]
def k0_off136 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c16_i32_329 : BitVec 32 := 16#32
  let v594 : BitVec 32 := Scalar.addi v20 c16_i32_329
  let c6_i32_330 : BitVec 32 := 6#32
  let v595 : BitVec 32 := Scalar.addi v594 c6_i32_330
  let c32_i32_331 : BitVec 32 := 32#32
  let c0_i32_332 : BitVec 32 := 0#32
  let v596 : BitVec 1 := Scalar.cmpi .eq c32_i32_331 c0_i32_332
  let c1_i32_333 : BitVec 32 := 1#32
  let v597 : BitVec 32 := Scalar.select v596 c1_i32_333 c32_i32_331
  let v598 : BitVec 32 := Scalar.remsi v595 v597
  let c0_i32_335 : BitVec 32 := 0#32
  let v600 : BitVec 1 := Scalar.cmpi .slt v598 c0_i32_335
  let c0_i32_336 : BitVec 32 := 0#32
  let v601 : BitVec 1 := Scalar.cmpi .slt v597 c0_i32_336
  let v602 : BitVec 1 := Scalar.xori v600 v601
  let c0_i32_334 : BitVec 32 := 0#32
  let v599 : BitVec 1 := Scalar.cmpi .ne v598 c0_i32_334
  let v603 : BitVec 1 := Scalar.andi v602 v599
  let v604 : BitVec 32 := Scalar.addi v598 v597
  let v605 : BitVec 32 := Scalar.select v603 v604 v598
  ![v605.toNat]
def k0_off137 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off138 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1330 : BitVec 32 := 0#32
  let c0_i32_1331 : BitVec 32 := 0#32
  ![v2.toNat, 0, 0]
def k0_off139 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c16_i32_329 : BitVec 32 := 16#32
  let v594 : BitVec 32 := Scalar.addi v20 c16_i32_329
  let c6_i32_330 : BitVec 32 := 6#32
  let v595 : BitVec 32 := Scalar.addi v594 c6_i32_330
  let c32_i32_331 : BitVec 32 := 32#32
  let c0_i32_332 : BitVec 32 := 0#32
  let v596 : BitVec 1 := Scalar.cmpi .eq c32_i32_331 c0_i32_332
  let c1_i32_333 : BitVec 32 := 1#32
  let v597 : BitVec 32 := Scalar.select v596 c1_i32_333 c32_i32_331
  let v598 : BitVec 32 := Scalar.remsi v595 v597
  let c0_i32_335 : BitVec 32 := 0#32
  let v600 : BitVec 1 := Scalar.cmpi .slt v598 c0_i32_335
  let c0_i32_336 : BitVec 32 := 0#32
  let v601 : BitVec 1 := Scalar.cmpi .slt v597 c0_i32_336
  let v602 : BitVec 1 := Scalar.xori v600 v601
  let c0_i32_334 : BitVec 32 := 0#32
  let v599 : BitVec 1 := Scalar.cmpi .ne v598 c0_i32_334
  let v603 : BitVec 1 := Scalar.andi v602 v599
  let v604 : BitVec 32 := Scalar.addi v598 v597
  let v605 : BitVec 32 := Scalar.select v603 v604 v598
  let c0_i32_1332 : BitVec 32 := 0#32
  let c0_i32_1333 : BitVec 32 := 0#32
  ![v605.toNat, 0, 0]
def k0_dev24 (d0 : Dev nD) : Nat :=
  let c0_i32_1329 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c16_i32_329 : BitVec 32 := 16#32
  let v594 : BitVec 32 := Scalar.addi v20 c16_i32_329
  let c6_i32_330 : BitVec 32 := 6#32
  let v595 : BitVec 32 := Scalar.addi v594 c6_i32_330
  let c32_i32_331 : BitVec 32 := 32#32
  let c0_i32_332 : BitVec 32 := 0#32
  let v596 : BitVec 1 := Scalar.cmpi .eq c32_i32_331 c0_i32_332
  let c1_i32_333 : BitVec 32 := 1#32
  let v597 : BitVec 32 := Scalar.select v596 c1_i32_333 c32_i32_331
  let v598 : BitVec 32 := Scalar.remsi v595 v597
  let c0_i32_335 : BitVec 32 := 0#32
  let v600 : BitVec 1 := Scalar.cmpi .slt v598 c0_i32_335
  let c0_i32_336 : BitVec 32 := 0#32
  let v601 : BitVec 1 := Scalar.cmpi .slt v597 c0_i32_336
  let v602 : BitVec 1 := Scalar.xori v600 v601
  let c0_i32_334 : BitVec 32 := 0#32
  let v599 : BitVec 1 := Scalar.cmpi .ne v598 c0_i32_334
  let v603 : BitVec 1 := Scalar.andi v602 v599
  let v604 : BitVec 32 := Scalar.addi v598 v597
  let v605 : BitVec 32 := Scalar.select v603 v604 v598
  let c1_i32_1328 : BitVec 32 := 1#32
  let v2148 : BitVec 32 := Scalar.muli v605 c1_i32_1328
  let v2149 : BitVec 32 := Scalar.addi c0_i32_1329 v2148
  v2149.toNat
def k0_cond47 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c16_i32_339 : BitVec 32 := 16#32
  let v613 : BitVec 32 := Scalar.addi v20 c16_i32_339
  let c7_i32_340 : BitVec 32 := 7#32
  let v614 : BitVec 32 := Scalar.addi v613 c7_i32_340
  let c32_i32_341 : BitVec 32 := 32#32
  let c0_i32_342 : BitVec 32 := 0#32
  let v615 : BitVec 1 := Scalar.cmpi .eq c32_i32_341 c0_i32_342
  let c1_i32_343 : BitVec 32 := 1#32
  let v616 : BitVec 32 := Scalar.select v615 c1_i32_343 c32_i32_341
  let v617 : BitVec 32 := Scalar.remsi v614 v616
  let c0_i32_345 : BitVec 32 := 0#32
  let v619 : BitVec 1 := Scalar.cmpi .slt v617 c0_i32_345
  let c0_i32_346 : BitVec 32 := 0#32
  let v620 : BitVec 1 := Scalar.cmpi .slt v616 c0_i32_346
  let v621 : BitVec 1 := Scalar.xori v619 v620
  let c0_i32_344 : BitVec 32 := 0#32
  let v618 : BitVec 1 := Scalar.cmpi .ne v617 c0_i32_344
  let v622 : BitVec 1 := Scalar.andi v621 v618
  let v623 : BitVec 32 := Scalar.addi v617 v616
  let v624 : BitVec 32 := Scalar.select v622 v623 v617
  let v625 : BitVec 1 := Scalar.cmpi .eq v624 v2
  let v626 : BitVec 32 := Scalar.extui v625
  let c0_i32_347 : BitVec 32 := 0#32
  let v627 : BitVec 1 := Scalar.cmpi .ne v626 c0_i32_347
  v627

def k0_off140 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1326 : BitVec 32 := 128#32
  let v2143 : BitVec 32 := Scalar.muli v2 c128_i32_1326
  let v2144 : Index := Scalar.indexCast v2143
  let c0_1327 : Index := 0#32
  ![v2144.toNat, 0]
def k0_cond48 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c16_i32_339 : BitVec 32 := 16#32
  let v613 : BitVec 32 := Scalar.addi v20 c16_i32_339
  let c7_i32_340 : BitVec 32 := 7#32
  let v614 : BitVec 32 := Scalar.addi v613 c7_i32_340
  let c32_i32_341 : BitVec 32 := 32#32
  let c0_i32_342 : BitVec 32 := 0#32
  let v615 : BitVec 1 := Scalar.cmpi .eq c32_i32_341 c0_i32_342
  let c1_i32_343 : BitVec 32 := 1#32
  let v616 : BitVec 32 := Scalar.select v615 c1_i32_343 c32_i32_341
  let v617 : BitVec 32 := Scalar.remsi v614 v616
  let c0_i32_345 : BitVec 32 := 0#32
  let v619 : BitVec 1 := Scalar.cmpi .slt v617 c0_i32_345
  let c0_i32_346 : BitVec 32 := 0#32
  let v620 : BitVec 1 := Scalar.cmpi .slt v616 c0_i32_346
  let v621 : BitVec 1 := Scalar.xori v619 v620
  let c0_i32_344 : BitVec 32 := 0#32
  let v618 : BitVec 1 := Scalar.cmpi .ne v617 c0_i32_344
  let v622 : BitVec 1 := Scalar.andi v621 v618
  let v623 : BitVec 32 := Scalar.addi v617 v616
  let v624 : BitVec 32 := Scalar.select v622 v623 v617
  let v628 : BitVec 1 := Scalar.cmpi .ne v624 v2
  let v629 : BitVec 32 := Scalar.extui v628
  let c0_i32_348 : BitVec 32 := 0#32
  let v630 : BitVec 1 := Scalar.cmpi .ne v629 c0_i32_348
  v630

def k0_off141 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c16_i32_339 : BitVec 32 := 16#32
  let v613 : BitVec 32 := Scalar.addi v20 c16_i32_339
  let c7_i32_340 : BitVec 32 := 7#32
  let v614 : BitVec 32 := Scalar.addi v613 c7_i32_340
  let c32_i32_341 : BitVec 32 := 32#32
  let c0_i32_342 : BitVec 32 := 0#32
  let v615 : BitVec 1 := Scalar.cmpi .eq c32_i32_341 c0_i32_342
  let c1_i32_343 : BitVec 32 := 1#32
  let v616 : BitVec 32 := Scalar.select v615 c1_i32_343 c32_i32_341
  let v617 : BitVec 32 := Scalar.remsi v614 v616
  let c0_i32_345 : BitVec 32 := 0#32
  let v619 : BitVec 1 := Scalar.cmpi .slt v617 c0_i32_345
  let c0_i32_346 : BitVec 32 := 0#32
  let v620 : BitVec 1 := Scalar.cmpi .slt v616 c0_i32_346
  let v621 : BitVec 1 := Scalar.xori v619 v620
  let c0_i32_344 : BitVec 32 := 0#32
  let v618 : BitVec 1 := Scalar.cmpi .ne v617 c0_i32_344
  let v622 : BitVec 1 := Scalar.andi v621 v618
  let v623 : BitVec 32 := Scalar.addi v617 v616
  let v624 : BitVec 32 := Scalar.select v622 v623 v617
  let v2144 : Index := Scalar.indexCast v624
  let c0_1326 : Index := 0#32
  let c0_1327 : Index := 0#32
  ![v2144.toNat, 0, 0]
def k0_off142 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c16_i32_339 : BitVec 32 := 16#32
  let v613 : BitVec 32 := Scalar.addi v20 c16_i32_339
  let c7_i32_340 : BitVec 32 := 7#32
  let v614 : BitVec 32 := Scalar.addi v613 c7_i32_340
  let c32_i32_341 : BitVec 32 := 32#32
  let c0_i32_342 : BitVec 32 := 0#32
  let v615 : BitVec 1 := Scalar.cmpi .eq c32_i32_341 c0_i32_342
  let c1_i32_343 : BitVec 32 := 1#32
  let v616 : BitVec 32 := Scalar.select v615 c1_i32_343 c32_i32_341
  let v617 : BitVec 32 := Scalar.remsi v614 v616
  let c0_i32_345 : BitVec 32 := 0#32
  let v619 : BitVec 1 := Scalar.cmpi .slt v617 c0_i32_345
  let c0_i32_346 : BitVec 32 := 0#32
  let v620 : BitVec 1 := Scalar.cmpi .slt v616 c0_i32_346
  let v621 : BitVec 1 := Scalar.xori v619 v620
  let c0_i32_344 : BitVec 32 := 0#32
  let v618 : BitVec 1 := Scalar.cmpi .ne v617 c0_i32_344
  let v622 : BitVec 1 := Scalar.andi v621 v618
  let v623 : BitVec 32 := Scalar.addi v617 v616
  let v624 : BitVec 32 := Scalar.select v622 v623 v617
  ![v624.toNat]
def k0_off143 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off144 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1330 : BitVec 32 := 0#32
  let c0_i32_1331 : BitVec 32 := 0#32
  ![v2.toNat, 0, 0]
def k0_off145 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c16_i32_339 : BitVec 32 := 16#32
  let v613 : BitVec 32 := Scalar.addi v20 c16_i32_339
  let c7_i32_340 : BitVec 32 := 7#32
  let v614 : BitVec 32 := Scalar.addi v613 c7_i32_340
  let c32_i32_341 : BitVec 32 := 32#32
  let c0_i32_342 : BitVec 32 := 0#32
  let v615 : BitVec 1 := Scalar.cmpi .eq c32_i32_341 c0_i32_342
  let c1_i32_343 : BitVec 32 := 1#32
  let v616 : BitVec 32 := Scalar.select v615 c1_i32_343 c32_i32_341
  let v617 : BitVec 32 := Scalar.remsi v614 v616
  let c0_i32_345 : BitVec 32 := 0#32
  let v619 : BitVec 1 := Scalar.cmpi .slt v617 c0_i32_345
  let c0_i32_346 : BitVec 32 := 0#32
  let v620 : BitVec 1 := Scalar.cmpi .slt v616 c0_i32_346
  let v621 : BitVec 1 := Scalar.xori v619 v620
  let c0_i32_344 : BitVec 32 := 0#32
  let v618 : BitVec 1 := Scalar.cmpi .ne v617 c0_i32_344
  let v622 : BitVec 1 := Scalar.andi v621 v618
  let v623 : BitVec 32 := Scalar.addi v617 v616
  let v624 : BitVec 32 := Scalar.select v622 v623 v617
  let c0_i32_1332 : BitVec 32 := 0#32
  let c0_i32_1333 : BitVec 32 := 0#32
  ![v624.toNat, 0, 0]
def k0_dev25 (d0 : Dev nD) : Nat :=
  let c0_i32_1329 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c16_i32_339 : BitVec 32 := 16#32
  let v613 : BitVec 32 := Scalar.addi v20 c16_i32_339
  let c7_i32_340 : BitVec 32 := 7#32
  let v614 : BitVec 32 := Scalar.addi v613 c7_i32_340
  let c32_i32_341 : BitVec 32 := 32#32
  let c0_i32_342 : BitVec 32 := 0#32
  let v615 : BitVec 1 := Scalar.cmpi .eq c32_i32_341 c0_i32_342
  let c1_i32_343 : BitVec 32 := 1#32
  let v616 : BitVec 32 := Scalar.select v615 c1_i32_343 c32_i32_341
  let v617 : BitVec 32 := Scalar.remsi v614 v616
  let c0_i32_345 : BitVec 32 := 0#32
  let v619 : BitVec 1 := Scalar.cmpi .slt v617 c0_i32_345
  let c0_i32_346 : BitVec 32 := 0#32
  let v620 : BitVec 1 := Scalar.cmpi .slt v616 c0_i32_346
  let v621 : BitVec 1 := Scalar.xori v619 v620
  let c0_i32_344 : BitVec 32 := 0#32
  let v618 : BitVec 1 := Scalar.cmpi .ne v617 c0_i32_344
  let v622 : BitVec 1 := Scalar.andi v621 v618
  let v623 : BitVec 32 := Scalar.addi v617 v616
  let v624 : BitVec 32 := Scalar.select v622 v623 v617
  let c1_i32_1328 : BitVec 32 := 1#32
  let v2148 : BitVec 32 := Scalar.muli v624 c1_i32_1328
  let v2149 : BitVec 32 := Scalar.addi c0_i32_1329 v2148
  v2149.toNat
def k0_cond49 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c24_i32_368 : BitVec 32 := 24#32
  let v659 : BitVec 32 := Scalar.addi v20 c24_i32_368
  let c0_i32_369 : BitVec 32 := 0#32
  let v660 : BitVec 32 := Scalar.addi v659 c0_i32_369
  let c32_i32_370 : BitVec 32 := 32#32
  let c0_i32_371 : BitVec 32 := 0#32
  let v661 : BitVec 1 := Scalar.cmpi .eq c32_i32_370 c0_i32_371
  let c1_i32_372 : BitVec 32 := 1#32
  let v662 : BitVec 32 := Scalar.select v661 c1_i32_372 c32_i32_370
  let v663 : BitVec 32 := Scalar.remsi v660 v662
  let c0_i32_374 : BitVec 32 := 0#32
  let v665 : BitVec 1 := Scalar.cmpi .slt v663 c0_i32_374
  let c0_i32_375 : BitVec 32 := 0#32
  let v666 : BitVec 1 := Scalar.cmpi .slt v662 c0_i32_375
  let v667 : BitVec 1 := Scalar.xori v665 v666
  let c0_i32_373 : BitVec 32 := 0#32
  let v664 : BitVec 1 := Scalar.cmpi .ne v663 c0_i32_373
  let v668 : BitVec 1 := Scalar.andi v667 v664
  let v669 : BitVec 32 := Scalar.addi v663 v662
  let v670 : BitVec 32 := Scalar.select v668 v669 v663
  let v671 : BitVec 1 := Scalar.cmpi .eq v670 v2
  let v672 : BitVec 32 := Scalar.extui v671
  let c0_i32_376 : BitVec 32 := 0#32
  let v673 : BitVec 1 := Scalar.cmpi .ne v672 c0_i32_376
  v673

def k0_off146 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1326 : BitVec 32 := 128#32
  let v2143 : BitVec 32 := Scalar.muli v2 c128_i32_1326
  let v2144 : Index := Scalar.indexCast v2143
  let c0_1327 : Index := 0#32
  ![v2144.toNat, 0]
def k0_cond50 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c24_i32_368 : BitVec 32 := 24#32
  let v659 : BitVec 32 := Scalar.addi v20 c24_i32_368
  let c0_i32_369 : BitVec 32 := 0#32
  let v660 : BitVec 32 := Scalar.addi v659 c0_i32_369
  let c32_i32_370 : BitVec 32 := 32#32
  let c0_i32_371 : BitVec 32 := 0#32
  let v661 : BitVec 1 := Scalar.cmpi .eq c32_i32_370 c0_i32_371
  let c1_i32_372 : BitVec 32 := 1#32
  let v662 : BitVec 32 := Scalar.select v661 c1_i32_372 c32_i32_370
  let v663 : BitVec 32 := Scalar.remsi v660 v662
  let c0_i32_374 : BitVec 32 := 0#32
  let v665 : BitVec 1 := Scalar.cmpi .slt v663 c0_i32_374
  let c0_i32_375 : BitVec 32 := 0#32
  let v666 : BitVec 1 := Scalar.cmpi .slt v662 c0_i32_375
  let v667 : BitVec 1 := Scalar.xori v665 v666
  let c0_i32_373 : BitVec 32 := 0#32
  let v664 : BitVec 1 := Scalar.cmpi .ne v663 c0_i32_373
  let v668 : BitVec 1 := Scalar.andi v667 v664
  let v669 : BitVec 32 := Scalar.addi v663 v662
  let v670 : BitVec 32 := Scalar.select v668 v669 v663
  let v674 : BitVec 1 := Scalar.cmpi .ne v670 v2
  let v675 : BitVec 32 := Scalar.extui v674
  let c0_i32_377 : BitVec 32 := 0#32
  let v676 : BitVec 1 := Scalar.cmpi .ne v675 c0_i32_377
  v676

def k0_off147 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c24_i32_368 : BitVec 32 := 24#32
  let v659 : BitVec 32 := Scalar.addi v20 c24_i32_368
  let c0_i32_369 : BitVec 32 := 0#32
  let v660 : BitVec 32 := Scalar.addi v659 c0_i32_369
  let c32_i32_370 : BitVec 32 := 32#32
  let c0_i32_371 : BitVec 32 := 0#32
  let v661 : BitVec 1 := Scalar.cmpi .eq c32_i32_370 c0_i32_371
  let c1_i32_372 : BitVec 32 := 1#32
  let v662 : BitVec 32 := Scalar.select v661 c1_i32_372 c32_i32_370
  let v663 : BitVec 32 := Scalar.remsi v660 v662
  let c0_i32_374 : BitVec 32 := 0#32
  let v665 : BitVec 1 := Scalar.cmpi .slt v663 c0_i32_374
  let c0_i32_375 : BitVec 32 := 0#32
  let v666 : BitVec 1 := Scalar.cmpi .slt v662 c0_i32_375
  let v667 : BitVec 1 := Scalar.xori v665 v666
  let c0_i32_373 : BitVec 32 := 0#32
  let v664 : BitVec 1 := Scalar.cmpi .ne v663 c0_i32_373
  let v668 : BitVec 1 := Scalar.andi v667 v664
  let v669 : BitVec 32 := Scalar.addi v663 v662
  let v670 : BitVec 32 := Scalar.select v668 v669 v663
  let v2144 : Index := Scalar.indexCast v670
  let c0_1326 : Index := 0#32
  let c0_1327 : Index := 0#32
  ![v2144.toNat, 0, 0]
def k0_off148 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c24_i32_368 : BitVec 32 := 24#32
  let v659 : BitVec 32 := Scalar.addi v20 c24_i32_368
  let c0_i32_369 : BitVec 32 := 0#32
  let v660 : BitVec 32 := Scalar.addi v659 c0_i32_369
  let c32_i32_370 : BitVec 32 := 32#32
  let c0_i32_371 : BitVec 32 := 0#32
  let v661 : BitVec 1 := Scalar.cmpi .eq c32_i32_370 c0_i32_371
  let c1_i32_372 : BitVec 32 := 1#32
  let v662 : BitVec 32 := Scalar.select v661 c1_i32_372 c32_i32_370
  let v663 : BitVec 32 := Scalar.remsi v660 v662
  let c0_i32_374 : BitVec 32 := 0#32
  let v665 : BitVec 1 := Scalar.cmpi .slt v663 c0_i32_374
  let c0_i32_375 : BitVec 32 := 0#32
  let v666 : BitVec 1 := Scalar.cmpi .slt v662 c0_i32_375
  let v667 : BitVec 1 := Scalar.xori v665 v666
  let c0_i32_373 : BitVec 32 := 0#32
  let v664 : BitVec 1 := Scalar.cmpi .ne v663 c0_i32_373
  let v668 : BitVec 1 := Scalar.andi v667 v664
  let v669 : BitVec 32 := Scalar.addi v663 v662
  let v670 : BitVec 32 := Scalar.select v668 v669 v663
  ![v670.toNat]
def k0_off149 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off150 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1330 : BitVec 32 := 0#32
  let c0_i32_1331 : BitVec 32 := 0#32
  ![v2.toNat, 0, 0]
def k0_off151 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c24_i32_368 : BitVec 32 := 24#32
  let v659 : BitVec 32 := Scalar.addi v20 c24_i32_368
  let c0_i32_369 : BitVec 32 := 0#32
  let v660 : BitVec 32 := Scalar.addi v659 c0_i32_369
  let c32_i32_370 : BitVec 32 := 32#32
  let c0_i32_371 : BitVec 32 := 0#32
  let v661 : BitVec 1 := Scalar.cmpi .eq c32_i32_370 c0_i32_371
  let c1_i32_372 : BitVec 32 := 1#32
  let v662 : BitVec 32 := Scalar.select v661 c1_i32_372 c32_i32_370
  let v663 : BitVec 32 := Scalar.remsi v660 v662
  let c0_i32_374 : BitVec 32 := 0#32
  let v665 : BitVec 1 := Scalar.cmpi .slt v663 c0_i32_374
  let c0_i32_375 : BitVec 32 := 0#32
  let v666 : BitVec 1 := Scalar.cmpi .slt v662 c0_i32_375
  let v667 : BitVec 1 := Scalar.xori v665 v666
  let c0_i32_373 : BitVec 32 := 0#32
  let v664 : BitVec 1 := Scalar.cmpi .ne v663 c0_i32_373
  let v668 : BitVec 1 := Scalar.andi v667 v664
  let v669 : BitVec 32 := Scalar.addi v663 v662
  let v670 : BitVec 32 := Scalar.select v668 v669 v663
  let c0_i32_1332 : BitVec 32 := 0#32
  let c0_i32_1333 : BitVec 32 := 0#32
  ![v670.toNat, 0, 0]
def k0_dev26 (d0 : Dev nD) : Nat :=
  let c0_i32_1329 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c24_i32_368 : BitVec 32 := 24#32
  let v659 : BitVec 32 := Scalar.addi v20 c24_i32_368
  let c0_i32_369 : BitVec 32 := 0#32
  let v660 : BitVec 32 := Scalar.addi v659 c0_i32_369
  let c32_i32_370 : BitVec 32 := 32#32
  let c0_i32_371 : BitVec 32 := 0#32
  let v661 : BitVec 1 := Scalar.cmpi .eq c32_i32_370 c0_i32_371
  let c1_i32_372 : BitVec 32 := 1#32
  let v662 : BitVec 32 := Scalar.select v661 c1_i32_372 c32_i32_370
  let v663 : BitVec 32 := Scalar.remsi v660 v662
  let c0_i32_374 : BitVec 32 := 0#32
  let v665 : BitVec 1 := Scalar.cmpi .slt v663 c0_i32_374
  let c0_i32_375 : BitVec 32 := 0#32
  let v666 : BitVec 1 := Scalar.cmpi .slt v662 c0_i32_375
  let v667 : BitVec 1 := Scalar.xori v665 v666
  let c0_i32_373 : BitVec 32 := 0#32
  let v664 : BitVec 1 := Scalar.cmpi .ne v663 c0_i32_373
  let v668 : BitVec 1 := Scalar.andi v667 v664
  let v669 : BitVec 32 := Scalar.addi v663 v662
  let v670 : BitVec 32 := Scalar.select v668 v669 v663
  let c1_i32_1328 : BitVec 32 := 1#32
  let v2148 : BitVec 32 := Scalar.muli v670 c1_i32_1328
  let v2149 : BitVec 32 := Scalar.addi c0_i32_1329 v2148
  v2149.toNat
def k0_cond51 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c24_i32_378 : BitVec 32 := 24#32
  let v678 : BitVec 32 := Scalar.addi v20 c24_i32_378
  let c1_i32_379 : BitVec 32 := 1#32
  let v679 : BitVec 32 := Scalar.addi v678 c1_i32_379
  let c32_i32_380 : BitVec 32 := 32#32
  let c0_i32_381 : BitVec 32 := 0#32
  let v680 : BitVec 1 := Scalar.cmpi .eq c32_i32_380 c0_i32_381
  let c1_i32_382 : BitVec 32 := 1#32
  let v681 : BitVec 32 := Scalar.select v680 c1_i32_382 c32_i32_380
  let v682 : BitVec 32 := Scalar.remsi v679 v681
  let c0_i32_384 : BitVec 32 := 0#32
  let v684 : BitVec 1 := Scalar.cmpi .slt v682 c0_i32_384
  let c0_i32_385 : BitVec 32 := 0#32
  let v685 : BitVec 1 := Scalar.cmpi .slt v681 c0_i32_385
  let v686 : BitVec 1 := Scalar.xori v684 v685
  let c0_i32_383 : BitVec 32 := 0#32
  let v683 : BitVec 1 := Scalar.cmpi .ne v682 c0_i32_383
  let v687 : BitVec 1 := Scalar.andi v686 v683
  let v688 : BitVec 32 := Scalar.addi v682 v681
  let v689 : BitVec 32 := Scalar.select v687 v688 v682
  let v690 : BitVec 1 := Scalar.cmpi .eq v689 v2
  let v691 : BitVec 32 := Scalar.extui v690
  let c0_i32_386 : BitVec 32 := 0#32
  let v692 : BitVec 1 := Scalar.cmpi .ne v691 c0_i32_386
  v692

def k0_off152 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1326 : BitVec 32 := 128#32
  let v2143 : BitVec 32 := Scalar.muli v2 c128_i32_1326
  let v2144 : Index := Scalar.indexCast v2143
  let c0_1327 : Index := 0#32
  ![v2144.toNat, 0]
def k0_cond52 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c24_i32_378 : BitVec 32 := 24#32
  let v678 : BitVec 32 := Scalar.addi v20 c24_i32_378
  let c1_i32_379 : BitVec 32 := 1#32
  let v679 : BitVec 32 := Scalar.addi v678 c1_i32_379
  let c32_i32_380 : BitVec 32 := 32#32
  let c0_i32_381 : BitVec 32 := 0#32
  let v680 : BitVec 1 := Scalar.cmpi .eq c32_i32_380 c0_i32_381
  let c1_i32_382 : BitVec 32 := 1#32
  let v681 : BitVec 32 := Scalar.select v680 c1_i32_382 c32_i32_380
  let v682 : BitVec 32 := Scalar.remsi v679 v681
  let c0_i32_384 : BitVec 32 := 0#32
  let v684 : BitVec 1 := Scalar.cmpi .slt v682 c0_i32_384
  let c0_i32_385 : BitVec 32 := 0#32
  let v685 : BitVec 1 := Scalar.cmpi .slt v681 c0_i32_385
  let v686 : BitVec 1 := Scalar.xori v684 v685
  let c0_i32_383 : BitVec 32 := 0#32
  let v683 : BitVec 1 := Scalar.cmpi .ne v682 c0_i32_383
  let v687 : BitVec 1 := Scalar.andi v686 v683
  let v688 : BitVec 32 := Scalar.addi v682 v681
  let v689 : BitVec 32 := Scalar.select v687 v688 v682
  let v693 : BitVec 1 := Scalar.cmpi .ne v689 v2
  let v694 : BitVec 32 := Scalar.extui v693
  let c0_i32_387 : BitVec 32 := 0#32
  let v695 : BitVec 1 := Scalar.cmpi .ne v694 c0_i32_387
  v695

def k0_off153 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c24_i32_378 : BitVec 32 := 24#32
  let v678 : BitVec 32 := Scalar.addi v20 c24_i32_378
  let c1_i32_379 : BitVec 32 := 1#32
  let v679 : BitVec 32 := Scalar.addi v678 c1_i32_379
  let c32_i32_380 : BitVec 32 := 32#32
  let c0_i32_381 : BitVec 32 := 0#32
  let v680 : BitVec 1 := Scalar.cmpi .eq c32_i32_380 c0_i32_381
  let c1_i32_382 : BitVec 32 := 1#32
  let v681 : BitVec 32 := Scalar.select v680 c1_i32_382 c32_i32_380
  let v682 : BitVec 32 := Scalar.remsi v679 v681
  let c0_i32_384 : BitVec 32 := 0#32
  let v684 : BitVec 1 := Scalar.cmpi .slt v682 c0_i32_384
  let c0_i32_385 : BitVec 32 := 0#32
  let v685 : BitVec 1 := Scalar.cmpi .slt v681 c0_i32_385
  let v686 : BitVec 1 := Scalar.xori v684 v685
  let c0_i32_383 : BitVec 32 := 0#32
  let v683 : BitVec 1 := Scalar.cmpi .ne v682 c0_i32_383
  let v687 : BitVec 1 := Scalar.andi v686 v683
  let v688 : BitVec 32 := Scalar.addi v682 v681
  let v689 : BitVec 32 := Scalar.select v687 v688 v682
  let v2144 : Index := Scalar.indexCast v689
  let c0_1326 : Index := 0#32
  let c0_1327 : Index := 0#32
  ![v2144.toNat, 0, 0]
def k0_off154 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c24_i32_378 : BitVec 32 := 24#32
  let v678 : BitVec 32 := Scalar.addi v20 c24_i32_378
  let c1_i32_379 : BitVec 32 := 1#32
  let v679 : BitVec 32 := Scalar.addi v678 c1_i32_379
  let c32_i32_380 : BitVec 32 := 32#32
  let c0_i32_381 : BitVec 32 := 0#32
  let v680 : BitVec 1 := Scalar.cmpi .eq c32_i32_380 c0_i32_381
  let c1_i32_382 : BitVec 32 := 1#32
  let v681 : BitVec 32 := Scalar.select v680 c1_i32_382 c32_i32_380
  let v682 : BitVec 32 := Scalar.remsi v679 v681
  let c0_i32_384 : BitVec 32 := 0#32
  let v684 : BitVec 1 := Scalar.cmpi .slt v682 c0_i32_384
  let c0_i32_385 : BitVec 32 := 0#32
  let v685 : BitVec 1 := Scalar.cmpi .slt v681 c0_i32_385
  let v686 : BitVec 1 := Scalar.xori v684 v685
  let c0_i32_383 : BitVec 32 := 0#32
  let v683 : BitVec 1 := Scalar.cmpi .ne v682 c0_i32_383
  let v687 : BitVec 1 := Scalar.andi v686 v683
  let v688 : BitVec 32 := Scalar.addi v682 v681
  let v689 : BitVec 32 := Scalar.select v687 v688 v682
  ![v689.toNat]
def k0_off155 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off156 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1330 : BitVec 32 := 0#32
  let c0_i32_1331 : BitVec 32 := 0#32
  ![v2.toNat, 0, 0]
def k0_off157 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c24_i32_378 : BitVec 32 := 24#32
  let v678 : BitVec 32 := Scalar.addi v20 c24_i32_378
  let c1_i32_379 : BitVec 32 := 1#32
  let v679 : BitVec 32 := Scalar.addi v678 c1_i32_379
  let c32_i32_380 : BitVec 32 := 32#32
  let c0_i32_381 : BitVec 32 := 0#32
  let v680 : BitVec 1 := Scalar.cmpi .eq c32_i32_380 c0_i32_381
  let c1_i32_382 : BitVec 32 := 1#32
  let v681 : BitVec 32 := Scalar.select v680 c1_i32_382 c32_i32_380
  let v682 : BitVec 32 := Scalar.remsi v679 v681
  let c0_i32_384 : BitVec 32 := 0#32
  let v684 : BitVec 1 := Scalar.cmpi .slt v682 c0_i32_384
  let c0_i32_385 : BitVec 32 := 0#32
  let v685 : BitVec 1 := Scalar.cmpi .slt v681 c0_i32_385
  let v686 : BitVec 1 := Scalar.xori v684 v685
  let c0_i32_383 : BitVec 32 := 0#32
  let v683 : BitVec 1 := Scalar.cmpi .ne v682 c0_i32_383
  let v687 : BitVec 1 := Scalar.andi v686 v683
  let v688 : BitVec 32 := Scalar.addi v682 v681
  let v689 : BitVec 32 := Scalar.select v687 v688 v682
  let c0_i32_1332 : BitVec 32 := 0#32
  let c0_i32_1333 : BitVec 32 := 0#32
  ![v689.toNat, 0, 0]
def k0_dev27 (d0 : Dev nD) : Nat :=
  let c0_i32_1329 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c24_i32_378 : BitVec 32 := 24#32
  let v678 : BitVec 32 := Scalar.addi v20 c24_i32_378
  let c1_i32_379 : BitVec 32 := 1#32
  let v679 : BitVec 32 := Scalar.addi v678 c1_i32_379
  let c32_i32_380 : BitVec 32 := 32#32
  let c0_i32_381 : BitVec 32 := 0#32
  let v680 : BitVec 1 := Scalar.cmpi .eq c32_i32_380 c0_i32_381
  let c1_i32_382 : BitVec 32 := 1#32
  let v681 : BitVec 32 := Scalar.select v680 c1_i32_382 c32_i32_380
  let v682 : BitVec 32 := Scalar.remsi v679 v681
  let c0_i32_384 : BitVec 32 := 0#32
  let v684 : BitVec 1 := Scalar.cmpi .slt v682 c0_i32_384
  let c0_i32_385 : BitVec 32 := 0#32
  let v685 : BitVec 1 := Scalar.cmpi .slt v681 c0_i32_385
  let v686 : BitVec 1 := Scalar.xori v684 v685
  let c0_i32_383 : BitVec 32 := 0#32
  let v683 : BitVec 1 := Scalar.cmpi .ne v682 c0_i32_383
  let v687 : BitVec 1 := Scalar.andi v686 v683
  let v688 : BitVec 32 := Scalar.addi v682 v681
  let v689 : BitVec 32 := Scalar.select v687 v688 v682
  let c1_i32_1328 : BitVec 32 := 1#32
  let v2148 : BitVec 32 := Scalar.muli v689 c1_i32_1328
  let v2149 : BitVec 32 := Scalar.addi c0_i32_1329 v2148
  v2149.toNat
def k0_cond53 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c24_i32_388 : BitVec 32 := 24#32
  let v697 : BitVec 32 := Scalar.addi v20 c24_i32_388
  let c2_i32_389 : BitVec 32 := 2#32
  let v698 : BitVec 32 := Scalar.addi v697 c2_i32_389
  let c32_i32_390 : BitVec 32 := 32#32
  let c0_i32_391 : BitVec 32 := 0#32
  let v699 : BitVec 1 := Scalar.cmpi .eq c32_i32_390 c0_i32_391
  let c1_i32_392 : BitVec 32 := 1#32
  let v700 : BitVec 32 := Scalar.select v699 c1_i32_392 c32_i32_390
  let v701 : BitVec 32 := Scalar.remsi v698 v700
  let c0_i32_394 : BitVec 32 := 0#32
  let v703 : BitVec 1 := Scalar.cmpi .slt v701 c0_i32_394
  let c0_i32_395 : BitVec 32 := 0#32
  let v704 : BitVec 1 := Scalar.cmpi .slt v700 c0_i32_395
  let v705 : BitVec 1 := Scalar.xori v703 v704
  let c0_i32_393 : BitVec 32 := 0#32
  let v702 : BitVec 1 := Scalar.cmpi .ne v701 c0_i32_393
  let v706 : BitVec 1 := Scalar.andi v705 v702
  let v707 : BitVec 32 := Scalar.addi v701 v700
  let v708 : BitVec 32 := Scalar.select v706 v707 v701
  let v709 : BitVec 1 := Scalar.cmpi .eq v708 v2
  let v710 : BitVec 32 := Scalar.extui v709
  let c0_i32_396 : BitVec 32 := 0#32
  let v711 : BitVec 1 := Scalar.cmpi .ne v710 c0_i32_396
  v711

def k0_off158 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1326 : BitVec 32 := 128#32
  let v2143 : BitVec 32 := Scalar.muli v2 c128_i32_1326
  let v2144 : Index := Scalar.indexCast v2143
  let c0_1327 : Index := 0#32
  ![v2144.toNat, 0]
def k0_cond54 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c24_i32_388 : BitVec 32 := 24#32
  let v697 : BitVec 32 := Scalar.addi v20 c24_i32_388
  let c2_i32_389 : BitVec 32 := 2#32
  let v698 : BitVec 32 := Scalar.addi v697 c2_i32_389
  let c32_i32_390 : BitVec 32 := 32#32
  let c0_i32_391 : BitVec 32 := 0#32
  let v699 : BitVec 1 := Scalar.cmpi .eq c32_i32_390 c0_i32_391
  let c1_i32_392 : BitVec 32 := 1#32
  let v700 : BitVec 32 := Scalar.select v699 c1_i32_392 c32_i32_390
  let v701 : BitVec 32 := Scalar.remsi v698 v700
  let c0_i32_394 : BitVec 32 := 0#32
  let v703 : BitVec 1 := Scalar.cmpi .slt v701 c0_i32_394
  let c0_i32_395 : BitVec 32 := 0#32
  let v704 : BitVec 1 := Scalar.cmpi .slt v700 c0_i32_395
  let v705 : BitVec 1 := Scalar.xori v703 v704
  let c0_i32_393 : BitVec 32 := 0#32
  let v702 : BitVec 1 := Scalar.cmpi .ne v701 c0_i32_393
  let v706 : BitVec 1 := Scalar.andi v705 v702
  let v707 : BitVec 32 := Scalar.addi v701 v700
  let v708 : BitVec 32 := Scalar.select v706 v707 v701
  let v712 : BitVec 1 := Scalar.cmpi .ne v708 v2
  let v713 : BitVec 32 := Scalar.extui v712
  let c0_i32_397 : BitVec 32 := 0#32
  let v714 : BitVec 1 := Scalar.cmpi .ne v713 c0_i32_397
  v714

def k0_off159 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c24_i32_388 : BitVec 32 := 24#32
  let v697 : BitVec 32 := Scalar.addi v20 c24_i32_388
  let c2_i32_389 : BitVec 32 := 2#32
  let v698 : BitVec 32 := Scalar.addi v697 c2_i32_389
  let c32_i32_390 : BitVec 32 := 32#32
  let c0_i32_391 : BitVec 32 := 0#32
  let v699 : BitVec 1 := Scalar.cmpi .eq c32_i32_390 c0_i32_391
  let c1_i32_392 : BitVec 32 := 1#32
  let v700 : BitVec 32 := Scalar.select v699 c1_i32_392 c32_i32_390
  let v701 : BitVec 32 := Scalar.remsi v698 v700
  let c0_i32_394 : BitVec 32 := 0#32
  let v703 : BitVec 1 := Scalar.cmpi .slt v701 c0_i32_394
  let c0_i32_395 : BitVec 32 := 0#32
  let v704 : BitVec 1 := Scalar.cmpi .slt v700 c0_i32_395
  let v705 : BitVec 1 := Scalar.xori v703 v704
  let c0_i32_393 : BitVec 32 := 0#32
  let v702 : BitVec 1 := Scalar.cmpi .ne v701 c0_i32_393
  let v706 : BitVec 1 := Scalar.andi v705 v702
  let v707 : BitVec 32 := Scalar.addi v701 v700
  let v708 : BitVec 32 := Scalar.select v706 v707 v701
  let v2144 : Index := Scalar.indexCast v708
  let c0_1326 : Index := 0#32
  let c0_1327 : Index := 0#32
  ![v2144.toNat, 0, 0]
def k0_off160 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c24_i32_388 : BitVec 32 := 24#32
  let v697 : BitVec 32 := Scalar.addi v20 c24_i32_388
  let c2_i32_389 : BitVec 32 := 2#32
  let v698 : BitVec 32 := Scalar.addi v697 c2_i32_389
  let c32_i32_390 : BitVec 32 := 32#32
  let c0_i32_391 : BitVec 32 := 0#32
  let v699 : BitVec 1 := Scalar.cmpi .eq c32_i32_390 c0_i32_391
  let c1_i32_392 : BitVec 32 := 1#32
  let v700 : BitVec 32 := Scalar.select v699 c1_i32_392 c32_i32_390
  let v701 : BitVec 32 := Scalar.remsi v698 v700
  let c0_i32_394 : BitVec 32 := 0#32
  let v703 : BitVec 1 := Scalar.cmpi .slt v701 c0_i32_394
  let c0_i32_395 : BitVec 32 := 0#32
  let v704 : BitVec 1 := Scalar.cmpi .slt v700 c0_i32_395
  let v705 : BitVec 1 := Scalar.xori v703 v704
  let c0_i32_393 : BitVec 32 := 0#32
  let v702 : BitVec 1 := Scalar.cmpi .ne v701 c0_i32_393
  let v706 : BitVec 1 := Scalar.andi v705 v702
  let v707 : BitVec 32 := Scalar.addi v701 v700
  let v708 : BitVec 32 := Scalar.select v706 v707 v701
  ![v708.toNat]
def k0_off161 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off162 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1330 : BitVec 32 := 0#32
  let c0_i32_1331 : BitVec 32 := 0#32
  ![v2.toNat, 0, 0]
def k0_off163 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c24_i32_388 : BitVec 32 := 24#32
  let v697 : BitVec 32 := Scalar.addi v20 c24_i32_388
  let c2_i32_389 : BitVec 32 := 2#32
  let v698 : BitVec 32 := Scalar.addi v697 c2_i32_389
  let c32_i32_390 : BitVec 32 := 32#32
  let c0_i32_391 : BitVec 32 := 0#32
  let v699 : BitVec 1 := Scalar.cmpi .eq c32_i32_390 c0_i32_391
  let c1_i32_392 : BitVec 32 := 1#32
  let v700 : BitVec 32 := Scalar.select v699 c1_i32_392 c32_i32_390
  let v701 : BitVec 32 := Scalar.remsi v698 v700
  let c0_i32_394 : BitVec 32 := 0#32
  let v703 : BitVec 1 := Scalar.cmpi .slt v701 c0_i32_394
  let c0_i32_395 : BitVec 32 := 0#32
  let v704 : BitVec 1 := Scalar.cmpi .slt v700 c0_i32_395
  let v705 : BitVec 1 := Scalar.xori v703 v704
  let c0_i32_393 : BitVec 32 := 0#32
  let v702 : BitVec 1 := Scalar.cmpi .ne v701 c0_i32_393
  let v706 : BitVec 1 := Scalar.andi v705 v702
  let v707 : BitVec 32 := Scalar.addi v701 v700
  let v708 : BitVec 32 := Scalar.select v706 v707 v701
  let c0_i32_1332 : BitVec 32 := 0#32
  let c0_i32_1333 : BitVec 32 := 0#32
  ![v708.toNat, 0, 0]
def k0_dev28 (d0 : Dev nD) : Nat :=
  let c0_i32_1329 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c24_i32_388 : BitVec 32 := 24#32
  let v697 : BitVec 32 := Scalar.addi v20 c24_i32_388
  let c2_i32_389 : BitVec 32 := 2#32
  let v698 : BitVec 32 := Scalar.addi v697 c2_i32_389
  let c32_i32_390 : BitVec 32 := 32#32
  let c0_i32_391 : BitVec 32 := 0#32
  let v699 : BitVec 1 := Scalar.cmpi .eq c32_i32_390 c0_i32_391
  let c1_i32_392 : BitVec 32 := 1#32
  let v700 : BitVec 32 := Scalar.select v699 c1_i32_392 c32_i32_390
  let v701 : BitVec 32 := Scalar.remsi v698 v700
  let c0_i32_394 : BitVec 32 := 0#32
  let v703 : BitVec 1 := Scalar.cmpi .slt v701 c0_i32_394
  let c0_i32_395 : BitVec 32 := 0#32
  let v704 : BitVec 1 := Scalar.cmpi .slt v700 c0_i32_395
  let v705 : BitVec 1 := Scalar.xori v703 v704
  let c0_i32_393 : BitVec 32 := 0#32
  let v702 : BitVec 1 := Scalar.cmpi .ne v701 c0_i32_393
  let v706 : BitVec 1 := Scalar.andi v705 v702
  let v707 : BitVec 32 := Scalar.addi v701 v700
  let v708 : BitVec 32 := Scalar.select v706 v707 v701
  let c1_i32_1328 : BitVec 32 := 1#32
  let v2148 : BitVec 32 := Scalar.muli v708 c1_i32_1328
  let v2149 : BitVec 32 := Scalar.addi c0_i32_1329 v2148
  v2149.toNat
def k0_cond55 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c24_i32_398 : BitVec 32 := 24#32
  let v716 : BitVec 32 := Scalar.addi v20 c24_i32_398
  let c3_i32_399 : BitVec 32 := 3#32
  let v717 : BitVec 32 := Scalar.addi v716 c3_i32_399
  let c32_i32_400 : BitVec 32 := 32#32
  let c0_i32_401 : BitVec 32 := 0#32
  let v718 : BitVec 1 := Scalar.cmpi .eq c32_i32_400 c0_i32_401
  let c1_i32_402 : BitVec 32 := 1#32
  let v719 : BitVec 32 := Scalar.select v718 c1_i32_402 c32_i32_400
  let v720 : BitVec 32 := Scalar.remsi v717 v719
  let c0_i32_404 : BitVec 32 := 0#32
  let v722 : BitVec 1 := Scalar.cmpi .slt v720 c0_i32_404
  let c0_i32_405 : BitVec 32 := 0#32
  let v723 : BitVec 1 := Scalar.cmpi .slt v719 c0_i32_405
  let v724 : BitVec 1 := Scalar.xori v722 v723
  let c0_i32_403 : BitVec 32 := 0#32
  let v721 : BitVec 1 := Scalar.cmpi .ne v720 c0_i32_403
  let v725 : BitVec 1 := Scalar.andi v724 v721
  let v726 : BitVec 32 := Scalar.addi v720 v719
  let v727 : BitVec 32 := Scalar.select v725 v726 v720
  let v728 : BitVec 1 := Scalar.cmpi .eq v727 v2
  let v729 : BitVec 32 := Scalar.extui v728
  let c0_i32_406 : BitVec 32 := 0#32
  let v730 : BitVec 1 := Scalar.cmpi .ne v729 c0_i32_406
  v730

def k0_off164 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1326 : BitVec 32 := 128#32
  let v2143 : BitVec 32 := Scalar.muli v2 c128_i32_1326
  let v2144 : Index := Scalar.indexCast v2143
  let c0_1327 : Index := 0#32
  ![v2144.toNat, 0]
def k0_cond56 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c24_i32_398 : BitVec 32 := 24#32
  let v716 : BitVec 32 := Scalar.addi v20 c24_i32_398
  let c3_i32_399 : BitVec 32 := 3#32
  let v717 : BitVec 32 := Scalar.addi v716 c3_i32_399
  let c32_i32_400 : BitVec 32 := 32#32
  let c0_i32_401 : BitVec 32 := 0#32
  let v718 : BitVec 1 := Scalar.cmpi .eq c32_i32_400 c0_i32_401
  let c1_i32_402 : BitVec 32 := 1#32
  let v719 : BitVec 32 := Scalar.select v718 c1_i32_402 c32_i32_400
  let v720 : BitVec 32 := Scalar.remsi v717 v719
  let c0_i32_404 : BitVec 32 := 0#32
  let v722 : BitVec 1 := Scalar.cmpi .slt v720 c0_i32_404
  let c0_i32_405 : BitVec 32 := 0#32
  let v723 : BitVec 1 := Scalar.cmpi .slt v719 c0_i32_405
  let v724 : BitVec 1 := Scalar.xori v722 v723
  let c0_i32_403 : BitVec 32 := 0#32
  let v721 : BitVec 1 := Scalar.cmpi .ne v720 c0_i32_403
  let v725 : BitVec 1 := Scalar.andi v724 v721
  let v726 : BitVec 32 := Scalar.addi v720 v719
  let v727 : BitVec 32 := Scalar.select v725 v726 v720
  let v731 : BitVec 1 := Scalar.cmpi .ne v727 v2
  let v732 : BitVec 32 := Scalar.extui v731
  let c0_i32_407 : BitVec 32 := 0#32
  let v733 : BitVec 1 := Scalar.cmpi .ne v732 c0_i32_407
  v733

def k0_off165 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c24_i32_398 : BitVec 32 := 24#32
  let v716 : BitVec 32 := Scalar.addi v20 c24_i32_398
  let c3_i32_399 : BitVec 32 := 3#32
  let v717 : BitVec 32 := Scalar.addi v716 c3_i32_399
  let c32_i32_400 : BitVec 32 := 32#32
  let c0_i32_401 : BitVec 32 := 0#32
  let v718 : BitVec 1 := Scalar.cmpi .eq c32_i32_400 c0_i32_401
  let c1_i32_402 : BitVec 32 := 1#32
  let v719 : BitVec 32 := Scalar.select v718 c1_i32_402 c32_i32_400
  let v720 : BitVec 32 := Scalar.remsi v717 v719
  let c0_i32_404 : BitVec 32 := 0#32
  let v722 : BitVec 1 := Scalar.cmpi .slt v720 c0_i32_404
  let c0_i32_405 : BitVec 32 := 0#32
  let v723 : BitVec 1 := Scalar.cmpi .slt v719 c0_i32_405
  let v724 : BitVec 1 := Scalar.xori v722 v723
  let c0_i32_403 : BitVec 32 := 0#32
  let v721 : BitVec 1 := Scalar.cmpi .ne v720 c0_i32_403
  let v725 : BitVec 1 := Scalar.andi v724 v721
  let v726 : BitVec 32 := Scalar.addi v720 v719
  let v727 : BitVec 32 := Scalar.select v725 v726 v720
  let v2144 : Index := Scalar.indexCast v727
  let c0_1326 : Index := 0#32
  let c0_1327 : Index := 0#32
  ![v2144.toNat, 0, 0]
def k0_off166 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c24_i32_398 : BitVec 32 := 24#32
  let v716 : BitVec 32 := Scalar.addi v20 c24_i32_398
  let c3_i32_399 : BitVec 32 := 3#32
  let v717 : BitVec 32 := Scalar.addi v716 c3_i32_399
  let c32_i32_400 : BitVec 32 := 32#32
  let c0_i32_401 : BitVec 32 := 0#32
  let v718 : BitVec 1 := Scalar.cmpi .eq c32_i32_400 c0_i32_401
  let c1_i32_402 : BitVec 32 := 1#32
  let v719 : BitVec 32 := Scalar.select v718 c1_i32_402 c32_i32_400
  let v720 : BitVec 32 := Scalar.remsi v717 v719
  let c0_i32_404 : BitVec 32 := 0#32
  let v722 : BitVec 1 := Scalar.cmpi .slt v720 c0_i32_404
  let c0_i32_405 : BitVec 32 := 0#32
  let v723 : BitVec 1 := Scalar.cmpi .slt v719 c0_i32_405
  let v724 : BitVec 1 := Scalar.xori v722 v723
  let c0_i32_403 : BitVec 32 := 0#32
  let v721 : BitVec 1 := Scalar.cmpi .ne v720 c0_i32_403
  let v725 : BitVec 1 := Scalar.andi v724 v721
  let v726 : BitVec 32 := Scalar.addi v720 v719
  let v727 : BitVec 32 := Scalar.select v725 v726 v720
  ![v727.toNat]
def k0_off167 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off168 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1330 : BitVec 32 := 0#32
  let c0_i32_1331 : BitVec 32 := 0#32
  ![v2.toNat, 0, 0]
def k0_off169 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c24_i32_398 : BitVec 32 := 24#32
  let v716 : BitVec 32 := Scalar.addi v20 c24_i32_398
  let c3_i32_399 : BitVec 32 := 3#32
  let v717 : BitVec 32 := Scalar.addi v716 c3_i32_399
  let c32_i32_400 : BitVec 32 := 32#32
  let c0_i32_401 : BitVec 32 := 0#32
  let v718 : BitVec 1 := Scalar.cmpi .eq c32_i32_400 c0_i32_401
  let c1_i32_402 : BitVec 32 := 1#32
  let v719 : BitVec 32 := Scalar.select v718 c1_i32_402 c32_i32_400
  let v720 : BitVec 32 := Scalar.remsi v717 v719
  let c0_i32_404 : BitVec 32 := 0#32
  let v722 : BitVec 1 := Scalar.cmpi .slt v720 c0_i32_404
  let c0_i32_405 : BitVec 32 := 0#32
  let v723 : BitVec 1 := Scalar.cmpi .slt v719 c0_i32_405
  let v724 : BitVec 1 := Scalar.xori v722 v723
  let c0_i32_403 : BitVec 32 := 0#32
  let v721 : BitVec 1 := Scalar.cmpi .ne v720 c0_i32_403
  let v725 : BitVec 1 := Scalar.andi v724 v721
  let v726 : BitVec 32 := Scalar.addi v720 v719
  let v727 : BitVec 32 := Scalar.select v725 v726 v720
  let c0_i32_1332 : BitVec 32 := 0#32
  let c0_i32_1333 : BitVec 32 := 0#32
  ![v727.toNat, 0, 0]
def k0_dev29 (d0 : Dev nD) : Nat :=
  let c0_i32_1329 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c24_i32_398 : BitVec 32 := 24#32
  let v716 : BitVec 32 := Scalar.addi v20 c24_i32_398
  let c3_i32_399 : BitVec 32 := 3#32
  let v717 : BitVec 32 := Scalar.addi v716 c3_i32_399
  let c32_i32_400 : BitVec 32 := 32#32
  let c0_i32_401 : BitVec 32 := 0#32
  let v718 : BitVec 1 := Scalar.cmpi .eq c32_i32_400 c0_i32_401
  let c1_i32_402 : BitVec 32 := 1#32
  let v719 : BitVec 32 := Scalar.select v718 c1_i32_402 c32_i32_400
  let v720 : BitVec 32 := Scalar.remsi v717 v719
  let c0_i32_404 : BitVec 32 := 0#32
  let v722 : BitVec 1 := Scalar.cmpi .slt v720 c0_i32_404
  let c0_i32_405 : BitVec 32 := 0#32
  let v723 : BitVec 1 := Scalar.cmpi .slt v719 c0_i32_405
  let v724 : BitVec 1 := Scalar.xori v722 v723
  let c0_i32_403 : BitVec 32 := 0#32
  let v721 : BitVec 1 := Scalar.cmpi .ne v720 c0_i32_403
  let v725 : BitVec 1 := Scalar.andi v724 v721
  let v726 : BitVec 32 := Scalar.addi v720 v719
  let v727 : BitVec 32 := Scalar.select v725 v726 v720
  let c1_i32_1328 : BitVec 32 := 1#32
  let v2148 : BitVec 32 := Scalar.muli v727 c1_i32_1328
  let v2149 : BitVec 32 := Scalar.addi c0_i32_1329 v2148
  v2149.toNat
def k0_cond57 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c24_i32_408 : BitVec 32 := 24#32
  let v735 : BitVec 32 := Scalar.addi v20 c24_i32_408
  let c4_i32_409 : BitVec 32 := 4#32
  let v736 : BitVec 32 := Scalar.addi v735 c4_i32_409
  let c32_i32_410 : BitVec 32 := 32#32
  let c0_i32_411 : BitVec 32 := 0#32
  let v737 : BitVec 1 := Scalar.cmpi .eq c32_i32_410 c0_i32_411
  let c1_i32_412 : BitVec 32 := 1#32
  let v738 : BitVec 32 := Scalar.select v737 c1_i32_412 c32_i32_410
  let v739 : BitVec 32 := Scalar.remsi v736 v738
  let c0_i32_414 : BitVec 32 := 0#32
  let v741 : BitVec 1 := Scalar.cmpi .slt v739 c0_i32_414
  let c0_i32_415 : BitVec 32 := 0#32
  let v742 : BitVec 1 := Scalar.cmpi .slt v738 c0_i32_415
  let v743 : BitVec 1 := Scalar.xori v741 v742
  let c0_i32_413 : BitVec 32 := 0#32
  let v740 : BitVec 1 := Scalar.cmpi .ne v739 c0_i32_413
  let v744 : BitVec 1 := Scalar.andi v743 v740
  let v745 : BitVec 32 := Scalar.addi v739 v738
  let v746 : BitVec 32 := Scalar.select v744 v745 v739
  let v747 : BitVec 1 := Scalar.cmpi .eq v746 v2
  let v748 : BitVec 32 := Scalar.extui v747
  let c0_i32_416 : BitVec 32 := 0#32
  let v749 : BitVec 1 := Scalar.cmpi .ne v748 c0_i32_416
  v749

def k0_off170 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1326 : BitVec 32 := 128#32
  let v2143 : BitVec 32 := Scalar.muli v2 c128_i32_1326
  let v2144 : Index := Scalar.indexCast v2143
  let c0_1327 : Index := 0#32
  ![v2144.toNat, 0]
def k0_cond58 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c24_i32_408 : BitVec 32 := 24#32
  let v735 : BitVec 32 := Scalar.addi v20 c24_i32_408
  let c4_i32_409 : BitVec 32 := 4#32
  let v736 : BitVec 32 := Scalar.addi v735 c4_i32_409
  let c32_i32_410 : BitVec 32 := 32#32
  let c0_i32_411 : BitVec 32 := 0#32
  let v737 : BitVec 1 := Scalar.cmpi .eq c32_i32_410 c0_i32_411
  let c1_i32_412 : BitVec 32 := 1#32
  let v738 : BitVec 32 := Scalar.select v737 c1_i32_412 c32_i32_410
  let v739 : BitVec 32 := Scalar.remsi v736 v738
  let c0_i32_414 : BitVec 32 := 0#32
  let v741 : BitVec 1 := Scalar.cmpi .slt v739 c0_i32_414
  let c0_i32_415 : BitVec 32 := 0#32
  let v742 : BitVec 1 := Scalar.cmpi .slt v738 c0_i32_415
  let v743 : BitVec 1 := Scalar.xori v741 v742
  let c0_i32_413 : BitVec 32 := 0#32
  let v740 : BitVec 1 := Scalar.cmpi .ne v739 c0_i32_413
  let v744 : BitVec 1 := Scalar.andi v743 v740
  let v745 : BitVec 32 := Scalar.addi v739 v738
  let v746 : BitVec 32 := Scalar.select v744 v745 v739
  let v750 : BitVec 1 := Scalar.cmpi .ne v746 v2
  let v751 : BitVec 32 := Scalar.extui v750
  let c0_i32_417 : BitVec 32 := 0#32
  let v752 : BitVec 1 := Scalar.cmpi .ne v751 c0_i32_417
  v752

def k0_off171 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c24_i32_408 : BitVec 32 := 24#32
  let v735 : BitVec 32 := Scalar.addi v20 c24_i32_408
  let c4_i32_409 : BitVec 32 := 4#32
  let v736 : BitVec 32 := Scalar.addi v735 c4_i32_409
  let c32_i32_410 : BitVec 32 := 32#32
  let c0_i32_411 : BitVec 32 := 0#32
  let v737 : BitVec 1 := Scalar.cmpi .eq c32_i32_410 c0_i32_411
  let c1_i32_412 : BitVec 32 := 1#32
  let v738 : BitVec 32 := Scalar.select v737 c1_i32_412 c32_i32_410
  let v739 : BitVec 32 := Scalar.remsi v736 v738
  let c0_i32_414 : BitVec 32 := 0#32
  let v741 : BitVec 1 := Scalar.cmpi .slt v739 c0_i32_414
  let c0_i32_415 : BitVec 32 := 0#32
  let v742 : BitVec 1 := Scalar.cmpi .slt v738 c0_i32_415
  let v743 : BitVec 1 := Scalar.xori v741 v742
  let c0_i32_413 : BitVec 32 := 0#32
  let v740 : BitVec 1 := Scalar.cmpi .ne v739 c0_i32_413
  let v744 : BitVec 1 := Scalar.andi v743 v740
  let v745 : BitVec 32 := Scalar.addi v739 v738
  let v746 : BitVec 32 := Scalar.select v744 v745 v739
  let v2144 : Index := Scalar.indexCast v746
  let c0_1326 : Index := 0#32
  let c0_1327 : Index := 0#32
  ![v2144.toNat, 0, 0]
def k0_off172 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c24_i32_408 : BitVec 32 := 24#32
  let v735 : BitVec 32 := Scalar.addi v20 c24_i32_408
  let c4_i32_409 : BitVec 32 := 4#32
  let v736 : BitVec 32 := Scalar.addi v735 c4_i32_409
  let c32_i32_410 : BitVec 32 := 32#32
  let c0_i32_411 : BitVec 32 := 0#32
  let v737 : BitVec 1 := Scalar.cmpi .eq c32_i32_410 c0_i32_411
  let c1_i32_412 : BitVec 32 := 1#32
  let v738 : BitVec 32 := Scalar.select v737 c1_i32_412 c32_i32_410
  let v739 : BitVec 32 := Scalar.remsi v736 v738
  let c0_i32_414 : BitVec 32 := 0#32
  let v741 : BitVec 1 := Scalar.cmpi .slt v739 c0_i32_414
  let c0_i32_415 : BitVec 32 := 0#32
  let v742 : BitVec 1 := Scalar.cmpi .slt v738 c0_i32_415
  let v743 : BitVec 1 := Scalar.xori v741 v742
  let c0_i32_413 : BitVec 32 := 0#32
  let v740 : BitVec 1 := Scalar.cmpi .ne v739 c0_i32_413
  let v744 : BitVec 1 := Scalar.andi v743 v740
  let v745 : BitVec 32 := Scalar.addi v739 v738
  let v746 : BitVec 32 := Scalar.select v744 v745 v739
  ![v746.toNat]
def k0_off173 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off174 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1330 : BitVec 32 := 0#32
  let c0_i32_1331 : BitVec 32 := 0#32
  ![v2.toNat, 0, 0]
def k0_off175 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c24_i32_408 : BitVec 32 := 24#32
  let v735 : BitVec 32 := Scalar.addi v20 c24_i32_408
  let c4_i32_409 : BitVec 32 := 4#32
  let v736 : BitVec 32 := Scalar.addi v735 c4_i32_409
  let c32_i32_410 : BitVec 32 := 32#32
  let c0_i32_411 : BitVec 32 := 0#32
  let v737 : BitVec 1 := Scalar.cmpi .eq c32_i32_410 c0_i32_411
  let c1_i32_412 : BitVec 32 := 1#32
  let v738 : BitVec 32 := Scalar.select v737 c1_i32_412 c32_i32_410
  let v739 : BitVec 32 := Scalar.remsi v736 v738
  let c0_i32_414 : BitVec 32 := 0#32
  let v741 : BitVec 1 := Scalar.cmpi .slt v739 c0_i32_414
  let c0_i32_415 : BitVec 32 := 0#32
  let v742 : BitVec 1 := Scalar.cmpi .slt v738 c0_i32_415
  let v743 : BitVec 1 := Scalar.xori v741 v742
  let c0_i32_413 : BitVec 32 := 0#32
  let v740 : BitVec 1 := Scalar.cmpi .ne v739 c0_i32_413
  let v744 : BitVec 1 := Scalar.andi v743 v740
  let v745 : BitVec 32 := Scalar.addi v739 v738
  let v746 : BitVec 32 := Scalar.select v744 v745 v739
  let c0_i32_1332 : BitVec 32 := 0#32
  let c0_i32_1333 : BitVec 32 := 0#32
  ![v746.toNat, 0, 0]
def k0_dev30 (d0 : Dev nD) : Nat :=
  let c0_i32_1329 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c24_i32_408 : BitVec 32 := 24#32
  let v735 : BitVec 32 := Scalar.addi v20 c24_i32_408
  let c4_i32_409 : BitVec 32 := 4#32
  let v736 : BitVec 32 := Scalar.addi v735 c4_i32_409
  let c32_i32_410 : BitVec 32 := 32#32
  let c0_i32_411 : BitVec 32 := 0#32
  let v737 : BitVec 1 := Scalar.cmpi .eq c32_i32_410 c0_i32_411
  let c1_i32_412 : BitVec 32 := 1#32
  let v738 : BitVec 32 := Scalar.select v737 c1_i32_412 c32_i32_410
  let v739 : BitVec 32 := Scalar.remsi v736 v738
  let c0_i32_414 : BitVec 32 := 0#32
  let v741 : BitVec 1 := Scalar.cmpi .slt v739 c0_i32_414
  let c0_i32_415 : BitVec 32 := 0#32
  let v742 : BitVec 1 := Scalar.cmpi .slt v738 c0_i32_415
  let v743 : BitVec 1 := Scalar.xori v741 v742
  let c0_i32_413 : BitVec 32 := 0#32
  let v740 : BitVec 1 := Scalar.cmpi .ne v739 c0_i32_413
  let v744 : BitVec 1 := Scalar.andi v743 v740
  let v745 : BitVec 32 := Scalar.addi v739 v738
  let v746 : BitVec 32 := Scalar.select v744 v745 v739
  let c1_i32_1328 : BitVec 32 := 1#32
  let v2148 : BitVec 32 := Scalar.muli v746 c1_i32_1328
  let v2149 : BitVec 32 := Scalar.addi c0_i32_1329 v2148
  v2149.toNat
def k0_cond59 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c24_i32_418 : BitVec 32 := 24#32
  let v754 : BitVec 32 := Scalar.addi v20 c24_i32_418
  let c5_i32_419 : BitVec 32 := 5#32
  let v755 : BitVec 32 := Scalar.addi v754 c5_i32_419
  let c32_i32_420 : BitVec 32 := 32#32
  let c0_i32_421 : BitVec 32 := 0#32
  let v756 : BitVec 1 := Scalar.cmpi .eq c32_i32_420 c0_i32_421
  let c1_i32_422 : BitVec 32 := 1#32
  let v757 : BitVec 32 := Scalar.select v756 c1_i32_422 c32_i32_420
  let v758 : BitVec 32 := Scalar.remsi v755 v757
  let c0_i32_424 : BitVec 32 := 0#32
  let v760 : BitVec 1 := Scalar.cmpi .slt v758 c0_i32_424
  let c0_i32_425 : BitVec 32 := 0#32
  let v761 : BitVec 1 := Scalar.cmpi .slt v757 c0_i32_425
  let v762 : BitVec 1 := Scalar.xori v760 v761
  let c0_i32_423 : BitVec 32 := 0#32
  let v759 : BitVec 1 := Scalar.cmpi .ne v758 c0_i32_423
  let v763 : BitVec 1 := Scalar.andi v762 v759
  let v764 : BitVec 32 := Scalar.addi v758 v757
  let v765 : BitVec 32 := Scalar.select v763 v764 v758
  let v766 : BitVec 1 := Scalar.cmpi .eq v765 v2
  let v767 : BitVec 32 := Scalar.extui v766
  let c0_i32_426 : BitVec 32 := 0#32
  let v768 : BitVec 1 := Scalar.cmpi .ne v767 c0_i32_426
  v768

def k0_off176 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1326 : BitVec 32 := 128#32
  let v2143 : BitVec 32 := Scalar.muli v2 c128_i32_1326
  let v2144 : Index := Scalar.indexCast v2143
  let c0_1327 : Index := 0#32
  ![v2144.toNat, 0]
def k0_cond60 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c24_i32_418 : BitVec 32 := 24#32
  let v754 : BitVec 32 := Scalar.addi v20 c24_i32_418
  let c5_i32_419 : BitVec 32 := 5#32
  let v755 : BitVec 32 := Scalar.addi v754 c5_i32_419
  let c32_i32_420 : BitVec 32 := 32#32
  let c0_i32_421 : BitVec 32 := 0#32
  let v756 : BitVec 1 := Scalar.cmpi .eq c32_i32_420 c0_i32_421
  let c1_i32_422 : BitVec 32 := 1#32
  let v757 : BitVec 32 := Scalar.select v756 c1_i32_422 c32_i32_420
  let v758 : BitVec 32 := Scalar.remsi v755 v757
  let c0_i32_424 : BitVec 32 := 0#32
  let v760 : BitVec 1 := Scalar.cmpi .slt v758 c0_i32_424
  let c0_i32_425 : BitVec 32 := 0#32
  let v761 : BitVec 1 := Scalar.cmpi .slt v757 c0_i32_425
  let v762 : BitVec 1 := Scalar.xori v760 v761
  let c0_i32_423 : BitVec 32 := 0#32
  let v759 : BitVec 1 := Scalar.cmpi .ne v758 c0_i32_423
  let v763 : BitVec 1 := Scalar.andi v762 v759
  let v764 : BitVec 32 := Scalar.addi v758 v757
  let v765 : BitVec 32 := Scalar.select v763 v764 v758
  let v769 : BitVec 1 := Scalar.cmpi .ne v765 v2
  let v770 : BitVec 32 := Scalar.extui v769
  let c0_i32_427 : BitVec 32 := 0#32
  let v771 : BitVec 1 := Scalar.cmpi .ne v770 c0_i32_427
  v771

def k0_off177 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c24_i32_418 : BitVec 32 := 24#32
  let v754 : BitVec 32 := Scalar.addi v20 c24_i32_418
  let c5_i32_419 : BitVec 32 := 5#32
  let v755 : BitVec 32 := Scalar.addi v754 c5_i32_419
  let c32_i32_420 : BitVec 32 := 32#32
  let c0_i32_421 : BitVec 32 := 0#32
  let v756 : BitVec 1 := Scalar.cmpi .eq c32_i32_420 c0_i32_421
  let c1_i32_422 : BitVec 32 := 1#32
  let v757 : BitVec 32 := Scalar.select v756 c1_i32_422 c32_i32_420
  let v758 : BitVec 32 := Scalar.remsi v755 v757
  let c0_i32_424 : BitVec 32 := 0#32
  let v760 : BitVec 1 := Scalar.cmpi .slt v758 c0_i32_424
  let c0_i32_425 : BitVec 32 := 0#32
  let v761 : BitVec 1 := Scalar.cmpi .slt v757 c0_i32_425
  let v762 : BitVec 1 := Scalar.xori v760 v761
  let c0_i32_423 : BitVec 32 := 0#32
  let v759 : BitVec 1 := Scalar.cmpi .ne v758 c0_i32_423
  let v763 : BitVec 1 := Scalar.andi v762 v759
  let v764 : BitVec 32 := Scalar.addi v758 v757
  let v765 : BitVec 32 := Scalar.select v763 v764 v758
  let v2144 : Index := Scalar.indexCast v765
  let c0_1326 : Index := 0#32
  let c0_1327 : Index := 0#32
  ![v2144.toNat, 0, 0]
def k0_off178 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c24_i32_418 : BitVec 32 := 24#32
  let v754 : BitVec 32 := Scalar.addi v20 c24_i32_418
  let c5_i32_419 : BitVec 32 := 5#32
  let v755 : BitVec 32 := Scalar.addi v754 c5_i32_419
  let c32_i32_420 : BitVec 32 := 32#32
  let c0_i32_421 : BitVec 32 := 0#32
  let v756 : BitVec 1 := Scalar.cmpi .eq c32_i32_420 c0_i32_421
  let c1_i32_422 : BitVec 32 := 1#32
  let v757 : BitVec 32 := Scalar.select v756 c1_i32_422 c32_i32_420
  let v758 : BitVec 32 := Scalar.remsi v755 v757
  let c0_i32_424 : BitVec 32 := 0#32
  let v760 : BitVec 1 := Scalar.cmpi .slt v758 c0_i32_424
  let c0_i32_425 : BitVec 32 := 0#32
  let v761 : BitVec 1 := Scalar.cmpi .slt v757 c0_i32_425
  let v762 : BitVec 1 := Scalar.xori v760 v761
  let c0_i32_423 : BitVec 32 := 0#32
  let v759 : BitVec 1 := Scalar.cmpi .ne v758 c0_i32_423
  let v763 : BitVec 1 := Scalar.andi v762 v759
  let v764 : BitVec 32 := Scalar.addi v758 v757
  let v765 : BitVec 32 := Scalar.select v763 v764 v758
  ![v765.toNat]
def k0_off179 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off180 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1330 : BitVec 32 := 0#32
  let c0_i32_1331 : BitVec 32 := 0#32
  ![v2.toNat, 0, 0]
def k0_off181 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c24_i32_418 : BitVec 32 := 24#32
  let v754 : BitVec 32 := Scalar.addi v20 c24_i32_418
  let c5_i32_419 : BitVec 32 := 5#32
  let v755 : BitVec 32 := Scalar.addi v754 c5_i32_419
  let c32_i32_420 : BitVec 32 := 32#32
  let c0_i32_421 : BitVec 32 := 0#32
  let v756 : BitVec 1 := Scalar.cmpi .eq c32_i32_420 c0_i32_421
  let c1_i32_422 : BitVec 32 := 1#32
  let v757 : BitVec 32 := Scalar.select v756 c1_i32_422 c32_i32_420
  let v758 : BitVec 32 := Scalar.remsi v755 v757
  let c0_i32_424 : BitVec 32 := 0#32
  let v760 : BitVec 1 := Scalar.cmpi .slt v758 c0_i32_424
  let c0_i32_425 : BitVec 32 := 0#32
  let v761 : BitVec 1 := Scalar.cmpi .slt v757 c0_i32_425
  let v762 : BitVec 1 := Scalar.xori v760 v761
  let c0_i32_423 : BitVec 32 := 0#32
  let v759 : BitVec 1 := Scalar.cmpi .ne v758 c0_i32_423
  let v763 : BitVec 1 := Scalar.andi v762 v759
  let v764 : BitVec 32 := Scalar.addi v758 v757
  let v765 : BitVec 32 := Scalar.select v763 v764 v758
  let c0_i32_1332 : BitVec 32 := 0#32
  let c0_i32_1333 : BitVec 32 := 0#32
  ![v765.toNat, 0, 0]
def k0_dev31 (d0 : Dev nD) : Nat :=
  let c0_i32_1329 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c24_i32_418 : BitVec 32 := 24#32
  let v754 : BitVec 32 := Scalar.addi v20 c24_i32_418
  let c5_i32_419 : BitVec 32 := 5#32
  let v755 : BitVec 32 := Scalar.addi v754 c5_i32_419
  let c32_i32_420 : BitVec 32 := 32#32
  let c0_i32_421 : BitVec 32 := 0#32
  let v756 : BitVec 1 := Scalar.cmpi .eq c32_i32_420 c0_i32_421
  let c1_i32_422 : BitVec 32 := 1#32
  let v757 : BitVec 32 := Scalar.select v756 c1_i32_422 c32_i32_420
  let v758 : BitVec 32 := Scalar.remsi v755 v757
  let c0_i32_424 : BitVec 32 := 0#32
  let v760 : BitVec 1 := Scalar.cmpi .slt v758 c0_i32_424
  let c0_i32_425 : BitVec 32 := 0#32
  let v761 : BitVec 1 := Scalar.cmpi .slt v757 c0_i32_425
  let v762 : BitVec 1 := Scalar.xori v760 v761
  let c0_i32_423 : BitVec 32 := 0#32
  let v759 : BitVec 1 := Scalar.cmpi .ne v758 c0_i32_423
  let v763 : BitVec 1 := Scalar.andi v762 v759
  let v764 : BitVec 32 := Scalar.addi v758 v757
  let v765 : BitVec 32 := Scalar.select v763 v764 v758
  let c1_i32_1328 : BitVec 32 := 1#32
  let v2148 : BitVec 32 := Scalar.muli v765 c1_i32_1328
  let v2149 : BitVec 32 := Scalar.addi c0_i32_1329 v2148
  v2149.toNat
def k0_cond61 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c24_i32_428 : BitVec 32 := 24#32
  let v773 : BitVec 32 := Scalar.addi v20 c24_i32_428
  let c6_i32_429 : BitVec 32 := 6#32
  let v774 : BitVec 32 := Scalar.addi v773 c6_i32_429
  let c32_i32_430 : BitVec 32 := 32#32
  let c0_i32_431 : BitVec 32 := 0#32
  let v775 : BitVec 1 := Scalar.cmpi .eq c32_i32_430 c0_i32_431
  let c1_i32_432 : BitVec 32 := 1#32
  let v776 : BitVec 32 := Scalar.select v775 c1_i32_432 c32_i32_430
  let v777 : BitVec 32 := Scalar.remsi v774 v776
  let c0_i32_434 : BitVec 32 := 0#32
  let v779 : BitVec 1 := Scalar.cmpi .slt v777 c0_i32_434
  let c0_i32_435 : BitVec 32 := 0#32
  let v780 : BitVec 1 := Scalar.cmpi .slt v776 c0_i32_435
  let v781 : BitVec 1 := Scalar.xori v779 v780
  let c0_i32_433 : BitVec 32 := 0#32
  let v778 : BitVec 1 := Scalar.cmpi .ne v777 c0_i32_433
  let v782 : BitVec 1 := Scalar.andi v781 v778
  let v783 : BitVec 32 := Scalar.addi v777 v776
  let v784 : BitVec 32 := Scalar.select v782 v783 v777
  let v785 : BitVec 1 := Scalar.cmpi .eq v784 v2
  let v786 : BitVec 32 := Scalar.extui v785
  let c0_i32_436 : BitVec 32 := 0#32
  let v787 : BitVec 1 := Scalar.cmpi .ne v786 c0_i32_436
  v787

def k0_off182 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1326 : BitVec 32 := 128#32
  let v2143 : BitVec 32 := Scalar.muli v2 c128_i32_1326
  let v2144 : Index := Scalar.indexCast v2143
  let c0_1327 : Index := 0#32
  ![v2144.toNat, 0]
def k0_cond62 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c24_i32_428 : BitVec 32 := 24#32
  let v773 : BitVec 32 := Scalar.addi v20 c24_i32_428
  let c6_i32_429 : BitVec 32 := 6#32
  let v774 : BitVec 32 := Scalar.addi v773 c6_i32_429
  let c32_i32_430 : BitVec 32 := 32#32
  let c0_i32_431 : BitVec 32 := 0#32
  let v775 : BitVec 1 := Scalar.cmpi .eq c32_i32_430 c0_i32_431
  let c1_i32_432 : BitVec 32 := 1#32
  let v776 : BitVec 32 := Scalar.select v775 c1_i32_432 c32_i32_430
  let v777 : BitVec 32 := Scalar.remsi v774 v776
  let c0_i32_434 : BitVec 32 := 0#32
  let v779 : BitVec 1 := Scalar.cmpi .slt v777 c0_i32_434
  let c0_i32_435 : BitVec 32 := 0#32
  let v780 : BitVec 1 := Scalar.cmpi .slt v776 c0_i32_435
  let v781 : BitVec 1 := Scalar.xori v779 v780
  let c0_i32_433 : BitVec 32 := 0#32
  let v778 : BitVec 1 := Scalar.cmpi .ne v777 c0_i32_433
  let v782 : BitVec 1 := Scalar.andi v781 v778
  let v783 : BitVec 32 := Scalar.addi v777 v776
  let v784 : BitVec 32 := Scalar.select v782 v783 v777
  let v788 : BitVec 1 := Scalar.cmpi .ne v784 v2
  let v789 : BitVec 32 := Scalar.extui v788
  let c0_i32_437 : BitVec 32 := 0#32
  let v790 : BitVec 1 := Scalar.cmpi .ne v789 c0_i32_437
  v790

def k0_off183 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c24_i32_428 : BitVec 32 := 24#32
  let v773 : BitVec 32 := Scalar.addi v20 c24_i32_428
  let c6_i32_429 : BitVec 32 := 6#32
  let v774 : BitVec 32 := Scalar.addi v773 c6_i32_429
  let c32_i32_430 : BitVec 32 := 32#32
  let c0_i32_431 : BitVec 32 := 0#32
  let v775 : BitVec 1 := Scalar.cmpi .eq c32_i32_430 c0_i32_431
  let c1_i32_432 : BitVec 32 := 1#32
  let v776 : BitVec 32 := Scalar.select v775 c1_i32_432 c32_i32_430
  let v777 : BitVec 32 := Scalar.remsi v774 v776
  let c0_i32_434 : BitVec 32 := 0#32
  let v779 : BitVec 1 := Scalar.cmpi .slt v777 c0_i32_434
  let c0_i32_435 : BitVec 32 := 0#32
  let v780 : BitVec 1 := Scalar.cmpi .slt v776 c0_i32_435
  let v781 : BitVec 1 := Scalar.xori v779 v780
  let c0_i32_433 : BitVec 32 := 0#32
  let v778 : BitVec 1 := Scalar.cmpi .ne v777 c0_i32_433
  let v782 : BitVec 1 := Scalar.andi v781 v778
  let v783 : BitVec 32 := Scalar.addi v777 v776
  let v784 : BitVec 32 := Scalar.select v782 v783 v777
  let v2144 : Index := Scalar.indexCast v784
  let c0_1326 : Index := 0#32
  let c0_1327 : Index := 0#32
  ![v2144.toNat, 0, 0]
def k0_off184 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c24_i32_428 : BitVec 32 := 24#32
  let v773 : BitVec 32 := Scalar.addi v20 c24_i32_428
  let c6_i32_429 : BitVec 32 := 6#32
  let v774 : BitVec 32 := Scalar.addi v773 c6_i32_429
  let c32_i32_430 : BitVec 32 := 32#32
  let c0_i32_431 : BitVec 32 := 0#32
  let v775 : BitVec 1 := Scalar.cmpi .eq c32_i32_430 c0_i32_431
  let c1_i32_432 : BitVec 32 := 1#32
  let v776 : BitVec 32 := Scalar.select v775 c1_i32_432 c32_i32_430
  let v777 : BitVec 32 := Scalar.remsi v774 v776
  let c0_i32_434 : BitVec 32 := 0#32
  let v779 : BitVec 1 := Scalar.cmpi .slt v777 c0_i32_434
  let c0_i32_435 : BitVec 32 := 0#32
  let v780 : BitVec 1 := Scalar.cmpi .slt v776 c0_i32_435
  let v781 : BitVec 1 := Scalar.xori v779 v780
  let c0_i32_433 : BitVec 32 := 0#32
  let v778 : BitVec 1 := Scalar.cmpi .ne v777 c0_i32_433
  let v782 : BitVec 1 := Scalar.andi v781 v778
  let v783 : BitVec 32 := Scalar.addi v777 v776
  let v784 : BitVec 32 := Scalar.select v782 v783 v777
  ![v784.toNat]
def k0_off185 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off186 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1330 : BitVec 32 := 0#32
  let c0_i32_1331 : BitVec 32 := 0#32
  ![v2.toNat, 0, 0]
def k0_off187 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c24_i32_428 : BitVec 32 := 24#32
  let v773 : BitVec 32 := Scalar.addi v20 c24_i32_428
  let c6_i32_429 : BitVec 32 := 6#32
  let v774 : BitVec 32 := Scalar.addi v773 c6_i32_429
  let c32_i32_430 : BitVec 32 := 32#32
  let c0_i32_431 : BitVec 32 := 0#32
  let v775 : BitVec 1 := Scalar.cmpi .eq c32_i32_430 c0_i32_431
  let c1_i32_432 : BitVec 32 := 1#32
  let v776 : BitVec 32 := Scalar.select v775 c1_i32_432 c32_i32_430
  let v777 : BitVec 32 := Scalar.remsi v774 v776
  let c0_i32_434 : BitVec 32 := 0#32
  let v779 : BitVec 1 := Scalar.cmpi .slt v777 c0_i32_434
  let c0_i32_435 : BitVec 32 := 0#32
  let v780 : BitVec 1 := Scalar.cmpi .slt v776 c0_i32_435
  let v781 : BitVec 1 := Scalar.xori v779 v780
  let c0_i32_433 : BitVec 32 := 0#32
  let v778 : BitVec 1 := Scalar.cmpi .ne v777 c0_i32_433
  let v782 : BitVec 1 := Scalar.andi v781 v778
  let v783 : BitVec 32 := Scalar.addi v777 v776
  let v784 : BitVec 32 := Scalar.select v782 v783 v777
  let c0_i32_1332 : BitVec 32 := 0#32
  let c0_i32_1333 : BitVec 32 := 0#32
  ![v784.toNat, 0, 0]
def k0_dev32 (d0 : Dev nD) : Nat :=
  let c0_i32_1329 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c24_i32_428 : BitVec 32 := 24#32
  let v773 : BitVec 32 := Scalar.addi v20 c24_i32_428
  let c6_i32_429 : BitVec 32 := 6#32
  let v774 : BitVec 32 := Scalar.addi v773 c6_i32_429
  let c32_i32_430 : BitVec 32 := 32#32
  let c0_i32_431 : BitVec 32 := 0#32
  let v775 : BitVec 1 := Scalar.cmpi .eq c32_i32_430 c0_i32_431
  let c1_i32_432 : BitVec 32 := 1#32
  let v776 : BitVec 32 := Scalar.select v775 c1_i32_432 c32_i32_430
  let v777 : BitVec 32 := Scalar.remsi v774 v776
  let c0_i32_434 : BitVec 32 := 0#32
  let v779 : BitVec 1 := Scalar.cmpi .slt v777 c0_i32_434
  let c0_i32_435 : BitVec 32 := 0#32
  let v780 : BitVec 1 := Scalar.cmpi .slt v776 c0_i32_435
  let v781 : BitVec 1 := Scalar.xori v779 v780
  let c0_i32_433 : BitVec 32 := 0#32
  let v778 : BitVec 1 := Scalar.cmpi .ne v777 c0_i32_433
  let v782 : BitVec 1 := Scalar.andi v781 v778
  let v783 : BitVec 32 := Scalar.addi v777 v776
  let v784 : BitVec 32 := Scalar.select v782 v783 v777
  let c1_i32_1328 : BitVec 32 := 1#32
  let v2148 : BitVec 32 := Scalar.muli v784 c1_i32_1328
  let v2149 : BitVec 32 := Scalar.addi c0_i32_1329 v2148
  v2149.toNat
def k0_cond63 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c24_i32_438 : BitVec 32 := 24#32
  let v792 : BitVec 32 := Scalar.addi v20 c24_i32_438
  let c7_i32_439 : BitVec 32 := 7#32
  let v793 : BitVec 32 := Scalar.addi v792 c7_i32_439
  let c32_i32_440 : BitVec 32 := 32#32
  let c0_i32_441 : BitVec 32 := 0#32
  let v794 : BitVec 1 := Scalar.cmpi .eq c32_i32_440 c0_i32_441
  let c1_i32_442 : BitVec 32 := 1#32
  let v795 : BitVec 32 := Scalar.select v794 c1_i32_442 c32_i32_440
  let v796 : BitVec 32 := Scalar.remsi v793 v795
  let c0_i32_444 : BitVec 32 := 0#32
  let v798 : BitVec 1 := Scalar.cmpi .slt v796 c0_i32_444
  let c0_i32_445 : BitVec 32 := 0#32
  let v799 : BitVec 1 := Scalar.cmpi .slt v795 c0_i32_445
  let v800 : BitVec 1 := Scalar.xori v798 v799
  let c0_i32_443 : BitVec 32 := 0#32
  let v797 : BitVec 1 := Scalar.cmpi .ne v796 c0_i32_443
  let v801 : BitVec 1 := Scalar.andi v800 v797
  let v802 : BitVec 32 := Scalar.addi v796 v795
  let v803 : BitVec 32 := Scalar.select v801 v802 v796
  let v804 : BitVec 1 := Scalar.cmpi .eq v803 v2
  let v805 : BitVec 32 := Scalar.extui v804
  let c0_i32_446 : BitVec 32 := 0#32
  let v806 : BitVec 1 := Scalar.cmpi .ne v805 c0_i32_446
  v806

def k0_off188 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1326 : BitVec 32 := 128#32
  let v2143 : BitVec 32 := Scalar.muli v2 c128_i32_1326
  let v2144 : Index := Scalar.indexCast v2143
  let c0_1327 : Index := 0#32
  ![v2144.toNat, 0]
def k0_cond64 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c24_i32_438 : BitVec 32 := 24#32
  let v792 : BitVec 32 := Scalar.addi v20 c24_i32_438
  let c7_i32_439 : BitVec 32 := 7#32
  let v793 : BitVec 32 := Scalar.addi v792 c7_i32_439
  let c32_i32_440 : BitVec 32 := 32#32
  let c0_i32_441 : BitVec 32 := 0#32
  let v794 : BitVec 1 := Scalar.cmpi .eq c32_i32_440 c0_i32_441
  let c1_i32_442 : BitVec 32 := 1#32
  let v795 : BitVec 32 := Scalar.select v794 c1_i32_442 c32_i32_440
  let v796 : BitVec 32 := Scalar.remsi v793 v795
  let c0_i32_444 : BitVec 32 := 0#32
  let v798 : BitVec 1 := Scalar.cmpi .slt v796 c0_i32_444
  let c0_i32_445 : BitVec 32 := 0#32
  let v799 : BitVec 1 := Scalar.cmpi .slt v795 c0_i32_445
  let v800 : BitVec 1 := Scalar.xori v798 v799
  let c0_i32_443 : BitVec 32 := 0#32
  let v797 : BitVec 1 := Scalar.cmpi .ne v796 c0_i32_443
  let v801 : BitVec 1 := Scalar.andi v800 v797
  let v802 : BitVec 32 := Scalar.addi v796 v795
  let v803 : BitVec 32 := Scalar.select v801 v802 v796
  let v807 : BitVec 1 := Scalar.cmpi .ne v803 v2
  let v808 : BitVec 32 := Scalar.extui v807
  let c0_i32_447 : BitVec 32 := 0#32
  let v809 : BitVec 1 := Scalar.cmpi .ne v808 c0_i32_447
  v809

def k0_off189 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c24_i32_438 : BitVec 32 := 24#32
  let v792 : BitVec 32 := Scalar.addi v20 c24_i32_438
  let c7_i32_439 : BitVec 32 := 7#32
  let v793 : BitVec 32 := Scalar.addi v792 c7_i32_439
  let c32_i32_440 : BitVec 32 := 32#32
  let c0_i32_441 : BitVec 32 := 0#32
  let v794 : BitVec 1 := Scalar.cmpi .eq c32_i32_440 c0_i32_441
  let c1_i32_442 : BitVec 32 := 1#32
  let v795 : BitVec 32 := Scalar.select v794 c1_i32_442 c32_i32_440
  let v796 : BitVec 32 := Scalar.remsi v793 v795
  let c0_i32_444 : BitVec 32 := 0#32
  let v798 : BitVec 1 := Scalar.cmpi .slt v796 c0_i32_444
  let c0_i32_445 : BitVec 32 := 0#32
  let v799 : BitVec 1 := Scalar.cmpi .slt v795 c0_i32_445
  let v800 : BitVec 1 := Scalar.xori v798 v799
  let c0_i32_443 : BitVec 32 := 0#32
  let v797 : BitVec 1 := Scalar.cmpi .ne v796 c0_i32_443
  let v801 : BitVec 1 := Scalar.andi v800 v797
  let v802 : BitVec 32 := Scalar.addi v796 v795
  let v803 : BitVec 32 := Scalar.select v801 v802 v796
  let v2144 : Index := Scalar.indexCast v803
  let c0_1326 : Index := 0#32
  let c0_1327 : Index := 0#32
  ![v2144.toNat, 0, 0]
def k0_off190 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c24_i32_438 : BitVec 32 := 24#32
  let v792 : BitVec 32 := Scalar.addi v20 c24_i32_438
  let c7_i32_439 : BitVec 32 := 7#32
  let v793 : BitVec 32 := Scalar.addi v792 c7_i32_439
  let c32_i32_440 : BitVec 32 := 32#32
  let c0_i32_441 : BitVec 32 := 0#32
  let v794 : BitVec 1 := Scalar.cmpi .eq c32_i32_440 c0_i32_441
  let c1_i32_442 : BitVec 32 := 1#32
  let v795 : BitVec 32 := Scalar.select v794 c1_i32_442 c32_i32_440
  let v796 : BitVec 32 := Scalar.remsi v793 v795
  let c0_i32_444 : BitVec 32 := 0#32
  let v798 : BitVec 1 := Scalar.cmpi .slt v796 c0_i32_444
  let c0_i32_445 : BitVec 32 := 0#32
  let v799 : BitVec 1 := Scalar.cmpi .slt v795 c0_i32_445
  let v800 : BitVec 1 := Scalar.xori v798 v799
  let c0_i32_443 : BitVec 32 := 0#32
  let v797 : BitVec 1 := Scalar.cmpi .ne v796 c0_i32_443
  let v801 : BitVec 1 := Scalar.andi v800 v797
  let v802 : BitVec 32 := Scalar.addi v796 v795
  let v803 : BitVec 32 := Scalar.select v801 v802 v796
  ![v803.toNat]
def k0_off191 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off192 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1330 : BitVec 32 := 0#32
  let c0_i32_1331 : BitVec 32 := 0#32
  ![v2.toNat, 0, 0]
def k0_off193 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c24_i32_438 : BitVec 32 := 24#32
  let v792 : BitVec 32 := Scalar.addi v20 c24_i32_438
  let c7_i32_439 : BitVec 32 := 7#32
  let v793 : BitVec 32 := Scalar.addi v792 c7_i32_439
  let c32_i32_440 : BitVec 32 := 32#32
  let c0_i32_441 : BitVec 32 := 0#32
  let v794 : BitVec 1 := Scalar.cmpi .eq c32_i32_440 c0_i32_441
  let c1_i32_442 : BitVec 32 := 1#32
  let v795 : BitVec 32 := Scalar.select v794 c1_i32_442 c32_i32_440
  let v796 : BitVec 32 := Scalar.remsi v793 v795
  let c0_i32_444 : BitVec 32 := 0#32
  let v798 : BitVec 1 := Scalar.cmpi .slt v796 c0_i32_444
  let c0_i32_445 : BitVec 32 := 0#32
  let v799 : BitVec 1 := Scalar.cmpi .slt v795 c0_i32_445
  let v800 : BitVec 1 := Scalar.xori v798 v799
  let c0_i32_443 : BitVec 32 := 0#32
  let v797 : BitVec 1 := Scalar.cmpi .ne v796 c0_i32_443
  let v801 : BitVec 1 := Scalar.andi v800 v797
  let v802 : BitVec 32 := Scalar.addi v796 v795
  let v803 : BitVec 32 := Scalar.select v801 v802 v796
  let c0_i32_1332 : BitVec 32 := 0#32
  let c0_i32_1333 : BitVec 32 := 0#32
  ![v803.toNat, 0, 0]
def k0_dev33 (d0 : Dev nD) : Nat :=
  let c0_i32_1329 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let c24_i32_438 : BitVec 32 := 24#32
  let v792 : BitVec 32 := Scalar.addi v20 c24_i32_438
  let c7_i32_439 : BitVec 32 := 7#32
  let v793 : BitVec 32 := Scalar.addi v792 c7_i32_439
  let c32_i32_440 : BitVec 32 := 32#32
  let c0_i32_441 : BitVec 32 := 0#32
  let v794 : BitVec 1 := Scalar.cmpi .eq c32_i32_440 c0_i32_441
  let c1_i32_442 : BitVec 32 := 1#32
  let v795 : BitVec 32 := Scalar.select v794 c1_i32_442 c32_i32_440
  let v796 : BitVec 32 := Scalar.remsi v793 v795
  let c0_i32_444 : BitVec 32 := 0#32
  let v798 : BitVec 1 := Scalar.cmpi .slt v796 c0_i32_444
  let c0_i32_445 : BitVec 32 := 0#32
  let v799 : BitVec 1 := Scalar.cmpi .slt v795 c0_i32_445
  let v800 : BitVec 1 := Scalar.xori v798 v799
  let c0_i32_443 : BitVec 32 := 0#32
  let v797 : BitVec 1 := Scalar.cmpi .ne v796 c0_i32_443
  let v801 : BitVec 1 := Scalar.andi v800 v797
  let v802 : BitVec 32 := Scalar.addi v796 v795
  let v803 : BitVec 32 := Scalar.select v801 v802 v796
  let c1_i32_1328 : BitVec 32 := 1#32
  let v2148 : BitVec 32 := Scalar.muli v803 c1_i32_1328
  let v2149 : BitVec 32 := Scalar.addi c0_i32_1329 v2148
  v2149.toNat
def k0_off194 (d0 : Dev nD) (c1_i32_448 : BitVec 32) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v810 : BitVec 32 := Scalar.addi v2 c1_i32_448
  let c32_i32_449 : BitVec 32 := 32#32
  let c0_i32_450 : BitVec 32 := 0#32
  let v811 : BitVec 1 := Scalar.cmpi .eq c32_i32_449 c0_i32_450
  let c1_i32_451 : BitVec 32 := 1#32
  let v812 : BitVec 32 := Scalar.select v811 c1_i32_451 c32_i32_449
  let v813 : BitVec 32 := Scalar.remsi v810 v812
  let c0_i32_453 : BitVec 32 := 0#32
  let v815 : BitVec 1 := Scalar.cmpi .slt v813 c0_i32_453
  let c0_i32_454 : BitVec 32 := 0#32
  let v816 : BitVec 1 := Scalar.cmpi .slt v812 c0_i32_454
  let v817 : BitVec 1 := Scalar.xori v815 v816
  let c0_i32_452 : BitVec 32 := 0#32
  let v814 : BitVec 1 := Scalar.cmpi .ne v813 c0_i32_452
  let v818 : BitVec 1 := Scalar.andi v817 v814
  let v819 : BitVec 32 := Scalar.addi v813 v812
  let v820 : BitVec 32 := Scalar.select v818 v819 v813
  ![v820.toNat]
def k0_off195 (d0 : Dev nD) (c1_i32_448 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v810 : BitVec 32 := Scalar.addi v2 c1_i32_448
  let c32_i32_449 : BitVec 32 := 32#32
  let c0_i32_450 : BitVec 32 := 0#32
  let v811 : BitVec 1 := Scalar.cmpi .eq c32_i32_449 c0_i32_450
  let c1_i32_451 : BitVec 32 := 1#32
  let v812 : BitVec 32 := Scalar.select v811 c1_i32_451 c32_i32_449
  let v813 : BitVec 32 := Scalar.remsi v810 v812
  let c0_i32_453 : BitVec 32 := 0#32
  let v815 : BitVec 1 := Scalar.cmpi .slt v813 c0_i32_453
  let c0_i32_454 : BitVec 32 := 0#32
  let v816 : BitVec 1 := Scalar.cmpi .slt v812 c0_i32_454
  let v817 : BitVec 1 := Scalar.xori v815 v816
  let c0_i32_452 : BitVec 32 := 0#32
  let v814 : BitVec 1 := Scalar.cmpi .ne v813 c0_i32_452
  let v818 : BitVec 1 := Scalar.andi v817 v814
  let v819 : BitVec 32 := Scalar.addi v813 v812
  let v820 : BitVec 32 := Scalar.select v818 v819 v813
  let c0_i32_457 : BitVec 32 := 0#32
  let c0_i32_458 : BitVec 32 := 0#32
  ![v820.toNat, 0, 0]
def k0_off196 (d0 : Dev nD) (c1_i32_448 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v810 : BitVec 32 := Scalar.addi v2 c1_i32_448
  let c32_i32_449 : BitVec 32 := 32#32
  let c0_i32_450 : BitVec 32 := 0#32
  let v811 : BitVec 1 := Scalar.cmpi .eq c32_i32_449 c0_i32_450
  let c1_i32_451 : BitVec 32 := 1#32
  let v812 : BitVec 32 := Scalar.select v811 c1_i32_451 c32_i32_449
  let v813 : BitVec 32 := Scalar.remsi v810 v812
  let c0_i32_453 : BitVec 32 := 0#32
  let v815 : BitVec 1 := Scalar.cmpi .slt v813 c0_i32_453
  let c0_i32_454 : BitVec 32 := 0#32
  let v816 : BitVec 1 := Scalar.cmpi .slt v812 c0_i32_454
  let v817 : BitVec 1 := Scalar.xori v815 v816
  let c0_i32_452 : BitVec 32 := 0#32
  let v814 : BitVec 1 := Scalar.cmpi .ne v813 c0_i32_452
  let v818 : BitVec 1 := Scalar.andi v817 v814
  let v819 : BitVec 32 := Scalar.addi v813 v812
  let v820 : BitVec 32 := Scalar.select v818 v819 v813
  let v829 : Index := Scalar.indexCast v820
  let c0_461 : Index := 0#32
  let c0_462 : Index := 0#32
  ![v829.toNat, 0, 0]
def k0_off197 (d0 : Dev nD) (c1_i32_448 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v810 : BitVec 32 := Scalar.addi v2 c1_i32_448
  let c32_i32_449 : BitVec 32 := 32#32
  let c0_i32_450 : BitVec 32 := 0#32
  let v811 : BitVec 1 := Scalar.cmpi .eq c32_i32_449 c0_i32_450
  let c1_i32_451 : BitVec 32 := 1#32
  let v812 : BitVec 32 := Scalar.select v811 c1_i32_451 c32_i32_449
  let v813 : BitVec 32 := Scalar.remsi v810 v812
  let c0_i32_453 : BitVec 32 := 0#32
  let v815 : BitVec 1 := Scalar.cmpi .slt v813 c0_i32_453
  let c0_i32_454 : BitVec 32 := 0#32
  let v816 : BitVec 1 := Scalar.cmpi .slt v812 c0_i32_454
  let v817 : BitVec 1 := Scalar.xori v815 v816
  let c0_i32_452 : BitVec 32 := 0#32
  let v814 : BitVec 1 := Scalar.cmpi .ne v813 c0_i32_452
  let v818 : BitVec 1 := Scalar.andi v817 v814
  let v819 : BitVec 32 := Scalar.addi v813 v812
  let v820 : BitVec 32 := Scalar.select v818 v819 v813
  let c128_i32 : BitVec 32 := 128#32
  let v833 : BitVec 32 := Scalar.muli v820 c128_i32
  let v834 : Index := Scalar.indexCast v833
  let c0_463 : Index := 0#32
  ![v834.toNat, 0]
def k0_off198 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_964 : BitVec 32 := 0#32
  let c0_i32_965 : BitVec 32 := 0#32
  ![v2.toNat, 0, 0]
abbrev stage0_0 : Fin 1 → Memref sig .tc .vmem S128x4096 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S1 : Shape := ⟨1, ![1]⟩
abbrev S1x1 : Shape := ⟨2, ![1, 1]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S4096x4096, .i8⟩
  | .hbm, ⟨1, _⟩ => ⟨S4096x8192, .i8⟩
  | .hbm, ⟨2, _⟩ => ⟨S1, .f32⟩
  | .hbm, ⟨3, _⟩ => ⟨S1, .f32⟩
  | .hbm, ⟨4, _⟩ => ⟨S4096x4096, .i32⟩
  | .hbm, ⟨5, _⟩ => ⟨S4096x4096, .f32⟩
  | .hbm, ⟨6, _⟩ => ⟨S4096x8192, .i32⟩
  | .hbm, ⟨7, _⟩ => ⟨S4096x8192, .f32⟩
  | .hbm, ⟨8, _⟩ => ⟨S4096x8192, .f32⟩
  | .hbm, ⟨9, _⟩ => ⟨S1, .f32⟩
  | .hbm, ⟨10, _⟩ => ⟨S1x1, .f32⟩
  | .hbm, ⟨11, _⟩ => ⟨S4096x8192, .f32⟩
  | .hbm, ⟨12, _⟩ => ⟨S4096x8192, .f32⟩
  | .hbm, ⟨13, _⟩ => ⟨S4096x8192, .f32⟩
  | .hbm, ⟨14, _⟩ => ⟨S4096x8192, .f32⟩
  | .hbm, ⟨15, _⟩ => ⟨S_, .f32⟩
  | .hbm, ⟨16, _⟩ => ⟨S4096x8192, .f32⟩
  | .hbm, ⟨17, _⟩ => ⟨S4096x8192, .f32⟩
  | .hbm, ⟨18, _⟩ => ⟨S4096x8192, .f32⟩
  | _, _ => ⟨S4096x4096, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Proof.Geometry.lean ====
/-
  Where the kernel's device arithmetic leads. Device `c` sends 32 column blocks, one per device, in the order
  `t = 0 … 31`: at place `t` the block of device `dst c t`, starting with its own group of eight devices. It receives in
  the order `src c t = c + t`. The printed word chains (conditions, offsets, target devices) are read here in that form,
  by evaluation over the 32 devices.
-/
module

public import proofs.«01_k».proof.Proof.Gen.KernelIdeal

@[expose] public section

namespace Cert.A2A

open Idealize.ShloMosaic
open Cert.KernelIdeal Cert.KernelIdeal.Gen

/-- The device whose block device `c` treats at place `t`. -/
def dst (c : Dev nD) (t : ℕ) : Dev nD := ⟨(c.val / 8 * 8 + t) % 32, Nat.mod_lt _ (by decide)⟩
/-- The device `t` places after `c`. -/
def src (c : Dev nD) (t : ℕ) : Dev nD := ⟨(c.val + t) % 32, Nat.mod_lt _ (by decide)⟩
/-- The column panel (of 2048 columns) device `c` multiplies with at its `p`-th step. -/
def grp (c : Dev nD) (p : ℕ) : Fin 4 := ⟨(c.val / 8 + p) % 4, Nat.mod_lt _ (by decide)⟩

theorem dst_bij (c : Dev nD) : Function.Bijective fun t : Fin 32 => dst c t.val := by revert c; decide +kernel
theorem src_bij (c : Dev nD) : Function.Bijective fun t : Fin 32 => src c t.val := by revert c; decide +kernel
theorem grp_bij (c : Dev nD) : Function.Bijective fun p : Fin 4 => grp c p.val := by revert c; decide +kernel

/-- The places of a device's blocks as an enumeration of the devices. -/
noncomputable def dstE (c : Dev nD) : Fin 32 ≃ Dev nD := Equiv.ofBijective _ (dst_bij c)
noncomputable def srcE (c : Dev nD) : Fin 32 ≃ Dev nD := Equiv.ofBijective _ (src_bij c)
noncomputable def grpE (c : Dev nD) : Fin 4 ≃ Fin 4 := Equiv.ofBijective _ (grp_bij c)

theorem src_zero (c : Dev nD) : src c 0 = c := by revert c; decide +kernel
theorem src_ne (c : Dev nD) (t : ℕ) (h : 1 ≤ t ∧ t < 32) : src c t ≠ c := fun e => by
  have := congrArg Fin.val e; have hc : c.val < 32 := c.isLt; simp only [src] at this; omega
theorem dst_eq_iff (c : Dev nD) (t : ℕ) (h : t < 32) : dst c t = c ↔ t = c.val % 8 := by
  rw [Fin.ext_iff]; have hc : c.val < 32 := c.isLt; simp only [dst]; omega
/-- Place `t` of device `c` lies in its panel `t / 8`, at column block `t % 8` of it. -/
theorem dst_div (c : Dev nD) (t : ℕ) (h : t < 32) : (dst c t).val / 8 = (grp c (t / 8)).val := by
  have hc : c.val < 32 := c.isLt; simp only [dst, grp]; omega
theorem dst_mod (c : Dev nD) (t : ℕ) : (dst c t).val % 8 = t % 8 := by
  have hc : c.val < 32 := c.isLt; simp only [dst]; omega

theorem lt3 {s : ℕ} (h : s < 32) : ∀ a, (![s, 0, 0] : Fin 3 → ℕ) a + S1x128x256.size a ≤ S32x128x256.size a := fun a => by
  fin_cases a <;> simp [S1x128x256, S32x128x256] <;> omega

/-- A place whose block stays on the device: the printed condition holds at the device's own block only, which goes to the
    device's own rows of the result. -/
abbrev OwnSite (c : Dev nD) (t : ℕ) (cond : BitVec 1) (o2 : Fin 2 → ℕ) : Prop :=
  (cond = 1#1 ↔ dst c t = c) ∧ o2 = ![128 * c.val, 0]

/-- A place whose block is sent: the printed condition, the slot filled (`o3`) and sent (`o7`), the send semaphore (`o4`),
    the receive semaphore (`o5`) and landing slot (`o6`) on the target device `dv`. -/
abbrev SendSite (c : Dev nD) (t : ℕ) (cond : BitVec 1) (o3 : Fin 3 → ℕ) (o4 o5 : Fin 1 → ℕ) (o6 o7 : Fin 3 → ℕ) (dv : ℕ) : Prop :=
  (cond = 1#1 ↔ dst c t ≠ c) ∧ o3 = ![(dst c t).val, 0, 0] ∧ o4 = ![(dst c t).val] ∧ o5 = ![c.val] ∧ o6 = ![c.val, 0, 0]
    ∧ o7 = ![(dst c t).val, 0, 0] ∧ dv = (dst c t).val

/-- A word that names the place `t` of a wait: its semaphore, its slot and its rows of the result. -/
abbrev WaitSite (c : Dev nD) (t : ℕ) (w : BitVec 32) : Prop :=
  k0_off194 c w = ![(src c t).val] ∧ k0_off195 c w = ![(src c t).val, 0, 0] ∧ k0_off196 c w = ![(src c t).val, 0, 0]
    ∧ k0_off197 c w = ![128 * (src c t).val, 0]

theorem dev1_eq (c : Dev nD) (t : Fin k0_t1_loop.trips) : (⟨k0_dev1 c t, k0_dev1_lt c t⟩ : Dev nD) = src c (1 + t.val) := by
  revert c t; decide +kernel
theorem off1_eq (c : Dev nD) (p : Fin 4) : k0_off1 c (BitVec.ofNat 32 (8 * p.val)) = ![0, 2048 * (grp c p.val).val] := by
  revert c p; decide +kernel
theorem waitSite (c : Dev nD) (r : Fin 31) : WaitSite c (1 + r.val) (BitVec.ofNat 32 (1 + r.val)) := by
  revert c r; decide +kernel
theorem off198_eq (c : Dev nD) : k0_off198 c = ![c.val, 0, 0] := by revert c; decide +kernel

theorem own0 (c : Dev nD) : OwnSite c 0 (k0_cond1 c) (k0_off2 c) := by revert c; decide +kernel
theorem own1 (c : Dev nD) : OwnSite c 1 (k0_cond3 c) (k0_off8 c) := by revert c; decide +kernel
theorem own2 (c : Dev nD) : OwnSite c 2 (k0_cond5 c) (k0_off14 c) := by revert c; decide +kernel
theorem own3 (c : Dev nD) : OwnSite c 3 (k0_cond7 c) (k0_off20 c) := by revert c; decide +kernel
theorem own4 (c : Dev nD) : OwnSite c 4 (k0_cond9 c) (k0_off26 c) := by revert c; decide +kernel
theorem own5 (c : Dev nD) : OwnSite c 5 (k0_cond11 c) (k0_off32 c) := by revert c; decide +kernel
theorem own6 (c : Dev nD) : OwnSite c 6 (k0_cond13 c) (k0_off38 c) := by revert c; decide +kernel
theorem own7 (c : Dev nD) : OwnSite c 7 (k0_cond15 c) (k0_off44 c) := by revert c; decide +kernel
theorem own8 (c : Dev nD) : OwnSite c 8 (k0_cond17 c) (k0_off50 c) := by revert c; decide +kernel
theorem own9 (c : Dev nD) : OwnSite c 9 (k0_cond19 c) (k0_off56 c) := by revert c; decide +kernel
theorem own10 (c : Dev nD) : OwnSite c 10 (k0_cond21 c) (k0_off62 c) := by revert c; decide +kernel
theorem own11 (c : Dev nD) : OwnSite c 11 (k0_cond23 c) (k0_off68 c) := by revert c; decide +kernel
theorem own12 (c : Dev nD) : OwnSite c 12 (k0_cond25 c) (k0_off74 c) := by revert c; decide +kernel
theorem own13 (c : Dev nD) : OwnSite c 13 (k0_cond27 c) (k0_off80 c) := by revert c; decide +kernel
theorem own14 (c : Dev nD) : OwnSite c 14 (k0_cond29 c) (k0_off86 c) := by revert c; decide +kernel
theorem own15 (c : Dev nD) : OwnSite c 15 (k0_cond31 c) (k0_off92 c) := by revert c; decide +kernel
theorem own16 (c : Dev nD) : OwnSite c 16 (k0_cond33 c) (k0_off98 c) := by revert c; decide +kernel
theorem own17 (c : Dev nD) : OwnSite c 17 (k0_cond35 c) (k0_off104 c) := by revert c; decide +kernel
theorem own18 (c : Dev nD) : OwnSite c 18 (k0_cond37 c) (k0_off110 c) := by revert c; decide +kernel
theorem own19 (c : Dev nD) : OwnSite c 19 (k0_cond39 c) (k0_off116 c) := by revert c; decide +kernel
theorem own20 (c : Dev nD) : OwnSite c 20 (k0_cond41 c) (k0_off122 c) := by revert c; decide +kernel
theorem own21 (c : Dev nD) : OwnSite c 21 (k0_cond43 c) (k0_off128 c) := by revert c; decide +kernel
theorem own22 (c : Dev nD) : OwnSite c 22 (k0_cond45 c) (k0_off134 c) := by revert c; decide +kernel
theorem own23 (c : Dev nD) : OwnSite c 23 (k0_cond47 c) (k0_off140 c) := by revert c; decide +kernel
theorem own24 (c : Dev nD) : OwnSite c 24 (k0_cond49 c) (k0_off146 c) := by revert c; decide +kernel
theorem own25 (c : Dev nD) : OwnSite c 25 (k0_cond51 c) (k0_off152 c) := by revert c; decide +kernel
theorem own26 (c : Dev nD) : OwnSite c 26 (k0_cond53 c) (k0_off158 c) := by revert c; decide +kernel
theorem own27 (c : Dev nD) : OwnSite c 27 (k0_cond55 c) (k0_off164 c) := by revert c; decide +kernel
theorem own28 (c : Dev nD) : OwnSite c 28 (k0_cond57 c) (k0_off170 c) := by revert c; decide +kernel
theorem own29 (c : Dev nD) : OwnSite c 29 (k0_cond59 c) (k0_off176 c) := by revert c; decide +kernel
theorem own30 (c : Dev nD) : OwnSite c 30 (k0_cond61 c) (k0_off182 c) := by revert c; decide +kernel
theorem own31 (c : Dev nD) : OwnSite c 31 (k0_cond63 c) (k0_off188 c) := by revert c; decide +kernel
theorem send0 (c : Dev nD) : SendSite c 0 (k0_cond2 c) (k0_off3 c) (k0_off4 c) (k0_off5 c) (k0_off6 c) (k0_off7 c) (k0_dev2 c) := by revert c; decide +kernel
theorem send1 (c : Dev nD) : SendSite c 1 (k0_cond4 c) (k0_off9 c) (k0_off10 c) (k0_off11 c) (k0_off12 c) (k0_off13 c) (k0_dev3 c) := by revert c; decide +kernel
theorem send2 (c : Dev nD) : SendSite c 2 (k0_cond6 c) (k0_off15 c) (k0_off16 c) (k0_off17 c) (k0_off18 c) (k0_off19 c) (k0_dev4 c) := by revert c; decide +kernel
theorem send3 (c : Dev nD) : SendSite c 3 (k0_cond8 c) (k0_off21 c) (k0_off22 c) (k0_off23 c) (k0_off24 c) (k0_off25 c) (k0_dev5 c) := by revert c; decide +kernel
theorem send4 (c : Dev nD) : SendSite c 4 (k0_cond10 c) (k0_off27 c) (k0_off28 c) (k0_off29 c) (k0_off30 c) (k0_off31 c) (k0_dev6 c) := by revert c; decide +kernel
theorem send5 (c : Dev nD) : SendSite c 5 (k0_cond12 c) (k0_off33 c) (k0_off34 c) (k0_off35 c) (k0_off36 c) (k0_off37 c) (k0_dev7 c) := by revert c; decide +kernel
theorem send6 (c : Dev nD) : SendSite c 6 (k0_cond14 c) (k0_off39 c) (k0_off40 c) (k0_off41 c) (k0_off42 c) (k0_off43 c) (k0_dev8 c) := by revert c; decide +kernel
theorem send7 (c : Dev nD) : SendSite c 7 (k0_cond16 c) (k0_off45 c) (k0_off46 c) (k0_off47 c) (k0_off48 c) (k0_off49 c) (k0_dev9 c) := by revert c; decide +kernel
theorem send8 (c : Dev nD) : SendSite c 8 (k0_cond18 c) (k0_off51 c) (k0_off52 c) (k0_off53 c) (k0_off54 c) (k0_off55 c) (k0_dev10 c) := by revert c; decide +kernel
theorem send9 (c : Dev nD) : SendSite c 9 (k0_cond20 c) (k0_off57 c) (k0_off58 c) (k0_off59 c) (k0_off60 c) (k0_off61 c) (k0_dev11 c) := by revert c; decide +kernel
theorem send10 (c : Dev nD) : SendSite c 10 (k0_cond22 c) (k0_off63 c) (k0_off64 c) (k0_off65 c) (k0_off66 c) (k0_off67 c) (k0_dev12 c) := by revert c; decide +kernel
theorem send11 (c : Dev nD) : SendSite c 11 (k0_cond24 c) (k0_off69 c) (k0_off70 c) (k0_off71 c) (k0_off72 c) (k0_off73 c) (k0_dev13 c) := by revert c; decide +kernel
theorem send12 (c : Dev nD) : SendSite c 12 (k0_cond26 c) (k0_off75 c) (k0_off76 c) (k0_off77 c) (k0_off78 c) (k0_off79 c) (k0_dev14 c) := by revert c; decide +kernel
theorem send13 (c : Dev nD) : SendSite c 13 (k0_cond28 c) (k0_off81 c) (k0_off82 c) (k0_off83 c) (k0_off84 c) (k0_off85 c) (k0_dev15 c) := by revert c; decide +kernel
theorem send14 (c : Dev nD) : SendSite c 14 (k0_cond30 c) (k0_off87 c) (k0_off88 c) (k0_off89 c) (k0_off90 c) (k0_off91 c) (k0_dev16 c) := by revert c; decide +kernel
theorem send15 (c : Dev nD) : SendSite c 15 (k0_cond32 c) (k0_off93 c) (k0_off94 c) (k0_off95 c) (k0_off96 c) (k0_off97 c) (k0_dev17 c) := by revert c; decide +kernel
theorem send16 (c : Dev nD) : SendSite c 16 (k0_cond34 c) (k0_off99 c) (k0_off100 c) (k0_off101 c) (k0_off102 c) (k0_off103 c) (k0_dev18 c) := by revert c; decide +kernel
theorem send17 (c : Dev nD) : SendSite c 17 (k0_cond36 c) (k0_off105 c) (k0_off106 c) (k0_off107 c) (k0_off108 c) (k0_off109 c) (k0_dev19 c) := by revert c; decide +kernel
theorem send18 (c : Dev nD) : SendSite c 18 (k0_cond38 c) (k0_off111 c) (k0_off112 c) (k0_off113 c) (k0_off114 c) (k0_off115 c) (k0_dev20 c) := by revert c; decide +kernel
theorem send19 (c : Dev nD) : SendSite c 19 (k0_cond40 c) (k0_off117 c) (k0_off118 c) (k0_off119 c) (k0_off120 c) (k0_off121 c) (k0_dev21 c) := by revert c; decide +kernel
theorem send20 (c : Dev nD) : SendSite c 20 (k0_cond42 c) (k0_off123 c) (k0_off124 c) (k0_off125 c) (k0_off126 c) (k0_off127 c) (k0_dev22 c) := by revert c; decide +kernel
theorem send21 (c : Dev nD) : SendSite c 21 (k0_cond44 c) (k0_off129 c) (k0_off130 c) (k0_off131 c) (k0_off132 c) (k0_off133 c) (k0_dev23 c) := by revert c; decide +kernel
theorem send22 (c : Dev nD) : SendSite c 22 (k0_cond46 c) (k0_off135 c) (k0_off136 c) (k0_off137 c) (k0_off138 c) (k0_off139 c) (k0_dev24 c) := by revert c; decide +kernel
theorem send23 (c : Dev nD) : SendSite c 23 (k0_cond48 c) (k0_off141 c) (k0_off142 c) (k0_off143 c) (k0_off144 c) (k0_off145 c) (k0_dev25 c) := by revert c; decide +kernel
theorem send24 (c : Dev nD) : SendSite c 24 (k0_cond50 c) (k0_off147 c) (k0_off148 c) (k0_off149 c) (k0_off150 c) (k0_off151 c) (k0_dev26 c) := by revert c; decide +kernel
theorem send25 (c : Dev nD) : SendSite c 25 (k0_cond52 c) (k0_off153 c) (k0_off154 c) (k0_off155 c) (k0_off156 c) (k0_off157 c) (k0_dev27 c) := by revert c; decide +kernel
theorem send26 (c : Dev nD) : SendSite c 26 (k0_cond54 c) (k0_off159 c) (k0_off160 c) (k0_off161 c) (k0_off162 c) (k0_off163 c) (k0_dev28 c) := by revert c; decide +kernel
theorem send27 (c : Dev nD) : SendSite c 27 (k0_cond56 c) (k0_off165 c) (k0_off166 c) (k0_off167 c) (k0_off168 c) (k0_off169 c) (k0_dev29 c) := by revert c; decide +kernel
theorem send28 (c : Dev nD) : SendSite c 28 (k0_cond58 c) (k0_off171 c) (k0_off172 c) (k0_off173 c) (k0_off174 c) (k0_off175 c) (k0_dev30 c) := by revert c; decide +kernel
theorem send29 (c : Dev nD) : SendSite c 29 (k0_cond60 c) (k0_off177 c) (k0_off178 c) (k0_off179 c) (k0_off180 c) (k0_off181 c) (k0_dev31 c) := by revert c; decide +kernel
theorem send30 (c : Dev nD) : SendSite c 30 (k0_cond62 c) (k0_off183 c) (k0_off184 c) (k0_off185 c) (k0_off186 c) (k0_off187 c) (k0_dev32 c) := by revert c; decide +kernel
theorem send31 (c : Dev nD) : SendSite c 31 (k0_cond64 c) (k0_off189 c) (k0_off190 c) (k0_off191 c) (k0_off192 c) (k0_off193 c) (k0_dev33 c) := by revert c; decide +kernel

end Cert.A2A
-- ==== Proof.Protocol.lean ====
/-
  The exchange's protocol. Every device owns a barrier cell, two cells for the local copies of the weights' panels, and a
  send and a receive cell per peer.

  * barrier cell of `d`: one unit from every other device `c`, which hands over `c`'s landing slot for `d`;
  * copy cell `s` (two rounds): the device's own local copy of panel `2 r + s` at round `r`, which hands back the staging slot
    holding that panel and the panel of the weights it was read from;
  * send cell of `c` for `d`: the block's credit once `c`'s slot for `d` has been read; hands the slot back;
  * receive cell of `d` for `c`: the block's credit once `c`'s block has landed; hands over `d`'s landing slot for `c` holding
    the block `c` computed for `d`.
-/
module

public import proofs.«01_k».proof.Proof.Geometry
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.Ring

@[expose] public section

noncomputable section

namespace Cert.A2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the exchange's, whose duties are named by devices -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every counter zero, arbitrary generator registers. -/
def s₀ : MemSt nD τ sig (Elt F) := ⟨m, fun _ => 0, ρ⟩

/-! ## The cells -/

abbrev barS : Sem sig := (SemArray.scalar (sig.barrier 0 rfl) : Sems sig S_).sem
def copyS (s : Fin 2) : DmaSem sig := ⟨4 + s.val, by show _ < 70; omega⟩
theorem copyS_lt (s : Fin 2) : (copyS s).val < 6 := by show 4 + s.val < 6; omega
def sendS (d : Dev nD) : DmaSem sig := ⟨6 + d.val, by have : d.val < 32 := d.isLt; show _ < 70; omega⟩
def recvS (d : Dev nD) : DmaSem sig := ⟨38 + d.val, by have : d.val < 32 := d.isLt; show _ < 70; omega⟩

abbrev barCell (c : Dev nD) : GSem nD τ sig := ((c : Thread nD τ), .reg barS)
abbrev copyCell (c : Dev nD) (s : Fin 2) : GSem nD τ sig := ((c : Thread nD τ), .dma (copyS s))
/-- Credited on `c` by its transfer to `d`. -/
abbrev sendCell (c d : Dev nD) : GSem nD τ sig := ((c : Thread nD τ), .dma (sendS d))
/-- Credited on `c` by the transfer from `d`. -/
abbrev recvCell (c d : Dev nD) : GSem nD τ sig := ((c : Thread nD τ), .dma (recvS d))

/-- A device's cells: the barrier's, then the kernel's own DMA semaphores. -/
def csem (k : Fin 67) : SemLoc sig := if h : k.val = 0 then .reg barS else .dma ⟨3 + k.val, by have := k.isLt; show _ < 70; omega⟩
abbrev kcell (ck : Dev nD × Fin 67) : GSem nD τ sig := ((ck.1 : Thread nD τ), csem ck.2)
/-- The kernel's own semaphores. -/
def osem (k : Fin 66) : SemLoc sig := .dma ⟨4 + k.val, by have := k.isLt; show _ < 70; omega⟩

def kBar : Fin 67 := 0
def kCopy (s : Fin 2) : Fin 67 := ⟨1 + s.val, by omega⟩
def kSend (d : Dev nD) : Fin 67 := ⟨3 + d.val, by have : d.val < 32 := d.isLt; omega⟩
def kRecv (d : Dev nD) : Fin 67 := ⟨35 + d.val, by have : d.val < 32 := d.isLt; omega⟩
theorem csem_bar : csem kBar = .reg barS := rfl
theorem csem_copy (s : Fin 2) : csem (kCopy s) = .dma (copyS s) := by
  unfold csem kCopy copyS; rw [dif_neg (by show ¬ (1 + s.val = 0); omega)]; congr 2; show 3 + (1 + s.val) = 4 + s.val; omega
theorem csem_send (d : Dev nD) : csem (kSend d) = .dma (sendS d) := by
  unfold csem kSend sendS; rw [dif_neg (by show ¬ (3 + d.val = 0); omega)]; congr 2; show 3 + (3 + d.val) = 6 + d.val; omega
theorem csem_recv (d : Dev nD) : csem (kRecv d) = .dma (recvS d) := by
  unfold csem kRecv recvS; rw [dif_neg (by show ¬ (35 + d.val = 0); omega)]; congr 2; show 3 + (35 + d.val) = 38 + d.val; omega

/-! ## Slots, panels and row blocks -/

theorem inbW (s : Fin 2) : ∀ a, (![s.val, 0, 0] : Fin 3 → ℕ) a + S1x4096x2048.size a ≤ S2x4096x2048.size a := by revert s; decide
theorem inbP (g : Fin 4) : ∀ a, (![0, 2048 * g.val] : Fin 2 → ℕ) a + S4096x2048.size a ≤ S4096x8192.size a := by revert g; decide
theorem inbO (d : Dev nD) : ∀ a, (![128 * d.val, 0] : Fin 2 → ℕ) a + S128x256.size a ≤ S4096x256.size a := by revert d; decide

/-- Slot `d` of an exchange buffer, slot `s` of the weights' staging, panel `g` of the weights, block `d` of the result. -/
def slotR (d : Dev nD) : Rect S32x128x256 := Rect.unit (s := S32x128x256) ![d.val, 0, 0] S1x128x256.size (lt3 d.isLt)
def slotW (s : Fin 2) : Rect S2x4096x2048 := Rect.unit (s := S2x4096x2048) ![s.val, 0, 0] S1x4096x2048.size (inbW s)
def panelR (g : Fin 4) : Rect S4096x8192 := Rect.unit (s := S4096x8192) ![0, 2048 * g.val] S4096x2048.size (inbP g)
def rowsR (d : Dev nD) : Rect S4096x256 := Rect.unit (s := S4096x256) ![128 * d.val, 0] S128x256.size (inbO d)

abbrev xM : Memref sig .tc .vmem S128x4096 .i8 := Memref.whole cc0_stg0_0
abbrev wH : Memref sig .tc .hbm S4096x8192 .i8 := Memref.whole main_arg1
abbrev oM : Memref sig .tc .vmem S4096x256 .f32 := Memref.whole cc0_stg3_0
abbrev wM : Memref sig .tc .vmem S2x4096x2048 .i8 := Memref.whole cc0_scratch0
abbrev yM : Memref sig .tc .vmem S32x128x256 .bf16 := Memref.whole cc0_scratch1
abbrev rM : Memref sig .tc .vmem S32x128x256 .bf16 := Memref.whole cc0_scratch2

abbrev ySl (d : Dev nD) : Memref sig .tc .vmem S128x256 .bf16 := (yM.slice (slotR d) (fun _ => rfl)).squeeze S128x256 squeezes_S1x128x256_S128x256
abbrev rSl (d : Dev nD) : Memref sig .tc .vmem S128x256 .bf16 := (rM.slice (slotR d) (fun _ => rfl)).squeeze S128x256 squeezes_S1x128x256_S128x256
abbrev wSl (s : Fin 2) : Memref sig .tc .vmem S4096x2048 .i8 := (wM.slice (slotW s) (fun _ => rfl)).squeeze S4096x2048 squeezes_S1x4096x2048_S4096x2048
abbrev pan (g : Fin 4) : Memref sig .tc .hbm S4096x2048 .i8 := wH.slice (panelR g) (fun _ => rfl)

theorem ySl_set (d : Dev nD) : (ySl d).view.set = (slotR d).set := (View.set_reshape (v := (yM.slice (slotR d) (fun _ => rfl)).view) _).trans (View.set_slice_whole _ _)
theorem rSl_set (d : Dev nD) : (rSl d).view.set = (slotR d).set := (View.set_reshape (v := (rM.slice (slotR d) (fun _ => rfl)).view) _).trans (View.set_slice_whole _ _)
theorem wSl_set (s : Fin 2) : (wSl s).view.set = (slotW s).set := (View.set_reshape (v := (wM.slice (slotW s) (fun _ => rfl)).view) _).trans (View.set_slice_whole _ _)
theorem pan_set (g : Fin 4) : (pan g).view.set = (panelR g).set := View.set_slice_whole _ _

/-- One block's credit, one panel's credit. -/
def N : ℕ := (rSl 0).view.dmaCredit
def NW : ℕ := (wSl 0).view.dmaCredit
theorem N_pos : 0 < N := View.dmaCredit_pos _ (by decide)
theorem NW_pos : 0 < NW := View.dmaCredit_pos _ (by decide)
theorem r_credit (d : Dev nD) : (rSl d).view.dmaCredit = N := rfl
theorem y_credit (d : Dev nD) : (ySl d).view.dmaCredit = N := rfl
theorem w_credit (s : Fin 2) : (wSl s).view.dmaCredit = NW := rfl

/-! ## Contents -/

/-- Device `c`'s operands as staged: its rows of `x`, and its copies of the two scales. -/
def xstg (c : Dev nD) : (cc0_stg0_0 : Ref sig .tc).ty.Contents (Elt F) :=
  (win0_0.blk (0 : Fin 1)).view.read (Elt F) ((s₀ m ρ).mem ((c : Thread nD τ).loc main_arg0))
def sxstg (c : Dev nD) : (cc0_stg1_0 : Ref sig .tc).ty.Contents (Elt F) :=
  (win0_1.blk (0 : Fin 1)).view.read (Elt F) ((s₀ m ρ).mem ((c : Thread nD τ).loc main_arg2))
def swstg (c : Dev nD) : (cc0_stg2_0 : Ref sig .tc).ty.Contents (Elt F) :=
  (win0_2.blk (0 : Fin 1)).view.read (Elt F) ((s₀ m ρ).mem ((c : Thread nD τ).loc main_arg3))
/-- Its copy of the weights. -/
def warr (c : Dev nD) : (main_arg1 : Ref sig .tc).ty.Contents (Elt F) := m ((c : Thread nD τ).loc main_arg1)

/-- Panel `g` of device `c`'s weights, as a staging slot holds it. -/
def panel (c : Dev nD) (g : Fin 4) : Vec F S1x4096x2048 .i8 :=
  shapeCast S1x4096x2048 ((pan g).view.read (Elt F) (warr m c)) (by decide)
/-- The one index of a scale. -/
def first : S1.Idx := fun a => ⟨0, by revert a; decide⟩
/-- The product of the two scales. -/
def scale (c : Dev nD) : F .f32 := k0_pay1 (sxstg m ρ c first) (swstg m ρ c first)
/-- Device `c`'s rows of the activation, the 2048 columns of panel `g`. -/
def act (c : Dev nD) (g : Fin 4) : FVec F S128x2048 .f32 := k0_pay2 (scale m ρ c) (xstg m ρ c) (panel m c g)

theorem slices8 (j : Fin 8) : S128x2048.Slices ![0, 256 * j.val] S128x256 := by revert j; decide
/-- Column block `j` of a panel. -/
def colBlk (j : Fin 8) (v : FVec F S128x2048 .f32) : FVec F S128x256 .f32 := extractStridedSlice S128x256 ![0, 256 * j.val] v (slices8 j)
/-- The block device `c` computes for device `d`: `d`'s 256 columns of `c`'s rows. -/
def blk (c d : Dev nD) : FVec F S128x256 .f32 :=
  colBlk ⟨d.val % 8, Nat.mod_lt _ (by decide)⟩ (act m ρ c ⟨d.val / 8, by have : d.val < 32 := d.isLt; omega⟩)
/-- The same as it travels. -/
def sent (c d : Dev nD) : FVec F S1x128x256 .bf16 := k0_pay4 (blk m ρ c d)
/-- What device `c` stores for device `d`'s rows: its own block as computed, the others' as received. -/
def out (c d : Dev nD) : FVec F S128x256 .f32 := if d = c then blk m ρ c c else k0_pay71 (sent m ρ d c)

/-- Device `c`'s result: row block `d` from device `d`. -/
def result (c : Dev nD) : (cc0_stg3_0 : Ref sig .tc).ty.Contents (Elt F) := fun i : S4096x256.Idx =>
  out m ρ c ⟨(i 0).val / 128, by have : (i 0).val < 4096 := (i 0).isLt; show _ < 32; omega⟩
    (fun a => match a with | ⟨0, _⟩ => ⟨(i 0).val % 128, Nat.mod_lt _ (by decide)⟩ | ⟨1, _⟩ => i 1)

/-! ## What the cells hand over -/

def ySlot (c d : Dev nD) : sProp 𝕄 := iprop(∃ f : Buf (Elt F) ((c : Thread nD τ).loc cc0_scratch1), ((c : Thread nD τ).loc cc0_scratch1) ↦[(slotR d).set]{fullShare} f)
def rSlot (c d : Dev nD) : sProp 𝕄 := iprop(∃ f : Buf (Elt F) ((c : Thread nD τ).loc cc0_scratch2), ((c : Thread nD τ).loc cc0_scratch2) ↦[(slotR d).set]{fullShare} f)
def rSlotAt (c d : Dev nD) (v : FVec F S1x128x256 .bf16) : sProp 𝕄 :=
  iprop(∃ f : Buf (Elt F) ((c : Thread nD τ).loc cc0_scratch2), ⌜(rM.view.slice (slotR d)).read (Elt F) f = v⌝ ∗ (((c : Thread nD τ).loc cc0_scratch2) ↦[(slotR d).set]{fullShare} f))
def wSlot (c : Dev nD) (s : Fin 2) : sProp 𝕄 := iprop(∃ f : Buf (Elt F) ((c : Thread nD τ).loc cc0_scratch0), ((c : Thread nD τ).loc cc0_scratch0) ↦[(slotW s).set]{fullShare} f)
def wSlotAt (c : Dev nD) (s : Fin 2) (v : Vec F S1x4096x2048 .i8) : sProp 𝕄 :=
  iprop(∃ f : Buf (Elt F) ((c : Thread nD τ).loc cc0_scratch0), ⌜(wM.view.slice (slotW s)).read (Elt F) f = v⌝ ∗ (((c : Thread nD τ).loc cc0_scratch0) ↦[(slotW s).set]{fullShare} f))
def wPanel (c : Dev nD) (g : Fin 4) : sProp 𝕄 := ((c : Thread nD τ).loc main_arg1) ↦[(panelR g).set]{fullShare} warr m c
def oRows (c d : Dev nD) : sProp 𝕄 := iprop(∃ f : Buf (Elt F) ((c : Thread nD τ).loc cc0_stg3_0), ((c : Thread nD τ).loc cc0_stg3_0) ↦[(rowsR d).set]{fullShare} f)
def oRowsAt (c d : Dev nD) : sProp 𝕄 := ((c : Thread nD τ).loc cc0_stg3_0) ↦[(rowsR d).set]{fullShare} result m ρ c

/-- The panel of copy cell `s`'s round `r`. -/
def copyPay (c : Dev nD) (s : Fin 2) (r : ℕ) : sProp 𝕄 :=
  iprop(wSlotAt c s (panel m c (grp c (2 * r + s.val))) ∗ wPanel m c (grp c (2 * r + s.val)))

section Storable
variable (c d : Dev nD) (s : Fin 2)
omit [FloatOps F]
instance ySlot_storable : BI.Storable (upEmb : UEmb _ 𝕄) (ySlot (F := F) c d) := by unfold ySlot; infer_instance
instance rSlot_storable : BI.Storable (upEmb : UEmb _ 𝕄) (rSlot (F := F) c d) := by unfold rSlot; infer_instance
instance rSlotAt_storable (v : FVec F S1x128x256 .bf16) : BI.Storable (upEmb : UEmb _ 𝕄) (rSlotAt (F := F) c d v) := by unfold rSlotAt; infer_instance
instance wSlotAt_storable (v : Vec F S1x4096x2048 .i8) : BI.Storable (upEmb : UEmb _ 𝕄) (wSlotAt (F := F) c s v) := by unfold wSlotAt; infer_instance
instance wPanel_storable (g : Fin 4) : BI.Storable (upEmb : UEmb _ 𝕄) (wPanel (F := F) m c g) := by unfold wPanel; infer_instance
instance copyPay_storable (r : ℕ) : BI.Storable (upEmb : UEmb _ 𝕄) (copyPay (F := F) m c s r) := by unfold copyPay; infer_instance
end Storable

/-! ## The schedule -/

def duties (c : Dev nD) (l : SemLoc sig) (r : ℕ) : Finset (Dev nD) := match l with
  | .reg _ => if r = 0 then Finset.univ.erase c else ∅
  | .dma q => if q.val < 6 then (if r < 2 then {0} else ∅)
      else if q.val = 6 + c.val ∨ q.val = 38 + c.val ∨ r ≠ 0 then ∅ else {0}
def amount (l : SemLoc sig) : ℕ := match l with
  | .reg _ => 1
  | .dma q => if q.val < 6 then NW else N
def payload (c : Dev nD) (l : SemLoc sig) (r : ℕ) (d : Dev nD) : sProp 𝕄 := match l with
  | .reg _ => rSlot d c
  | .dma q => if q.val < 6 then copyPay m c ⟨(q.val - 4) % 2, Nat.mod_lt _ (by decide)⟩ r
      else if q.val < 38 then ySlot c ⟨(q.val - 6) % 32, Nat.mod_lt _ (by decide)⟩
      else rSlotAt c ⟨(q.val - 38) % 32, Nat.mod_lt _ (by decide)⟩ (sent m ρ ⟨(q.val - 38) % 32, Nat.mod_lt _ (by decide)⟩ c)

def sched : Rounds.Schedule (GSem nD τ sig) (Dev nD) 𝕄 where
  duties g r := if g.1.2 = .tc then duties g.1.1 g.2 r else ∅
  amount g _ _ := amount g.2
  payload g r d := payload m ρ g.1.1 g.2 r d
  amount_pos g _ _ _ := by
    show 0 < amount g.2
    unfold amount; split
    · exact Nat.one_pos
    · split
      · exact NW_pos
      · exact N_pos

instance sched_payload_storable (g : GSem nD τ sig) (r : ℕ) (d : Dev nD) :
    BI.Storable (upEmb : UEmb _ 𝕄) ((sched (F := F) m ρ).payload g r d) := by
  show BI.Storable upEmb (payload m ρ g.1.1 g.2 r d)
  unfold payload
  (repeat' split) <;> infer_instance

section Tables
variable (c d : Dev nD) (s : Fin 2)

theorem duties_bar : (sched (F := F) m ρ).duties (barCell c) 0 = Finset.univ.erase c := rfl
theorem duties_copy (r : ℕ) (h : r < 2) : (sched (F := F) m ρ).duties (copyCell c s) r = {0} := by
  show (if (copyS s).val < 6 then _ else _) = _
  rw [if_pos (show (copyS s).val < 6 from copyS_lt s), if_pos h]
theorem duties_send (h : d ≠ c) : (sched (F := F) m ρ).duties (sendCell c d) 0 = {0} := by
  have h' : d.val ≠ c.val := fun e => h (Fin.ext e)
  have hc : c.val < 32 := c.isLt; have hd : d.val < 32 := d.isLt
  show (if 6 + d.val < 6 then _ else if 6 + d.val = 6 + c.val ∨ 6 + d.val = 38 + c.val ∨ (0 : ℕ) ≠ 0 then _ else _) = _
  rw [if_neg (by omega), if_neg (by omega)]
theorem duties_recv (h : d ≠ c) : (sched (F := F) m ρ).duties (recvCell c d) 0 = {0} := by
  have h' : d.val ≠ c.val := fun e => h (Fin.ext e)
  have hc : c.val < 32 := c.isLt; have hd : d.val < 32 := d.isLt
  show (if 38 + d.val < 6 then _ else if 38 + d.val = 6 + c.val ∨ 38 + d.val = 38 + c.val ∨ (0 : ℕ) ≠ 0 then _ else _) = _
  rw [if_neg (by omega), if_neg (by omega)]
theorem duties_bar_later : ∀ r, 1 ≤ r → (sched (F := F) m ρ).duties (barCell c) r = ∅ := fun r hr => by
  show (if r = 0 then _ else _) = _; rw [if_neg (by omega)]
theorem duties_copy_later : ∀ r, 2 ≤ r → (sched (F := F) m ρ).duties (copyCell c s) r = ∅ := fun r hr => by
  show (if (copyS s).val < 6 then _ else _) = _
  rw [if_pos (show (copyS s).val < 6 from copyS_lt s), if_neg (by omega)]
theorem duties_send_later : ∀ r, 1 ≤ r → (sched (F := F) m ρ).duties (sendCell c d) r = ∅ := fun r hr => by
  show (if 6 + d.val < 6 then _ else if 6 + d.val = 6 + c.val ∨ 6 + d.val = 38 + c.val ∨ r ≠ 0 then _ else _) = _
  rw [if_neg (by omega), if_pos (by omega)]
theorem duties_recv_later : ∀ r, 1 ≤ r → (sched (F := F) m ρ).duties (recvCell c d) r = ∅ := fun r hr => by
  show (if 38 + d.val < 6 then _ else if 38 + d.val = 6 + c.val ∨ 38 + d.val = 38 + c.val ∨ r ≠ 0 then _ else _) = _
  rw [if_neg (by omega), if_pos (by omega)]
theorem duties_send_own : ∀ r, 0 ≤ r → (sched (F := F) m ρ).duties (sendCell c c) r = ∅ := fun r _ => by
  show (if 6 + c.val < 6 then _ else if 6 + c.val = 6 + c.val ∨ 6 + c.val = 38 + c.val ∨ r ≠ 0 then _ else _) = _
  rw [if_neg (by omega), if_pos (by omega)]
theorem duties_recv_own : ∀ r, 0 ≤ r → (sched (F := F) m ρ).duties (recvCell c c) r = ∅ := fun r _ => by
  show (if 38 + c.val < 6 then _ else if 38 + c.val = 6 + c.val ∨ 38 + c.val = 38 + c.val ∨ r ≠ 0 then _ else _) = _
  rw [if_neg (by omega), if_pos (by omega)]

theorem amount_bar (e : Dev nD) : (sched (F := F) m ρ).amount (barCell c) 0 e = 1 := rfl
theorem amount_copy (r : ℕ) (e : Dev nD) : (sched (F := F) m ρ).amount (copyCell c s) r e = NW := if_pos (show 4 + s.val < 6 by omega)
theorem amount_send (r : ℕ) (e : Dev nD) : (sched (F := F) m ρ).amount (sendCell c d) r e = N := if_neg (show ¬ 6 + d.val < 6 by omega)
theorem amount_recv (r : ℕ) (e : Dev nD) : (sched (F := F) m ρ).amount (recvCell c d) r e = N := if_neg (show ¬ 38 + d.val < 6 by omega)

theorem expect_bar : (sched (F := F) m ρ).expect (barCell c) 0 = 31 := by
  unfold Schedule.expect Schedule.amountOf
  rw [duties_bar, Finset.sum_congr rfl fun e _ => amount_bar m ρ c e, Finset.sum_const, Finset.card_erase_of_mem (Finset.mem_univ _), Finset.card_univ]
  rfl
theorem expect_copy (r : ℕ) (h : r < 2) : (sched (F := F) m ρ).expect (copyCell c s) r = NW := by
  unfold Schedule.expect Schedule.amountOf; rw [duties_copy m ρ c s r h, Finset.sum_singleton, amount_copy]
theorem expect_send (h : d ≠ c) : (sched (F := F) m ρ).expect (sendCell c d) 0 = N := by
  unfold Schedule.expect Schedule.amountOf; rw [duties_send m ρ c d h, Finset.sum_singleton, amount_send]
theorem expect_recv (h : d ≠ c) : (sched (F := F) m ρ).expect (recvCell c d) 0 = N := by
  unfold Schedule.expect Schedule.amountOf; rw [duties_recv m ρ c d h, Finset.sum_singleton, amount_recv]

theorem payload_bar (e : Dev nD) : (sched (F := F) m ρ).payload (barCell c) 0 e = rSlot e c := rfl
theorem payload_copy (r : ℕ) (e : Dev nD) : (sched (F := F) m ρ).payload (copyCell c s) r e = copyPay m c s r := by
  show (if (copyS s).val < 6 then _ else _) = _
  rw [if_pos (show (copyS s).val < 6 from copyS_lt s)]
  congr 1; apply Fin.ext; show (4 + s.val - 4) % 2 = s.val; omega
theorem payload_send (e : Dev nD) : (sched (F := F) m ρ).payload (sendCell c d) 0 e = ySlot c d := by
  have hd : d.val < 32 := d.isLt
  show (if 6 + d.val < 6 then _ else if 6 + d.val < 38 then _ else _) = _
  rw [if_neg (by omega), if_pos (by omega)]
  congr 1; apply Fin.ext; show (6 + d.val - 6) % 32 = d.val; omega
theorem payload_recv (e : Dev nD) : (sched (F := F) m ρ).payload (recvCell c d) 0 e = rSlotAt c d (sent m ρ d c) := by
  have hd : d.val < 32 := d.isLt
  show (if 38 + d.val < 6 then _ else if 38 + d.val < 38 then _ else _) = _
  rw [if_neg (by omega), if_neg (by omega)]
  have h : (⟨(38 + d.val - 38) % 32, Nat.mod_lt _ (by decide)⟩ : Dev nD) = d := Fin.ext (by show (38 + d.val - 38) % 32 = d.val; omega)
  show rSlotAt c (⟨(38 + d.val - 38) % 32, Nat.mod_lt _ (by decide)⟩ : Dev nD) (sent m ρ (⟨(38 + d.val - 38) % 32, Nat.mod_lt _ (by decide)⟩ : Dev nD) c) = _
  rw [h]

theorem rest_bar : bigSep ((sched (F := F) m ρ).duties (barCell c) 0 \ ∅) (fun e => (sched (F := F) m ρ).payload (barCell c) 0 e)
    = bigSep (Finset.univ.erase c) fun e => rSlot e c := by
  rw [Finset.sdiff_empty, duties_bar]; rfl
theorem rest_copy (r : ℕ) (h : r < 2) : bigSep ((sched (F := F) m ρ).duties (copyCell c s) r \ ∅) (fun e => (sched (F := F) m ρ).payload (copyCell c s) r e)
    = copyPay m c s r := by
  rw [Finset.sdiff_empty, duties_copy m ρ c s r h, bigSep_singleton, payload_copy]
theorem rest_send (h : d ≠ c) : bigSep ((sched (F := F) m ρ).duties (sendCell c d) 0 \ ∅) (fun e => (sched (F := F) m ρ).payload (sendCell c d) 0 e)
    = ySlot c d := by
  rw [Finset.sdiff_empty, duties_send m ρ c d h, bigSep_singleton, payload_send]
theorem rest_recv (h : d ≠ c) : bigSep ((sched (F := F) m ρ).duties (recvCell c d) 0 \ ∅) (fun e => (sched (F := F) m ρ).payload (recvCell c d) 0 e)
    = rSlotAt c d (sent m ρ d c) := by
  rw [Finset.sdiff_empty, duties_recv m ρ c d h, bigSep_singleton, payload_recv]
end Tables

/-! ## What a device owes, and the levels of the waits -/

/-- The receive credits still to be paid from place `n` on. -/
def sendsDue (c : Dev nD) (n : ℕ) : CellTallies nD τ sig Unit :=
  ∑ t ∈ Finset.Ico n 32, if dst c t = c then 0 else tallyAt (recvCell (dst c t) c) () N
/-- The barrier units still to be paid from the `n`-th peer on. -/
def barsDue (c : Dev nD) (n : ℕ) : CellTallies nD τ sig Unit :=
  ∑ t ∈ Finset.Ico n 32, tallyAt (barCell (src c t)) () 1

def L (g : GSem nD τ sig) : Finset Unit := if g.1.2 = .tc then {()} else ∅
/-- Barrier cells at 1, receive cells at 2, every other cell at 0. -/
def lvl (l : SemLoc sig) : ℕ := match l with
  | .reg _ => 1
  | .dma q => if 38 ≤ q.val then 2 else 0
def lv (g : GSem nD τ sig) (_ : Unit) : ℕ := lvl g.2

theorem L_of_ne (g : GSem nD τ sig) (h : g.1.2 ≠ .tc) : L g = ∅ := if_neg h
theorem L_tc (c : Dev nD) (sm : SemLoc sig) : L ((c : Thread nD τ), sm) = {()} := if_pos rfl

theorem lv_recv (c d : Dev nD) : lv (recvCell c d) () = 2 := if_pos (show 38 ≤ 38 + d.val by omega)
theorem lv_bar (c : Dev nD) : lv (barCell c) () = 1 := rfl

theorem sum_apply_pos {ι : Type} (S : Finset ι) (f : ι → CellTallies nD τ sig Unit) (g : GSem nD τ sig) (u : Unit)
    (h : 0 < (∑ t ∈ S, f t) g u) : ∃ t ∈ S, 0 < f t g u := by
  classical
  induction S using Finset.induction with
  | empty => simp at h
  | insert a S ha ih =>
    rw [Finset.sum_insert ha, Pi.add_apply, Finsupp.add_apply] at h
    rcases Nat.eq_zero_or_pos (f a g u) with h0 | h0
    · obtain ⟨t, ht, hp⟩ := ih (by omega); exact ⟨t, Finset.mem_insert_of_mem ht, hp⟩
    · exact ⟨a, Finset.mem_insert_self _ _, h0⟩
theorem tally_pos {g g' : GSem nD τ sig} {u : Unit} {k : ℕ} (h : 0 < (tallyAt g' () k : CellTallies nD τ sig Unit) g u) : g = g' := by
  rw [tallyAt_apply] at h
  by_contra hn
  rw [if_neg fun h' => hn h'.1] at h; exact Nat.lt_irrefl 0 h

theorem sendsDue_pos {c : Dev nD} {n : ℕ} {g : GSem nD τ sig} {u : Unit} (h : 0 < sendsDue c n g u) : ∃ d, g = recvCell d c := by
  obtain ⟨t, -, ht⟩ := sum_apply_pos _ _ _ _ h
  split at ht
  · exact absurd ht (Nat.lt_irrefl 0)
  · exact ⟨_, tally_pos ht⟩
theorem due_pos {c : Dev nD} {n n' : ℕ} {g : GSem nD τ sig} {u : Unit} (h : 0 < (sendsDue c n + barsDue c n') g u) :
    ∃ d, g = recvCell d c ∨ g = barCell d := by
  rw [Pi.add_apply, Finsupp.add_apply] at h
  rcases Nat.eq_zero_or_pos (sendsDue c n g u) with h0 | h0
  · obtain ⟨t, -, ht⟩ := sum_apply_pos _ _ _ _ (show 0 < (∑ t ∈ Finset.Ico n' 32, tallyAt (barCell (src c t)) () 1 : CellTallies nD τ sig Unit) g u by
      unfold barsDue at h; omega)
    exact ⟨_, .inr (tally_pos ht)⟩
  · obtain ⟨d, hd⟩ := sendsDue_pos h0; exact ⟨d, .inl hd⟩

/-- A wait at level 0 (staging, local copy) whatever is still owed; -/
theorem mayWait_low (c : Dev nD) (q : DmaSem sig) (hq : q.val < 38) (n n' : ℕ) :
    (levAts L lv : sProp 𝕄) ⊢ MayWait (c : Thread nD τ) (.dma q) () (sendsDue c n + barsDue c n') :=
  MayOwe.of_cut (L := L) (lev := lv) 0 (fun p hp => by rw [Finset.mem_singleton.mp hp, L_tc]; exact Finset.mem_singleton_self _)
    (fun g u hg => by obtain ⟨d, rfl | rfl⟩ := due_pos hg <;> exact Finset.mem_singleton_self _)
    (fun p hp => by rw [Finset.mem_singleton.mp hp]; show (if 38 ≤ q.val then 2 else 0) ≤ 0; rw [if_neg (by omega)])
    (fun g u hg => by
      obtain ⟨d, rfl | rfl⟩ := due_pos hg
      · show 0 < lv (recvCell d c) (); rw [lv_recv]; decide
      · exact Nat.one_pos)
/-- the barrier wait while the receive credits are owed. -/
theorem mayWait_bar (c : Dev nD) (n : ℕ) :
    (levAts L lv : sProp 𝕄) ⊢ MayWait (c : Thread nD τ) (.reg barS) () (sendsDue c n) :=
  MayOwe.of_cut (L := L) (lev := lv) 1 (fun p hp => by rw [Finset.mem_singleton.mp hp, L_tc]; exact Finset.mem_singleton_self _)
    (fun g u hg => by obtain ⟨d, rfl⟩ := sendsDue_pos hg; exact Finset.mem_singleton_self _)
    (fun p hp => by rw [Finset.mem_singleton.mp hp]; exact Nat.le_refl 1)
    (fun g u hg => by
      obtain ⟨d, rfl⟩ := sendsDue_pos hg
      show 1 < lv (recvCell d c) (); rw [lv_recv]; decide)

end Cert.A2A

end
-- ==== Proof.Sites.lean ====
/-
  One lemma per kind of step of the kernel: the store of the device's own block, the filling and sending of a slot, a local
  copy of a panel and its wait, the wait for a peer's block, and the wait for a send. The offsets, semaphores and device
  numbers the program computes are variables with their values as hypotheses, so each lemma serves every place that steps so.
-/
module

public import proofs.«01_k».proof.Proof.Protocol
public import Idealize.SL.BI.BigOpNat

@[expose] public section

noncomputable section

namespace Cert.A2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none
/-- The program logic's judgement for device `c`'s core. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## What every step may use: each cell's invariant, that each cell has reached round 0, and the levels -/

variable (K : Dev nD × Fin 67 → ℕ)

def Ctx : sProp 𝕄 :=
  iprop((bigSep Finset.univ fun ck : Dev nD × Fin 67 => cellInv ER (sched m ρ) (K ck) (kcell ck))
    ∗ (bigSep Finset.univ fun ck : Dev nD × Fin 67 => reached ER (kcell ck) 0) ∗ levAts L lv)

instance ctx_persistent : BI.Persistent (Ctx (F := F) m ρ K) := by unfold Ctx; infer_instance

theorem ctx_inv (c : Dev nD) (k : Fin 67) : Ctx m ρ K ⊢ cellInv ER (sched m ρ) (K (c, k)) ((c : Thread nD τ), csem k) := by
  have e : (bigSep Finset.univ fun ck : Dev nD × Fin 67 => (cellInv ER (sched m ρ) (K ck) (kcell ck) : sProp 𝕄)) ⊢ cellInv ER (sched m ρ) (K (c, k)) (kcell (c, k)) :=
    bigSep_elim (Finset.mem_univ (c, k))
  unfold Ctx; iintro ⟨H, -, -⟩
  iapply e $$ H
theorem ctx_reached (c : Dev nD) (k : Fin 67) : Ctx m ρ K ⊢ reached ER ((c : Thread nD τ), csem k) 0 := by
  have e : (bigSep Finset.univ fun ck : Dev nD × Fin 67 => (reached ER (kcell ck) 0 : sProp 𝕄)) ⊢ reached ER (kcell (c, k)) 0 :=
    bigSep_elim (Finset.mem_univ (c, k))
  unfold Ctx; iintro ⟨-, H, -⟩
  iapply e $$ H
theorem barsDue_end (c : Dev nD) : barsDue c 32 = (0 : CellTallies nD τ sig Unit) := by
  unfold barsDue; rw [Finset.Ico_self]; exact Finset.sum_empty
theorem mayWait_copy (c : Dev nD) (s : Fin 2) (n : ℕ) : Ctx m ρ K ⊢ MayWait (c : Thread nD τ) (.dma (copyS s)) () (sendsDue c n) := by
  have key : ∀ O, O = sendsDue c n + barsDue c 32 → ((levAts L lv : sProp 𝕄) ⊢ MayWait (c : Thread nD τ) (.dma (copyS s)) () O) := fun O hO => by
    subst hO; exact mayWait_low c (copyS s) (lt_trans (copyS_lt s) (by decide)) n 32
  have h := key (sendsDue c n) (by rw [barsDue_end]; exact (add_zero (sendsDue c n)).symm)
  unfold Ctx; iintro ⟨-, -, H⟩; iapply h $$ H
theorem mayWait_barrier (c : Dev nD) (n : ℕ) : Ctx m ρ K ⊢ MayWait (c : Thread nD τ) (.reg barS) () (sendsDue c n) := by
  unfold Ctx; iintro ⟨-, -, H⟩; iapply (mayWait_bar c n) $$ H

theorem inv_bar (c : Dev nD) : Ctx m ρ K ⊢ cellInv ER (sched m ρ) (K (c, kBar)) (barCell c) := ctx_inv m ρ K c kBar
theorem inv_copy (c : Dev nD) (s : Fin 2) : Ctx m ρ K ⊢ cellInv ER (sched m ρ) (K (c, kCopy s)) (copyCell c s) := by
  have h := ctx_inv m ρ K c (kCopy s); rw [csem_copy] at h; exact h
theorem inv_send (c d : Dev nD) : Ctx m ρ K ⊢ cellInv ER (sched m ρ) (K (c, kSend d)) (sendCell c d) := by
  have h := ctx_inv m ρ K c (kSend d); rw [csem_send] at h; exact h
theorem inv_recv (c d : Dev nD) : Ctx m ρ K ⊢ cellInv ER (sched m ρ) (K (c, kRecv d)) (recvCell c d) := by
  have h := ctx_inv m ρ K c (kRecv d); rw [csem_recv] at h; exact h
theorem reached_bar (c : Dev nD) : Ctx m ρ K ⊢ reached ER (barCell c) 0 := ctx_reached m ρ K c kBar
theorem reached_copy (c : Dev nD) (s : Fin 2) : Ctx m ρ K ⊢ reached ER (copyCell c s) 0 := by
  have h := ctx_reached m ρ K c (kCopy s); rw [csem_copy] at h; exact h
theorem reached_send (c d : Dev nD) : Ctx m ρ K ⊢ reached ER (sendCell c d) 0 := by
  have h := ctx_reached m ρ K c (kSend d); rw [csem_send] at h; exact h
theorem reached_recv (c d : Dev nD) : Ctx m ρ K ⊢ reached ER (recvCell c d) 0 := by
  have h := ctx_reached m ρ K c (kRecv d); rw [csem_recv] at h; exact h

/-! ## The printed semaphores are the cells' -/

theorem inbS2 (s : Fin 2) : ∀ a, (![s.val] : Fin 1 → ℕ) a + S1.size a ≤ S2.size a := by revert s; decide
theorem inbS32 (d : Dev nD) : ∀ a, (![d.val] : Fin 1 → ℕ) a + S1.size a ≤ S32.size a := by revert d; decide
theorem sem_copy (s : Fin 2) (h : ∀ a, (![s.val] : Fin 1 → ℕ) a + S1.size a ≤ S2.size a) :
    ((cc0_scratch3.slice (Rect.unit (s := S2) ![s.val] S1.size h)).squeeze S_ squeezes_S1_S_).sem = copyS s := by
  have e : ∀ s : Fin 2, ((cc0_scratch3.slice (Rect.unit (s := S2) ![s.val] S1.size (inbS2 s))).squeeze S_ squeezes_S1_S_).sem = copyS s := by decide +kernel
  exact e s
theorem sem_send (d : Dev nD) (h : ∀ a, (![d.val] : Fin 1 → ℕ) a + S1.size a ≤ S32.size a) :
    ((cc0_scratch4.slice (Rect.unit (s := S32) ![d.val] S1.size h)).squeeze S_ squeezes_S1_S_).sem = sendS d := by
  have e : ∀ d : Dev nD, ((cc0_scratch4.slice (Rect.unit (s := S32) ![d.val] S1.size (inbS32 d))).squeeze S_ squeezes_S1_S_).sem = sendS d := by decide +kernel
  exact e d
theorem sem_recv (d : Dev nD) (h : ∀ a, (![d.val] : Fin 1 → ℕ) a + S1.size a ≤ S32.size a) :
    ((cc0_scratch5.slice (Rect.unit (s := S32) ![d.val] S1.size h)).squeeze S_ squeezes_S1_S_).sem = recvS d := by
  have e : ∀ d : Dev nD, ((cc0_scratch5.slice (Rect.unit (s := S32) ![d.val] S1.size (inbS32 d))).squeeze S_ squeezes_S1_S_).sem = recvS d := by decide +kernel
  exact e d

/-! ## Reads and writes of slots and rows -/

theorem send_landed (c d : Dev nD) (fy : yM.view.ty.Contents (Elt F)) (fr : rM.view.ty.Contents (Elt F)) (v : FVec F S1x128x256 .bf16) :
    (rM.view.slice (slotR c)).read (Elt F) ((rSl c).view.write (Elt F) fr
      ((ySl d).view.read (Elt F) ((yM.access (slotR d)).write (Elt F) fy v Finset.univ)) Finset.univ) = v := by
  have e : (rSl c).view.write (Elt F) fr ((ySl d).view.read (Elt F) ((yM.access (slotR d)).write (Elt F) fy v Finset.univ)) Finset.univ
      = (rM.view.slice (slotR c)).write (Elt F) fr v Finset.univ := by
    refine (View.write_reshape_univ (rM.view.slice (slotR c)) _ fr _).trans ?_
    refine congrArg (fun w => (rM.view.slice (slotR c)).write (Elt F) fr w Finset.univ) (funext fun x => ?_)
    have e2 := congrFun (View.read_write_univ (v := yM.view.slice (slotR d)) fy v)
    exact (e2 _).trans (congrArg v (Equiv.apply_symm_apply _ x))
  exact (congrArg _ e).trans (View.read_write_univ (v := rM.view.slice (slotR c)) fr v)

/-- Row `128 d + x₀` of the result is row `x₀` of block `d`. -/
theorem result_at (c d : Dev nD) (i : S4096x256.Idx) (x : S128x256.Idx) (h0 : (i 0).val = 128 * d.val + (x 0).val) (h1 : (i 1).val = (x 1).val) :
    result m ρ c i = out m ρ c d x := by
  have hx : (x 0).val < 128 := (x 0).isLt
  have hi : (i 0).val < 4096 := (i 0).isLt
  have key : ∀ (d' : Dev nD) (x' : S128x256.Idx), d' = d → x' = x → out m ρ c d' x' = out m ρ c d x := fun d' x' hd hx' => by rw [hd, hx']
  refine key ⟨(i 0).val / 128, by show _ < 32; omega⟩ _ (Fin.ext (by show (i 0).val / 128 = d.val; omega)) (funext fun a => ?_)
  match a with
  | ⟨0, _⟩ => exact Fin.ext (by show (i 0).val % 128 = (x 0).val; omega)
  | ⟨1, _⟩ => exact Fin.ext h1

theorem rows_written (c d : Dev nD) (f : oM.view.ty.Contents (Elt F)) :
    ∀ i ∈ (rowsR d).set, ((oM.access (rowsR d)).write (Elt F) f (out m ρ c d) Finset.univ) i = result m ρ c i := fun i hi => by
  obtain ⟨x, rfl⟩ := (rowsR d).exists_idx_of_mem hi
  refine (View.write_emb_of_mem (v := oM.access (rowsR d)) f _ (Finset.mem_univ x)).trans ?_
  refine (result_at m ρ c d _ x ?_ ?_).symm
  · show 128 * d.val + 1 * (x 0).val = _; rw [Nat.one_mul]
  · show 0 + 1 * (x 1).val = _; rw [Nat.one_mul, Nat.zero_add]

/-! ## The own block -/

/-- The device's own rows of the result, once place `n` is past. -/
def Own (c : Dev nD) (n : ℕ) : sProp 𝕄 := if c.val % 8 < n then oRowsAt m ρ c c else oRows c c

/-- What the transfer of `c`'s block for `d` needs. -/
def sendPre (c d : Dev nD) : sProp 𝕄 :=
  iprop(ySlot c d ∗ rSlot d c ∗ dutyTok ER (sendCell c d) 0 (0 : Dev nD) ∗ dutyTok ER (recvCell d c) 0 (0 : Dev nD))
def sendCred (c d : Dev nD) : sProp 𝕄 := cred (tallyAt (sendCell c d) () N)
/-- Before place `n`: what is owed, what the later transfers need, the credits of the earlier. -/
def Snd (c : Dev nD) (n : ℕ) : sProp 𝕄 :=
  iprop((∃ W : Waits sig Unit, owes (c : Thread nD τ) (sendsDue c n) W)
    ∗ (bigSep (Finset.Ico n 32) fun t => if dst c t = c then iprop(emp) else sendPre c (dst c t))
    ∗ (bigSep (Finset.range n) fun t => if dst c t = c then iprop(emp) else sendCred c (dst c t)))

/-- The state between two places: places before `i` have had their own-block test, places before `j` their send. -/
def S (c : Dev nD) (i j : ℕ) (R : sProp 𝕄) : sProp 𝕄 := iprop(Ctx m ρ K ∗ Own m ρ c i ∗ Snd c j ∗ R)

theorem own_rule (c : Dev nD) (t : ℕ) (ht : t < 32) {cond : BitVec 1} {o2 : Fin 2 → ℕ} (H : OwnSite c t cond o2)
    {v : FVec F S128x256 .f32} (hv : v = blk m ρ c (dst c t)) {α : Type} {Φ : α → sProp 𝕄} {p : Prog (TpuEff nD τ sig (Elt F) Λ₀ .tc) α} {j : ℕ} {R : sProp 𝕄}
    {inb : cond = 1#1 → ∀ a, o2 a + S128x256.size a ≤ S4096x256.size a}
    {hl : ∀ h : cond = 1#1, oM.view.LoadsAt (Rect.unit (s := S4096x256) o2 S128x256.size (inb h)).toLoadRect}
    {hx : ∀ h : cond = 1#1, (oM.access (Rect.unit (s := S4096x256) o2 S128x256.size (inb h))).Stores Finset.univ}
    {hm : ∀ h : cond = 1#1, (Finset.univ : Finset (Rect.unit (s := S4096x256) o2 S128x256.size (inb h)).shape.Idx) = Finset.univ ∨ ∀ a, (Rect.unit (s := S4096x256) o2 S128x256.size (inb h)).stride a = 1}
    (hk : S m ρ K c (t + 1) j R ⊢ WP c p Φ) :
    S m ρ K c t j R
      ⊢ WP c (if h : cond = 1#1 then
            Prog.lift (.load oM (Rect.unit (s := S4096x256) o2 S128x256.size (inb h)).toLoadRect (hl h)) >>= fun _ =>
            Prog.lift (.store oM (Rect.unit (s := S4096x256) o2 S128x256.size (inb h)) v Finset.univ (hx h) (hm h)) >>= fun _ => p
          else p) Φ := by
  obtain ⟨hc, rfl⟩ := H
  have hiff := dst_eq_iff c t ht
  by_cases h : cond = 1#1
  · have hd := hc.mp h
    have htc := hiff.mp hd
    rw [dif_pos h]
    simp only [Prog.lift, Prog.bind_op, Prog.bind_ret]
    unfold S at hk ⊢
    rw [show Own m ρ c (t + 1) = oRowsAt m ρ c c from if_pos (by omega)] at hk
    rw [show Own m ρ c t = oRows c c from if_neg (by omega)]
    unfold oRows WP; unfold oRowsAt WP at hk
    iintro ⟨HC, ⟨%f, Ho⟩, HS, HR⟩
    iapply (wp_load_rect 𝒱₀ (c : Thread nD τ) none Set.univ (m := oM) (r := rowsR c) (hl := hl h) (by rw [show (oM.access (rowsR c)).set = (rowsR c).set from View.set_slice_whole _ _])) $$ Ho; iintro Ho
    iapply (wp_store 𝒱₀ (c : Thread nD τ) none Set.univ (m := oM) (r := rowsR c) (Mk := Finset.univ) (hx := hx h) (hm := hm h) (by rw [View.setOn_univ, show (oM.access (rowsR c)).set = (rowsR c).set from View.set_slice_whole _ _])) $$ Ho; iintro Ho
    iapply hk
    isplitl [HC]; · iexact HC
    isplitl [Ho]
    · have e := rows_written m ρ c c f
      rw [show out m ρ c c = v from (if_pos rfl).trans ((congrArg (blk m ρ c) hd.symm).trans hv.symm)] at e
      iapply (Entails.of_eq (pointsTo_congr (q := fullShare) e)) $$ Ho
    isplitl [HS] <;> iassumption
  · have htc : t ≠ c.val % 8 := fun e => h (hc.mpr (hiff.mpr e))
    rw [dif_neg h]
    have e : Own m ρ c t = Own m ρ c (t + 1) := by
      unfold Own; by_cases hlt : c.val % 8 < t
      · rw [if_pos hlt, if_pos (by omega)]
      · rw [if_neg hlt, if_neg (by omega)]
    unfold S at hk ⊢; rw [e]; exact hk

/-! ## A block's transfer -/

set_option maxHeartbeats 800000 in
theorem send_core (c d : Dev nD) (hd : d ≠ c) (v : FVec F S1x128x256 .bf16) (hv : v = sent m ρ c d)
    (dv : Dev nD) (hdv : dv = d) (qs qr : DmaSem sig) (hqs : qs = sendS d) (hqr : qr = recvS c) (O : CellTallies nD τ sig Unit)
    {hl : yM.view.LoadsAt (slotR d).toLoadRect} {hx : (yM.access (slotR d)).Stores Finset.univ}
    {hm : (Finset.univ : Finset (slotR d).shape.Idx) = Finset.univ ∨ ∀ a, (slotR d).stride a = 1}
    {hsc : (rSl c).view.ref.isScScratch = false}
    {hsrc : (ySl d).view.WordExact} {hdst : (rSl c).view.WordExact}
    {hsem : DmaTarget.Typed .vmem (.dma qr) (.remote (Dev.tc dv : Thread nD τ) (rSl c) (.dma qs) hsc)}
    {α : Type} (Φ : α → sProp 𝕄) (k : PUnit → Prog (TpuEff nD τ sig (Elt F) Λ₀ .tc) α) :
    iprop(Ctx m ρ K ∗ (∃ W : Waits sig Unit, owes (c : Thread nD τ) (O + tallyAt (recvCell d c) () N) W) ∗ sendPre c d
        ∗ (((∃ W : Waits sig Unit, owes (c : Thread nD τ) O W) ∗ sendCred c d) -∗ WP c (k ⟨⟩) Φ))
      ⊢ WP c (.op (.load yM (slotR d).toLoadRect hl) fun _ => .op (.store yM (slotR d) v Finset.univ hx hm) fun _ =>
            .op (.enqueueDma (ySl d) (.remote (Dev.tc dv : Thread nD τ) (rSl c) (.dma qs) hsc) (.dma qr) hsrc hdst hsem) k) Φ := by
  subst hdv hqs hqr hv
  unfold sendPre ySlot rSlot sendCred WP
  iintro ⟨#HC, ⟨%W, HO⟩, ⟨⟨%fy, Hy⟩, ⟨%fr, Hr⟩, Ht1, Ht2⟩, Hk⟩
  iapply (wp_load_rect 𝒱₀ (c : Thread nD τ) none Set.univ (m := yM) (r := slotR dv) (hl := hl) (by rw [show (yM.access (slotR dv)).set = (slotR dv).set from View.set_slice_whole _ _])) $$ Hy; iintro Hy
  iapply (wp_store 𝒱₀ (c : Thread nD τ) none Set.univ (m := yM) (r := slotR dv) (Mk := Finset.univ) (hx := hx) (hm := hm) (by rw [View.setOn_univ, show (yM.access (slotR dv)).set = (slotR dv).set from View.set_slice_whole _ _])) $$ Hy; iintro Hy
  ihave #HI1 := (inv_send m ρ K c dv) $$ HC
  ihave #HI2 := (inv_recv m ρ K dv c) $$ HC
  ihave #HR1 := (reached_send m ρ K c dv) $$ HC
  ihave #HR2 := (reached_recv m ρ K dv c) $$ HC
  rw [← ySl_set, ← rSl_set]
  iapply (Rounds.wp_send_pointsTo 𝒱₀ ER (sched m ρ) (c : Thread nD τ) none (κ₁ := K (c, kSend dv)) (κ₂ := K (dv, kRecv c))
      (c' := (Dev.tc dv : Thread nD τ)) (src := ySl dv) (dst := rSl c)
      (r₁ := 0) (r₂ := 0) (d₁ := 0) (d₂ := 0) (fd := fr) (fs := (yM.access (slotR dv)).write (Elt F) fy (sent m ρ c dv) Finset.univ)
      (by rw [duties_send m ρ c dv hd]; exact Finset.mem_singleton_self _) (by rw [duties_recv m ρ dv c hd.symm]; exact Finset.mem_singleton_self _)
      () () N rfl (amount_send m ρ c dv 0 0) (amount_recv m ρ dv c 0 0) O rfl (W := W)
      (by rw [payload_send, ySl_set]; unfold ySlot; iintro H; iexists _; iexact H)
      (by
        rw [payload_recv, rSl_set]; unfold rSlotAt; iintro H; iexists _; isplitr
        · ipureintro; exact send_landed c dv fy fr (sent m ρ c dv)
        · iexact H)) $$ [HO Hy Hr Ht1 Ht2]
  · isplitr; · iexact HI1
    isplitr; · iexact HI2
    isplitl [Hy]; · iexact Hy
    isplitl [Hr]; · iexact Hr
    isplitl [HO]; · iexact HO
    isplitl [Ht1]; · iexact Ht1
    isplitr; · iexact HR1
    isplitl [Ht2]; · iexact Ht2
    iexact HR2
  iintro ⟨Hcr, HO⟩
  iapply Hk
  isplitl [HO]; · iexists W; iexact HO
  iexact Hcr

theorem snd_step_own (c : Dev nD) (t : ℕ) (ht : t < 32) (h : dst c t = c) : Snd (F := F) c t ⊢ Snd (F := F) c (t + 1) := by
  unfold Snd sendsDue
  rw [bigSep_Ico_succ_bot ht, bigSep_range_succ, Ring.sum_Ico_succ ht, if_pos h, if_pos h, if_pos h, zero_add]
  iintro ⟨HO, ⟨-, Hl⟩, He⟩
  isplitl [HO]; · iexact HO
  isplitl [Hl]; · iexact Hl
  isplitr <;> first | iexact He | iempintro

theorem snd_step (c : Dev nD) (t : ℕ) (ht : t < 32) (h : dst c t ≠ c) :
    Snd (F := F) c t ⊢ iprop((∃ W : Waits sig Unit, owes (c : Thread nD τ) (sendsDue c (t + 1) + tallyAt (recvCell (dst c t) c) () N) W)
      ∗ sendPre c (dst c t) ∗ (((∃ W : Waits sig Unit, owes (c : Thread nD τ) (sendsDue c (t + 1)) W) ∗ sendCred c (dst c t)) -∗ Snd c (t + 1))) := by
  unfold Snd
  rw [bigSep_Ico_succ_bot ht, bigSep_range_succ, if_neg h, if_neg h,
    show sendsDue c t = sendsDue c (t + 1) + tallyAt (recvCell (dst c t) c) () N from by
      unfold sendsDue; rw [Ring.sum_Ico_succ ht, if_neg h, add_comm]]
  iintro ⟨HO, ⟨Hp, Hl⟩, He⟩
  isplitl [HO]; · iexact HO
  isplitl [Hp]; · iexact Hp
  iintro ⟨HO, Hc⟩
  isplitl [HO]; · iexact HO
  isplitl [Hl]; · iexact Hl
  isplitl [Hc] <;> iassumption

theorem send_rule (c : Dev nD) (t : ℕ) (ht : t < 32) {cond : BitVec 1} {o3 o6 o7 : Fin 3 → ℕ} {o4 o5 : Fin 1 → ℕ} {dv : ℕ}
    (H : SendSite c t cond o3 o4 o5 o6 o7 dv)
    {v : FVec F S1x128x256 .bf16} (hv : v = sent m ρ c (dst c t)) {α : Type} {Φ : α → sProp 𝕄} {p : Prog (TpuEff nD τ sig (Elt F) Λ₀ .tc) α} {i : ℕ} {R : sProp 𝕄}
    {i3 : cond = 1#1 → ∀ a, o3 a + S1x128x256.size a ≤ S32x128x256.size a} {i6 : cond = 1#1 → ∀ a, o6 a + S1x128x256.size a ≤ S32x128x256.size a}
    {i7 : cond = 1#1 → ∀ a, o7 a + S1x128x256.size a ≤ S32x128x256.size a}
    {i4 : cond = 1#1 → ∀ a, o4 a + S1.size a ≤ S32.size a} {i5 : cond = 1#1 → ∀ a, o5 a + S1.size a ≤ S32.size a}
    {hdv : cond = 1#1 → dv < nD}
    {hl : ∀ h : cond = 1#1, yM.view.LoadsAt (Rect.unit (s := S32x128x256) o3 S1x128x256.size (i3 h)).toLoadRect}
    {hx : ∀ h : cond = 1#1, (yM.access (Rect.unit (s := S32x128x256) o3 S1x128x256.size (i3 h))).Stores Finset.univ}
    {hm : ∀ h : cond = 1#1, (Finset.univ : Finset (Rect.unit (s := S32x128x256) o3 S1x128x256.size (i3 h)).shape.Idx) = Finset.univ ∨ ∀ a, (Rect.unit (s := S32x128x256) o3 S1x128x256.size (i3 h)).stride a = 1}
    {hsc : ∀ h : cond = 1#1, ((rM.slice (Rect.unit (s := S32x128x256) o6 S1x128x256.size (i6 h)) (fun _ => rfl)).squeeze S128x256 squeezes_S1x128x256_S128x256).view.ref.isScScratch = false}
    {hsrc : ∀ h : cond = 1#1, ((yM.slice (Rect.unit (s := S32x128x256) o7 S1x128x256.size (i7 h)) (fun _ => rfl)).squeeze S128x256 squeezes_S1x128x256_S128x256).view.WordExact}
    {hdst : ∀ h : cond = 1#1, ((rM.slice (Rect.unit (s := S32x128x256) o6 S1x128x256.size (i6 h)) (fun _ => rfl)).squeeze S128x256 squeezes_S1x128x256_S128x256).view.WordExact}
    {hsem : ∀ h : cond = 1#1, DmaTarget.Typed .vmem (.dma ((cc0_scratch5.slice (Rect.unit (s := S32) o5 S1.size (i5 h))).squeeze S_ squeezes_S1_S_).sem)
      (.remote (Dev.tc (⟨dv, hdv h⟩ : Dev nD)) ((rM.slice (Rect.unit (s := S32x128x256) o6 S1x128x256.size (i6 h)) (fun _ => rfl)).squeeze S128x256 squeezes_S1x128x256_S128x256)
        (.dma ((cc0_scratch4.slice (Rect.unit (s := S32) o4 S1.size (i4 h))).squeeze S_ squeezes_S1_S_).sem) (hsc h))}
    (hk : S m ρ K c i (t + 1) R ⊢ WP c p Φ) :
    S m ρ K c i t R
      ⊢ WP c (if h : cond = 1#1 then
            Prog.lift (.load yM (Rect.unit (s := S32x128x256) o3 S1x128x256.size (i3 h)).toLoadRect (hl h)) >>= fun _ =>
            Prog.lift (.store yM (Rect.unit (s := S32x128x256) o3 S1x128x256.size (i3 h)) v Finset.univ (hx h) (hm h)) >>= fun _ =>
            Prog.lift (.enqueueDma ((yM.slice (Rect.unit (s := S32x128x256) o7 S1x128x256.size (i7 h)) (fun _ => rfl)).squeeze S128x256 squeezes_S1x128x256_S128x256)
              (.remote (Dev.tc (⟨dv, hdv h⟩ : Dev nD)) ((rM.slice (Rect.unit (s := S32x128x256) o6 S1x128x256.size (i6 h)) (fun _ => rfl)).squeeze S128x256 squeezes_S1x128x256_S128x256)
                (.dma ((cc0_scratch4.slice (Rect.unit (s := S32) o4 S1.size (i4 h))).squeeze S_ squeezes_S1_S_).sem) (hsc h))
              (.dma ((cc0_scratch5.slice (Rect.unit (s := S32) o5 S1.size (i5 h))).squeeze S_ squeezes_S1_S_).sem) (hsrc h) (hdst h) (hsem h)) >>= fun _ => p
          else p) Φ := by
  obtain ⟨hc, rfl, rfl, rfl, rfl, rfl, rfl⟩ := H
  unfold S at hk ⊢
  by_cases h : cond = 1#1
  · rw [dif_pos h]
    have hd := hc.mp h
    simp only [Prog.lift, Prog.bind_op, Prog.bind_ret]
    iintro ⟨#HC, Hw, Hs, HR⟩
    ihave Hs := (snd_step c t ht hd) $$ Hs
    icases Hs with ⟨HO, Hp, Hs⟩
    iapply (send_core m ρ K c (dst c t) hd v hv _ rfl _ _ (sem_send (dst c t) (i4 h)) (sem_recv c (i5 h)) (sendsDue c (t + 1)) Φ _) $$ [HO Hp Hs Hw HR]
    isplitr; · iexact HC
    isplitl [HO]; · iexact HO
    isplitl [Hp]; · iexact Hp
    iintro H
    iapply hk
    isplitr; · iexact HC
    isplitl [Hw]; · iexact Hw
    isplitl [H Hs]; · iapply Hs; iexact H
    iexact HR
  · rw [dif_neg h]
    have hd : dst c t = c := by by_contra hn; exact h (hc.mpr hn)
    iintro ⟨HC, Hw, Hs, HR⟩
    iapply hk
    isplitl [HC]; · iexact HC
    isplitl [Hw]; · iexact Hw
    isplitl [Hs]; · iapply (snd_step_own c t ht hd) $$ Hs
    iexact HR

end Cert.A2A

end
-- ==== Proof.Steps.lean ====
/-
  The rest of the kernel's steps, as rules over a common continuation: the local copies of the panels and their waits, the wait
  for a peer's block and its store, and the wait for a send to have left.
-/
module

public import proofs.«01_k».proof.Proof.Sites

@[expose] public section

noncomputable section

namespace Cert.A2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Fin 67 → ℕ)

theorem ret_rule {c : Dev nD} {α : Type} {a : α} {Φ : α → sProp 𝕄} {P : sProp 𝕄} (h : P ⊢ Φ a) : P ⊢ WP c (Prog.ret a) Φ := by
  unfold WP; rw [wp_ret]; iintro H; imodintro; iapply h $$ H
theorem bind_rule {c : Dev nD} {α β : Type} {p : Prog (TpuEff nD τ sig (Elt F) Λ₀ .tc) α} {k : α → Prog (TpuEff nD τ sig (Elt F) Λ₀ .tc) β}
    {Φ : β → sProp 𝕄} {P : sProp 𝕄} (h : P ⊢ WP c p fun a => WP c (k a) Φ) : P ⊢ WP c (p >>= k) Φ := by
  unfold WP at h ⊢; rw [wp_bind]; exact h

theorem S_swap {c : Dev nD} {i j : ℕ} {A B X G : sProp 𝕄} (h : S m ρ K c i j iprop(B ∗ A ∗ X) ⊢ G) : S m ρ K c i j iprop(A ∗ B ∗ X) ⊢ G := by
  refine BIBase.Entails.trans ?_ h
  unfold S
  iintro ⟨HC, HO, HS, HA, HB, HX⟩
  isplitl [HC]; · iexact HC
  isplitl [HO]; · iexact HO
  isplitl [HS]; · iexact HS
  isplitl [HB]; · iexact HB
  isplitl [HA] <;> iassumption

/-! ## The panels -/

/-- Staging slot `s` after `n` copies begun and `w` waited for. -/
def Slot (c : Dev nD) (s : Fin 2) (n w : ℕ) : sProp 𝕄 :=
  iprop((if n = w then wSlot c s else cred (tallyAt (copyCell c s) () NW))
    ∗ (bigSep (Finset.Ico n 2) fun r => iprop(wPanel m c (grp c (2 * r + s.val)) ∗ dutyTok ER (copyCell c s) r (0 : Dev nD)))
    ∗ (bigSep (Finset.range w) fun r => wPanel m c (grp c (2 * r + s.val)))
    ∗ atPos ER (copyCell c s) w ∅ 0 ∗ reached ER (copyCell c s) w)

theorem copy_landed (c : Dev nD) (s : Fin 2) (g : Fin 4) (fw : wM.view.ty.Contents (Elt F)) :
    (wM.view.slice (slotW s)).read (Elt F) ((wSl s).view.write (Elt F) fw ((pan g).view.read (Elt F) (warr m c)) Finset.univ) = panel m c g := by
  refine (congrArg _ (View.write_reshape_univ (wM.view.slice (slotW s)) _ fw _)).trans ?_
  refine (View.read_write_univ (v := wM.view.slice (slotW s)) fw _).trans ?_
  rfl

theorem copy_rule (c : Dev nD) (s : Fin 2) (r : ℕ) (hr : r < 2) {o : Fin 2 → ℕ} (ho : o = ![0, 2048 * (grp c (2 * r + s.val)).val])
    {α : Type} {Φ : α → sProp 𝕄} {k : PUnit → Prog (TpuEff nD τ sig (Elt F) Λ₀ .tc) α} {i j : ℕ} {R : sProp 𝕄}
    {i1 : ∀ a, o a + S4096x2048.size a ≤ S4096x8192.size a} {i2 : ∀ a, (![s.val, 0, 0] : Fin 3 → ℕ) a + S1x4096x2048.size a ≤ S2x4096x2048.size a}
    {i3 : ∀ a, (![s.val] : Fin 1 → ℕ) a + S1.size a ≤ S2.size a}
    {hsrc : (wH.slice (Rect.unit (s := S4096x8192) o S4096x2048.size i1) (fun _ => rfl)).view.WordExact}
    {hdst : ((wM.slice (Rect.unit (s := S2x4096x2048) ![s.val, 0, 0] S1x4096x2048.size i2) (fun _ => rfl)).squeeze S4096x2048 squeezes_S1x4096x2048_S4096x2048).view.WordExact}
    {hsem : DmaTarget.Typed (nD := nD) (τ := τ) (p := .tc) .hbm (.dma ((cc0_scratch3.slice (Rect.unit (s := S2) ![s.val] S1.size i3)).squeeze S_ squeezes_S1_S_).sem)
      (.here ((wM.slice (Rect.unit (s := S2x4096x2048) ![s.val, 0, 0] S1x4096x2048.size i2) (fun _ => rfl)).squeeze S4096x2048 squeezes_S1x4096x2048_S4096x2048))}
    (hk : S m ρ K c i j iprop(Slot m c s (r + 1) r ∗ R) ⊢ WP c (k ⟨⟩) Φ) :
    S m ρ K c i j iprop(Slot m c s r r ∗ R)
      ⊢ WP c (Prog.lift (.enqueueDma (wH.slice (Rect.unit (s := S4096x8192) o S4096x2048.size i1) (fun _ => rfl))
          (.here ((wM.slice (Rect.unit (s := S2x4096x2048) ![s.val, 0, 0] S1x4096x2048.size i2) (fun _ => rfl)).squeeze S4096x2048 squeezes_S1x4096x2048_S4096x2048))
          (.dma ((cc0_scratch3.slice (Rect.unit (s := S2) ![s.val] S1.size i3)).squeeze S_ squeezes_S1_S_).sem) hsrc hdst hsem) >>= k) Φ := by
  subst ho
  have core : ∀ (q : DmaSem sig) (hq : q = copyS s) (hsem : DmaTarget.Typed (nD := nD) (τ := τ) (p := .tc) .hbm (.dma q) (.here (wSl s))),
      S m ρ K c i j iprop(Slot m c s r r ∗ R)
        ⊢ WP c (.op (.enqueueDma (pan (grp c (2 * r + s.val))) (.here (wSl s)) (.dma q) hsrc hdst hsem) k) Φ := fun q hq hsem => by
    subst hq
    unfold S Slot at hk ⊢
    rw [if_neg (Nat.succ_ne_self r), ] at hk
    rw [if_pos rfl, bigSep_Ico_succ_bot hr]
    unfold wSlot WP; unfold WP at hk
    iintro ⟨#HC, Hown, HS, ⟨⟨%fw, Hw⟩, ⟨⟨Hp, Ht⟩, Hl⟩, He, Hat, #Hre⟩, HR⟩
    ihave #HI := (inv_copy m ρ K c s) $$ HC
    unfold wPanel
    rw [← wSl_set, ← pan_set]
    iapply (Rounds.wp_copy_pointsTo 𝒱₀ ER (sched m ρ) (c : Thread nD τ) none (κ := K (c, kCopy s)) (src := pan (grp c (2 * r + s.val))) (dst := wSl s)
        (r := r) (d := 0) (fd := fw) (fs := warr m c) (q := fullShare)
        (by rw [duties_copy m ρ c s r hr]; exact Finset.mem_singleton_self _) () NW rfl (amount_copy m ρ c s r 0)
        (by
          rw [payload_copy]; unfold copyPay wSlotAt wPanel; rw [wSl_set, pan_set]
          iintro ⟨H, H'⟩; isplitl [H]
          · iexists _; isplitr
            · ipureintro; exact copy_landed m c s _ fw
            · iexact H
          · iexact H')) $$ [Hw Hp Ht]
    · isplitr; · iexact HI
      isplitl [Hp]; · iexact Hp
      isplitl [Hw]; · iexact Hw
      isplitl [Ht] <;> iassumption
    iintro Hcr
    iapply hk
    isplitr; · iexact HC
    isplitl [Hown]; · iexact Hown
    isplitl [HS]; · iexact HS
    isplitr [HR]
    · isplitl [Hcr]; · iexact Hcr
      isplitl [Hl]; · unfold wPanel; iexact Hl
      isplitl [He]; · unfold wPanel; iexact He
      isplitl [Hat] <;> iassumption
    iexact HR
  exact core _ (sem_copy s i3) hsem

/-- The device's rows of `x`, staged. -/
def xPt (c : Dev nD) : sProp 𝕄 := ((c : Thread nD τ).loc cc0_stg0_0) ↦{fullShare} xstg m ρ c

theorem hz2 : (![0, 0] : Fin 2 → ℕ) = fun _ => 0 := funext fun a => by fin_cases a <;> rfl

theorem panel_rule (c : Dev nD) (s : Fin 2) (r : ℕ) (hr : r < 2) {o : Fin 2 → ℕ}
    {α : Type} {Φ : α → sProp 𝕄} {k : Vec F S128x4096 .i8 → Vec F S1x4096x2048 .i8 → Prog (TpuEff nD τ sig (Elt F) Λ₀ .tc) α} {i j : ℕ} {Y R : sProp 𝕄}
    {i1 : ∀ a, o a + S4096x2048.size a ≤ S4096x8192.size a} {i2 : ∀ a, (![s.val, 0, 0] : Fin 3 → ℕ) a + S1x4096x2048.size a ≤ S2x4096x2048.size a}
    {i3 : ∀ a, (![s.val] : Fin 1 → ℕ) a + S1.size a ≤ S2.size a} {i4 : ∀ a, (![0, 0] : Fin 2 → ℕ) a + S128x4096.size a ≤ S128x4096.size a}
    {hsrc : (wH.slice (Rect.unit (s := S4096x8192) o S4096x2048.size i1) (fun _ => rfl)).view.WordExact}
    {hdst : ((wM.slice (Rect.unit (s := S2x4096x2048) ![s.val, 0, 0] S1x4096x2048.size i2) (fun _ => rfl)).squeeze S4096x2048 squeezes_S1x4096x2048_S4096x2048).view.WordExact}
    {hl1 : xM.view.LoadsAt (Rect.unit (s := S128x4096) ![0, 0] S128x4096.size i4).toLoadRect}
    {hl2 : wM.view.LoadsAt (Rect.unit (s := S2x4096x2048) ![s.val, 0, 0] S1x4096x2048.size i2).toLoadRect}
    (hk : S m ρ K c i j iprop(Slot m c s (r + 1) (r + 1) ∗ Y ∗ xPt m ρ c ∗ R) ⊢ WP c (k (xstg m ρ c) (panel m c (grp c (2 * r + s.val)))) Φ) :
    S m ρ K c i j iprop(Slot m c s (r + 1) r ∗ Y ∗ xPt m ρ c ∗ R)
      ⊢ WP c (Prog.lift (.waitDma2 ((cc0_scratch3.slice (Rect.unit (s := S2) ![s.val] S1.size i3)).squeeze S_ squeezes_S1_S_).sem
            (wH.slice (Rect.unit (s := S4096x8192) o S4096x2048.size i1) (fun _ => rfl))
            ((wM.slice (Rect.unit (s := S2x4096x2048) ![s.val, 0, 0] S1x4096x2048.size i2) (fun _ => rfl)).squeeze S4096x2048 squeezes_S1x4096x2048_S4096x2048) hsrc hdst) >>= fun _ =>
          Prog.lift (.load xM (Rect.unit (s := S128x4096) ![0, 0] S128x4096.size i4).toLoadRect hl1) >>= fun a =>
          Prog.lift (.load wM (Rect.unit (s := S2x4096x2048) ![s.val, 0, 0] S1x4096x2048.size i2).toLoadRect hl2) >>= fun b => k a b) Φ := by
  have core : ∀ (q : DmaSem sig) (hq : q = copyS s),
      S m ρ K c i j iprop(Slot m c s (r + 1) r ∗ Y ∗ xPt m ρ c ∗ R)
        ⊢ WP c (.op (.waitDma2 q (wH.slice (Rect.unit (s := S4096x8192) o S4096x2048.size i1) (fun _ => rfl)) (wSl s) hsrc hdst) fun _ =>
            .op (.load xM (Rect.unit (s := S128x4096) ![0, 0] S128x4096.size i4).toLoadRect hl1) fun a =>
            .op (.load wM (slotW s).toLoadRect hl2) fun b => k a b) Φ := fun q hq => by
    subst hq
    unfold S Slot Snd at hk ⊢
    rw [if_pos rfl, bigSep_range_succ] at hk
    rw [if_neg (Nat.succ_ne_self r)]
    unfold xPt WP at hk ⊢
    iintro ⟨#HC, Hown, ⟨⟨%W, HO⟩, HS⟩, ⟨Hcr, Hl, He, Hat, -⟩, HY, Hx, HR⟩
    ihave #HI := (inv_copy m ρ K c s) $$ HC
    iapply (Rounds.wp_wait_rest_token 𝒱₀ ER (sched m ρ) (c : Thread nD τ) none (κ := K (c, kCopy s))
      (wpE_waitDma2_eq 𝒱₀ (c : Thread nD τ) none Set.univ (hsrc := hsrc) (hdst := hdst)) (Set.mem_univ _) () (O := sendsDue c j) (W := W) (R := r) (m := 0) (T := ∅)
      (by rw [Nat.zero_add, expect_copy m ρ c s r hr]; rfl)) $$ [Hcr HO Hat]
    · isplitr; · iexact HI
      isplitl [Hcr]; · iexact Hcr
      isplitl [HO]; · iexact HO
      isplitr
      · iapply (mayWait_copy m ρ K c s j) $$ HC
      iexact Hat
    iintro ⟨HO, Hat, #Hre, Hpay⟩
    ihave Hpay := (Entails.of_eq (rest_copy m ρ c s r hr)) $$ Hpay
    unfold copyPay wSlotAt
    icases Hpay with ⟨⟨%fw, %hfw, Hw⟩, Hp⟩
    iapply (wp_load 𝒱₀ (c : Thread nD τ) none Set.univ (m := xM) (Finset.subset_univ _)) $$ Hx; iintro Hx
    iapply (wp_load_rect 𝒱₀ (c : Thread nD τ) none Set.univ (m := wM) (r := slotW s) (hl := hl2) (by rw [show (wM.access (slotW s)).set = (slotW s).set from View.set_slice_whole _ _])) $$ Hw; iintro Hw
    rw [show xM.view.readAt (Elt F) (Rect.unit (s := S128x4096) ![0, 0] S128x4096.size i4).toLoadRect (xstg m ρ c) = xstg m ρ c from
        Memref.readAt_unit_zero (Elt F) cc0_stg0_0 hz2 _ _,
      show (wM.access (slotW s)).read (Elt F) fw = panel m c (grp c (2 * r + s.val)) from hfw]
    iapply hk
    isplitr; · iexact HC
    isplitl [Hown]; · iexact Hown
    isplitl [HO HS]
    · isplitl [HO]; · iexists _; iexact HO
      iexact HS
    isplitr [HY Hx HR]
    · isplitl [Hw]; · unfold wSlot; iexists fw; iexact Hw
      isplitl [Hl]; · iexact Hl
      isplitl [Hp He]; · isplitl [Hp] <;> iassumption
      isplitl [Hat] <;> iassumption
    isplitl [HY]; · iexact HY
    isplitl [Hx] <;> iassumption
  exact core _ (sem_copy s i3)

/-! ## The peers' blocks -/

/-- The waits for the blocks: places from `i` on to come; the landing slots of the places before, and their cells, closed. -/
def Rv (c : Dev nD) (i : ℕ) : sProp 𝕄 :=
  iprop((∃ W : Waits sig Unit, owes (c : Thread nD τ) 0 W)
    ∗ (bigSep (Finset.Ico i 32) fun t => iprop(cred (tallyAt (recvCell c (src c t)) () N) ∗ atPos ER (recvCell c (src c t)) 0 ∅ 0))
    ∗ (bigSep (Finset.Ico 1 i) fun t => iprop(rSlot c (src c t) ∗ semVal (recvCell c (src c t)) 0)))
/-- The rows of the result for the peers: those of the places before `j` hold their block. -/
def Ro (c : Dev nD) (j : ℕ) : sProp 𝕄 :=
  iprop((bigSep (Finset.Ico j 32) fun t => oRows c (src c t)) ∗ (bigSep (Finset.Ico 1 j) fun t => oRowsAt m ρ c (src c t)))
def V (c : Dev nD) (i j : ℕ) (R : sProp 𝕄) : sProp 𝕄 := iprop(Ctx m ρ K ∗ Rv c i ∗ Ro m ρ c j ∗ R)

theorem recv_rule (c : Dev nD) (t : ℕ) (ht : 1 ≤ t ∧ t < 32) {o4 : Fin 1 → ℕ} {o5 o6 : Fin 3 → ℕ}
    (h4 : o4 = ![(src c t).val]) (h5 : o5 = ![(src c t).val, 0, 0]) (h6 : o6 = ![(src c t).val, 0, 0])
    {α : Type} {Φ : α → sProp 𝕄} {k : Vec F S1x128x256 .bf16 → Prog (TpuEff nD τ sig (Elt F) Λ₀ .tc) α} {j : ℕ} {R : sProp 𝕄}
    {i4 : ∀ a, o4 a + S1.size a ≤ S32.size a} {i5 i5' : ∀ a, o5 a + S1x128x256.size a ≤ S32x128x256.size a} {i6 : ∀ a, o6 a + S1x128x256.size a ≤ S32x128x256.size a}
    {hsrc : ((yM.slice (Rect.unit (s := S32x128x256) o5 S1x128x256.size i5) (fun _ => rfl)).squeeze S128x256 squeezes_S1x128x256_S128x256).view.WordExact}
    {hdst : ((rM.slice (Rect.unit (s := S32x128x256) o5 S1x128x256.size i5') (fun _ => rfl)).squeeze S128x256 squeezes_S1x128x256_S128x256).view.WordExact}
    {hl : rM.view.LoadsAt (Rect.unit (s := S32x128x256) o6 S1x128x256.size i6).toLoadRect}
    (hk : V m ρ K c (t + 1) j R ⊢ WP c (k (sent m ρ (src c t) c)) Φ) :
    V m ρ K c t j R
      ⊢ WP c (Prog.lift (.waitDma2 ((cc0_scratch5.slice (Rect.unit (s := S32) o4 S1.size i4)).squeeze S_ squeezes_S1_S_).sem
            ((yM.slice (Rect.unit (s := S32x128x256) o5 S1x128x256.size i5) (fun _ => rfl)).squeeze S128x256 squeezes_S1x128x256_S128x256)
            ((rM.slice (Rect.unit (s := S32x128x256) o5 S1x128x256.size i5') (fun _ => rfl)).squeeze S128x256 squeezes_S1x128x256_S128x256) hsrc hdst) >>= fun _ =>
          Prog.lift (.load rM (Rect.unit (s := S32x128x256) o6 S1x128x256.size i6).toLoadRect hl) >>= fun v => k v) Φ := by
  subst h4 h5 h6
  have hne := src_ne c t ht
  have core : ∀ (q : DmaSem sig) (hq : q = recvS (src c t)),
      V m ρ K c t j R
        ⊢ WP c (.op (.waitDma2 q (ySl (src c t)) (rSl (src c t)) hsrc hdst) fun _ => .op (.load rM (slotR (src c t)).toLoadRect hl) fun v => k v) Φ := fun q hq => by
    subst hq
    unfold V Rv at hk ⊢
    rw [bigSep_Ico_succ_top ht.1] at hk
    rw [bigSep_Ico_succ_bot ht.2]
    unfold WP at hk ⊢
    iintro ⟨#HC, ⟨⟨%W, HO⟩, ⟨⟨Hcr, Hat⟩, Hl⟩, He⟩, Ho, HR⟩
    ihave #HI := (inv_recv m ρ K c (src c t)) $$ HC
    iapply (Rounds.wp_wait_rest_token 𝒱₀ ER (sched m ρ) (c : Thread nD τ) none (κ := K (c, kRecv (src c t)))
      (wpE_waitDma2_eq 𝒱₀ (c : Thread nD τ) none Set.univ (hsrc := hsrc) (hdst := hdst)) (Set.mem_univ _) () (O := 0) (W := W) (R := 0) (m := 0) (T := ∅)
      (by rw [Nat.zero_add, expect_recv m ρ c _ hne]; rfl)) $$ [Hcr HO Hat]
    · isplitr; · iexact HI
      isplitl [Hcr]; · iexact Hcr
      isplitl [HO]; · iexact HO
      isplitr; · rw [MayWait_zero]; iempintro
      iexact Hat
    iintro ⟨HO, Hat, -, Hpay⟩
    ihave Hpay := (Entails.of_eq (rest_recv m ρ c _ hne)) $$ Hpay
    unfold rSlotAt
    icases Hpay with ⟨%fr, %hfr, Hr⟩
    imod (Rounds.cell_close ER (sched m ρ) (Set.mem_univ (K (c, kRecv (src c t)))) (fun h => h) (R := 0 + 1) (duties_recv_later m ρ c (src c t))) $$ [Hat] with Hz
    · isplitr; · iexact HI
      iexact Hat
    iapply (wp_load_rect 𝒱₀ (c : Thread nD τ) none Set.univ (m := rM) (r := slotR (src c t)) (hl := hl) (by rw [show (rM.access (slotR (src c t))).set = (slotR (src c t)).set from View.set_slice_whole _ _])) $$ Hr; iintro Hr
    rw [show (rM.access (slotR (src c t))).read (Elt F) fr = sent m ρ (src c t) c from hfr]
    iapply hk
    isplitr; · iexact HC
    isplitl [HO Hl He Hr Hz]
    · isplitl [HO]; · iexists _; iexact HO
      isplitl [Hl]; · iexact Hl
      isplitl [Hr Hz]
      · isplitl [Hr]; · unfold rSlot; iexists fr; iexact Hr
        iexact Hz
      iexact He
    isplitl [Ho] <;> iassumption
  exact core _ (sem_recv (src c t) i4)

theorem rows_load (c : Dev nD) (t : ℕ) (ht : 1 ≤ t ∧ t < 32) {o7 : Fin 2 → ℕ} (h7 : o7 = ![128 * (src c t).val, 0])
    {α : Type} {Φ : α → sProp 𝕄} {k : Vec F S128x256 .f32 → Prog (TpuEff nD τ sig (Elt F) Λ₀ .tc) α} {i : ℕ} {R : sProp 𝕄}
    {i7 : ∀ a, o7 a + S128x256.size a ≤ S4096x256.size a}
    {hl : oM.view.LoadsAt (Rect.unit (s := S4096x256) o7 S128x256.size i7).toLoadRect}
    (hk : ∀ v, V m ρ K c i t R ⊢ WP c (k v) Φ) :
    V m ρ K c i t R ⊢ WP c (Prog.lift (.load oM (Rect.unit (s := S4096x256) o7 S128x256.size i7).toLoadRect hl) >>= fun v => k v) Φ := by
  subst h7
  simp only [Prog.lift, Prog.bind_op, Prog.bind_ret]
  unfold V Ro at hk ⊢
  simp only [bigSep_Ico_succ_bot ht.2] at hk ⊢
  unfold oRows WP at hk ⊢
  iintro ⟨HC, Hv, ⟨⟨⟨%f, Ho⟩, Hl⟩, He⟩, HR⟩
  iapply (wp_load_rect 𝒱₀ (c : Thread nD τ) none Set.univ (m := oM) (r := rowsR (src c t)) (hl := hl) (by rw [show (oM.access (rowsR (src c t))).set = (rowsR (src c t)).set from View.set_slice_whole _ _])) $$ Ho; iintro Ho
  iapply (hk _)
  isplitl [HC]; · iexact HC
  isplitl [Hv]; · iexact Hv
  isplitl [Ho Hl He]
  · isplitl [Ho Hl]
    · isplitl [Ho]; · iexists f; iexact Ho
      iexact Hl
    iexact He
  iexact HR

theorem rows_store (c : Dev nD) (t : ℕ) (ht : 1 ≤ t ∧ t < 32) {o7 : Fin 2 → ℕ} (h7 : o7 = ![128 * (src c t).val, 0])
    {v : FVec F S128x256 .f32} (hv : v = k0_pay71 (sent m ρ (src c t) c))
    {α : Type} {Φ : α → sProp 𝕄} {k : PUnit → Prog (TpuEff nD τ sig (Elt F) Λ₀ .tc) α} {i : ℕ} {R : sProp 𝕄}
    {i7 : ∀ a, o7 a + S128x256.size a ≤ S4096x256.size a}
    {hx : (oM.access (Rect.unit (s := S4096x256) o7 S128x256.size i7)).Stores Finset.univ}
    {hm : (Finset.univ : Finset (Rect.unit (s := S4096x256) o7 S128x256.size i7).shape.Idx) = Finset.univ ∨ ∀ a, (Rect.unit (s := S4096x256) o7 S128x256.size i7).stride a = 1}
    (hk : V m ρ K c i (t + 1) R ⊢ WP c (k ⟨⟩) Φ) :
    V m ρ K c i t R ⊢ WP c (Prog.lift (.store oM (Rect.unit (s := S4096x256) o7 S128x256.size i7) v Finset.univ hx hm) >>= k) Φ := by
  subst h7
  simp only [Prog.lift, Prog.bind_op, Prog.bind_ret]
  unfold V Ro at hk ⊢
  rw [bigSep_Ico_succ_top ht.1] at hk
  rw [bigSep_Ico_succ_bot ht.2]
  unfold oRows WP; unfold oRows WP at hk
  iintro ⟨HC, Hv, ⟨⟨⟨%f, Ho⟩, Hl⟩, He⟩, HR⟩
  iapply (wp_store 𝒱₀ (c : Thread nD τ) none Set.univ (m := oM) (r := rowsR (src c t)) (Mk := Finset.univ) (hx := hx) (hm := hm) (by rw [View.setOn_univ, show (oM.access (rowsR (src c t))).set = (rowsR (src c t)).set from View.set_slice_whole _ _])) $$ Ho; iintro Ho
  iapply hk
  isplitl [HC]; · iexact HC
  isplitl [Hv]; · iexact Hv
  isplitl [Ho Hl He]
  · isplitl [Hl]; · iexact Hl
    isplitl [Ho]
    · have e := rows_written m ρ c (src c t) f
      rw [show out m ρ c (src c t) = v from (if_neg (src_ne c t ht)).trans hv.symm] at e
      unfold oRowsAt
      iapply (Entails.of_eq (pointsTo_congr (q := fullShare) e)) $$ Ho
    iexact He
  iexact HR

/-! ## The sends -/

/-- The waits for the sends: places from `n` on to come; the slots of the places before are back, and their cells closed. -/
def Sw (c : Dev nD) (n : ℕ) : sProp 𝕄 :=
  iprop((∃ W : Waits sig Unit, owes (c : Thread nD τ) 0 W)
    ∗ (bigSep (Finset.Ico n 32) fun t => iprop(sendCred c (src c t) ∗ atPos ER (sendCell c (src c t)) 0 ∅ 0))
    ∗ (bigSep (Finset.Ico 1 n) fun t => iprop(ySlot c (src c t) ∗ semVal (sendCell c (src c t)) 0)))
def Z (c : Dev nD) (n : ℕ) (R : sProp 𝕄) : sProp 𝕄 := iprop(Ctx m ρ K ∗ Sw c n ∗ R)

theorem sent_rule (c : Dev nD) (t : ℕ) (ht : 1 ≤ t ∧ t < 32) {o4 : Fin 1 → ℕ} {o5 o8 : Fin 3 → ℕ}
    (h4 : o4 = ![(src c t).val]) (h5 : o5 = ![(src c t).val, 0, 0])
    {α : Type} {Φ : α → sProp 𝕄} {k : PUnit → Prog (TpuEff nD τ sig (Elt F) Λ₀ .tc) α} {R : sProp 𝕄}
    {i4 : ∀ a, o4 a + S1.size a ≤ S32.size a} {i5 : ∀ a, o5 a + S1x128x256.size a ≤ S32x128x256.size a} {i8 : ∀ a, o8 a + S1x128x256.size a ≤ S32x128x256.size a}
    {hsrc : ((rM.slice (Rect.unit (s := S32x128x256) o8 S1x128x256.size i8) (fun _ => rfl)).squeeze S128x256 squeezes_S1x128x256_S128x256).view.WordExact}
    {hdst : ((yM.slice (Rect.unit (s := S32x128x256) o5 S1x128x256.size i5) (fun _ => rfl)).squeeze S128x256 squeezes_S1x128x256_S128x256).view.WordExact}
    (hk : Z m ρ K c (t + 1) R ⊢ WP c (k ⟨⟩) Φ) :
    Z m ρ K c t R
      ⊢ WP c (Prog.lift (.waitDma2 ((cc0_scratch4.slice (Rect.unit (s := S32) o4 S1.size i4)).squeeze S_ squeezes_S1_S_).sem
            ((rM.slice (Rect.unit (s := S32x128x256) o8 S1x128x256.size i8) (fun _ => rfl)).squeeze S128x256 squeezes_S1x128x256_S128x256)
            ((yM.slice (Rect.unit (s := S32x128x256) o5 S1x128x256.size i5) (fun _ => rfl)).squeeze S128x256 squeezes_S1x128x256_S128x256) hsrc hdst) >>= k) Φ := by
  subst h4 h5
  have hne := src_ne c t ht
  have core : ∀ (q : DmaSem sig) (hq : q = sendS (src c t)),
      Z m ρ K c t R
        ⊢ WP c (.op (.waitDma2 q ((rM.slice (Rect.unit (s := S32x128x256) o8 S1x128x256.size i8) (fun _ => rfl)).squeeze S128x256 squeezes_S1x128x256_S128x256)
            (ySl (src c t)) hsrc hdst) k) Φ := fun q hq => by
    subst hq
    unfold Z Sw at hk ⊢
    rw [bigSep_Ico_succ_top ht.1] at hk
    rw [bigSep_Ico_succ_bot ht.2]
    unfold sendCred WP at hk ⊢
    iintro ⟨#HC, ⟨⟨%W, HO⟩, ⟨⟨Hcr, Hat⟩, Hl⟩, He⟩, HR⟩
    ihave #HI := (inv_send m ρ K c (src c t)) $$ HC
    iapply (Rounds.wp_wait_rest_token 𝒱₀ ER (sched m ρ) (c : Thread nD τ) none (κ := K (c, kSend (src c t)))
      (wpE_waitDma2_eq 𝒱₀ (c : Thread nD τ) none Set.univ (hsrc := hsrc) (hdst := hdst)) (Set.mem_univ _) () (O := 0) (W := W) (R := 0) (m := 0) (T := ∅)
      (by rw [Nat.zero_add, expect_send m ρ c _ hne]; rfl)) $$ [Hcr HO Hat]
    · isplitr; · iexact HI
      isplitl [Hcr]; · iexact Hcr
      isplitl [HO]; · iexact HO
      isplitr; · rw [MayWait_zero]; iempintro
      iexact Hat
    iintro ⟨HO, Hat, -, Hpay⟩
    ihave Hpay := (Entails.of_eq (rest_send m ρ c _ hne)) $$ Hpay
    imod (Rounds.cell_close ER (sched m ρ) (Set.mem_univ (K (c, kSend (src c t)))) (fun h => h) (R := 0 + 1) (duties_send_later m ρ c (src c t))) $$ [Hat] with Hz
    · isplitr; · iexact HI
      iexact Hat
    iapply hk
    isplitr; · iexact HC
    isplitl [HO Hl He Hpay Hz]
    · isplitl [HO]; · iexists _; iexact HO
      isplitl [Hl]; · iexact Hl
      isplitl [Hpay Hz]; · isplitl [Hpay] <;> iassumption
      iexact He
    iexact HR
  exact core _ (sem_send (src c t) i4)

/-- Place `t`'s block is column block `t % 8` of the activation of panel `t / 8`. -/
theorem blk_at (c : Dev nD) (t : ℕ) (ht : t < 32) : blk m ρ c (dst c t) = colBlk ⟨t % 8, Nat.mod_lt _ (by decide)⟩ (act m ρ c (grp c (t / 8))) := by
  have e1 : (⟨(dst c t).val % 8, Nat.mod_lt _ (by decide)⟩ : Fin 8) = ⟨t % 8, Nat.mod_lt _ (by decide)⟩ := Fin.ext (dst_mod c t)
  have e2 : ∀ h, (⟨(dst c t).val / 8, h⟩ : Fin 4) = grp c (t / 8) := fun h => Fin.ext (dst_div c t ht)
  unfold blk; rw [e1, e2]

/-- A part of the body at the kernel's own buffers and semaphores. -/
abbrev atBufs {X : Type 1} (p : (a0 : Memref sig .tc .vmem S128x4096 .i8) → a0.IsWhole → (a1 : Memref sig .tc .hbm S4096x8192 .i8) → a1.IsWhole
    → (a2 : Memref sig .tc .smem S1 .f32) → a2.IsWhole → (a3 : Memref sig .tc .smem S1 .f32) → a3.IsWhole
    → (a4 : Memref sig .tc .vmem S4096x256 .f32) → a4.IsWhole → (a5 : Memref sig .tc .vmem S2x4096x2048 .i8) → a5.IsWhole
    → (a6 : Memref sig .tc .vmem S32x128x256 .bf16) → a6.IsWhole → (a7 : Memref sig .tc .vmem S32x128x256 .bf16) → a7.IsWhole
    → DmaSems sig S2 → DmaSems sig S32 → DmaSems sig S32 → X) : X :=
  p xM (Memref.isWhole_whole _) wH (Memref.isWhole_whole _) (Memref.whole cc0_stg1_0) (Memref.isWhole_whole _) (Memref.whole cc0_stg2_0) (Memref.isWhole_whole _)
    oM (Memref.isWhole_whole _) wM (Memref.isWhole_whole _) yM (Memref.isWhole_whole _) rM (Memref.isWhole_whole _) cc0_scratch3 cc0_scratch4 cc0_scratch5

end Cert.A2A

end
-- ==== Proof.Entry.lean ====
/-
  The entry of the body: the product of the two scales, and the barrier at which every device tells every other that its
  landing slots may be written.
-/
module

public import proofs.«01_k».proof.Proof.Steps

@[expose] public section

noncomputable section

namespace Cert.A2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Fin 67 → ℕ)

/-- The staged scales. -/
def sxPt (c : Dev nD) : sProp 𝕄 := ((c : Thread nD τ).loc cc0_stg1_0) ↦{fullShare} sxstg m ρ c
def swPt (c : Dev nD) : sProp 𝕄 := ((c : Thread nD τ).loc cc0_stg2_0) ↦{fullShare} swstg m ρ c

theorem hz1 : (![0] : Fin 1 → ℕ) = fun _ => 0 := funext fun a => by fin_cases a; rfl

/-- The barrier units of the peers from the `n`-th on: what is owed, the duties' tokens, and the landing slots that go with them. -/
def Sig (c : Dev nD) (n : ℕ) : sProp 𝕄 :=
  iprop((∃ W : Waits sig Unit, owes (c : Thread nD τ) (sendsDue c 0 + barsDue c n) W)
    ∗ bigSep (Finset.Ico n 32) fun t => iprop(dutyTok ER (barCell (src c t)) 0 c ∗ rSlot c (src c t)))

theorem sig_end (c : Dev nD) : Sig (F := F) c 32 ⊢ iprop(∃ W : Waits sig Unit, owes (c : Thread nD τ) (sendsDue c 0) W) := by
  have e : (sendsDue c 0 + barsDue c 32 : CellTallies nD τ sig Unit) = sendsDue c 0 := by rw [barsDue_end]; exact add_zero _
  unfold Sig; rw [e]
  iintro ⟨H, -⟩; iexact H

/-- One signal. -/
theorem sig_step (c : Dev nD) (t : ℕ) (ht : 1 ≤ t ∧ t < 32) {α : Type} {Φ : α → sProp 𝕄} {k : PUnit → Prog (TpuEff nD τ sig (Elt F) Λ₀ .tc) α}
    (hk : iprop(Ctx m ρ K ∗ Sig c (t + 1)) ⊢ WP c (k ⟨⟩) Φ) :
    iprop(Ctx m ρ K ∗ Sig c t) ⊢ WP c (semSignalWord (src c t) barS 1#32 >>= k) Φ := by
  simp only [semSignalWord, Prog.lift, Prog.bind_op, Prog.bind_ret, Prog.pure_eq_ret]
  unfold Sig at hk ⊢
  rw [bigSep_Ico_succ_bot ht.2]
  iintro ⟨#HC, ⟨%W, HO⟩, ⟨Htok, Hr⟩, Hl⟩
  ihave #HI := (inv_bar m ρ K (src c t)) $$ HC
  ihave #HR := (reached_bar m ρ K (src c t)) $$ HC
  have hO : (sendsDue c 0 + barsDue c t : CellTallies nD τ sig Unit) = (sendsDue c 0 + barsDue c (t + 1)) + tallyAt (barCell (src c t)) () 1 := by
    unfold barsDue; rw [Ring.sum_Ico_succ ht.2, add_comm (tallyAt _ _ _), add_assoc]
  unfold WP at hk ⊢
  iapply (Rounds.wp_signal 𝒱₀ ER (sched m ρ) (c : Thread nD τ) none (dst := (src c t : Thread nD τ)) (κ := K (src c t, kBar))
      (d := c) (by rw [duties_bar]; exact Finset.mem_erase.mpr ⟨(src_ne c t ht).symm, Finset.mem_univ _⟩)
      ((amount_bar m ρ (src c t) c).trans (by decide)) () (sendsDue c 0 + barsDue c (t + 1)) hO) $$ [HO Htok Hr]
  · isplitr; · iexact HI
    isplitl [HO]; · iexact HO
    isplitl [Htok]; · iexact Htok
    isplitl [Hr]; · rw [payload_bar]; iexact Hr
    iexact HR
  iintro HO
  iapply hk
  isplitr; · iexact HC
  isplitl [HO]; · iexists W; iexact HO
  iexact Hl

/-- The wait for all the peers' units: their landing slots for this device, and the barrier's counter back at zero. -/
theorem bar_wait (c : Dev nD) {α : Type} {Φ : α → sProp 𝕄} {k : PUnit → Prog (TpuEff nD τ sig (Elt F) Λ₀ .tc) α} {R : sProp 𝕄}
    (hk : iprop(Ctx m ρ K ∗ (∃ W : Waits sig Unit, owes (c : Thread nD τ) (sendsDue c 0) W) ∗ (bigSep (Finset.univ.erase c) fun e => rSlot e c)
        ∗ semVal (barCell c) 0 ∗ R) ⊢ WP c (k ⟨⟩) Φ) :
    iprop(Ctx m ρ K ∗ (∃ W : Waits sig Unit, owes (c : Thread nD τ) (sendsDue c 0) W) ∗ cred (tallyAt (barCell c) () 31) ∗ atPos ER (barCell c) 0 ∅ 0 ∗ R)
      ⊢ WP c (semWaitWord barS 31#32 >>= k) Φ := by
  simp only [semWaitWord, Prog.lift, Prog.bind_op, Prog.bind_ret, Prog.pure_eq_ret]
  unfold WP at hk ⊢
  iintro ⟨#HC, ⟨%W, HO⟩, Hc, Hat, HR⟩
  ihave #HI := (inv_bar m ρ K c) $$ HC
  iapply (Rounds.wp_wait_rest_token 𝒱₀ ER (sched m ρ) (c : Thread nD τ) none (κ := K (c, kBar))
      (wpE_semWait_eq 𝒱₀ (c : Thread nD τ) none Set.univ) (Set.mem_univ _) () (O := sendsDue c 0) (W := W) (R := 0) (m := 0) (T := ∅)
      (by rw [expect_bar]; decide)) $$ [Hc HO Hat]
  · isplitr; · iexact HI
    isplitl [Hc]; · iexact Hc
    isplitl [HO]; · iexact HO
    isplitr; · iapply (mayWait_barrier m ρ K c 0); iexact HC
    iexact Hat
  iintro ⟨HO, Hat, -, Hpay⟩
  ihave Hp := (Entails.of_eq (rest_bar m ρ c)) $$ Hpay
  imod (Rounds.cell_close ER (sched m ρ) (Set.mem_univ (K (c, kBar))) (fun h => h) (R := 0 + 1) (duties_bar_later m ρ c)) $$ [Hat] with Hz
  · isplitr; · iexact HI
    iexact Hat
  iapply hk
  isplitr; · iexact HC
  isplitl [HO]; · iexists _; iexact HO
  isplitl [Hp]; · iexact Hp
  isplitl [Hz] <;> iassumption

theorem part1 (c : Dev nD) {R : sProp 𝕄} {Φ : _ → sProp 𝕄}
    (h : ∀ r1 r2 r4 r5 r6 r7 r8, iprop(Ctx m ρ K ∗ (∃ W : Waits sig Unit, owes (c : Thread nD τ) (sendsDue c 0) W) ∗ (bigSep (Finset.univ.erase c) fun e => rSlot e c)
        ∗ semVal (barCell c) 0 ∗ sxPt m ρ c ∗ swPt m ρ c ∗ R) ⊢ Φ ⟨c, r1, r2, scale m ρ c, r4, r5, r6, r7, r8⟩) :
    iprop(Ctx m ρ K ∗ Sig c 1 ∗ cred (tallyAt (barCell c) () 31) ∗ atPos ER (barCell c) 0 ∅ 0 ∗ sxPt m ρ c ∗ swPt m ρ c ∗ R)
      ⊢ WP c ((atBufs (k0_part1 (F := F)))) Φ := by
  unfold atBufs; rw [k0_part1_eq_skeleton]; unfold k0_part1_skel
  have tail : ∀ v : F .f32, v = scale m ρ c → ∀ r1 r2 r4 r5 r6 r7 r8,
      iprop(Ctx m ρ K ∗ (∃ W : Waits sig Unit, owes (c : Thread nD τ) (sendsDue c 0) W) ∗ cred (tallyAt (barCell c) () 31) ∗ atPos ER (barCell c) 0 ∅ 0 ∗ sxPt m ρ c ∗ swPt m ρ c ∗ R)
        ⊢ WP c (semWaitWord barS 31#32 >>= fun _ => pure ⟨c, r1, r2, v, r4, r5, r6, r7, r8⟩) Φ := fun v hv r1 r2 r4 r5 r6 r7 r8 => by
    subst hv
    exact bar_wait m ρ K c (ret_rule (h _ _ _ _ _ _ _))
  have body : ∀ (n : Fin k0_t1_loop.trips) (acc : PUnit), iprop(Ctx m ρ K ∗ Sig c (1 + n.val))
      ⊢ WP c (semSignalWord (⟨k0_dev1 c n, k0_dev1_lt c n⟩ : Dev nD) barS 1#32 >>= fun _ => (pure PUnit.unit : Prog _ PUnit)) fun _ => iprop(Ctx m ρ K ∗ Sig c (1 + (n.val + 1))) := fun n acc => by
    have hn : n.val < 31 := n.isLt
    rw [dev1_eq c n]
    exact sig_step m ρ K c (1 + n.val) (by omega) (ret_rule (Entails.refl _))
  have loads : ∀ f g : S1.Idx → F .f32, ∀ x : S1.Idx, k0_pay1 (f x) (g x) = k0_pay1 (f first) (g first) := fun f g x => by
    rw [show x = first from funext fun a => by fin_cases a; exact Subsingleton.elim (α := Fin 1) _ _]
  simp only [Prog.lift, Prog.bind_op, Prog.bind_ret, smemLoad, smemLoadElt_bind]
  unfold WP at body tail ⊢
  rw [wp_deviceId]
  iintro ⟨#HC, HS, Hc, Hat, Hx, Hw, HR⟩
  unfold sxPt swPt at *
  iapply (wp_smemLoadElt 𝒱₀ (c : Thread nD τ) none Set.univ (m := Memref.whole cc0_stg1_0) (r := Rect.unit (s := S1) ![0] S1.size inb_S1_S1_0) (Finset.subset_univ _)) $$ Hx; iintro Hx
  iapply (wp_smemLoadElt 𝒱₀ (c : Thread nD τ) none Set.univ (m := Memref.whole cc0_stg2_0) (r := Rect.unit (s := S1) ![0] S1.size inb_S1_S1_0) (Finset.subset_univ _)) $$ Hw; iintro Hw
  iapply (Scf.wp_for_bind frame (wpE (defs₀ (F := F)) 𝒱₀ (c : Thread nD τ) none) Set.univ _ _ _ _ _ _ (fun n _ => iprop(Ctx m ρ K ∗ Sig c (1 + n))) body) $$ [HS]
  · isplitr; · iexact HC
    iexact HS
  iintro %_
  rw [show 1 + Scf.trips k0_t1_loop.lb k0_t1_loop.ub k0_t1_loop.st = 32 from by decide +kernel]
  iintro ⟨-, HS⟩
  ihave HO := (sig_end (F := F) c) $$ HS
  iapply (tail _ ?_ _ _ _ _ _ _ _)
  · exact (congrArg₂ k0_pay1 (congrFun (Memref.readAt_unit_zero (Elt F) cc0_stg1_0 hz1 _ _) _) (congrFun (Memref.readAt_unit_zero (Elt F) cc0_stg2_0 hz1 _ _) _)).trans (loads _ _ _)
  isplitr; · iexact HC
  isplitl [HO]; · iexact HO
  isplitl [Hc]; · iexact Hc
  isplitl [Hat]; · iexact Hat
  isplitl [Hx]; · iexact Hx
  isplitl [Hw] <;> iassumption

end Cert.A2A

end
-- ==== Proof.Phases.lean ====
/-
  Between the phases of the body: from what the barrier hands over to the transfers, from the transfers to the receives, from
  the receives to the waits for the transfers, and from there to the end. Runs over the places are runs over the peers.
-/
module

public import proofs.«01_k».proof.Proof.Entry

@[expose] public section

noncomputable section

namespace Cert.A2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Fin 67 → ℕ)

/-! ## Places and peers -/

/-- One resource per peer. -/
abbrev peers (c : Dev nD) (Φ : Dev nD → sProp 𝕄) : sProp 𝕄 := bigSep (Finset.univ.erase c) Φ

omit [FloatOps F] in
theorem peers_src (c : Dev nD) (Φ : Dev nD → sProp 𝕄) : peers c Φ = bigSep (Finset.Ico 1 32) fun t => Φ (src c t) := by
  have e : (Finset.Ico 1 32).image (src c) = Finset.univ.erase c := by revert c; decide +kernel
  rw [peers, ← e, bigSep_image_of_injOn fun a ha b hb h => ?_]
  have ha := Finset.mem_Ico.mp (Finset.mem_coe.mp ha); have hb := Finset.mem_Ico.mp (Finset.mem_coe.mp hb)
  have h := congrArg Fin.val h; have hc : c.val < 32 := c.isLt; simp only [src] at h; omega

omit [FloatOps F] in
theorem peers_dst (c : Dev nD) (Φ : Dev nD → sProp 𝕄) : (bigSep (Finset.range 32) fun t => if dst c t = c then iprop(emp) else Φ (dst c t)) = peers c Φ := by
  have e : (Finset.range 32).image (dst c) = Finset.univ := by revert c; decide +kernel
  rw [peers, ← Finset.filter_ne' Finset.univ c, bigSep_filter, ← e, bigSep_image_of_injOn fun a ha b hb h => ?_]
  · refine bigSep_congr fun t _ => ?_
    by_cases h : dst c t = c
    · rw [if_pos h, if_neg (not_not.mpr h)]; rfl
    · rw [if_neg h, if_pos h]
  · have ha := Finset.mem_range.mp (Finset.mem_coe.mp ha); have hb := Finset.mem_range.mp (Finset.mem_coe.mp hb)
    have h := congrArg Fin.val h; have hc : c.val < 32 := c.isLt; simp only [dst] at h; omega

omit [FloatOps F] in
/-- The peers and the device itself are all the devices. -/
theorem peers_own (c : Dev nD) (Φ : Dev nD → sProp 𝕄) : iprop(Φ c ∗ peers c Φ) ⊢ bigSep Finset.univ Φ :=
  Entails.of_eq (bigSep_univ_at Φ c).symm

/-- The panels in the order the device takes them are all the panels. -/
theorem panels_all (c : Dev nD) : iprop(wPanel m c (grp c 0) ∗ wPanel m c (grp c 1) ∗ wPanel m c (grp c 2) ∗ wPanel m c (grp c 3))
    ⊢ bigSep Finset.univ fun g : Fin 4 => wPanel (F := F) m c g := by
  rw [bigSep_univ_equiv (grpE c), bigSep_univ_eq_bigSepL [0, 1, 2, 3] (by decide) (by decide)]
  exact Entails.refl _
theorem panels_split (c : Dev nD) : (bigSep Finset.univ fun g : Fin 4 => wPanel (F := F) m c g)
    ⊢ iprop(wPanel m c (grp c 0) ∗ wPanel m c (grp c 1) ∗ wPanel m c (grp c 2) ∗ wPanel m c (grp c 3)) := by
  rw [bigSep_univ_equiv (grpE c), bigSep_univ_eq_bigSepL [0, 1, 2, 3] (by decide) (by decide)]
  exact Entails.refl _

/-! ## The phases' states -/

/-- The barrier's counter at zero and the staged scales. -/
def Kept (c : Dev nD) : sProp 𝕄 := iprop(semVal (barCell c) 0 ∗ sxPt m ρ c ∗ swPt m ρ c)
/-- The slots and semaphores the device has for itself, which the exchange does not use. -/
def Self (c : Dev nD) : sProp 𝕄 := iprop(ySlot c c ∗ rSlot c c ∗ atPos ER (sendCell c c) 0 ∅ 0 ∗ atPos ER (recvCell c c) 0 ∅ 0)
/-- What the receives and the last waits need. -/
def Later (c : Dev nD) : sProp 𝕄 :=
  iprop((peers c fun e => iprop(cred (tallyAt (recvCell c e) () N) ∗ atPos ER (recvCell c e) 0 ∅ 0))
    ∗ (peers c fun e => oRows c e) ∗ (peers c fun e => atPos ER (sendCell c e) 0 ∅ 0))
/-- What each transfer needs of the sender. -/
def Out (c : Dev nD) : sProp 𝕄 :=
  peers c fun e => iprop(ySlot c e ∗ dutyTok ER (sendCell c e) 0 (0 : Dev nD) ∗ dutyTok ER (recvCell e c) 0 (0 : Dev nD))

theorem to_sends (c : Dev nD) :
    iprop(Ctx m ρ K ∗ (∃ W : Waits sig Unit, owes (c : Thread nD τ) (sendsDue c 0) W) ∗ (peers c fun e => rSlot e c) ∗ semVal (barCell c) 0 ∗ sxPt m ρ c ∗ swPt m ρ c
        ∗ Out c ∗ oRows c c ∗ Slot m c 0 0 0 ∗ Slot m c 1 0 0 ∗ xPt m ρ c ∗ Later c ∗ Self c)
      ⊢ S m ρ K c 0 0 iprop(Slot m c 0 0 0 ∗ Slot m c 1 0 0 ∗ xPt m ρ c ∗ Kept m ρ c ∗ Later c ∗ Self c) := by
  have e : iprop((peers c fun e => rSlot e c) ∗ Out c) ⊢ (peers c fun e => sendPre (F := F) c e : sProp 𝕄) := by
    have h : ∀ e : Dev nD, iprop(rSlot e c ∗ ySlot c e ∗ dutyTok ER (sendCell c e) 0 (0 : Dev nD) ∗ dutyTok ER (recvCell e c) 0 (0 : Dev nD)) ⊢ sendPre (F := F) c e := fun e => by
      unfold sendPre; iintro ⟨Hr, Hy, Ht⟩
      isplitl [Hy]; · iexact Hy
      isplitl [Hr] <;> iassumption
    unfold Out peers; rw [← bigSep_sep']
    exact bigSep_mono fun e _ => h e
  unfold S Snd Own Kept
  rw [if_neg (Nat.not_lt_zero _), Nat.Ico_zero_eq_range, peers_dst, Finset.range_zero, bigSep_empty]
  iintro ⟨HC, HO, Hr, Hb, Hx, Hw, Hout, Ho, H0, H1, Hxx, Hl, Hs⟩
  isplitl [HC]; · iexact HC
  isplitl [Ho]; · iexact Ho
  isplitl [HO Hr Hout]
  · isplitl [HO]; · iexact HO
    isplitl
    · iapply e; isplitl [Hr] <;> iassumption
    iempintro
  isplitl [H0]; · iexact H0
  isplitl [H1]; · iexact H1
  isplitl [Hxx]; · iexact Hxx
  isplitl [Hb Hx Hw]
  · isplitl [Hb]; · iexact Hb
    isplitl [Hx] <;> iassumption
  isplitl [Hl] <;> iassumption

/-- After the sends: beside the receives' needs. -/
def Left (c : Dev nD) : sProp 𝕄 :=
  iprop(oRowsAt m ρ c c ∗ (peers c fun e => iprop(sendCred c e ∗ atPos ER (sendCell c e) 0 ∅ 0))
    ∗ Slot m c 0 2 2 ∗ Slot m c 1 2 2 ∗ xPt m ρ c ∗ Kept m ρ c ∗ Self c)

theorem to_recvs (c : Dev nD) :
    S m ρ K c 32 32 iprop(Slot m c 0 2 2 ∗ Slot m c 1 2 2 ∗ xPt m ρ c ∗ Kept m ρ c ∗ Later c ∗ Self c) ⊢ V m ρ K c 1 1 (Left m ρ c) := by
  have e0 : (sendsDue c 32 : CellTallies nD τ sig Unit) = 0 := by unfold sendsDue; rw [Finset.Ico_self]; exact Finset.sum_empty
  have hc : c.val % 8 < 32 := by omega
  unfold S Snd Own V Rv Ro Left Later
  rw [if_pos hc, e0, peers_dst, Finset.Ico_self, Finset.Ico_self, bigSep_empty, bigSep_empty, bigSep_empty, peers_src c (fun e => iprop(cred (tallyAt (recvCell c e) () N) ∗ atPos ER (recvCell c e) 0 ∅ 0)),
    peers_src c (fun e => oRows c e),
    show (peers c fun e => iprop(sendCred c e ∗ atPos ER (sendCell c e) 0 ∅ 0) : sProp 𝕄) = iprop((peers c fun e => sendCred c e) ∗ peers c fun e => atPos ER (sendCell c e) 0 ∅ 0) from bigSep_sep' _ _ _]
  iintro ⟨HC, Ho, ⟨HO, -, Hc⟩, H0, H1, Hx, Hk, ⟨Hr, Hor, Hp⟩, Hs⟩
  isplitl [HC]; · iexact HC
  isplitl [HO Hr]
  · isplitl [HO]; · iexact HO
    isplitl; · iexact Hr
    iempintro
  isplitl [Hor]
  · isplitl; · iexact Hor
    iempintro
  isplitl [Ho]; · iexact Ho
  isplitl [Hc Hp]; · isplitl [Hc] <;> iassumption
  isplitl [H0]; · iexact H0
  isplitl [H1]; · iexact H1
  isplitl [Hx]; · iexact Hx
  isplitl [Hk] <;> iassumption

/-- After the receives: beside the last waits' needs. -/
def Got (c : Dev nD) : sProp 𝕄 :=
  iprop((peers c fun e => iprop(rSlot c e ∗ semVal (recvCell c e) 0)) ∗ (peers c fun e => oRowsAt m ρ c e) ∗ oRowsAt m ρ c c
    ∗ Slot m c 0 2 2 ∗ Slot m c 1 2 2 ∗ xPt m ρ c ∗ Kept m ρ c ∗ Self c)

theorem to_waits (c : Dev nD) : V m ρ K c 32 32 (Left m ρ c) ⊢ Z m ρ K c 1 (Got m ρ c) := by
  unfold V Rv Ro Left Z Sw Got
  rw [Finset.Ico_self, Finset.Ico_self, bigSep_empty, bigSep_empty, bigSep_empty, peers_src c (fun e => iprop(rSlot c e ∗ semVal (recvCell c e) 0)),
    peers_src c (fun e => oRowsAt m ρ c e), peers_src c (fun e => iprop(sendCred c e ∗ atPos ER (sendCell c e) 0 ∅ 0))]
  iintro ⟨HC, ⟨HO, -, Hr⟩, ⟨-, Hor⟩, Ho, Hc, H0, H1, Hx, Hk, Hs⟩
  isplitl [HC]; · iexact HC
  isplitl [HO Hc]
  · isplitl [HO]; · iexact HO
    isplitl; · iexact Hc
    iempintro
  isplitl [Hr]; · iexact Hr
  isplitl [Hor]; · iexact Hor
  isplitl [Ho]; · iexact Ho
  isplitl [H0]; · iexact H0
  isplitl [H1]; · iexact H1
  isplitl [Hx]; · iexact Hx
  isplitl [Hk] <;> iassumption

/-! ## The end: every cell closes -/

theorem copy_close (c : Dev nD) (s : Fin 2) :
    iprop(Ctx m ρ K ∗ Slot m c s 2 2) ⊢ |={Set.univ}=> iprop(wSlot c s ∗ wPanel m c (grp c (2 * 1 + s.val)) ∗ wPanel m c (grp c (2 * 0 + s.val)) ∗ semVal (copyCell c s) 0) := by
  unfold Slot
  rw [if_pos rfl, bigSep_range_succ, bigSep_range_succ]
  iintro ⟨#HC, Hw, -, ⟨H1, H0, -⟩, Hat, -⟩
  ihave #HI := (inv_copy m ρ K c s) $$ HC
  imod (Rounds.cell_close ER (sched m ρ) (Set.mem_univ (K (c, kCopy s))) (fun h => h) (R := 2) (duties_copy_later m ρ c s)) $$ [Hat] with Hz
  · isplitr; · iexact HI
    iexact Hat
  imodintro
  isplitl [Hw]; · iexact Hw
  isplitl [H1]; · iexact H1
  isplitl [H0] <;> iassumption

/-- The device at the end of the body. -/
def bodyPost (c : Dev nD) : sProp 𝕄 :=
  iprop((∃ W : Waits sig Unit, owes (c : Thread nD τ) 0 W) ∗ Kept m ρ c ∗ xPt m ρ c
    ∗ (semVal (copyCell c 0) 0 ∗ semVal (copyCell c 1) 0 ∗ (bigSep Finset.univ fun e : Dev nD => semVal (sendCell c e) 0) ∗ (bigSep Finset.univ fun e : Dev nD => semVal (recvCell c e) 0))
    ∗ (wSlot c 0 ∗ wSlot c 1) ∗ (bigSep Finset.univ fun g : Fin 4 => wPanel m c g) ∗ (bigSep Finset.univ fun e : Dev nD => ySlot c e) ∗ (bigSep Finset.univ fun e : Dev nD => rSlot c e)
    ∗ (bigSep Finset.univ fun e : Dev nD => oRowsAt m ρ c e))

theorem to_end (c : Dev nD) : Z m ρ K c 32 (Got m ρ c) ⊢ |={Set.univ}=> bodyPost m ρ c := by
  unfold Z Sw Got Self bodyPost
  rw [Finset.Ico_self, bigSep_empty, ← peers_src c (fun e => iprop(ySlot c e ∗ semVal (sendCell c e) 0)), peers, peers, bigSep_sep', bigSep_sep']
  iintro ⟨#HC, ⟨HO, -, Hy, Hvs⟩, ⟨Hr, Hvr⟩, Hor, Ho, H0, H1, Hx, Hk, Hyc, Hrc, Hps, Hpr⟩
  ihave #HIs := (inv_send m ρ K c c) $$ HC
  ihave #HIr := (inv_recv m ρ K c c) $$ HC
  imod (Rounds.cell_close ER (sched m ρ) (Set.mem_univ (K (c, kSend c))) (fun h => h) (R := 0) (duties_send_own m ρ c)) $$ [Hps] with Hzs
  · isplitr; · iexact HIs
    iexact Hps
  imod (Rounds.cell_close ER (sched m ρ) (Set.mem_univ (K (c, kRecv c))) (fun h => h) (R := 0) (duties_recv_own m ρ c)) $$ [Hpr] with Hzr
  · isplitr; · iexact HIr
    iexact Hpr
  imod (copy_close m ρ K c 0) $$ [H0] with ⟨Hw0, Hp2, Hp0, Hz0⟩
  · isplitr; · iexact HC
    iexact H0
  imod (copy_close m ρ K c 1) $$ [H1] with ⟨Hw1, Hp3, Hp1, Hz1⟩
  · isplitr; · iexact HC
    iexact H1
  imodintro
  isplitl [HO]; · iexact HO
  isplitl [Hk]; · iexact Hk
  isplitl [Hx]; · iexact Hx
  isplitl [Hz0 Hz1 Hzs Hzr Hvs Hvr]
  · isplitl [Hz0]; · iexact Hz0
    isplitl [Hz1]; · iexact Hz1
    isplitl [Hzs Hvs]
    · iapply (peers_own c fun e => semVal (sendCell c e) 0); isplitl [Hzs] <;> iassumption
    · iapply (peers_own c fun e => semVal (recvCell c e) 0); isplitl [Hzr] <;> iassumption
  isplitl [Hw0 Hw1]; · isplitl [Hw0] <;> iassumption
  isplitl [Hp0 Hp1 Hp2 Hp3]
  · iapply (panels_all m c)
    isplitl [Hp0]; · iexact Hp0
    isplitl [Hp1]; · iexact Hp1
    isplitl [Hp2] <;> iassumption
  isplitl [Hy Hyc]
  · iapply (peers_own c fun e => ySlot c e); isplitl [Hyc] <;> iassumption
  isplitl [Hr Hrc]
  · iapply (peers_own c fun e => rSlot c e); isplitl [Hrc] <;> iassumption
  iapply (peers_own c fun e => oRowsAt m ρ c e); isplitl [Ho] <;> iassumption

end Cert.A2A

end
-- ==== Proof.Sends.lean ====
/-
  The first half of the body, part by part: the panels, and each block stored or sent.
-/
module

public import proofs.«01_k».proof.Proof.Steps

@[expose] public section

noncomputable section

namespace Cert.A2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Fin 67 → ℕ)

theorem part2 (c : Dev nD) (w0 w1 w2 w3 w4 w5) {R : sProp 𝕄} {Φ : _ → sProp 𝕄} (h : ∀ r0 r1 r2 r3, S m ρ K c 0 0 iprop(Slot m c 0 1 0 ∗ Slot m c 1 1 0 ∗ xPt m ρ c ∗ R) ⊢ Φ ⟨r0, r1, r2, r3⟩) :
    S m ρ K c 0 0 iprop(Slot m c 0 0 0 ∗ Slot m c 1 0 0 ∗ xPt m ρ c ∗ R) ⊢ WP c ((atBufs (k0_part2 (F := F))) c w0 w1 w2 w3 w4 w5) Φ := by
  unfold atBufs; rw [k0_part2_eq_skeleton]; unfold k0_part2_skel
  refine copy_rule m ρ K c 0 0 (by decide) (off1_eq c 0) ?_
  refine S_swap m ρ K ?_
  refine copy_rule m ρ K c 1 0 (by decide) (off1_eq c 1) ?_
  refine S_swap m ρ K ?_
  exact ret_rule (h _ _ _ _)

theorem part3 (c : Dev nD) (w0 w1 w3 w4 w5 w6) {R : sProp 𝕄} {Φ : _ → sProp 𝕄} (h : ∀ r2 r3 r4, S m ρ K c 0 0 iprop(Slot m c 0 1 1 ∗ Slot m c 1 1 0 ∗ xPt m ρ c ∗ R) ⊢ Φ ⟨(act m ρ c (grp c 0)), (colBlk 0 (act m ρ c (grp c 0))), r2, r3, r4⟩) :
    S m ρ K c 0 0 iprop(Slot m c 0 1 0 ∗ Slot m c 1 1 0 ∗ xPt m ρ c ∗ R) ⊢ WP c ((atBufs (k0_part3 (F := F))) c w0 w1 (scale m ρ c) w3 w4 w5 w6) Φ := by
  unfold atBufs; rw [k0_part3_eq_skeleton]; unfold k0_part3_skel
  refine panel_rule m ρ K c 0 0 (by decide) ?_
  exact ret_rule (h _ _ _)

theorem part4 (c : Dev nD) (w0 w1 w4 w5 w6) {R : sProp 𝕄} {Φ : _ → sProp 𝕄} (h : ∀ r1 r2, S m ρ K c 2 2 R ⊢ Φ ⟨(colBlk 2 (act m ρ c (grp c 0))), r1, r2⟩) :
    S m ρ K c 0 0 R ⊢ WP c ((atBufs (k0_part4 (F := F))) c w0 w1 (act m ρ c (grp c 0)) (colBlk 0 (act m ρ c (grp c 0))) w4 w5 w6) Φ := by
  unfold atBufs; rw [k0_part4_eq_skeleton]; unfold k0_part4_skel
  refine own_rule m ρ K c 0 (by decide) (own0 c) (blk_at m ρ c 0 (by decide)).symm ?_
  refine send_rule m ρ K c 0 (by decide) (send0 c) (congrArg k0_pay4 (blk_at m ρ c 0 (by decide)).symm) ?_
  refine own_rule m ρ K c 1 (by decide) (own1 c) (blk_at m ρ c 1 (by decide)).symm ?_
  refine send_rule m ρ K c 1 (by decide) (send1 c) (congrArg k0_pay4 (blk_at m ρ c 1 (by decide)).symm) ?_
  exact ret_rule (h _ _)

theorem part5 (c : Dev nD) (w0 w1 w4 w5) {R : sProp 𝕄} {Φ : _ → sProp 𝕄} (h : ∀ r1 r2 r3, S m ρ K c 4 4 R ⊢ Φ ⟨(colBlk 4 (act m ρ c (grp c 0))), r1, r2, r3⟩) :
    S m ρ K c 2 2 R ⊢ WP c ((atBufs (k0_part5 (F := F))) c w0 w1 (act m ρ c (grp c 0)) (colBlk 2 (act m ρ c (grp c 0))) w4 w5) Φ := by
  unfold atBufs; rw [k0_part5_eq_skeleton]; unfold k0_part5_skel
  refine own_rule m ρ K c 2 (by decide) (own2 c) (blk_at m ρ c 2 (by decide)).symm ?_
  refine send_rule m ρ K c 2 (by decide) (send2 c) (congrArg k0_pay4 (blk_at m ρ c 2 (by decide)).symm) ?_
  refine own_rule m ρ K c 3 (by decide) (own3 c) (blk_at m ρ c 3 (by decide)).symm ?_
  refine send_rule m ρ K c 3 (by decide) (send3 c) (congrArg k0_pay4 (blk_at m ρ c 3 (by decide)).symm) ?_
  exact ret_rule (h _ _ _)

theorem part6 (c : Dev nD) (w0 w1 w4 w5 w6) {R : sProp 𝕄} {Φ : _ → sProp 𝕄} (h : ∀ r1 r2 r3 r4, S m ρ K c 6 6 R ⊢ Φ ⟨(colBlk 6 (act m ρ c (grp c 0))), r1, r2, r3, r4⟩) :
    S m ρ K c 4 4 R ⊢ WP c ((atBufs (k0_part6 (F := F))) c w0 w1 (act m ρ c (grp c 0)) (colBlk 4 (act m ρ c (grp c 0))) w4 w5 w6) Φ := by
  unfold atBufs; rw [k0_part6_eq_skeleton]; unfold k0_part6_skel
  refine own_rule m ρ K c 4 (by decide) (own4 c) (blk_at m ρ c 4 (by decide)).symm ?_
  refine send_rule m ρ K c 4 (by decide) (send4 c) (congrArg k0_pay4 (blk_at m ρ c 4 (by decide)).symm) ?_
  refine own_rule m ρ K c 5 (by decide) (own5 c) (blk_at m ρ c 5 (by decide)).symm ?_
  refine send_rule m ρ K c 5 (by decide) (send5 c) (congrArg k0_pay4 (blk_at m ρ c 5 (by decide)).symm) ?_
  exact ret_rule (h _ _ _ _)

theorem part7 (c : Dev nD) (w0 w1 w4 w5 w6 w7) {R : sProp 𝕄} {Φ : _ → sProp 𝕄} (h : ∀ r0 r1 r2, S m ρ K c 8 8 R ⊢ Φ ⟨r0, r1, r2⟩) :
    S m ρ K c 6 6 R ⊢ WP c ((atBufs (k0_part7 (F := F))) c w0 w1 (act m ρ c (grp c 0)) (colBlk 6 (act m ρ c (grp c 0))) w4 w5 w6 w7) Φ := by
  unfold atBufs; rw [k0_part7_eq_skeleton]; unfold k0_part7_skel
  refine own_rule m ρ K c 6 (by decide) (own6 c) (blk_at m ρ c 6 (by decide)).symm ?_
  refine send_rule m ρ K c 6 (by decide) (send6 c) (congrArg k0_pay4 (blk_at m ρ c 6 (by decide)).symm) ?_
  refine own_rule m ρ K c 7 (by decide) (own7 c) (blk_at m ρ c 7 (by decide)).symm ?_
  refine send_rule m ρ K c 7 (by decide) (send7 c) (congrArg k0_pay4 (blk_at m ρ c 7 (by decide)).symm) ?_
  exact ret_rule (h _ _ _)

theorem part8 (c : Dev nD) (w0 w2 w3 w4) {R : sProp 𝕄} {Φ : _ → sProp 𝕄} (h : S m ρ K c 8 8 iprop(Slot m c 0 2 1 ∗ Slot m c 1 1 1 ∗ xPt m ρ c ∗ R) ⊢ Φ (k0_pay19 (scale m ρ c) (xstg m ρ c) (panel m c (grp c 1)))) :
    S m ρ K c 8 8 iprop(Slot m c 0 1 1 ∗ Slot m c 1 1 0 ∗ xPt m ρ c ∗ R) ⊢ WP c ((atBufs (k0_part8 (F := F))) c w0 (scale m ρ c) w2 w3 w4) Φ := by
  unfold atBufs; rw [k0_part8_eq_skeleton]; unfold k0_part8_skel
  refine copy_rule m ρ K c 0 1 (by decide) (off1_eq c 2) ?_
  refine S_swap m ρ K ?_
  refine panel_rule m ρ K c 1 0 (by decide) ?_
  refine S_swap m ρ K ?_
  exact ret_rule h

theorem part9 (c : Dev nD) (w0 w1) {R : sProp 𝕄} {Φ : _ → sProp 𝕄} (h : ∀ r2 r3, S m ρ K c 10 9 R ⊢ Φ ⟨(act m ρ c (grp c 1)), (colBlk 1 (act m ρ c (grp c 1))), r2, r3⟩) :
    S m ρ K c 8 8 R ⊢ WP c ((atBufs (k0_part9 (F := F))) c w0 w1 (k0_pay19 (scale m ρ c) (xstg m ρ c) (panel m c (grp c 1)))) Φ := by
  unfold atBufs; rw [k0_part9_eq_skeleton]; unfold k0_part9_skel
  refine own_rule m ρ K c 8 (by decide) (own8 c) (blk_at m ρ c 8 (by decide)).symm ?_
  refine send_rule m ρ K c 8 (by decide) (send8 c) (congrArg k0_pay4 (blk_at m ρ c 8 (by decide)).symm) ?_
  refine own_rule m ρ K c 9 (by decide) (own9 c) (blk_at m ρ c 9 (by decide)).symm ?_
  exact ret_rule (h _ _)

theorem part10 (c : Dev nD) (w0 w1 w4 w5) {R : sProp 𝕄} {Φ : _ → sProp 𝕄} (h : ∀ r1, S m ρ K c 11 11 R ⊢ Φ ⟨(colBlk 3 (act m ρ c (grp c 1))), r1⟩) :
    S m ρ K c 10 9 R ⊢ WP c ((atBufs (k0_part10 (F := F))) c w0 w1 (act m ρ c (grp c 1)) (colBlk 1 (act m ρ c (grp c 1))) w4 w5) Φ := by
  unfold atBufs; rw [k0_part10_eq_skeleton]; unfold k0_part10_skel
  refine send_rule m ρ K c 9 (by decide) (send9 c) (congrArg k0_pay4 (blk_at m ρ c 9 (by decide)).symm) ?_
  refine own_rule m ρ K c 10 (by decide) (own10 c) (blk_at m ρ c 10 (by decide)).symm ?_
  refine send_rule m ρ K c 10 (by decide) (send10 c) (congrArg k0_pay4 (blk_at m ρ c 10 (by decide)).symm) ?_
  exact ret_rule (h _)

theorem part11 (c : Dev nD) (w0 w1 w4) {R : sProp 𝕄} {Φ : _ → sProp 𝕄} (h : ∀ r1 r2, S m ρ K c 13 13 R ⊢ Φ ⟨(colBlk 5 (act m ρ c (grp c 1))), r1, r2⟩) :
    S m ρ K c 11 11 R ⊢ WP c ((atBufs (k0_part11 (F := F))) c w0 w1 (act m ρ c (grp c 1)) (colBlk 3 (act m ρ c (grp c 1))) w4) Φ := by
  unfold atBufs; rw [k0_part11_eq_skeleton]; unfold k0_part11_skel
  refine own_rule m ρ K c 11 (by decide) (own11 c) (blk_at m ρ c 11 (by decide)).symm ?_
  refine send_rule m ρ K c 11 (by decide) (send11 c) (congrArg k0_pay4 (blk_at m ρ c 11 (by decide)).symm) ?_
  refine own_rule m ρ K c 12 (by decide) (own12 c) (blk_at m ρ c 12 (by decide)).symm ?_
  refine send_rule m ρ K c 12 (by decide) (send12 c) (congrArg k0_pay4 (blk_at m ρ c 12 (by decide)).symm) ?_
  exact ret_rule (h _ _)

theorem part12 (c : Dev nD) (w0 w1 w4 w5) {R : sProp 𝕄} {Φ : _ → sProp 𝕄} (h : ∀ r1, S m ρ K c 15 15 R ⊢ Φ ⟨(colBlk 7 (act m ρ c (grp c 1))), r1⟩) :
    S m ρ K c 13 13 R ⊢ WP c ((atBufs (k0_part12 (F := F))) c w0 w1 (act m ρ c (grp c 1)) (colBlk 5 (act m ρ c (grp c 1))) w4 w5) Φ := by
  unfold atBufs; rw [k0_part12_eq_skeleton]; unfold k0_part12_skel
  refine own_rule m ρ K c 13 (by decide) (own13 c) (blk_at m ρ c 13 (by decide)).symm ?_
  refine send_rule m ρ K c 13 (by decide) (send13 c) (congrArg k0_pay4 (blk_at m ρ c 13 (by decide)).symm) ?_
  refine own_rule m ρ K c 14 (by decide) (own14 c) (blk_at m ρ c 14 (by decide)).symm ?_
  refine send_rule m ρ K c 14 (by decide) (send14 c) (congrArg k0_pay4 (blk_at m ρ c 14 (by decide)).symm) ?_
  exact ret_rule (h _)

theorem part13 (c : Dev nD) (w0 w1 w3) {R : sProp 𝕄} {Φ : _ → sProp 𝕄} (h : ∀ r0 r1, S m ρ K c 16 16 iprop(Slot m c 0 2 1 ∗ Slot m c 1 2 1 ∗ xPt m ρ c ∗ R) ⊢ Φ ⟨r0, r1⟩) :
    S m ρ K c 15 15 iprop(Slot m c 0 2 1 ∗ Slot m c 1 1 1 ∗ xPt m ρ c ∗ R) ⊢ WP c ((atBufs (k0_part13 (F := F))) c w0 w1 (colBlk 7 (act m ρ c (grp c 1))) w3) Φ := by
  unfold atBufs; rw [k0_part13_eq_skeleton]; unfold k0_part13_skel
  refine own_rule m ρ K c 15 (by decide) (own15 c) (blk_at m ρ c 15 (by decide)).symm ?_
  refine send_rule m ρ K c 15 (by decide) (send15 c) (congrArg k0_pay4 (blk_at m ρ c 15 (by decide)).symm) ?_
  refine S_swap m ρ K ?_
  refine copy_rule m ρ K c 1 1 (by decide) (off1_eq c 3) ?_
  refine S_swap m ρ K ?_
  exact ret_rule (h _ _)

theorem part14 (c : Dev nD) (w0 w1 w3 w4) {R : sProp 𝕄} {Φ : _ → sProp 𝕄} (h : S m ρ K c 17 17 iprop(Slot m c 0 2 2 ∗ Slot m c 1 2 1 ∗ xPt m ρ c ∗ R) ⊢ Φ ⟨(act m ρ c (grp c 2)), (colBlk 1 (act m ρ c (grp c 2)))⟩) :
    S m ρ K c 16 16 iprop(Slot m c 0 2 1 ∗ Slot m c 1 2 1 ∗ xPt m ρ c ∗ R) ⊢ WP c ((atBufs (k0_part14 (F := F))) c w0 w1 (scale m ρ c) w3 w4) Φ := by
  unfold atBufs; rw [k0_part14_eq_skeleton]; unfold k0_part14_skel
  refine panel_rule m ρ K c 0 1 (by decide) ?_
  refine own_rule m ρ K c 16 (by decide) (own16 c) (blk_at m ρ c 16 (by decide)).symm ?_
  refine send_rule m ρ K c 16 (by decide) (send16 c) (congrArg k0_pay4 (blk_at m ρ c 16 (by decide)).symm) ?_
  exact ret_rule h

theorem part15 (c : Dev nD) (w0 w1) {R : sProp 𝕄} {Φ : _ → sProp 𝕄} (h : ∀ r1, S m ρ K c 19 18 R ⊢ Φ ⟨(colBlk 2 (act m ρ c (grp c 2))), r1⟩) :
    S m ρ K c 17 17 R ⊢ WP c ((atBufs (k0_part15 (F := F))) c w0 w1 (act m ρ c (grp c 2)) (colBlk 1 (act m ρ c (grp c 2)))) Φ := by
  unfold atBufs; rw [k0_part15_eq_skeleton]; unfold k0_part15_skel
  refine own_rule m ρ K c 17 (by decide) (own17 c) (blk_at m ρ c 17 (by decide)).symm ?_
  refine send_rule m ρ K c 17 (by decide) (send17 c) (congrArg k0_pay4 (blk_at m ρ c 17 (by decide)).symm) ?_
  refine own_rule m ρ K c 18 (by decide) (own18 c) (blk_at m ρ c 18 (by decide)).symm ?_
  exact ret_rule (h _)

theorem part16 (c : Dev nD) (w0 w1 w4) {R : sProp 𝕄} {Φ : _ → sProp 𝕄} (h : ∀ r1 r2, S m ρ K c 21 20 R ⊢ Φ ⟨(colBlk 4 (act m ρ c (grp c 2))), r1, r2⟩) :
    S m ρ K c 19 18 R ⊢ WP c ((atBufs (k0_part16 (F := F))) c w0 w1 (act m ρ c (grp c 2)) (colBlk 2 (act m ρ c (grp c 2))) w4) Φ := by
  unfold atBufs; rw [k0_part16_eq_skeleton]; unfold k0_part16_skel
  refine send_rule m ρ K c 18 (by decide) (send18 c) (congrArg k0_pay4 (blk_at m ρ c 18 (by decide)).symm) ?_
  refine own_rule m ρ K c 19 (by decide) (own19 c) (blk_at m ρ c 19 (by decide)).symm ?_
  refine send_rule m ρ K c 19 (by decide) (send19 c) (congrArg k0_pay4 (blk_at m ρ c 19 (by decide)).symm) ?_
  refine own_rule m ρ K c 20 (by decide) (own20 c) (blk_at m ρ c 20 (by decide)).symm ?_
  exact ret_rule (h _ _)

theorem part17 (c : Dev nD) (w0 w1 w4 w5) {R : sProp 𝕄} {Φ : _ → sProp 𝕄} (h : ∀ r1, S m ρ K c 23 22 R ⊢ Φ ⟨(colBlk 6 (act m ρ c (grp c 2))), r1⟩) :
    S m ρ K c 21 20 R ⊢ WP c ((atBufs (k0_part17 (F := F))) c w0 w1 (act m ρ c (grp c 2)) (colBlk 4 (act m ρ c (grp c 2))) w4 w5) Φ := by
  unfold atBufs; rw [k0_part17_eq_skeleton]; unfold k0_part17_skel
  refine send_rule m ρ K c 20 (by decide) (send20 c) (congrArg k0_pay4 (blk_at m ρ c 20 (by decide)).symm) ?_
  refine own_rule m ρ K c 21 (by decide) (own21 c) (blk_at m ρ c 21 (by decide)).symm ?_
  refine send_rule m ρ K c 21 (by decide) (send21 c) (congrArg k0_pay4 (blk_at m ρ c 21 (by decide)).symm) ?_
  refine own_rule m ρ K c 22 (by decide) (own22 c) (blk_at m ρ c 22 (by decide)).symm ?_
  exact ret_rule (h _)

theorem part18 (c : Dev nD) (w0 w1 w4) {R : sProp 𝕄} {Φ : _ → sProp 𝕄} (h : S m ρ K c 24 24 R ⊢ Φ ⟨⟩) :
    S m ρ K c 23 22 R ⊢ WP c ((atBufs (k0_part18 (F := F))) c w0 w1 (act m ρ c (grp c 2)) (colBlk 6 (act m ρ c (grp c 2))) w4) Φ := by
  unfold atBufs; rw [k0_part18_eq_skeleton]; unfold k0_part18_skel
  refine send_rule m ρ K c 22 (by decide) (send22 c) (congrArg k0_pay4 (blk_at m ρ c 22 (by decide)).symm) ?_
  refine own_rule m ρ K c 23 (by decide) (own23 c) (blk_at m ρ c 23 (by decide)).symm ?_
  refine send_rule m ρ K c 23 (by decide) (send23 c) (congrArg k0_pay4 (blk_at m ρ c 23 (by decide)).symm) ?_
  exact ret_rule h

theorem part19 (c : Dev nD) (w0 w1) {R : sProp 𝕄} {Φ : _ → sProp 𝕄} (h : ∀ r2 r3, S m ρ K c 25 25 iprop(Slot m c 0 2 2 ∗ Slot m c 1 2 2 ∗ xPt m ρ c ∗ R) ⊢ Φ ⟨(act m ρ c (grp c 3)), (colBlk 1 (act m ρ c (grp c 3))), r2, r3⟩) :
    S m ρ K c 24 24 iprop(Slot m c 0 2 2 ∗ Slot m c 1 2 1 ∗ xPt m ρ c ∗ R) ⊢ WP c ((atBufs (k0_part19 (F := F))) c w0 w1 (scale m ρ c)) Φ := by
  unfold atBufs; rw [k0_part19_eq_skeleton]; unfold k0_part19_skel
  refine S_swap m ρ K ?_
  refine panel_rule m ρ K c 1 1 (by decide) ?_
  refine S_swap m ρ K ?_
  refine own_rule m ρ K c 24 (by decide) (own24 c) (blk_at m ρ c 24 (by decide)).symm ?_
  refine send_rule m ρ K c 24 (by decide) (send24 c) (congrArg k0_pay4 (blk_at m ρ c 24 (by decide)).symm) ?_
  exact ret_rule (h _ _)

theorem part20 (c : Dev nD) (w0 w1 w4 w5) {R : sProp 𝕄} {Φ : _ → sProp 𝕄} (h : ∀ r1 r2, S m ρ K c 27 27 R ⊢ Φ ⟨(colBlk 3 (act m ρ c (grp c 3))), r1, r2⟩) :
    S m ρ K c 25 25 R ⊢ WP c ((atBufs (k0_part20 (F := F))) c w0 w1 (act m ρ c (grp c 3)) (colBlk 1 (act m ρ c (grp c 3))) w4 w5) Φ := by
  unfold atBufs; rw [k0_part20_eq_skeleton]; unfold k0_part20_skel
  refine own_rule m ρ K c 25 (by decide) (own25 c) (blk_at m ρ c 25 (by decide)).symm ?_
  refine send_rule m ρ K c 25 (by decide) (send25 c) (congrArg k0_pay4 (blk_at m ρ c 25 (by decide)).symm) ?_
  refine own_rule m ρ K c 26 (by decide) (own26 c) (blk_at m ρ c 26 (by decide)).symm ?_
  refine send_rule m ρ K c 26 (by decide) (send26 c) (congrArg k0_pay4 (blk_at m ρ c 26 (by decide)).symm) ?_
  exact ret_rule (h _ _)

theorem part21 (c : Dev nD) (w0 w1 w4 w5) {R : sProp 𝕄} {Φ : _ → sProp 𝕄} (h : ∀ r1, S m ρ K c 29 29 R ⊢ Φ ⟨(colBlk 5 (act m ρ c (grp c 3))), r1⟩) :
    S m ρ K c 27 27 R ⊢ WP c ((atBufs (k0_part21 (F := F))) c w0 w1 (act m ρ c (grp c 3)) (colBlk 3 (act m ρ c (grp c 3))) w4 w5) Φ := by
  unfold atBufs; rw [k0_part21_eq_skeleton]; unfold k0_part21_skel
  refine own_rule m ρ K c 27 (by decide) (own27 c) (blk_at m ρ c 27 (by decide)).symm ?_
  refine send_rule m ρ K c 27 (by decide) (send27 c) (congrArg k0_pay4 (blk_at m ρ c 27 (by decide)).symm) ?_
  refine own_rule m ρ K c 28 (by decide) (own28 c) (blk_at m ρ c 28 (by decide)).symm ?_
  refine send_rule m ρ K c 28 (by decide) (send28 c) (congrArg k0_pay4 (blk_at m ρ c 28 (by decide)).symm) ?_
  exact ret_rule (h _)

theorem part22 (c : Dev nD) (w0 w1 w4) {R : sProp 𝕄} {Φ : _ → sProp 𝕄} (h : S m ρ K c 31 31 R ⊢ Φ ⟨⟩) :
    S m ρ K c 29 29 R ⊢ WP c ((atBufs (k0_part22 (F := F))) c w0 w1 (act m ρ c (grp c 3)) (colBlk 5 (act m ρ c (grp c 3))) w4) Φ := by
  unfold atBufs; rw [k0_part22_eq_skeleton]; unfold k0_part22_skel
  refine own_rule m ρ K c 29 (by decide) (own29 c) (blk_at m ρ c 29 (by decide)).symm ?_
  refine send_rule m ρ K c 29 (by decide) (send29 c) (congrArg k0_pay4 (blk_at m ρ c 29 (by decide)).symm) ?_
  refine own_rule m ρ K c 30 (by decide) (own30 c) (blk_at m ρ c 30 (by decide)).symm ?_
  refine send_rule m ρ K c 30 (by decide) (send30 c) (congrArg k0_pay4 (blk_at m ρ c 30 (by decide)).symm) ?_
  exact ret_rule h

theorem part23 (c : Dev nD) (w0 w1) {R : sProp 𝕄} {Φ : _ → sProp 𝕄} (h : ∀ r0, S m ρ K c 32 32 R ⊢ Φ r0) :
    S m ρ K c 31 31 R ⊢ WP c ((atBufs (k0_part23 (F := F))) c w0 w1 (act m ρ c (grp c 3))) Φ := by
  unfold atBufs; rw [k0_part23_eq_skeleton]; unfold k0_part23_skel
  refine own_rule m ρ K c 31 (by decide) (own31 c) (blk_at m ρ c 31 (by decide)).symm ?_
  refine send_rule m ρ K c 31 (by decide) (send31 c) (congrArg k0_pay4 (blk_at m ρ c 31 (by decide)).symm) ?_
  exact ret_rule (h _)

end Cert.A2A

end
-- ==== Proof.Recvs.lean ====
/-
  The second half of the body, part by part: each peer's block waited for and stored, then each send waited for.
-/
module

public import proofs.«01_k».proof.Proof.Steps

@[expose] public section

noncomputable section

namespace Cert.A2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Fin 67 → ℕ)

theorem part24 (c : Dev nD) (w0 w1) {R : sProp 𝕄} {Φ : _ → sProp 𝕄} (h : V m ρ K c 3 2 R ⊢ Φ (k0_pay71 (sent m ρ (src c 2) c))) :
    V m ρ K c 1 1 R ⊢ WP c ((atBufs (k0_part24 (F := F))) c w0 w1) Φ := by
  unfold atBufs; rw [k0_part24_eq_skeleton]; unfold k0_part24_skel
  refine recv_rule m ρ K c 1 (by decide) (waitSite c 0).1 (waitSite c 0).2.1 (waitSite c 0).2.2.1 ?_
  refine rows_load m ρ K c 1 (by decide) (waitSite c 0).2.2.2 fun _ => ?_
  refine rows_store m ρ K c 1 (by decide) (waitSite c 0).2.2.2 rfl ?_
  refine recv_rule m ρ K c 2 (by decide) (waitSite c 1).1 (waitSite c 1).2.1 (waitSite c 1).2.2.1 ?_
  refine rows_load m ρ K c 2 (by decide) (waitSite c 1).2.2.2 fun _ => ?_
  exact ret_rule h

theorem part25 (c : Dev nD) (w0) {R : sProp 𝕄} {Φ : _ → sProp 𝕄} (h : ∀ r0 r1 r2 r3 r4, V m ρ K c 4 4 R ⊢ Φ ⟨r0, r1, r2, r3, r4⟩) :
    V m ρ K c 3 2 R ⊢ WP c ((atBufs (k0_part25 (F := F))) c w0 (k0_pay71 (sent m ρ (src c 2) c))) Φ := by
  unfold atBufs; rw [k0_part25_eq_skeleton]; unfold k0_part25_skel
  refine rows_store m ρ K c 2 (by decide) (waitSite c 1).2.2.2 rfl ?_
  refine recv_rule m ρ K c 3 (by decide) (waitSite c 2).1 (waitSite c 2).2.1 (waitSite c 2).2.2.1 ?_
  refine rows_load m ρ K c 3 (by decide) (waitSite c 2).2.2.2 fun _ => ?_
  refine rows_store m ρ K c 3 (by decide) (waitSite c 2).2.2.2 rfl ?_
  exact ret_rule (h _ _ _ _ _)

theorem part26 (c : Dev nD) (w0 w1 w2 w3 w4 w5) {R : sProp 𝕄} {Φ : _ → sProp 𝕄} (h : ∀ r0, V m ρ K c 5 5 R ⊢ Φ r0) :
    V m ρ K c 4 4 R ⊢ WP c ((atBufs (k0_part26 (F := F))) c w0 w1 w2 w3 w4 w5) Φ := by
  unfold atBufs; rw [k0_part26_eq_skeleton]; unfold k0_part26_skel
  refine recv_rule m ρ K c 4 (by decide) (waitSite c 3).1 (waitSite c 3).2.1 (waitSite c 3).2.2.1 ?_
  refine rows_load m ρ K c 4 (by decide) (waitSite c 3).2.2.2 fun _ => ?_
  refine rows_store m ρ K c 4 (by decide) (waitSite c 3).2.2.2 rfl ?_
  exact ret_rule (h _)

theorem part27 (c : Dev nD) (w0 w1) {R : sProp 𝕄} {Φ : _ → sProp 𝕄} (h : V m ρ K c 7 6 R ⊢ Φ (k0_pay71 (sent m ρ (src c 6) c))) :
    V m ρ K c 5 5 R ⊢ WP c ((atBufs (k0_part27 (F := F))) c w0 w1) Φ := by
  unfold atBufs; rw [k0_part27_eq_skeleton]; unfold k0_part27_skel
  refine recv_rule m ρ K c 5 (by decide) (waitSite c 4).1 (waitSite c 4).2.1 (waitSite c 4).2.2.1 ?_
  refine rows_load m ρ K c 5 (by decide) (waitSite c 4).2.2.2 fun _ => ?_
  refine rows_store m ρ K c 5 (by decide) (waitSite c 4).2.2.2 rfl ?_
  refine recv_rule m ρ K c 6 (by decide) (waitSite c 5).1 (waitSite c 5).2.1 (waitSite c 5).2.2.1 ?_
  refine rows_load m ρ K c 6 (by decide) (waitSite c 5).2.2.2 fun _ => ?_
  exact ret_rule h

theorem part28 (c : Dev nD) (w0) {R : sProp 𝕄} {Φ : _ → sProp 𝕄} (h : ∀ r0 r1 r2 r3 r4, V m ρ K c 8 8 R ⊢ Φ ⟨r0, r1, r2, r3, r4⟩) :
    V m ρ K c 7 6 R ⊢ WP c ((atBufs (k0_part28 (F := F))) c w0 (k0_pay71 (sent m ρ (src c 6) c))) Φ := by
  unfold atBufs; rw [k0_part28_eq_skeleton]; unfold k0_part28_skel
  refine rows_store m ρ K c 6 (by decide) (waitSite c 5).2.2.2 rfl ?_
  refine recv_rule m ρ K c 7 (by decide) (waitSite c 6).1 (waitSite c 6).2.1 (waitSite c 6).2.2.1 ?_
  refine rows_load m ρ K c 7 (by decide) (waitSite c 6).2.2.2 fun _ => ?_
  refine rows_store m ρ K c 7 (by decide) (waitSite c 6).2.2.2 rfl ?_
  exact ret_rule (h _ _ _ _ _)

theorem part29 (c : Dev nD) (w0 w1 w2 w3 w4 w5) {R : sProp 𝕄} {Φ : _ → sProp 𝕄} (h : ∀ r0, V m ρ K c 9 9 R ⊢ Φ r0) :
    V m ρ K c 8 8 R ⊢ WP c ((atBufs (k0_part29 (F := F))) c w0 w1 w2 w3 w4 w5) Φ := by
  unfold atBufs; rw [k0_part29_eq_skeleton]; unfold k0_part29_skel
  refine recv_rule m ρ K c 8 (by decide) (waitSite c 7).1 (waitSite c 7).2.1 (waitSite c 7).2.2.1 ?_
  refine rows_load m ρ K c 8 (by decide) (waitSite c 7).2.2.2 fun _ => ?_
  refine rows_store m ρ K c 8 (by decide) (waitSite c 7).2.2.2 rfl ?_
  exact ret_rule (h _)

theorem part30 (c : Dev nD) (w0 w1) {R : sProp 𝕄} {Φ : _ → sProp 𝕄} (h : V m ρ K c 11 10 R ⊢ Φ (k0_pay71 (sent m ρ (src c 10) c))) :
    V m ρ K c 9 9 R ⊢ WP c ((atBufs (k0_part30 (F := F))) c w0 w1) Φ := by
  unfold atBufs; rw [k0_part30_eq_skeleton]; unfold k0_part30_skel
  refine recv_rule m ρ K c 9 (by decide) (waitSite c 8).1 (waitSite c 8).2.1 (waitSite c 8).2.2.1 ?_
  refine rows_load m ρ K c 9 (by decide) (waitSite c 8).2.2.2 fun _ => ?_
  refine rows_store m ρ K c 9 (by decide) (waitSite c 8).2.2.2 rfl ?_
  refine recv_rule m ρ K c 10 (by decide) (waitSite c 9).1 (waitSite c 9).2.1 (waitSite c 9).2.2.1 ?_
  refine rows_load m ρ K c 10 (by decide) (waitSite c 9).2.2.2 fun _ => ?_
  exact ret_rule h

theorem part31 (c : Dev nD) (w0) {R : sProp 𝕄} {Φ : _ → sProp 𝕄} (h : ∀ r0 r1 r2 r3 r4, V m ρ K c 12 12 R ⊢ Φ ⟨r0, r1, r2, r3, r4⟩) :
    V m ρ K c 11 10 R ⊢ WP c ((atBufs (k0_part31 (F := F))) c w0 (k0_pay71 (sent m ρ (src c 10) c))) Φ := by
  unfold atBufs; rw [k0_part31_eq_skeleton]; unfold k0_part31_skel
  refine rows_store m ρ K c 10 (by decide) (waitSite c 9).2.2.2 rfl ?_
  refine recv_rule m ρ K c 11 (by decide) (waitSite c 10).1 (waitSite c 10).2.1 (waitSite c 10).2.2.1 ?_
  refine rows_load m ρ K c 11 (by decide) (waitSite c 10).2.2.2 fun _ => ?_
  refine rows_store m ρ K c 11 (by decide) (waitSite c 10).2.2.2 rfl ?_
  exact ret_rule (h _ _ _ _ _)

theorem part32 (c : Dev nD) (w0 w1 w2 w3 w4 w5) {R : sProp 𝕄} {Φ : _ → sProp 𝕄} (h : ∀ r0, V m ρ K c 13 13 R ⊢ Φ r0) :
    V m ρ K c 12 12 R ⊢ WP c ((atBufs (k0_part32 (F := F))) c w0 w1 w2 w3 w4 w5) Φ := by
  unfold atBufs; rw [k0_part32_eq_skeleton]; unfold k0_part32_skel
  refine recv_rule m ρ K c 12 (by decide) (waitSite c 11).1 (waitSite c 11).2.1 (waitSite c 11).2.2.1 ?_
  refine rows_load m ρ K c 12 (by decide) (waitSite c 11).2.2.2 fun _ => ?_
  refine rows_store m ρ K c 12 (by decide) (waitSite c 11).2.2.2 rfl ?_
  exact ret_rule (h _)

theorem part33 (c : Dev nD) (w0 w1) {R : sProp 𝕄} {Φ : _ → sProp 𝕄} (h : V m ρ K c 15 14 R ⊢ Φ (k0_pay71 (sent m ρ (src c 14) c))) :
    V m ρ K c 13 13 R ⊢ WP c ((atBufs (k0_part33 (F := F))) c w0 w1) Φ := by
  unfold atBufs; rw [k0_part33_eq_skeleton]; unfold k0_part33_skel
  refine recv_rule m ρ K c 13 (by decide) (waitSite c 12).1 (waitSite c 12).2.1 (waitSite c 12).2.2.1 ?_
  refine rows_load m ρ K c 13 (by decide) (waitSite c 12).2.2.2 fun _ => ?_
  refine rows_store m ρ K c 13 (by decide) (waitSite c 12).2.2.2 rfl ?_
  refine recv_rule m ρ K c 14 (by decide) (waitSite c 13).1 (waitSite c 13).2.1 (waitSite c 13).2.2.1 ?_
  refine rows_load m ρ K c 14 (by decide) (waitSite c 13).2.2.2 fun _ => ?_
  exact ret_rule h

theorem part34 (c : Dev nD) (w0) {R : sProp 𝕄} {Φ : _ → sProp 𝕄} (h : ∀ r0 r1 r2 r3 r4, V m ρ K c 16 16 R ⊢ Φ ⟨r0, r1, r2, r3, r4⟩) :
    V m ρ K c 15 14 R ⊢ WP c ((atBufs (k0_part34 (F := F))) c w0 (k0_pay71 (sent m ρ (src c 14) c))) Φ := by
  unfold atBufs; rw [k0_part34_eq_skeleton]; unfold k0_part34_skel
  refine rows_store m ρ K c 14 (by decide) (waitSite c 13).2.2.2 rfl ?_
  refine recv_rule m ρ K c 15 (by decide) (waitSite c 14).1 (waitSite c 14).2.1 (waitSite c 14).2.2.1 ?_
  refine rows_load m ρ K c 15 (by decide) (waitSite c 14).2.2.2 fun _ => ?_
  refine rows_store m ρ K c 15 (by decide) (waitSite c 14).2.2.2 rfl ?_
  exact ret_rule (h _ _ _ _ _)

theorem part35 (c : Dev nD) (w0 w1 w2 w3 w4 w5) {R : sProp 𝕄} {Φ : _ → sProp 𝕄} (h : ∀ r0, V m ρ K c 17 17 R ⊢ Φ r0) :
    V m ρ K c 16 16 R ⊢ WP c ((atBufs (k0_part35 (F := F))) c w0 w1 w2 w3 w4 w5) Φ := by
  unfold atBufs; rw [k0_part35_eq_skeleton]; unfold k0_part35_skel
  refine recv_rule m ρ K c 16 (by decide) (waitSite c 15).1 (waitSite c 15).2.1 (waitSite c 15).2.2.1 ?_
  refine rows_load m ρ K c 16 (by decide) (waitSite c 15).2.2.2 fun _ => ?_
  refine rows_store m ρ K c 16 (by decide) (waitSite c 15).2.2.2 rfl ?_
  exact ret_rule (h _)

theorem part36 (c : Dev nD) (w0 w1) {R : sProp 𝕄} {Φ : _ → sProp 𝕄} (h : V m ρ K c 19 18 R ⊢ Φ (k0_pay71 (sent m ρ (src c 18) c))) :
    V m ρ K c 17 17 R ⊢ WP c ((atBufs (k0_part36 (F := F))) c w0 w1) Φ := by
  unfold atBufs; rw [k0_part36_eq_skeleton]; unfold k0_part36_skel
  refine recv_rule m ρ K c 17 (by decide) (waitSite c 16).1 (waitSite c 16).2.1 (waitSite c 16).2.2.1 ?_
  refine rows_load m ρ K c 17 (by decide) (waitSite c 16).2.2.2 fun _ => ?_
  refine rows_store m ρ K c 17 (by decide) (waitSite c 16).2.2.2 rfl ?_
  refine recv_rule m ρ K c 18 (by decide) (waitSite c 17).1 (waitSite c 17).2.1 (waitSite c 17).2.2.1 ?_
  refine rows_load m ρ K c 18 (by decide) (waitSite c 17).2.2.2 fun _ => ?_
  exact ret_rule h

theorem part37 (c : Dev nD) (w0) {R : sProp 𝕄} {Φ : _ → sProp 𝕄} (h : ∀ r0 r1 r2 r3 r4, V m ρ K c 20 20 R ⊢ Φ ⟨r0, r1, r2, r3, r4⟩) :
    V m ρ K c 19 18 R ⊢ WP c ((atBufs (k0_part37 (F := F))) c w0 (k0_pay71 (sent m ρ (src c 18) c))) Φ := by
  unfold atBufs; rw [k0_part37_eq_skeleton]; unfold k0_part37_skel
  refine rows_store m ρ K c 18 (by decide) (waitSite c 17).2.2.2 rfl ?_
  refine recv_rule m ρ K c 19 (by decide) (waitSite c 18).1 (waitSite c 18).2.1 (waitSite c 18).2.2.1 ?_
  refine rows_load m ρ K c 19 (by decide) (waitSite c 18).2.2.2 fun _ => ?_
  refine rows_store m ρ K c 19 (by decide) (waitSite c 18).2.2.2 rfl ?_
  exact ret_rule (h _ _ _ _ _)

theorem part38 (c : Dev nD) (w0 w1 w2 w3 w4 w5) {R : sProp 𝕄} {Φ : _ → sProp 𝕄} (h : ∀ r0, V m ρ K c 21 21 R ⊢ Φ r0) :
    V m ρ K c 20 20 R ⊢ WP c ((atBufs (k0_part38 (F := F))) c w0 w1 w2 w3 w4 w5) Φ := by
  unfold atBufs; rw [k0_part38_eq_skeleton]; unfold k0_part38_skel
  refine recv_rule m ρ K c 20 (by decide) (waitSite c 19).1 (waitSite c 19).2.1 (waitSite c 19).2.2.1 ?_
  refine rows_load m ρ K c 20 (by decide) (waitSite c 19).2.2.2 fun _ => ?_
  refine rows_store m ρ K c 20 (by decide) (waitSite c 19).2.2.2 rfl ?_
  exact ret_rule (h _)

theorem part39 (c : Dev nD) (w0 w1) {R : sProp 𝕄} {Φ : _ → sProp 𝕄} (h : V m ρ K c 23 22 R ⊢ Φ (k0_pay71 (sent m ρ (src c 22) c))) :
    V m ρ K c 21 21 R ⊢ WP c ((atBufs (k0_part39 (F := F))) c w0 w1) Φ := by
  unfold atBufs; rw [k0_part39_eq_skeleton]; unfold k0_part39_skel
  refine recv_rule m ρ K c 21 (by decide) (waitSite c 20).1 (waitSite c 20).2.1 (waitSite c 20).2.2.1 ?_
  refine rows_load m ρ K c 21 (by decide) (waitSite c 20).2.2.2 fun _ => ?_
  refine rows_store m ρ K c 21 (by decide) (waitSite c 20).2.2.2 rfl ?_
  refine recv_rule m ρ K c 22 (by decide) (waitSite c 21).1 (waitSite c 21).2.1 (waitSite c 21).2.2.1 ?_
  refine rows_load m ρ K c 22 (by decide) (waitSite c 21).2.2.2 fun _ => ?_
  exact ret_rule h

theorem part40 (c : Dev nD) (w0) {R : sProp 𝕄} {Φ : _ → sProp 𝕄} (h : ∀ r0 r1 r2 r3 r4, V m ρ K c 24 24 R ⊢ Φ ⟨r0, r1, r2, r3, r4⟩) :
    V m ρ K c 23 22 R ⊢ WP c ((atBufs (k0_part40 (F := F))) c w0 (k0_pay71 (sent m ρ (src c 22) c))) Φ := by
  unfold atBufs; rw [k0_part40_eq_skeleton]; unfold k0_part40_skel
  refine rows_store m ρ K c 22 (by decide) (waitSite c 21).2.2.2 rfl ?_
  refine recv_rule m ρ K c 23 (by decide) (waitSite c 22).1 (waitSite c 22).2.1 (waitSite c 22).2.2.1 ?_
  refine rows_load m ρ K c 23 (by decide) (waitSite c 22).2.2.2 fun _ => ?_
  refine rows_store m ρ K c 23 (by decide) (waitSite c 22).2.2.2 rfl ?_
  exact ret_rule (h _ _ _ _ _)

theorem part41 (c : Dev nD) (w0 w1 w2 w3 w4 w5) {R : sProp 𝕄} {Φ : _ → sProp 𝕄} (h : ∀ r0, V m ρ K c 25 25 R ⊢ Φ r0) :
    V m ρ K c 24 24 R ⊢ WP c ((atBufs (k0_part41 (F := F))) c w0 w1 w2 w3 w4 w5) Φ := by
  unfold atBufs; rw [k0_part41_eq_skeleton]; unfold k0_part41_skel
  refine recv_rule m ρ K c 24 (by decide) (waitSite c 23).1 (waitSite c 23).2.1 (waitSite c 23).2.2.1 ?_
  refine rows_load m ρ K c 24 (by decide) (waitSite c 23).2.2.2 fun _ => ?_
  refine rows_store m ρ K c 24 (by decide) (waitSite c 23).2.2.2 rfl ?_
  exact ret_rule (h _)

theorem part42 (c : Dev nD) (w0 w1) {R : sProp 𝕄} {Φ : _ → sProp 𝕄} (h : V m ρ K c 27 26 R ⊢ Φ (k0_pay71 (sent m ρ (src c 26) c))) :
    V m ρ K c 25 25 R ⊢ WP c ((atBufs (k0_part42 (F := F))) c w0 w1) Φ := by
  unfold atBufs; rw [k0_part42_eq_skeleton]; unfold k0_part42_skel
  refine recv_rule m ρ K c 25 (by decide) (waitSite c 24).1 (waitSite c 24).2.1 (waitSite c 24).2.2.1 ?_
  refine rows_load m ρ K c 25 (by decide) (waitSite c 24).2.2.2 fun _ => ?_
  refine rows_store m ρ K c 25 (by decide) (waitSite c 24).2.2.2 rfl ?_
  refine recv_rule m ρ K c 26 (by decide) (waitSite c 25).1 (waitSite c 25).2.1 (waitSite c 25).2.2.1 ?_
  refine rows_load m ρ K c 26 (by decide) (waitSite c 25).2.2.2 fun _ => ?_
  exact ret_rule h

theorem part43 (c : Dev nD) (w0) {R : sProp 𝕄} {Φ : _ → sProp 𝕄} (h : ∀ r0 r1 r2 r3 r4, V m ρ K c 28 28 R ⊢ Φ ⟨r0, r1, r2, r3, r4⟩) :
    V m ρ K c 27 26 R ⊢ WP c ((atBufs (k0_part43 (F := F))) c w0 (k0_pay71 (sent m ρ (src c 26) c))) Φ := by
  unfold atBufs; rw [k0_part43_eq_skeleton]; unfold k0_part43_skel
  refine rows_store m ρ K c 26 (by decide) (waitSite c 25).2.2.2 rfl ?_
  refine recv_rule m ρ K c 27 (by decide) (waitSite c 26).1 (waitSite c 26).2.1 (waitSite c 26).2.2.1 ?_
  refine rows_load m ρ K c 27 (by decide) (waitSite c 26).2.2.2 fun _ => ?_
  refine rows_store m ρ K c 27 (by decide) (waitSite c 26).2.2.2 rfl ?_
  exact ret_rule (h _ _ _ _ _)

theorem part44 (c : Dev nD) (w0 w1 w2 w3 w4 w5) {R : sProp 𝕄} {Φ : _ → sProp 𝕄} (h : ∀ r0, V m ρ K c 29 29 R ⊢ Φ r0) :
    V m ρ K c 28 28 R ⊢ WP c ((atBufs (k0_part44 (F := F))) c w0 w1 w2 w3 w4 w5) Φ := by
  unfold atBufs; rw [k0_part44_eq_skeleton]; unfold k0_part44_skel
  refine recv_rule m ρ K c 28 (by decide) (waitSite c 27).1 (waitSite c 27).2.1 (waitSite c 27).2.2.1 ?_
  refine rows_load m ρ K c 28 (by decide) (waitSite c 27).2.2.2 fun _ => ?_
  refine rows_store m ρ K c 28 (by decide) (waitSite c 27).2.2.2 rfl ?_
  exact ret_rule (h _)

theorem part45 (c : Dev nD) (w0 w1) {R : sProp 𝕄} {Φ : _ → sProp 𝕄} (h : V m ρ K c 31 30 R ⊢ Φ (k0_pay71 (sent m ρ (src c 30) c))) :
    V m ρ K c 29 29 R ⊢ WP c ((atBufs (k0_part45 (F := F))) c w0 w1) Φ := by
  unfold atBufs; rw [k0_part45_eq_skeleton]; unfold k0_part45_skel
  refine recv_rule m ρ K c 29 (by decide) (waitSite c 28).1 (waitSite c 28).2.1 (waitSite c 28).2.2.1 ?_
  refine rows_load m ρ K c 29 (by decide) (waitSite c 28).2.2.2 fun _ => ?_
  refine rows_store m ρ K c 29 (by decide) (waitSite c 28).2.2.2 rfl ?_
  refine recv_rule m ρ K c 30 (by decide) (waitSite c 29).1 (waitSite c 29).2.1 (waitSite c 29).2.2.1 ?_
  refine rows_load m ρ K c 30 (by decide) (waitSite c 29).2.2.2 fun _ => ?_
  exact ret_rule h

theorem part46 (c : Dev nD) (w0) {R : sProp 𝕄} {Φ : _ → sProp 𝕄} (h : ∀ r0 r1 r2 r3 r4, V m ρ K c 32 32 R ⊢ Φ ⟨r0, r1, r2, r3, r4⟩) :
    V m ρ K c 31 30 R ⊢ WP c ((atBufs (k0_part46 (F := F))) c w0 (k0_pay71 (sent m ρ (src c 30) c))) Φ := by
  unfold atBufs; rw [k0_part46_eq_skeleton]; unfold k0_part46_skel
  refine rows_store m ρ K c 30 (by decide) (waitSite c 29).2.2.2 rfl ?_
  refine recv_rule m ρ K c 31 (by decide) (waitSite c 30).1 (waitSite c 30).2.1 (waitSite c 30).2.2.1 ?_
  refine rows_load m ρ K c 31 (by decide) (waitSite c 30).2.2.2 fun _ => ?_
  refine rows_store m ρ K c 31 (by decide) (waitSite c 30).2.2.2 rfl ?_
  exact ret_rule (h _ _ _ _ _)

theorem part47 (c : Dev nD) (w0 w1 w2 w3 w4 w5) {R : sProp 𝕄} {Φ : _ → sProp 𝕄} (h : ∀ r0 r1 r2 r3 r4, Z m ρ K c 3 R ⊢ Φ ⟨r0, r1, r2, r3, r4⟩) :
    Z m ρ K c 1 R ⊢ WP c ((atBufs (k0_part47 (F := F))) c w0 w1 w2 w3 w4 w5) Φ := by
  unfold atBufs; rw [k0_part47_eq_skeleton]; unfold k0_part47_skel
  refine sent_rule m ρ K c 1 (by decide) (waitSite c 0).1 (waitSite c 0).2.1 ?_
  refine sent_rule m ρ K c 2 (by decide) (waitSite c 1).1 (waitSite c 1).2.1 ?_
  exact ret_rule (h _ _ _ _ _)

theorem part48 (c : Dev nD) (w0 w1 w2 w3 w4 w5) {R : sProp 𝕄} {Φ : _ → sProp 𝕄} (h : ∀ r0 r1 r2 r3 r4, Z m ρ K c 5 R ⊢ Φ ⟨r0, r1, r2, r3, r4⟩) :
    Z m ρ K c 3 R ⊢ WP c ((atBufs (k0_part48 (F := F))) c w0 w1 w2 w3 w4 w5) Φ := by
  unfold atBufs; rw [k0_part48_eq_skeleton]; unfold k0_part48_skel
  refine sent_rule m ρ K c 3 (by decide) (waitSite c 2).1 (waitSite c 2).2.1 ?_
  refine sent_rule m ρ K c 4 (by decide) (waitSite c 3).1 (waitSite c 3).2.1 ?_
  exact ret_rule (h _ _ _ _ _)

theorem part49 (c : Dev nD) (w0 w1 w2 w3 w4 w5) {R : sProp 𝕄} {Φ : _ → sProp 𝕄} (h : ∀ r0 r1 r2 r3 r4, Z m ρ K c 7 R ⊢ Φ ⟨r0, r1, r2, r3, r4⟩) :
    Z m ρ K c 5 R ⊢ WP c ((atBufs (k0_part49 (F := F))) c w0 w1 w2 w3 w4 w5) Φ := by
  unfold atBufs; rw [k0_part49_eq_skeleton]; unfold k0_part49_skel
  refine sent_rule m ρ K c 5 (by decide) (waitSite c 4).1 (waitSite c 4).2.1 ?_
  refine sent_rule m ρ K c 6 (by decide) (waitSite c 5).1 (waitSite c 5).2.1 ?_
  exact ret_rule (h _ _ _ _ _)

theorem part50 (c : Dev nD) (w0 w1 w2 w3 w4 w5) {R : sProp 𝕄} {Φ : _ → sProp 𝕄} (h : ∀ r0 r1 r2 r3 r4, Z m ρ K c 9 R ⊢ Φ ⟨r0, r1, r2, r3, r4⟩) :
    Z m ρ K c 7 R ⊢ WP c ((atBufs (k0_part50 (F := F))) c w0 w1 w2 w3 w4 w5) Φ := by
  unfold atBufs; rw [k0_part50_eq_skeleton]; unfold k0_part50_skel
  refine sent_rule m ρ K c 7 (by decide) (waitSite c 6).1 (waitSite c 6).2.1 ?_
  refine sent_rule m ρ K c 8 (by decide) (waitSite c 7).1 (waitSite c 7).2.1 ?_
  exact ret_rule (h _ _ _ _ _)

theorem part51 (c : Dev nD) (w0 w1 w2 w3 w4 w5) {R : sProp 𝕄} {Φ : _ → sProp 𝕄} (h : ∀ r0 r1 r2 r3 r4, Z m ρ K c 11 R ⊢ Φ ⟨r0, r1, r2, r3, r4⟩) :
    Z m ρ K c 9 R ⊢ WP c ((atBufs (k0_part51 (F := F))) c w0 w1 w2 w3 w4 w5) Φ := by
  unfold atBufs; rw [k0_part51_eq_skeleton]; unfold k0_part51_skel
  refine sent_rule m ρ K c 9 (by decide) (waitSite c 8).1 (waitSite c 8).2.1 ?_
  refine sent_rule m ρ K c 10 (by decide) (waitSite c 9).1 (waitSite c 9).2.1 ?_
  exact ret_rule (h _ _ _ _ _)

theorem part52 (c : Dev nD) (w0 w1 w2 w3 w4 w5) {R : sProp 𝕄} {Φ : _ → sProp 𝕄} (h : ∀ r0 r1 r2 r3 r4, Z m ρ K c 13 R ⊢ Φ ⟨r0, r1, r2, r3, r4⟩) :
    Z m ρ K c 11 R ⊢ WP c ((atBufs (k0_part52 (F := F))) c w0 w1 w2 w3 w4 w5) Φ := by
  unfold atBufs; rw [k0_part52_eq_skeleton]; unfold k0_part52_skel
  refine sent_rule m ρ K c 11 (by decide) (waitSite c 10).1 (waitSite c 10).2.1 ?_
  refine sent_rule m ρ K c 12 (by decide) (waitSite c 11).1 (waitSite c 11).2.1 ?_
  exact ret_rule (h _ _ _ _ _)

theorem part53 (c : Dev nD) (w0 w1 w2 w3 w4 w5) {R : sProp 𝕄} {Φ : _ → sProp 𝕄} (h : ∀ r0 r1 r2 r3 r4, Z m ρ K c 15 R ⊢ Φ ⟨r0, r1, r2, r3, r4⟩) :
    Z m ρ K c 13 R ⊢ WP c ((atBufs (k0_part53 (F := F))) c w0 w1 w2 w3 w4 w5) Φ := by
  unfold atBufs; rw [k0_part53_eq_skeleton]; unfold k0_part53_skel
  refine sent_rule m ρ K c 13 (by decide) (waitSite c 12).1 (waitSite c 12).2.1 ?_
  refine sent_rule m ρ K c 14 (by decide) (waitSite c 13).1 (waitSite c 13).2.1 ?_
  exact ret_rule (h _ _ _ _ _)

theorem part54 (c : Dev nD) (w0 w1 w2 w3 w4 w5) {R : sProp 𝕄} {Φ : _ → sProp 𝕄} (h : ∀ r0 r1 r2 r3 r4, Z m ρ K c 17 R ⊢ Φ ⟨r0, r1, r2, r3, r4⟩) :
    Z m ρ K c 15 R ⊢ WP c ((atBufs (k0_part54 (F := F))) c w0 w1 w2 w3 w4 w5) Φ := by
  unfold atBufs; rw [k0_part54_eq_skeleton]; unfold k0_part54_skel
  refine sent_rule m ρ K c 15 (by decide) (waitSite c 14).1 (waitSite c 14).2.1 ?_
  refine sent_rule m ρ K c 16 (by decide) (waitSite c 15).1 (waitSite c 15).2.1 ?_
  exact ret_rule (h _ _ _ _ _)

theorem part55 (c : Dev nD) (w0 w1 w2 w3 w4 w5) {R : sProp 𝕄} {Φ : _ → sProp 𝕄} (h : ∀ r0 r1 r2 r3 r4, Z m ρ K c 19 R ⊢ Φ ⟨r0, r1, r2, r3, r4⟩) :
    Z m ρ K c 17 R ⊢ WP c ((atBufs (k0_part55 (F := F))) c w0 w1 w2 w3 w4 w5) Φ := by
  unfold atBufs; rw [k0_part55_eq_skeleton]; unfold k0_part55_skel
  refine sent_rule m ρ K c 17 (by decide) (waitSite c 16).1 (waitSite c 16).2.1 ?_
  refine sent_rule m ρ K c 18 (by decide) (waitSite c 17).1 (waitSite c 17).2.1 ?_
  exact ret_rule (h _ _ _ _ _)

theorem part56 (c : Dev nD) (w0 w1 w2 w3 w4 w5) {R : sProp 𝕄} {Φ : _ → sProp 𝕄} (h : ∀ r0 r1 r2 r3 r4, Z m ρ K c 21 R ⊢ Φ ⟨r0, r1, r2, r3, r4⟩) :
    Z m ρ K c 19 R ⊢ WP c ((atBufs (k0_part56 (F := F))) c w0 w1 w2 w3 w4 w5) Φ := by
  unfold atBufs; rw [k0_part56_eq_skeleton]; unfold k0_part56_skel
  refine sent_rule m ρ K c 19 (by decide) (waitSite c 18).1 (waitSite c 18).2.1 ?_
  refine sent_rule m ρ K c 20 (by decide) (waitSite c 19).1 (waitSite c 19).2.1 ?_
  exact ret_rule (h _ _ _ _ _)

theorem part57 (c : Dev nD) (w0 w1 w2 w3 w4 w5) {R : sProp 𝕄} {Φ : _ → sProp 𝕄} (h : ∀ r0 r1 r2 r3 r4, Z m ρ K c 23 R ⊢ Φ ⟨r0, r1, r2, r3, r4⟩) :
    Z m ρ K c 21 R ⊢ WP c ((atBufs (k0_part57 (F := F))) c w0 w1 w2 w3 w4 w5) Φ := by
  unfold atBufs; rw [k0_part57_eq_skeleton]; unfold k0_part57_skel
  refine sent_rule m ρ K c 21 (by decide) (waitSite c 20).1 (waitSite c 20).2.1 ?_
  refine sent_rule m ρ K c 22 (by decide) (waitSite c 21).1 (waitSite c 21).2.1 ?_
  exact ret_rule (h _ _ _ _ _)

theorem part58 (c : Dev nD) (w0 w1 w2 w3 w4 w5) {R : sProp 𝕄} {Φ : _ → sProp 𝕄} (h : ∀ r0 r1 r2 r3 r4, Z m ρ K c 25 R ⊢ Φ ⟨r0, r1, r2, r3, r4⟩) :
    Z m ρ K c 23 R ⊢ WP c ((atBufs (k0_part58 (F := F))) c w0 w1 w2 w3 w4 w5) Φ := by
  unfold atBufs; rw [k0_part58_eq_skeleton]; unfold k0_part58_skel
  refine sent_rule m ρ K c 23 (by decide) (waitSite c 22).1 (waitSite c 22).2.1 ?_
  refine sent_rule m ρ K c 24 (by decide) (waitSite c 23).1 (waitSite c 23).2.1 ?_
  exact ret_rule (h _ _ _ _ _)

theorem part59 (c : Dev nD) (w0 w1 w2 w3 w4 w5) {R : sProp 𝕄} {Φ : _ → sProp 𝕄} (h : ∀ r0 r1 r2 r3 r4, Z m ρ K c 27 R ⊢ Φ ⟨r0, r1, r2, r3, r4⟩) :
    Z m ρ K c 25 R ⊢ WP c ((atBufs (k0_part59 (F := F))) c w0 w1 w2 w3 w4 w5) Φ := by
  unfold atBufs; rw [k0_part59_eq_skeleton]; unfold k0_part59_skel
  refine sent_rule m ρ K c 25 (by decide) (waitSite c 24).1 (waitSite c 24).2.1 ?_
  refine sent_rule m ρ K c 26 (by decide) (waitSite c 25).1 (waitSite c 25).2.1 ?_
  exact ret_rule (h _ _ _ _ _)

theorem part60 (c : Dev nD) (w0 w1 w2 w3 w4 w5) {R : sProp 𝕄} {Φ : _ → sProp 𝕄} (h : ∀ r0 r1 r2 r3 r4, Z m ρ K c 29 R ⊢ Φ ⟨r0, r1, r2, r3, r4⟩) :
    Z m ρ K c 27 R ⊢ WP c ((atBufs (k0_part60 (F := F))) c w0 w1 w2 w3 w4 w5) Φ := by
  unfold atBufs; rw [k0_part60_eq_skeleton]; unfold k0_part60_skel
  refine sent_rule m ρ K c 27 (by decide) (waitSite c 26).1 (waitSite c 26).2.1 ?_
  refine sent_rule m ρ K c 28 (by decide) (waitSite c 27).1 (waitSite c 27).2.1 ?_
  exact ret_rule (h _ _ _ _ _)

theorem part61 (c : Dev nD) (w0 w1 w2 w3 w4 w5) {R : sProp 𝕄} {Φ : _ → sProp 𝕄} (h : ∀ r0 r1 r2 r3 r4, Z m ρ K c 31 R ⊢ Φ ⟨r0, r1, r2, r3, r4⟩) :
    Z m ρ K c 29 R ⊢ WP c ((atBufs (k0_part61 (F := F))) c w0 w1 w2 w3 w4 w5) Φ := by
  unfold atBufs; rw [k0_part61_eq_skeleton]; unfold k0_part61_skel
  refine sent_rule m ρ K c 29 (by decide) (waitSite c 28).1 (waitSite c 28).2.1 ?_
  refine sent_rule m ρ K c 30 (by decide) (waitSite c 29).1 (waitSite c 29).2.1 ?_
  exact ret_rule (h _ _ _ _ _)

end Cert.A2A

end
-- ==== Proof.Body.lean ====
/-
  The body from its entry to its end: its parts in the order the program runs them, with the changes of state between them.
-/
module

public import proofs.«01_k».proof.Proof.Phases
public import proofs.«01_k».proof.Proof.Sends
public import proofs.«01_k».proof.Proof.Recvs

@[expose] public section

noncomputable section

namespace Cert.A2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Fin 67 → ℕ)

/-- The device at the start of the body. -/
def bodyPre (c : Dev nD) : sProp 𝕄 :=
  iprop(Ctx m ρ K ∗ Sig c 1 ∗ cred (tallyAt (barCell c) () 31) ∗ atPos ER (barCell c) 0 ∅ 0 ∗ sxPt m ρ c ∗ swPt m ρ c
    ∗ Out c ∗ oRows c c ∗ Slot m c 0 0 0 ∗ Slot m c 1 0 0 ∗ xPt m ρ c ∗ Later c ∗ Self c)

set_option maxHeartbeats 4000000 in
theorem part62 (c : Dev nD) {Φ : _ → sProp 𝕄} (h : ∀ r1 r2 r3 r4 r5 r6, Z m ρ K c 29 (Got m ρ c) ⊢ Φ ⟨c, r1, r2, r3, r4, r5, r6⟩) :
    bodyPre m ρ K c ⊢ WP c (atBufs (k0_part62 (F := F))) Φ := by
  unfold atBufs; rw [k0_part62_eq_skeleton]; unfold k0_part62_skel bodyPre
  refine bind_rule (part1 m ρ K c (fun _ _ _ _ _ _ _ => ?_))
  refine BIBase.Entails.trans (to_sends m ρ K c) ?_
  dsimp only
  refine bind_rule ?_
  refine part2 m ρ K c _ _ _ _ _ _ (fun _ _ _ _ => ?_)
  try dsimp only
  refine bind_rule ?_
  refine part3 m ρ K c _ _ _ _ _ _ (fun _ _ _ => ?_)
  try dsimp only
  refine bind_rule ?_
  refine part4 m ρ K c _ _ _ _ _ (fun _ _ => ?_)
  try dsimp only
  refine bind_rule ?_
  refine part5 m ρ K c _ _ _ _ (fun _ _ _ => ?_)
  try dsimp only
  refine bind_rule ?_
  refine part6 m ρ K c _ _ _ _ _ (fun _ _ _ _ => ?_)
  try dsimp only
  refine bind_rule ?_
  refine part7 m ρ K c _ _ _ _ _ _ (fun _ _ _ => ?_)
  try dsimp only
  refine bind_rule ?_
  refine part8 m ρ K c _ _ _ _ ?_
  try dsimp only
  refine bind_rule ?_
  refine part9 m ρ K c _ _ (fun _ _ => ?_)
  try dsimp only
  refine bind_rule ?_
  refine part10 m ρ K c _ _ _ _ (fun _ => ?_)
  try dsimp only
  refine bind_rule ?_
  refine part11 m ρ K c _ _ _ (fun _ _ => ?_)
  try dsimp only
  refine bind_rule ?_
  refine part12 m ρ K c _ _ _ _ (fun _ => ?_)
  try dsimp only
  refine bind_rule ?_
  refine part13 m ρ K c _ _ _ (fun _ _ => ?_)
  try dsimp only
  refine bind_rule ?_
  refine part14 m ρ K c _ _ _ _ ?_
  try dsimp only
  refine bind_rule ?_
  refine part15 m ρ K c _ _ (fun _ => ?_)
  try dsimp only
  refine bind_rule ?_
  refine part16 m ρ K c _ _ _ (fun _ _ => ?_)
  try dsimp only
  refine bind_rule ?_
  refine part17 m ρ K c _ _ _ _ (fun _ => ?_)
  try dsimp only
  refine bind_rule ?_
  refine part18 m ρ K c _ _ _ ?_
  try dsimp only
  refine bind_rule ?_
  refine part19 m ρ K c _ _ (fun _ _ => ?_)
  try dsimp only
  refine bind_rule ?_
  refine part20 m ρ K c _ _ _ _ (fun _ _ => ?_)
  try dsimp only
  refine bind_rule ?_
  refine part21 m ρ K c _ _ _ _ (fun _ => ?_)
  try dsimp only
  refine bind_rule ?_
  refine part22 m ρ K c _ _ _ ?_
  try dsimp only
  refine bind_rule ?_
  refine part23 m ρ K c _ _ (fun _ => ?_)
  try dsimp only
  refine BIBase.Entails.trans (to_recvs m ρ K c) ?_
  refine bind_rule ?_
  refine part24 m ρ K c _ _ ?_
  try dsimp only
  refine bind_rule ?_
  refine part25 m ρ K c _ (fun _ _ _ _ _ => ?_)
  try dsimp only
  refine bind_rule ?_
  refine part26 m ρ K c _ _ _ _ _ _ (fun _ => ?_)
  try dsimp only
  refine bind_rule ?_
  refine part27 m ρ K c _ _ ?_
  try dsimp only
  refine bind_rule ?_
  refine part28 m ρ K c _ (fun _ _ _ _ _ => ?_)
  try dsimp only
  refine bind_rule ?_
  refine part29 m ρ K c _ _ _ _ _ _ (fun _ => ?_)
  try dsimp only
  refine bind_rule ?_
  refine part30 m ρ K c _ _ ?_
  try dsimp only
  refine bind_rule ?_
  refine part31 m ρ K c _ (fun _ _ _ _ _ => ?_)
  try dsimp only
  refine bind_rule ?_
  refine part32 m ρ K c _ _ _ _ _ _ (fun _ => ?_)
  try dsimp only
  refine bind_rule ?_
  refine part33 m ρ K c _ _ ?_
  try dsimp only
  refine bind_rule ?_
  refine part34 m ρ K c _ (fun _ _ _ _ _ => ?_)
  try dsimp only
  refine bind_rule ?_
  refine part35 m ρ K c _ _ _ _ _ _ (fun _ => ?_)
  try dsimp only
  refine bind_rule ?_
  refine part36 m ρ K c _ _ ?_
  try dsimp only
  refine bind_rule ?_
  refine part37 m ρ K c _ (fun _ _ _ _ _ => ?_)
  try dsimp only
  refine bind_rule ?_
  refine part38 m ρ K c _ _ _ _ _ _ (fun _ => ?_)
  try dsimp only
  refine bind_rule ?_
  refine part39 m ρ K c _ _ ?_
  try dsimp only
  refine bind_rule ?_
  refine part40 m ρ K c _ (fun _ _ _ _ _ => ?_)
  try dsimp only
  refine bind_rule ?_
  refine part41 m ρ K c _ _ _ _ _ _ (fun _ => ?_)
  try dsimp only
  refine bind_rule ?_
  refine part42 m ρ K c _ _ ?_
  try dsimp only
  refine bind_rule ?_
  refine part43 m ρ K c _ (fun _ _ _ _ _ => ?_)
  try dsimp only
  refine bind_rule ?_
  refine part44 m ρ K c _ _ _ _ _ _ (fun _ => ?_)
  try dsimp only
  refine bind_rule ?_
  refine part45 m ρ K c _ _ ?_
  try dsimp only
  refine bind_rule ?_
  refine part46 m ρ K c _ (fun _ _ _ _ _ => ?_)
  try dsimp only
  refine BIBase.Entails.trans (to_waits m ρ K c) ?_
  refine bind_rule ?_
  refine part47 m ρ K c _ _ _ _ _ _ (fun _ _ _ _ _ => ?_)
  try dsimp only
  refine bind_rule ?_
  refine part48 m ρ K c _ _ _ _ _ _ (fun _ _ _ _ _ => ?_)
  try dsimp only
  refine bind_rule ?_
  refine part49 m ρ K c _ _ _ _ _ _ (fun _ _ _ _ _ => ?_)
  try dsimp only
  refine bind_rule ?_
  refine part50 m ρ K c _ _ _ _ _ _ (fun _ _ _ _ _ => ?_)
  try dsimp only
  refine bind_rule ?_
  refine part51 m ρ K c _ _ _ _ _ _ (fun _ _ _ _ _ => ?_)
  try dsimp only
  refine bind_rule ?_
  refine part52 m ρ K c _ _ _ _ _ _ (fun _ _ _ _ _ => ?_)
  try dsimp only
  refine bind_rule ?_
  refine part53 m ρ K c _ _ _ _ _ _ (fun _ _ _ _ _ => ?_)
  try dsimp only
  refine bind_rule ?_
  refine part54 m ρ K c _ _ _ _ _ _ (fun _ _ _ _ _ => ?_)
  try dsimp only
  refine bind_rule ?_
  refine part55 m ρ K c _ _ _ _ _ _ (fun _ _ _ _ _ => ?_)
  try dsimp only
  refine bind_rule ?_
  refine part56 m ρ K c _ _ _ _ _ _ (fun _ _ _ _ _ => ?_)
  try dsimp only
  refine bind_rule ?_
  refine part57 m ρ K c _ _ _ _ _ _ (fun _ _ _ _ _ => ?_)
  try dsimp only
  refine bind_rule ?_
  refine part58 m ρ K c _ _ _ _ _ _ (fun _ _ _ _ _ => ?_)
  try dsimp only
  refine bind_rule ?_
  refine part59 m ρ K c _ _ _ _ _ _ (fun _ _ _ _ _ => ?_)
  try dsimp only
  refine bind_rule ?_
  refine part60 m ρ K c _ _ _ _ _ _ (fun _ _ _ _ _ => ?_)
  try dsimp only
  exact ret_rule (h _ _ _ _ _ _)

theorem sound_body (c : Dev nD) {Φ : PUnit → sProp 𝕄} (h : bodyPost m ρ c ⊢ Φ ⟨⟩) :
    bodyPre m ρ K c ⊢ WP c (atBufs (cc0_body (F := F))) Φ := by
  unfold atBufs; rw [cc0_body_eq_skeleton]; unfold cc0_body_skel
  refine bind_rule (part62 m ρ K c (fun _ _ _ _ _ _ => ?_))
  refine bind_rule ?_
  refine part61 m ρ K c _ _ _ _ _ _ (fun _ _ _ _ _ => ?_)
  try dsimp only
  refine sent_rule m ρ K c 31 (by decide) (waitSite c 30).1 (waitSite c 30).2.1 ?_
  unfold WP; rw [Prog.pure_eq_ret, wp_ret]
  iintro H
  imod (to_end m ρ K c) $$ H with H
  imodintro
  iapply h $$ H

end Cert.A2A

end
-- ==== Proof.Buffers.lean ====
/-
  The kernel's buffers whole, and slot by slot: the staging and landing buffers by devices, the weights' staging by its two
  slots, the weights by their four panels, the result by its row blocks.
-/
module

public import proofs.«01_k».proof.Proof.Phases

@[expose] public section

noncomputable section

namespace Cert.A2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The families of slots are disjoint and cover their buffers -/

theorem slotR_disjoint (d d' : Dev nD) (h : d ≠ d') : Disjoint (slotR d).set (slotR d').set :=
  Ring.lead_disjoint (s := S32x128x256) (NB := 32) 0 1 (fun d => ![d.val, 0, 0]) S1x128x256.size (fun d => lt3 d.isLt)
    (fun d => (Nat.one_mul _).symm) rfl d d' h
theorem slotR_cover : Finset.univ.biUnion (fun d : Dev nD => (slotR d).set) = Finset.univ :=
  Ring.lead_cover (s := S32x128x256) (NB := 32) 0 1 (fun d => ![d.val, 0, 0]) S1x128x256.size (fun d => lt3 d.isLt)
    (fun d => (Nat.one_mul _).symm) (fun d a ha => by fin_cases a <;> first | exact absurd rfl ha | rfl) rfl
    (fun a ha => by fin_cases a <;> first | exact absurd rfl ha | rfl) rfl

theorem slotW_disjoint (s s' : Fin 2) (h : s ≠ s') : Disjoint (slotW s).set (slotW s').set :=
  Ring.lead_disjoint (s := S2x4096x2048) (NB := 2) 0 1 (fun s => ![s.val, 0, 0]) S1x4096x2048.size inbW
    (fun d => (Nat.one_mul _).symm) rfl s s' h
theorem slotW_cover : Finset.univ.biUnion (fun s : Fin 2 => (slotW s).set) = Finset.univ :=
  Ring.lead_cover (s := S2x4096x2048) (NB := 2) 0 1 (fun s => ![s.val, 0, 0]) S1x4096x2048.size inbW
    (fun d => (Nat.one_mul _).symm) (fun d a ha => by fin_cases a <;> first | exact absurd rfl ha | rfl) rfl
    (fun a ha => by fin_cases a <;> first | exact absurd rfl ha | rfl) rfl

theorem panelR_disjoint (g g' : Fin 4) (h : g ≠ g') : Disjoint (panelR g).set (panelR g').set :=
  Ring.lead_disjoint (s := S4096x8192) (NB := 4) 1 2048 (fun g => ![0, 2048 * g.val]) S4096x2048.size inbP
    (fun d => rfl) rfl g g' h
theorem panelR_cover : Finset.univ.biUnion (fun g : Fin 4 => (panelR g).set) = Finset.univ :=
  Ring.lead_cover (s := S4096x8192) (NB := 4) 1 2048 (fun g => ![0, 2048 * g.val]) S4096x2048.size inbP
    (fun d => rfl) (fun d a ha => by fin_cases a <;> first | exact absurd rfl ha | rfl) rfl
    (fun a ha => by fin_cases a <;> first | exact absurd rfl ha | rfl) rfl

theorem rowsR_disjoint (d d' : Dev nD) (h : d ≠ d') : Disjoint (rowsR d).set (rowsR d').set :=
  Ring.lead_disjoint (s := S4096x256) (NB := 32) 0 128 (fun d => ![128 * d.val, 0]) S128x256.size inbO
    (fun d => rfl) rfl d d' h
theorem rowsR_cover : Finset.univ.biUnion (fun d : Dev nD => (rowsR d).set) = Finset.univ :=
  Ring.lead_cover (s := S4096x256) (NB := 32) 0 128 (fun d => ![128 * d.val, 0]) S128x256.size inbO
    (fun d => rfl) (fun d a ha => by fin_cases a <;> first | exact absurd rfl ha | rfl) rfl
    (fun a ha => by fin_cases a <;> first | exact absurd rfl ha | rfl) rfl

/-! ## Splitting and joining -/

section Split
variable {ℓ : Loc nD τ sig} {B : Type} [Fintype B] [DecidableEq B] (I : B → Finset (Idx ℓ))
  (hd : ∀ b b', b ≠ b' → Disjoint (I b) (I b')) (hc : Finset.univ.biUnion I = Finset.univ)

omit [FloatOps F] in
include hd hc in
/-- A buffer held whole at some contents, block by block. -/
theorem split_some : iprop(∃ f : Buf (Elt F) ℓ, ℓ ↦{fullShare} f) ⊢ (bigSep Finset.univ fun b => iprop(∃ f : Buf (Elt F) ℓ, ℓ ↦[I b]{fullShare} f) : sProp 𝕄) := by
  have h (f : Buf (Elt F) ℓ) : ∀ b : B, (ℓ ↦[I b]{fullShare} f : sProp 𝕄) ⊢ iprop(∃ f : Buf (Elt F) ℓ, ℓ ↦[I b]{fullShare} f) := fun b => by
    iintro H; iexists f; iexact H
  iintro ⟨%f, H⟩
  ihave H := (Entails.of_eq (Ring.pointsTo_blocks I hd hc f)) $$ H
  iapply (show (bigSep Finset.univ fun b => (ℓ ↦[I b]{fullShare} f : sProp 𝕄)) ⊢ bigSep Finset.univ fun b => iprop(∃ f : Buf (Elt F) ℓ, ℓ ↦[I b]{fullShare} f) from
    bigSep_mono fun b _ => h f b) $$ H

end Split

omit [FloatOps F] in
theorem zero_buf [FloatOps F] (ℓ : Loc nD τ sig) : Nonempty (Buf (Elt F) ℓ) := ⟨fun _ => Classical.arbitrary _⟩

theorem y_split (c : Dev nD) : iprop(∃ f : Buf (Elt F) ((c : Thread nD τ).loc cc0_scratch1), ((c : Thread nD τ).loc cc0_scratch1) ↦{fullShare} f)
    ⊢ (bigSep Finset.univ fun d : Dev nD => ySlot c d : sProp 𝕄) :=
  split_some (ℓ := (c : Thread nD τ).loc cc0_scratch1) (fun d : Dev nD => (slotR d).set) slotR_disjoint slotR_cover
theorem r_split (c : Dev nD) : iprop(∃ f : Buf (Elt F) ((c : Thread nD τ).loc cc0_scratch2), ((c : Thread nD τ).loc cc0_scratch2) ↦{fullShare} f)
    ⊢ (bigSep Finset.univ fun d : Dev nD => rSlot c d : sProp 𝕄) :=
  split_some (ℓ := (c : Thread nD τ).loc cc0_scratch2) (fun d : Dev nD => (slotR d).set) slotR_disjoint slotR_cover
theorem o_split (c : Dev nD) : iprop(∃ f : Buf (Elt F) ((c : Thread nD τ).loc cc0_stg3_0), ((c : Thread nD τ).loc cc0_stg3_0) ↦{fullShare} f)
    ⊢ (bigSep Finset.univ fun d : Dev nD => oRows c d : sProp 𝕄) :=
  split_some (ℓ := (c : Thread nD τ).loc cc0_stg3_0) (fun d : Dev nD => (rowsR d).set) rowsR_disjoint rowsR_cover
theorem w_split (c : Dev nD) : iprop(∃ f : Buf (Elt F) ((c : Thread nD τ).loc cc0_scratch0), ((c : Thread nD τ).loc cc0_scratch0) ↦{fullShare} f)
    ⊢ (iprop(wSlot c 0 ∗ wSlot c 1) : sProp 𝕄) := by
  refine BIBase.Entails.trans (split_some (ℓ := (c : Thread nD τ).loc cc0_scratch0) (fun s : Fin 2 => (slotW s).set) slotW_disjoint slotW_cover) ?_
  rw [bigSep_univ_eq_bigSepL [0, 1] (by decide) (by decide)]
  exact Entails.refl _

theorem y_join (c : Dev nD) : (bigSep Finset.univ fun d : Dev nD => ySlot c d : sProp 𝕄)
    ⊢ iprop(∃ f : Buf (Elt F) ((c : Thread nD τ).loc cc0_scratch1), ((c : Thread nD τ).loc cc0_scratch1) ↦{fullShare} f) :=
  Ring.pointsTo_blocks_join_exists (ℓ := (c : Thread nD τ).loc cc0_scratch1) (fun d : Dev nD => (slotR d).set) slotR_disjoint slotR_cover (zero_buf _).some
theorem r_join (c : Dev nD) : (bigSep Finset.univ fun d : Dev nD => rSlot c d : sProp 𝕄)
    ⊢ iprop(∃ f : Buf (Elt F) ((c : Thread nD τ).loc cc0_scratch2), ((c : Thread nD τ).loc cc0_scratch2) ↦{fullShare} f) :=
  Ring.pointsTo_blocks_join_exists (ℓ := (c : Thread nD τ).loc cc0_scratch2) (fun d : Dev nD => (slotR d).set) slotR_disjoint slotR_cover (zero_buf _).some
theorem w_join (c : Dev nD) : (iprop(wSlot c 0 ∗ wSlot c 1) : sProp 𝕄)
    ⊢ iprop(∃ f : Buf (Elt F) ((c : Thread nD τ).loc cc0_scratch0), ((c : Thread nD τ).loc cc0_scratch0) ↦{fullShare} f) := by
  refine BIBase.Entails.trans ?_ (Ring.pointsTo_blocks_join_exists (ℓ := (c : Thread nD τ).loc cc0_scratch0) (fun s : Fin 2 => (slotW s).set) slotW_disjoint slotW_cover (zero_buf _).some)
  rw [bigSep_univ_eq_bigSepL [0, 1] (by decide) (by decide)]
  exact Entails.refl _
theorem o_join (c : Dev nD) : (bigSep Finset.univ fun d : Dev nD => oRowsAt m ρ c d : sProp 𝕄)
    ⊢ ((c : Thread nD τ).loc cc0_stg3_0) ↦{fullShare} result m ρ c :=
  Entails.of_eq (Ring.pointsTo_blocks (ℓ := (c : Thread nD τ).loc cc0_stg3_0) (fun d : Dev nD => (rowsR d).set) rowsR_disjoint rowsR_cover (result m ρ c)).symm

/-- The weights whole are their panels. -/
theorem panels_eq (c : Dev nD) : (((c : Thread nD τ).loc main_arg1) ↦{fullShare} warr m c : sProp 𝕄) = bigSep Finset.univ fun g : Fin 4 => wPanel m c g :=
  Ring.pointsTo_blocks (ℓ := (c : Thread nD τ).loc main_arg1) (fun g : Fin 4 => (panelR g).set) panelR_disjoint panelR_cover (warr m c)

end Cert.A2A

end
-- ==== Proof.Ghost.lean ====
/-
  The exchange's ghost state at launch: every device's cells with their invariants, its positions, and the duties' tokens, each
  token with the device that pays the duty. A barrier's and a receive cell's tokens change hands: device `a` mints them for its
  own cells, and each goes to the peer that signals or sends.
-/
module

public import proofs.«01_k».proof.Proof.Buffers

@[expose] public section

noncomputable section

namespace Cert.A2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Fin 67 → ℕ)

/-! ## A device's cells, by what they are for -/

theorem osem_send (e : Dev nD) : osem ⟨2 + e.val, by have : e.val < 32 := e.isLt; omega⟩ = .dma (sendS e) :=
  congrArg SemLoc.dma (Fin.ext (by show 4 + (2 + e.val) = 6 + e.val; omega))
theorem osem_recv (e : Dev nD) : osem ⟨2 + (32 + e.val), by have : e.val < 32 := e.isLt; omega⟩ = .dma (recvS e) :=
  congrArg SemLoc.dma (Fin.ext (by show 4 + (2 + (32 + e.val)) = 38 + e.val; omega))
theorem csem_succ (k : Fin 66) : csem k.succ = osem k := by
  unfold csem osem; rw [dif_neg (by show ¬ (k.val + 1 = 0); omega)]
  exact congrArg SemLoc.dma (Fin.ext (by show 3 + (k.val + 1) = 4 + k.val; omega))

/-- The kernel's own semaphores: two for the copies, a send and a receive semaphore per device. -/
def ownE : Fin 2 ⊕ (Fin 32 ⊕ Fin 32) ≃ Fin 66 :=
  (Equiv.sumCongr (Equiv.refl (Fin 2)) (finSumFinEquiv (m := 32) (n := 32))).trans (finSumFinEquiv (m := 2) (n := 64))

omit [FloatOps F] in
theorem own_split (Ψ : SemLoc sig → sProp 𝕄) : (bigSep Finset.univ fun k : Fin 66 => Ψ (osem k))
    = iprop(Ψ (.dma (copyS 0)) ∗ Ψ (.dma (copyS 1)) ∗ (bigSep Finset.univ fun e : Dev nD => Ψ (.dma (sendS e))) ∗ bigSep Finset.univ fun e : Dev nD => Ψ (.dma (recvS e))) := by
  have hs : (fun e : Dev nD => Ψ (.dma (sendS e))) = fun e : Dev nD => Ψ (osem (ownE (.inr (.inl e)))) := funext fun e => by rw [← osem_send]; rfl
  have hr : (fun e : Dev nD => Ψ (.dma (recvS e))) = fun e : Dev nD => Ψ (osem (ownE (.inr (.inr e)))) := funext fun e => by rw [← osem_recv]; rfl
  rw [hs, hr, show (SemLoc.dma (copyS 0) : SemLoc sig) = osem (ownE (.inl 0)) from rfl, show (SemLoc.dma (copyS 1) : SemLoc sig) = osem (ownE (.inl 1)) from rfl, bigSep_univ_equiv ownE, bigSep_univ_sum, bigSep_univ_sum, bigSep_univ_eq_bigSepL [0, 1] (by decide) (by decide)]
  show iprop((Ψ (osem (ownE (.inl 0))) ∗ Ψ (osem (ownE (.inl 1)))) ∗ _) = _
  exact equiv_iff.mp ⟨BI.sep_assoc, BI.sep_assoc'⟩

omit [FloatOps F] in
theorem cells_split (Ψ : SemLoc sig → sProp 𝕄) : (bigSep Finset.univ fun k : Fin 67 => Ψ (csem k))
    = iprop(Ψ (.reg barS) ∗ bigSep Finset.univ fun k : Fin 66 => Ψ (osem k)) := by
  have h : (fun k : Fin 66 => Ψ (osem k)) = fun k : Fin 66 => Ψ (csem k.succ) := funext fun k => by rw [csem_succ]
  rw [h, Fin.univ_succ, Finset.cons_eq_insert, bigSep_insert (by simp [Fin.succ_ne_zero]), bigSep_map]
  rfl

/-! ## The cells and the tokens as minted -/

theorem kcell_injective : Function.Injective (kcell : Dev nD × Fin 67 → GSem nD τ sig) := by
  rintro ⟨c, k⟩ ⟨c', k'⟩ h
  have hc : c = c' := congrArg (fun g : GSem nD τ sig => g.1.1) h
  have hk : csem k = csem k' := congrArg Prod.snd h
  have : k = k' := by
    unfold csem at hk
    split at hk <;> split at hk
    · exact Fin.ext (by omega)
    · cases hk
    · cases hk
    · injection hk with hk; have := congrArg Fin.val hk; dsimp only at this; exact Fin.ext (by omega)
  subst hc; subst this; rfl
def cells : Finset (GSem nD τ sig) := Finset.univ.map ⟨kcell, kcell_injective⟩

/-- A device's tokens by kind: its barrier's for each signaller, its send and receive cells', its copy cells' by round. -/
def tokOf (x : Dev nD × (Fin 4 × Dev nD)) : GSem nD τ sig × ℕ × Dev nD := match x.2.1 with
  | 0 => (barCell x.1, 0, x.2.2)
  | 1 => (sendCell x.1 x.2.2, 0, 0)
  | 2 => (recvCell x.1 x.2.2, 0, 0)
  | 3 => (copyCell x.1 ⟨x.2.2.val % 2, Nat.mod_lt _ (by decide)⟩, x.2.2.val / 2, 0)

/-- The number of a cell's semaphore: none for the barrier's. -/
def dmaNo (l : SemLoc sig) : ℕ := match l with
  | .reg _ => 0
  | .dma q => q.val

theorem tokOf_injective : Function.Injective tokOf := by
  rintro ⟨c, j, e⟩ ⟨c', j', e'⟩ h
  have hc : c = c' := by
    have := congrArg (fun x : GSem nD τ sig × ℕ × Dev nD => x.1.1.1) h
    fin_cases j <;> fin_cases j' <;> exact this
  have hq := congrArg (fun x : GSem nD τ sig × ℕ × Dev nD => dmaNo x.1.2) h
  have hr := congrArg (fun x : GSem nD τ sig × ℕ × Dev nD => x.2.1) h
  have hd := congrArg (fun x : GSem nD τ sig × ℕ × Dev nD => x.2.2) h
  have he : e.val < 32 := e.isLt
  have he' : e'.val < 32 := e'.isLt
  subst hc
  have key : j = j' ∧ e = e' := by
    fin_cases j <;> fin_cases j' <;> simp only [tokOf, dmaNo, copyS, sendS, recvS, true_and] at hq hr hd ⊢ <;>
      first | exact hd | (exact Fin.ext (by omega)) | (exfalso; omega)
  obtain ⟨rfl, rfl⟩ := key
  rfl
def tokens : Finset (GSem nD τ sig × ℕ × Dev nD) := Finset.univ.map ⟨tokOf, tokOf_injective⟩

def u₀ : UU := (initOf (Pipeline.cells cfgs cellOf_inj) (Pipeline.launchToks cfgs cellOf_inj), initOf cells tokens)

/-- The tokens of device `c`'s own cells. -/
def toks (c : Dev nD) : sProp 𝕄 :=
  iprop((bigSep Finset.univ fun e : Dev nD => dutyTok ER (barCell c) 0 e)
    ∗ (bigSep Finset.univ fun e : Dev nD => dutyTok ER (sendCell c e) 0 (0 : Dev nD))
    ∗ (bigSep Finset.univ fun e : Dev nD => dutyTok ER (recvCell c e) 0 (0 : Dev nD))
    ∗ (bigSep Finset.univ fun e : Dev nD => dutyTok ER (copyCell c ⟨e.val % 2, Nat.mod_lt _ (by decide)⟩) (e.val / 2) (0 : Dev nD)))

/-- What the launch deals device `c`: its cells' states, its positions, its own cells' tokens. -/
def G (c : Dev nD) : sProp 𝕄 :=
  iprop((bigSep Finset.univ fun k : Fin 67 => roundState ER (sched m ρ) (kcell (c, k)) 0)
    ∗ (bigSep Finset.univ fun k : Fin 67 => iprop(atPos ER (kcell (c, k)) 0 ∅ 0 ∗ reached ER (kcell (c, k)) 0)) ∗ toks c)

theorem fund_cells : BI.own (ER (initOf cells tokens)) ⊢ (|==> bigSep Finset.univ (G m ρ) : sProp 𝕄) := by
  have hX (Φ : GSem nD τ sig → sProp 𝕄) : bigSep cells Φ = bigSep Finset.univ fun c : Dev nD => bigSep Finset.univ fun k : Fin 67 => Φ (kcell (c, k)) := by
    unfold cells; rw [bigSep_map, bigSep_univ_prod]; rfl
  have hT : bigSep tokens (fun x => (dutyTok ER x.1 x.2.1 x.2.2 : sProp 𝕄)) = bigSep Finset.univ fun c : Dev nD => toks c := by
    unfold tokens; rw [bigSep_map, bigSep_univ_prod]
    exact bigSep_congr fun c _ => by
      unfold toks; rw [bigSep_univ_prod, bigSep_univ_eq_bigSepL [0, 1, 2, 3] (by decide) (by decide)]; rfl
  iintro HX
  imod (Rounds.fund ER (sched m ρ) cells tokens) $$ HX with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The cells' invariants -/

omit [FloatOps F] in
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

omit [FloatOps F] in
theorem ownSems0_eq (c : Dev nD) : (Pipeline.ownSems0 (Ix := Unit) (Name := ℕ) (U := UU) (Lvl := ℕ) (Val := Elt F) (τ := τ) osem c : sProp 𝕄)
    = iprop(semVal (copyCell c 0) 0 ∗ semVal (copyCell c 1) 0 ∗ (bigSep Finset.univ fun e : Dev nD => semVal (sendCell c e) 0) ∗ bigSep Finset.univ fun e : Dev nD => semVal (recvCell c e) 0) := by
  unfold Pipeline.ownSems0
  exact own_split fun l => semVal ((c : Thread nD τ), l) 0

omit [FloatOps F] in
theorem sems0 (c : Dev nD) :
    iprop(Pipeline.ownSems0 (Ix := Unit) (Name := ℕ) (U := UU) (Lvl := ℕ) (Val := Elt F) (τ := τ) osem c ∗ unscopedSems0 c)
      ⊢ (bigSep Finset.univ fun k : Fin 67 => semVal (kcell (c, k)) 0 : sProp 𝕄) := by
  rw [unscopedSems0_eq, show (bigSep Finset.univ fun k : Fin 67 => semVal (kcell (c, k)) 0 : sProp 𝕄) = _ from cells_split fun l => semVal ((c : Thread nD τ), l) 0]
  unfold Pipeline.ownSems0
  iintro ⟨HS, HB⟩
  isplitl [HB] <;> iassumption

/-- The cells of device `c` with their invariants. -/
def Cells (c : Dev nD) : sProp 𝕄 :=
  iprop((bigSep Finset.univ fun k : Fin 67 => iprop(∃ κ : ℕ, cellInv ER (sched m ρ) κ (kcell (c, k))))
    ∗ (bigSep Finset.univ fun k : Fin 67 => iprop(atPos ER (kcell (c, k)) 0 ∅ 0 ∗ reached ER (kcell (c, k)) 0)) ∗ toks c)

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> Cells m ρ c := by
  unfold G Cells
  iintro ⟨Hos, Hus, Hst, Hat, Htok⟩
  ihave Hv := (sems0 (F := F) c) $$ [Hos Hus]
  · isplitl [Hos] <;> iassumption
  imod (show iprop((bigSep Finset.univ fun k : Fin 67 => semVal (kcell (c, k)) 0) ∗ bigSep Finset.univ fun k : Fin 67 => roundState ER (sched m ρ) (kcell (c, k)) 0)
      ⊢ (|={Set.univ}=> bigSep Finset.univ fun k => iprop(∃ κ : ℕ, cellInv ER (sched m ρ) κ (kcell (c, k))) : sProp 𝕄) from by
        rw [← bigSep_sep']
        exact (bigSep_mono fun k _ => (Rounds.body_intro ER (sched m ρ) (kcell (c, k))).trans inv_alloc).trans (bigSep_fupd _ _)) $$ [Hv Hst] with Hinv
  · isplitl [Hv] <;> iassumption
  imodintro
  isplitl [Hinv]; · iexact Hinv
  isplitl [Hat] <;> iassumption

/-! ## Every device's share -/

/-- The invariants and the rounds reached, of every cell of every device. -/
def records : sProp 𝕄 :=
  iprop((bigSep Finset.univ fun ck : Dev nD × Fin 67 => cellInv ER (sched m ρ) (K ck) (kcell ck))
    ∗ bigSep Finset.univ fun ck : Dev nD × Fin 67 => reached ER (kcell ck) 0)
instance records_persistent : BI.Persistent (records (F := F) m ρ K) := by unfold records; infer_instance

/-- Device `c`'s positions. -/
def Positions (c : Dev nD) : sProp 𝕄 :=
  iprop(atPos ER (barCell c) 0 ∅ 0 ∗ atPos ER (copyCell c 0) 0 ∅ 0 ∗ atPos ER (copyCell c 1) 0 ∅ 0
    ∗ (bigSep Finset.univ fun e : Dev nD => atPos ER (sendCell c e) 0 ∅ 0) ∗ bigSep Finset.univ fun e : Dev nD => atPos ER (recvCell c e) 0 ∅ 0)
/-- The tokens of the duties device `c` pays. -/
def payToks (c : Dev nD) : sProp 𝕄 :=
  iprop((peers c fun e => dutyTok ER (barCell e) 0 c)
    ∗ (peers c fun e => dutyTok ER (sendCell c e) 0 (0 : Dev nD))
    ∗ (peers c fun e => dutyTok ER (recvCell e c) 0 (0 : Dev nD))
    ∗ dutyTok ER (copyCell c 0) 0 (0 : Dev nD) ∗ dutyTok ER (copyCell c 1) 0 (0 : Dev nD)
    ∗ dutyTok ER (copyCell c 0) 1 (0 : Dev nD) ∗ dutyTok ER (copyCell c 1) 1 (0 : Dev nD))
/-- What device `c` starts from. -/
def G' (c : Dev nD) : sProp 𝕄 := iprop(∃ K, records m ρ K ∗ Positions c ∗ payToks c)

omit [FloatOps F] in
theorem positions (c : Dev nD) : (bigSep Finset.univ fun k : Fin 67 => (atPos ER (kcell (c, k)) 0 ∅ 0 : sProp 𝕄)) = Positions c := by
  unfold Positions
  exact (cells_split fun l => atPos ER ((c : Thread nD τ), l) 0 ∅ 0).trans (by rw [own_split fun l => (atPos ER ((c : Thread nD τ), l) 0 ∅ 0 : sProp 𝕄)])

omit [FloatOps F] in
theorem peers_of_all (c : Dev nD) (Φ : Dev nD → sProp 𝕄) : bigSep Finset.univ Φ ⊢ peers c Φ := bigSep_subset (Finset.erase_subset _ _)

omit [FloatOps F] in
/-- Tokens of cells named by a pair change hands. -/
theorem swap (Φ : Dev nD → Dev nD → sProp 𝕄) :
    (bigSep Finset.univ fun a => bigSep Finset.univ fun b => Φ a b) ⊢ bigSep Finset.univ fun b => peers b fun a => Φ a b := by
  rw [← bigSep_univ_prod (fun ab : Dev nD × Dev nD => Φ ab.1 ab.2), bigSep_univ_equiv (Equiv.prodComm (Dev nD) (Dev nD)), bigSep_univ_prod]
  have h : ∀ b, (bigSep Finset.univ fun a => Φ a b) ⊢ peers b fun a => Φ a b := fun b => peers_of_all b _
  exact bigSep_mono fun b _ => h b

omit [FloatOps F] in
theorem copy_toks (c : Dev nD) : (bigSep Finset.univ fun e : Dev nD => dutyTok ER (copyCell c ⟨e.val % 2, Nat.mod_lt _ (by decide)⟩) (e.val / 2) (0 : Dev nD) : sProp 𝕄)
    ⊢ iprop(dutyTok ER (copyCell c 0) 0 (0 : Dev nD) ∗ dutyTok ER (copyCell c 1) 0 (0 : Dev nD)
      ∗ dutyTok ER (copyCell c 0) 1 (0 : Dev nD) ∗ dutyTok ER (copyCell c 1) 1 (0 : Dev nD)) := by
  refine BIBase.Entails.trans (bigSep_subset (Finset.subset_univ ({0, 1, 2, 3} : Finset (Dev nD)))) ?_
  rw [bigSep_eq_bigSepL_of_eq [0, 1, 2, 3] (by decide) (by decide)]
  exact Entails.refl _

omit [FloatOps F] in
theorem toks_dealt : (bigSep Finset.univ fun c : Dev nD => (toks c : sProp 𝕄)) ⊢ bigSep Finset.univ fun c : Dev nD => payToks c := by
  unfold toks payToks
  simp only [bigSep_sep' (Finset.univ : Finset (Dev nD))]
  have h1 : (bigSep Finset.univ fun c : Dev nD => bigSep Finset.univ fun e : Dev nD => (dutyTok ER (sendCell c e) 0 (0 : Dev nD) : sProp 𝕄))
      ⊢ bigSep Finset.univ fun c : Dev nD => peers c fun e => dutyTok ER (sendCell c e) 0 (0 : Dev nD) := by
    have h : ∀ c : Dev nD, (bigSep Finset.univ fun e : Dev nD => (dutyTok ER (sendCell c e) 0 (0 : Dev nD) : sProp 𝕄)) ⊢ peers c fun e => dutyTok ER (sendCell c e) 0 (0 : Dev nD) :=
      fun c => peers_of_all c _
    exact bigSep_mono fun c _ => h c
  have h2 : (bigSep Finset.univ fun c : Dev nD => bigSep Finset.univ fun e : Dev nD => (dutyTok ER (copyCell c ⟨e.val % 2, Nat.mod_lt _ (by decide)⟩) (e.val / 2) (0 : Dev nD) : sProp 𝕄))
      ⊢ bigSep Finset.univ fun c : Dev nD => iprop(dutyTok ER (copyCell c 0) 0 (0 : Dev nD) ∗ dutyTok ER (copyCell c 1) 0 (0 : Dev nD)
      ∗ dutyTok ER (copyCell c 0) 1 (0 : Dev nD) ∗ dutyTok ER (copyCell c 1) 1 (0 : Dev nD)) := bigSep_mono fun c _ => copy_toks c
  simp only [bigSep_sep' (Finset.univ : Finset (Dev nD))] at h2
  iintro ⟨Hb, Hs, Hr, Hc⟩
  isplitl [Hb]; · iapply (swap fun a b => dutyTok ER (barCell a) 0 b); iexact Hb
  isplitl [Hs]; · iapply h1; iexact Hs
  isplitl [Hr]; · iapply (swap fun a b => dutyTok ER (recvCell a b) 0 (0 : Dev nD)); iexact Hr
  iapply h2; iexact Hc

theorem regroup : (bigSep Finset.univ fun c : Dev nD => Cells (F := F) m ρ c) ⊢ bigSep Finset.univ (G' m ρ) := by
  unfold Cells
  rw [bigSep_sep', bigSep_sep', ← bigSep_univ_prod (fun ck : Dev nD × Fin 67 => iprop(∃ κ : ℕ, cellInv ER (sched m ρ) κ (kcell ck))),
    bigSep_congr (s := Finset.univ) (fun (c : Dev nD) _ => bigSep_sep' Finset.univ (fun k : Fin 67 => (atPos ER (kcell (c, k)) 0 ∅ 0 : sProp 𝕄)) (fun k => reached ER (kcell (c, k)) 0)),
    bigSep_sep', ← bigSep_univ_prod (fun ck : Dev nD × Fin 67 => (reached ER (kcell ck) 0 : sProp 𝕄)),
    bigSep_congr (s := Finset.univ) (fun (c : Dev nD) _ => positions c)]
  have intro : ∀ K : Dev nD × Fin 67 → ℕ, ∀ c : Dev nD, iprop(records m ρ K ∗ Positions c ∗ payToks c) ⊢ G' m ρ c := fun K c => by
    unfold G'; iintro H; iexists K; iexact H
  iintro ⟨HI, ⟨Hat, #HR⟩, Htok⟩
  ihave HK := (BI.bigSep_exists_pi Finset.univ (fun (ck : Dev nD × Fin 67) (κ : ℕ) => (cellInv ER (sched m ρ) κ (kcell ck) : sProp 𝕄))) $$ HI
  icases HK with ⟨%K, #HI⟩
  ihave Htk := (toks_dealt (F := F)) $$ Htok
  iapply (bigSep_with_persistent (R := records m ρ K) fun c _ => intro K c)
  isplitr
  · unfold records; isplitl; · iexact HI
    iexact HR
  · iapply (Entails.of_eq (bigSep_sep' Finset.univ (fun c : Dev nD => (Positions c : sProp 𝕄)) payToks).symm)
    isplitl [Hat] <;> iassumption

/-- All the devices' semaphores at once, shared out. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

end Cert.A2A

end
-- ==== Proof.Launch.lean ====
/-
  The launch: the staging's proof data around the body, the credit each device starts with, and the run of the whole program
  from any memory whose counters are zero, at any float values.
-/
module

public import proofs.«01_k».proof.Proof.Body
public import proofs.«01_k».proof.Proof.Ghost
public import proofs.«01_k».proof.Proof.Gen.KernelIdeal.Points
public import Idealize.ShloMosaic.Lib.Pipeline.CollectiveSegs

@[expose] public section

noncomputable section

namespace Cert.A2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Fin 67 → ℕ)

/-! ## From what a device holds at launch to the body's start -/

/-- A whole buffer at some contents. -/
abbrev some_ (c : Dev nD) (b : Ref sig .tc) : sProp 𝕄 := iprop(∃ f : Buf (Elt F) ((c : Thread nD τ).loc b), ((c : Thread nD τ).loc b) ↦{fullShare} f)
/-- The weights whole. -/
def wPt (c : Dev nD) : sProp 𝕄 := ((c : Thread nD τ).loc main_arg1) ↦{fullShare} warr m c

theorem slot_start (c : Dev nD) (s : Fin 2) :
    iprop(Ctx m ρ K ∗ wSlot c s ∗ wPanel m c (grp c (2 * 0 + s.val)) ∗ wPanel m c (grp c (2 * 1 + s.val))
        ∗ dutyTok ER (copyCell c s) 0 (0 : Dev nD) ∗ dutyTok ER (copyCell c s) 1 (0 : Dev nD) ∗ atPos ER (copyCell c s) 0 ∅ 0)
      ⊢ Slot m c s 0 0 := by
  unfold Slot
  rw [if_pos rfl, bigSep_Ico_succ_bot (by decide), bigSep_Ico_succ_bot (by decide), Finset.Ico_self, bigSep_empty, Finset.range_zero, bigSep_empty]
  iintro ⟨#HC, Hw, Hp0, Hp1, Ht0, Ht1, Ha⟩
  ihave #HR := (reached_copy m ρ K c s) $$ HC
  isplitl [Hw]; · iexact Hw
  isplitl [Hp0 Hp1 Ht0 Ht1]
  · isplitl [Hp0 Ht0]; · isplitl [Hp0] <;> iassumption
    isplitl [Hp1 Ht1]; · isplitl [Hp1] <;> iassumption
    iempintro
  isplitr; · iempintro
  isplitl [Ha]; · iexact Ha
  iexact HR

omit [FloatOps F] in
theorem all_peers (c : Dev nD) (Φ : Dev nD → sProp 𝕄) : bigSep Finset.univ Φ ⊢ iprop(Φ c ∗ peers c Φ) := Entails.of_eq (bigSep_univ_at Φ c)

omit [FloatOps F] in
/-- Two resources per peer are one. -/
theorem peers_pair (c : Dev nD) (Φ Ψ : Dev nD → sProp 𝕄) : iprop(peers c Φ ∗ peers c Ψ) ⊢ peers c fun e => iprop(Φ e ∗ Ψ e) :=
  Entails.of_eq (bigSep_sep' _ _ _).symm

theorem sig_start (c : Dev nD) :
    iprop((∃ W : Waits sig Unit, owes (c : Thread nD τ) (sendsDue c 0 + barsDue c 1) W) ∗ (peers c fun e => dutyTok ER (barCell e) 0 c) ∗ peers c fun e => rSlot c e)
      ⊢ Sig (F := F) c 1 := by
  unfold Sig; rw [← peers_src c fun e => iprop(dutyTok ER (barCell e) 0 c ∗ rSlot c e)]
  iintro ⟨HO, H1, H2⟩
  isplitl [HO]; · iexact HO
  iapply (peers_pair c (fun e => dutyTok ER (barCell e) 0 c) fun e => rSlot c e)
  isplitl [H1] <;> iassumption

theorem out_start (c : Dev nD) :
    iprop((peers c fun e => ySlot c e) ∗ (peers c fun e => dutyTok ER (sendCell c e) 0 (0 : Dev nD)) ∗ peers c fun e => dutyTok ER (recvCell e c) 0 (0 : Dev nD))
      ⊢ Out (F := F) c := by
  unfold Out
  iintro ⟨H1, H2, H3⟩
  iapply (peers_pair c (fun e => ySlot c e) fun e => iprop(dutyTok ER (sendCell c e) 0 (0 : Dev nD) ∗ dutyTok ER (recvCell e c) 0 (0 : Dev nD)))
  isplitl [H1]; · iexact H1
  iapply (peers_pair c (fun e => dutyTok ER (sendCell c e) 0 (0 : Dev nD)) fun e => dutyTok ER (recvCell e c) 0 (0 : Dev nD))
  isplitl [H2] <;> iassumption

/-- The device's own of the exchange: records, positions, tokens, credit, levels. -/
def Mine (c : Dev nD) : sProp 𝕄 :=
  iprop((records m ρ K ∗ Positions c ∗ payToks c) ∗ cred (tallyAt (barCell c) () 31) ∗ (peers c fun e => cred (tallyAt (recvCell c e) () N)) ∗ levAts L lv)

theorem to_body (c : Dev nD) :
    iprop(Mine m ρ K c ∗ wPt m c ∗ (some_ c cc0_scratch0 ∗ some_ c cc0_scratch1 ∗ some_ c cc0_scratch2)
        ∗ (∃ W : Waits sig Unit, owes (c : Thread nD τ) (sendsDue c 0 + barsDue c 1) W) ∗ xPt m ρ c ∗ sxPt m ρ c ∗ swPt m ρ c ∗ some_ c cc0_stg3_0)
      ⊢ bodyPre m ρ K c := by
  unfold Mine records Positions payToks bodyPre wPt
  iintro ⟨⟨⟨⟨#HI, #HR⟩, ⟨HaB, HaC0, HaC1, HaS, HaV⟩, HtB, HtS, HtV, Ht00, Ht10, Ht01, Ht11⟩, HcB, HcV, #HL⟩, Hw, ⟨Hs0, Hs1, Hs2⟩, HO, Hx, Hsx, Hsw, Ho⟩
  ihave HC := (show iprop((bigSep Finset.univ fun ck : Dev nD × Fin 67 => cellInv ER (sched m ρ) (K ck) (kcell ck))
      ∗ (bigSep Finset.univ fun ck : Dev nD × Fin 67 => reached ER (kcell ck) 0) ∗ levAts L lv) ⊢ Ctx m ρ K from Entails.refl _) $$ []
  · isplitl; · iexact HI
    isplitl; · iexact HR
    iexact HL
  icases HC with #HC
  ihave Hw := (Entails.of_eq (panels_eq m c)) $$ Hw
  ihave Hw := (panels_split m c) $$ Hw
  icases Hw with ⟨Hp0, Hp1, Hp2, Hp3⟩
  ihave Hs0 := (w_split c) $$ Hs0
  icases Hs0 with ⟨Hw0, Hw1⟩
  ihave Hs1 := (y_split c) $$ Hs1
  ihave Hs1 := (all_peers c fun e => ySlot c e) $$ Hs1
  icases Hs1 with ⟨Hyc, Hy⟩
  ihave Hs2 := (r_split c) $$ Hs2
  ihave Hs2 := (all_peers c fun e => rSlot c e) $$ Hs2
  icases Hs2 with ⟨Hrc, Hr⟩
  ihave Ho := (o_split c) $$ Ho
  ihave Ho := (all_peers c fun e => oRows c e) $$ Ho
  icases Ho with ⟨Hoc, Ho⟩
  ihave HaS := (all_peers c fun e => atPos ER (sendCell c e) 0 ∅ 0) $$ HaS
  icases HaS with ⟨HaSc, HaS⟩
  ihave HaV := (all_peers c fun e => atPos ER (recvCell c e) 0 ∅ 0) $$ HaV
  icases HaV with ⟨HaVc, HaV⟩
  isplitr; · iexact HC
  isplitl [HO HtB Hr]
  · iapply (sig_start c)
    isplitl [HO]; · iexact HO
    isplitl [HtB] <;> iassumption
  isplitl [HcB]; · iexact HcB
  isplitl [HaB]; · iexact HaB
  isplitl [Hsx]; · iexact Hsx
  isplitl [Hsw]; · iexact Hsw
  isplitl [Hy HtS HtV]
  · iapply (out_start c)
    isplitl [Hy]; · iexact Hy
    isplitl [HtS] <;> iassumption
  isplitl [Hoc]; · iexact Hoc
  isplitl [Hw0 Hp0 Hp2 Ht00 Ht01 HaC0]
  · iapply (slot_start m ρ K c 0)
    isplitr; · iexact HC
    isplitl [Hw0]; · iexact Hw0
    isplitl [Hp0]; · iexact Hp0
    isplitl [Hp2]; · iexact Hp2
    isplitl [Ht00]; · iexact Ht00
    isplitl [Ht01] <;> iassumption
  isplitl [Hw1 Hp1 Hp3 Ht10 Ht11 HaC1]
  · iapply (slot_start m ρ K c 1)
    isplitr; · iexact HC
    isplitl [Hw1]; · iexact Hw1
    isplitl [Hp1]; · iexact Hp1
    isplitl [Hp3]; · iexact Hp3
    isplitl [Ht10]; · iexact Ht10
    isplitl [Ht11] <;> iassumption
  isplitl [Hx]; · iexact Hx
  isplitl [HcV HaV Ho HaS]
  · unfold Later
    isplitl [HcV HaV]
    · iapply (peers_pair c (fun e => cred (tallyAt (recvCell c e) () N)) fun e => atPos ER (recvCell c e) 0 ∅ 0)
      isplitl [HcV] <;> iassumption
    isplitl [Ho] <;> iassumption
  unfold Self
  isplitl [Hyc]; · iexact Hyc
  isplitl [Hrc]; · iexact Hrc
  isplitl [HaSc] <;> iassumption

/-! ## The launch credit -/

/-- What device `c` owes at launch: the receive credits of its transfers and the barrier units of its signals. -/
def O₀ (c : Dev nD) : CellTallies nD τ sig Unit := sendsDue c 0 + barsDue c 1

theorem barsDue_eq (c : Dev nD) : barsDue c 1 = ∑ e ∈ Finset.univ.erase c, (tallyAt (barCell e) () 1 : CellTallies nD τ sig Unit) := by
  have e : (Finset.Ico 1 32).image (src c) = Finset.univ.erase c := by revert c; decide +kernel
  rw [← e, Finset.sum_image fun a ha b hb h => ?_]
  · rfl
  have ha := Finset.mem_Ico.mp (Finset.mem_coe.mp ha); have hb := Finset.mem_Ico.mp (Finset.mem_coe.mp hb)
  have h := congrArg Fin.val h; have hc : c.val < 32 := c.isLt; simp only [src] at h; omega

theorem sendsDue_eq (c : Dev nD) : sendsDue c 0 = ∑ e ∈ Finset.univ.erase c, (tallyAt (recvCell e c) () N : CellTallies nD τ sig Unit) := by
  have e : (Finset.Ico 0 32).image (dst c) = Finset.univ := by revert c; decide +kernel
  rw [← Finset.filter_ne' Finset.univ c, Finset.sum_filter, ← e, Finset.sum_image fun a ha b hb h => ?_]
  · exact Finset.sum_congr rfl fun t _ => by
      by_cases h : dst c t = c
      · rw [if_pos h, if_neg (not_not.mpr h)]
      · rw [if_neg h, if_pos h]
  have ha := Finset.mem_Ico.mp (Finset.mem_coe.mp ha); have hb := Finset.mem_Ico.mp (Finset.mem_coe.mp hb)
  have h := congrArg Fin.val h; have hc : c.val < 32 := c.isLt; simp only [dst] at h; omega

theorem bar_inj {a b : Dev nD} (h : barCell a = barCell b) : a = b := congrArg (fun g : GSem nD τ sig => g.1.1) h
theorem recv_inj {a b d e : Dev nD} (h : recvCell a b = recvCell d e) : a = d ∧ b = e :=
  ⟨congrArg (fun g : GSem nD τ sig => g.1.1) h, Fin.ext (by have := congrArg (fun g : GSem nD τ sig => dmaNo g.2) h; simp only [dmaNo, recvS] at this; omega)⟩
theorem bar_ne_recv {a d e : Dev nD} : barCell a ≠ recvCell d e := fun h => by have := congrArg Prod.snd h; cases this

theorem owed_bar (d c : Dev nD) : O₀ d (barCell c) () = if d = c then 0 else 1 := by
  unfold O₀
  rw [sendsDue_eq, barsDue_eq, Pi.add_apply, Finsupp.add_apply, Finset.sum_apply, Finset.sum_apply, Finsupp.finset_sum_apply, Finsupp.finset_sum_apply,
    Finset.sum_eq_zero fun e _ => by rw [tallyAt_apply, if_neg fun h => bar_ne_recv h.1], Nat.zero_add,
    Finset.sum_congr rfl fun e _ => show _ = if c = e then 1 else 0 by
      rw [tallyAt_apply]
      by_cases h : c = e
      · rw [if_pos h, if_pos ⟨by rw [h], rfl⟩]
      · rw [if_neg h, if_neg fun h' => h (bar_inj h'.1)],
    Finset.sum_ite_eq]
  by_cases h : d = c
  · rw [if_pos h, if_neg fun h' => (Finset.mem_erase.mp h').1 h.symm]
  · rw [if_neg h, if_pos (Finset.mem_erase.mpr ⟨fun h' => h h'.symm, Finset.mem_univ _⟩)]

theorem owed_recv (d c e : Dev nD) (he : e ≠ c) : O₀ d (recvCell c e) () = if d = e then N else 0 := by
  unfold O₀
  rw [sendsDue_eq, barsDue_eq, Pi.add_apply, Finsupp.add_apply, Finset.sum_apply, Finset.sum_apply, Finsupp.finset_sum_apply, Finsupp.finset_sum_apply,
    Finset.sum_eq_zero (s := Finset.univ.erase d) (f := fun e' => (tallyAt (barCell e') () 1 : CellTallies nD τ sig Unit) (recvCell c e) ()) fun e' _ => by
      rw [tallyAt_apply, if_neg fun h => bar_ne_recv h.1.symm], Nat.add_zero]
  by_cases h : d = e
  · rw [if_pos h, Finset.sum_congr rfl fun e' _ => show _ = if c = e' then N else 0 by
      rw [tallyAt_apply]
      by_cases h' : c = e'
      · rw [if_pos h', if_pos ⟨by rw [h', h], rfl⟩]
      · rw [if_neg h', if_neg fun h'' => h' (recv_inj h''.1).1], Finset.sum_ite_eq,
      if_pos (Finset.mem_erase.mpr ⟨fun h' => he (h'.trans h).symm, Finset.mem_univ _⟩)]
  · rw [if_neg h]
    exact Finset.sum_eq_zero fun e' _ => by rw [tallyAt_apply, if_neg fun h' => h (recv_inj h'.1).2.symm]

theorem launch_bar (c : Dev nD) :
    tallyOn (barCell c) (launchCredit (Pipeline.owing O₀) 0 (barCell c)) = (tallyAt (barCell c) () 31 : CellTallies nD τ sig Unit) := by
  have h : ∀ c : Dev nD, (∑ d : Dev nD, if d = c then 0 else 1) = 31 := by decide +kernel
  unfold tallyAt; refine congrArg _ (Finsupp.ext fun u => ?_); cases u
  rw [Pipeline.launchCredit_owing, Finsupp.single_eq_same, Finset.sum_congr rfl fun d _ => owed_bar d c, h]
theorem launch_recv (c e : Dev nD) (he : e ≠ c) :
    tallyOn (recvCell c e) (launchCredit (Pipeline.owing O₀) 0 (recvCell c e)) = (tallyAt (recvCell c e) () N : CellTallies nD τ sig Unit) := by
  unfold tallyAt; refine congrArg _ (Finsupp.ext fun u => ?_); cases u
  rw [Pipeline.launchCredit_owing, Finsupp.single_eq_same, Finset.sum_congr rfl fun d _ => owed_recv d c e he, Finset.sum_ite_eq', if_pos (Finset.mem_univ _)]

theorem creds (c : Dev nD) :
    (Pipeline.launchCred O₀ c : sProp 𝕄) ⊢ iprop(cred (tallyAt (barCell c) () 31) ∗ peers c fun e => cred (tallyAt (recvCell c e) () N)) := by
  unfold Pipeline.launchCred
  rw [bigSep_univ_at _ (SemLoc.reg barS), launch_bar]
  refine sep_mono_right ?_
  refine BIBase.Entails.trans (bigSep_subset (t := (Finset.univ.erase c).image fun e : Dev nD => (SemLoc.dma (recvS e) : SemLoc sig)) fun l hl => ?_) ?_
  · obtain ⟨e, -, rfl⟩ := Finset.mem_image.mp hl
    exact Finset.mem_erase.mpr ⟨fun h => (by cases h), Finset.mem_univ _⟩
  rw [bigSep_image_of_injOn fun a _ b _ h => Fin.ext (by have := congrArg dmaNo h; simp only [dmaNo, recvS] at this; omega)]
  exact Entails.of_eq (bigSep_congr fun e he => by rw [← launch_recv c e (Finset.mem_erase.mp he).1])

/-! ## The staging's proof data -/

/-- What device `c`'s body starts from, and what it leaves. -/
def Start (c : Dev nD) : sProp 𝕄 :=
  iprop((∃ K, Mine m ρ K c) ∗ wPt m c)
def Φ₀ (c : Dev nD) : sProp 𝕄 := iprop(Start m ρ c ∗ (some_ c cc0_scratch0 ∗ some_ c cc0_scratch1 ∗ some_ c cc0_scratch2))
def Φ₁ (c : Dev nD) : sProp 𝕄 :=
  iprop((semVal (barCell c) 0 ∗ wPt m c)
    ∗ (semVal (copyCell c 0) 0 ∗ semVal (copyCell c 1) 0 ∗ (bigSep Finset.univ fun e : Dev nD => semVal (sendCell c e) 0) ∗ (bigSep Finset.univ fun e : Dev nD => semVal (recvCell c e) 0))
    ∗ (some_ c cc0_scratch0 ∗ some_ c cc0_scratch1 ∗ some_ c cc0_scratch2))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => sxstg m ρ c
    | ⟨2, _⟩ => swstg m ρ c
    | ⟨3, _⟩ => result m ρ c
  Φ t := match t with
    | ⟨0, _⟩ => Φ₀ m ρ c
    | ⟨_ + 1, _⟩ => Φ₁ m c
  q _ := fullShare
  owed t := match t with
    | ⟨0, _⟩ => O₀ c
    | ⟨_ + 1, _⟩ => 0

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-! ## The body -/

theorem join_some (c : Dev nD) :
    iprop((wSlot c 0 ∗ wSlot c 1) ∗ (bigSep Finset.univ fun e : Dev nD => ySlot c e) ∗ bigSep Finset.univ fun e : Dev nD => rSlot c e)
      ⊢ (iprop(some_ c cc0_scratch0 ∗ some_ c cc0_scratch1 ∗ some_ c cc0_scratch2) : sProp 𝕄) := by
  iintro ⟨Hw, Hy, Hr⟩
  ihave Hw := (w_join c) $$ Hw
  ihave Hy := (y_join c) $$ Hy
  ihave Hr := (r_join c) $$ Hr
  isplitl [Hw]; · iexact Hw
  isplitl [Hy] <;> iassumption

/-- The staging buffer `b` of device `c` at `X`. -/
abbrev stg (c : Dev nD) (b : Ref sig .tc) (X : b.ty.Contents (Elt F)) : sProp 𝕄 := owns (c : Thread nD τ) (Memref.whole b) fullShare X

omit [FloatOps F] in
theorem stg_intro (c : Dev nD) (b : Ref sig .tc) (X : b.ty.Contents (Elt F)) : (((c : Thread nD τ).loc b) ↦{fullShare} X : sProp 𝕄) ⊢ stg c b X := by
  unfold stg; rw [owns_whole_eq]; iintro H; iexists X; isplitr; · ipureintro; rfl
  iexact H

omit [FloatOps F] in
theorem stg_elim (c : Dev nD) (b : Ref sig .tc) (X Y : b.ty.Contents (Elt F)) (h : X = Y) : stg c b X ⊢ (((c : Thread nD τ).loc b) ↦{fullShare} Y : sProp 𝕄) := by
  subst h; unfold stg; rw [owns_whole_eq]
  iintro ⟨%f, %hf, H⟩; rw [← hf]; iexact H

def t₀ : Fin cfg0.N := ⟨0, by decide⟩

theorem fin_N (t : Fin cfg0.N) : t = t₀ := fin_N0 t

theorem before0 (c : Dev nD) (d) : (dats m ρ 0 c).before (0 : Fin 4) t₀ d = xstg m ρ c := by
  unfold Dat.before; rw [if_pos (fetch0_0 t₀)]; rfl
theorem before1 (c : Dev nD) (d) : (dats m ρ 0 c).before (1 : Fin 4) t₀ d = sxstg m ρ c := by
  unfold Dat.before; rw [if_pos (fetch0_1 t₀)]; rfl
theorem before2 (c : Dev nD) (d) : (dats m ρ 0 c).before (2 : Fin 4) t₀ d = swstg m ρ c := by
  unfold Dat.before; rw [if_pos (fetch0_2 t₀)]; rfl

/-- What the staging holds before the body, and after. -/
def stgPre (c : Dev nD) : sProp 𝕄 :=
  iprop(Φ₀ m ρ c ∗ (dats m ρ 0 c).owesAt () t₀.castSucc
    ∗ ((∃ d, stg c cc0_stg0_0 ((dats m ρ 0 c).before (0 : Fin 4) t₀ d)) ∗ (∃ d, stg c cc0_stg1_0 ((dats m ρ 0 c).before (1 : Fin 4) t₀ d))
      ∗ (∃ d, stg c cc0_stg2_0 ((dats m ρ 0 c).before (2 : Fin 4) t₀ d)) ∗ (∃ d, stg c cc0_stg3_0 ((dats m ρ 0 c).before (3 : Fin 4) t₀ d))))
def stgPost (c : Dev nD) : sProp 𝕄 :=
  iprop(Φ₁ m c ∗ (dats m ρ 0 c).owesAt () t₀.succ
    ∗ (stg c cc0_stg0_0 (xstg m ρ c) ∗ stg c cc0_stg1_0 (sxstg m ρ c) ∗ stg c cc0_stg2_0 (swstg m ρ c) ∗ stg c cc0_stg3_0 (result m ρ c)))

theorem stg_in (c : Dev nD) : stgPre m ρ c ⊢ iprop(∃ K, bodyPre m ρ K c) := by
  unfold stgPre Φ₀ Start
  iintro ⟨⟨⟨⟨%K, HM⟩, Hw⟩, Hs⟩, HO, ⟨%d0, Hx⟩, ⟨%d1, Hsx⟩, ⟨%d2, Hsw⟩, ⟨%d3, Ho⟩⟩
  ihave Ho := (stg_elim c cc0_stg3_0 _ _ rfl) $$ Ho
  ihave Hx := (stg_elim c cc0_stg0_0 _ _ (before0 m ρ c d0)) $$ Hx
  ihave Hsx := (stg_elim c cc0_stg1_0 _ _ (before1 m ρ c d1)) $$ Hsx
  ihave Hsw := (stg_elim c cc0_stg2_0 _ _ (before2 m ρ c d2)) $$ Hsw
  ihave HO := (show (dats m ρ 0 c).owesAt () t₀.castSucc ⊢ iprop(∃ W : Waits sig Unit, owes (c : Thread nD τ) (sendsDue c 0 + barsDue c 1) W) by
    unfold Dat.owesAt Pipeline.owesWithin
    iintro ⟨%W, -, HO⟩
    iexists W
    iexact HO) $$ HO
  iexists K
  iapply (to_body m ρ K c)
  unfold xPt sxPt swPt
  isplitl [HM]; · iexact HM
  isplitl [Hw]; · iexact Hw
  isplitl [Hs]; · iexact Hs
  isplitl [HO]; · iexact HO
  isplitl [Hx]; · iexact Hx
  isplitl [Hsx]; · iexact Hsx
  isplitl [Hsw]; · iexact Hsw
  iexists _; iexact Ho

theorem stg_out (c : Dev nD) : bodyPost m ρ c ⊢ stgPost m ρ c := by
  unfold bodyPost Kept stgPost Φ₁ wPt xPt sxPt swPt
  iintro ⟨HO, ⟨HzB, Hsx, Hsw⟩, Hx, Hz, Hw, Hp, Hy, Hr, Ho⟩
  ihave Hp := (Entails.of_eq (panels_eq m c).symm) $$ Hp
  ihave Ho := (o_join m ρ c) $$ Ho
  isplitl [HzB Hp Hz Hw Hy Hr]
  · isplitl [HzB Hp]; · isplitl [HzB] <;> iassumption
    isplitl [Hz]; · iexact Hz
    iapply (join_some c)
    isplitl [Hw]; · iexact Hw
    isplitl [Hy] <;> iassumption
  isplitl [HO]
  · iapply (show iprop(∃ W : Waits sig Unit, owes (c : Thread nD τ) 0 W) ⊢ (dats m ρ 0 c).owesAt () t₀.succ by
      unfold Dat.owesAt Pipeline.owesWithin
      iintro ⟨%W, HO⟩
      iexists W
      isplitr; · ipureintro; exact fun _ _ => Or.inl trivial
      iexact HO)
    iexact HO
  isplitl [Hx]; · iapply (stg_intro c cc0_stg0_0 _); iexact Hx
  isplitl [Hsx]; · iapply (stg_intro c cc0_stg1_0 _); iexact Hsx
  isplitl [Hsw]; · iapply (stg_intro c cc0_stg2_0 _); iexact Hsw
  iapply (stg_intro c cc0_stg3_0 _); iexact Ho

set_option maxRecDepth 20000 in
/-- The staging's obligation on device `c`. -/
theorem body_obligation (c : Dev nD) : BodyObligation (dats (F := F) m ρ 0 c) (defs₀ (F := F)) 𝒱₀ () Set.univ := fun t => by
  rw [fin_N t]
  rw [bigSep_W0, bigSep_W0]
  show stgPre m ρ c ⊢ WP c (atBufs (cc0_body (F := F))) (fun _ => stgPost m ρ c)
  iintro H
  ihave H := (stg_in m ρ c) $$ H
  icases H with ⟨%K, H⟩
  iapply (sound_body m ρ K c (Φ := fun _ => stgPost m ρ c) (stg_out m ρ c))
  iexact H

/-! ## The launch's side conditions -/

theorem ownSemFacts : Pipeline.OwnSemFacts cfg0.spec osem := by decide

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(Start m ρ c ∗ emp) := by
  rw [Pipeline.unscopedRestP_none]
  iintro ⟨Hu, Hlev, Hcr, -, HG⟩
  ihave Hc := (creds (F := F) c) $$ Hcr
  icases Hc with ⟨H1, HN⟩
  ihave Hw := (Entails.of_eq (unscopedRest0_eq c _)) $$ Hu
  imodintro
  unfold Start G' Mine wPt
  icases HG with ⟨%K, HR, HP, HT⟩
  isplitl
  · isplitr [Hw]
    · iexists K
      isplitl [HR HP HT]
      · isplitl [HR]; · iexact HR
        isplitl [HP] <;> iassumption
      isplitl [H1]; · iexact H1
      isplitl [HN] <;> iassumption
    iexact Hw
  · iempintro

theorem phi0_intro (c : Dev nD) :
    iprop(Start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs] <;> iassumption

/-- What device `c` hands back at the end. -/
def Back (c : Dev nD) : sProp 𝕄 := iprop(unscopedSems0 c ∗ wPt m c)

theorem phi1_exit (c : Dev nD) :
    (dats m ρ 0 c).Φ (Fin.last cfg0.N) ⊢ iprop(Back m c ∗ Pipeline.ownSems0 osem c ∗ Pipeline.scopedRest cfg0.spec c) := by
  unfold Back
  rw [show (dats m ρ 0 c).Φ (Fin.last cfg0.N) = Φ₁ m c from rfl, scopedRest0_eq, ownSems0_eq, unscopedSems0_eq]
  exact Entails.refl _

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_low c _ (by revert w s; decide) 0 1
    · have h := mayWait_low (F := F) c ((cfg0.win w).sem s) (by revert w s; decide) 32 32
      have e0 : (sendsDue c 32 + barsDue c 32 : CellTallies nD τ sig Unit) = 0 := by
        rw [barsDue_end, add_zero]; unfold sendsDue; rw [Finset.Ico_self]; exact Finset.sum_empty
      rw [e0] at h
      exact h

/-! ## The run -/

/-- Each array a window is on, after the run. -/
def finalA (c : Dev nD) (w : Fin cfg0.W) : Buf (Elt F) ((cfg0.win w).arr.view.loc (c : Thread nD τ)) := (dats m ρ 0 c).arrAt w cfg0.N

def Ends : PUnit × MemSt nD τ sig (Elt F) → Prop := fun r =>
  (∀ c : Dev nD, ∀ w : Fin cfg0.W, r.2.mem ((cfg0.win w).arr.view.loc (c : Thread nD τ)) = finalA m ρ c w)
    ∧ (∀ c : Dev nD, r.2.mem ((c : Thread nD τ).loc main_arg1) = m ((c : Thread nD τ).loc main_arg1)) ∧ r.2.sem = fun _ => 0

set_option maxRecDepth 8000 in
/-- From any memory with zero counters, at any float values: every fair execution of the program on the thirty-two devices
    ends, and every end has each device's result at the computed contents, the weights unchanged and every counter at zero. -/
theorem run_main : θ_run defs (onTc (τ := τ) (main (F := F))) (s₀ m ρ) (Ends m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_cells m ρ) $$ HX with HG
      imodintro
      isplitl [HP] <;> iassumption)
    (hglob := glob m ρ)
    (hA := fun _ _ => rfl) (hpf := fun _ k => k.elim0)
    (X := Start m ρ) (Y := Back m) (Z := fun _ => iprop(emp))
    (hX := start_intro m ρ) (hin := phi0_intro m ρ) (hout := phi1_exit m ρ)
    (QY := fun c s => s.mem ((c : Thread nD τ).loc main_arg1) = m ((c : Thread nD τ).loc main_arg1)
      ∧ ∀ sm : SemLoc sig, sm.isScoped .tc = false → s.sem ((c.tc : Thread nD τ), sm) = 0)
    (hY := fun c s' => by
      unfold Back wPt
      iintro ⟨⟨Hu, Hw⟩, -, HSI⟩
      icombine HSI Hw gives %hw
      have hw : s'.mem.mem ((c : Thread nD τ).loc main_arg1) = m ((c : Thread nD τ).loc main_arg1) := Buf.eq_of_forall_mem_univ hw
      imod (Pipeline.unscopedSems0_read (X := unscopedSems0 c) (c := c) fupd_intro s') $$ [Hu HSI] with ⟨%hs, HSI⟩
      · isplitl [Hu] <;> iassumption
      imodintro
      isplitr; · ipureintro; exact ⟨hw, hs⟩
      iexact HSI)
    (hQ := fun _ h hs => ⟨fun c w => (h c).1 w, fun c => (h c).2.2.1, sem_eq_zero hs fun c => (h c).2.2.2⟩)

end Cert.A2A

end
-- ==== Proof.Frames.lean ====
/-
  What the run says of each program: the kernel's arguments end unchanged and its counters at zero, at either reading of the
  floats, and its result array at the computed contents; the same of the reference.
-/
module

public import proofs.«01_k».proof.Defs
public import proofs.«01_k».proof.Proof.Launch
public import proofs.«01_k».proof.Proof.Gen.Kernel
public import proofs.«01_k».proof.Proof.Gen.ReferenceIdeal
public import proofs.«01_k».proof.Proof.Gen.ReferenceIdeal.Run
public import Idealize.ShloMosaic.Lib.Quiescent

@[expose] public section

noncomputable section

namespace Cert.A2A

open Cert.KernelIdeal Cert.KernelIdeal.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

theorem finalA_x (c : Dev nD) : finalA m ρ c (0 : Fin 4) = m ((c : Thread nD τ).loc main_arg0) := (dats m ρ 0 c).arrAt_in (0 : Fin 4) rfl _
theorem finalA_sx (c : Dev nD) : finalA m ρ c (1 : Fin 4) = m ((c : Thread nD τ).loc main_arg2) := (dats m ρ 0 c).arrAt_in (1 : Fin 4) rfl _
theorem finalA_sw (c : Dev nD) : finalA m ρ c (2 : Fin 4) = m ((c : Thread nD τ).loc main_arg3) := (dats m ρ 0 c).arrAt_in (2 : Fin 4) rfl _

omit [FloatOps F] in
theorem blk_read_o (f : main_v1.ty.Contents (Elt F)) : (win0_3.blk (0 : Fin 1)).view.read (Elt F) f = f :=
  funext fun i => congrArg f (funext fun a => Fin.ext (by
    have h : ∀ a, (win0_3.rect (0 : Fin 1)).off a = 0 ∧ (win0_3.rect (0 : Fin 1)).stride a = 1 := by decide
    show (win0_3.rect (0 : Fin 1)).off a + (win0_3.rect (0 : Fin 1)).stride a * (i a).val = (i a).val
    rw [(h a).1, (h a).2]; omega))

theorem finalA_o (c : Dev nD) : finalA m ρ c (3 : Fin 4) = result m ρ c := by
  refine (blk_read_o (finalA m ρ c (3 : Fin 4))).symm.trans ?_
  unfold finalA
  rw [show cfg0.N = ((0 : Fin 1) : Fin cfg0.N).val + 1 from rfl, (dats m ρ 0 c).arrAt_succ (3 : Fin 4) (0 : Fin 1)]
  rw [show (cfg0.win (3 : Fin 4)).flush (0 : Fin 1) = true from flush0_3 _, if_pos rfl]
  exact View.read_write_univ _ _

/-- The run's arguments and counters. -/
def Kept4 (r : PUnit × MemSt nD τ sig (Elt F)) : Prop :=
  (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
    ∧ r.2.sem = fun _ => 0

theorem kept (r : PUnit × MemSt nD τ sig (Elt F)) (h : Ends m ρ r) : Kept4 m r :=
  ⟨fun c => ⟨(h.1 c (0 : Fin 4)).trans (finalA_x m ρ c), h.2.1 c, (h.1 c (1 : Fin 4)).trans (finalA_sx m ρ c), (h.1 c (2 : Fin 4)).trans (finalA_sw m ρ c)⟩, h.2.2⟩

/-- The two prints of the kernel are one text. -/
theorem defs₀_same : Cert.Kernel.defs₀ (F := Bits) = Cert.KernelIdeal.defs₀ (F := Bits) := by
  unfold Cert.Kernel.defs₀ Cert.KernelIdeal.defs₀
  refine congrArg Defs.onTc (funext fun l => funext fun a => ?_)
  match l, a with
  | 0, (t, s) => rfl
theorem defs_same : Cert.Kernel.defs (F := Bits) = Cert.KernelIdeal.defs (F := Bits) := by
  unfold Cert.Kernel.defs Cert.KernelIdeal.defs
  exact congrArg (Pipeline.defs (Cert.KernelIdeal.pcfgs (F := Bits))) defs₀_same

theorem frame_kernel : Cert.quiescent_Kernel := fun m ρ _ => by
  rw [defs_same]
  exact (θ_run Cert.KernelIdeal.defs _ _).mono (fun r h => kept m ρ r h) (run_main (F := Bits) m ρ)

theorem frame_kernelIdeal : Cert.quiescent_KernelIdeal :=
  fun m ρ _ => (θ_run Cert.KernelIdeal.defs _ _).mono (fun r h => kept m ρ r h) (run_main (F := Ideal) m ρ)

theorem frame_reference : Cert.quiescent_ReferenceIdeal :=
  fun m ρ _ => (θ_run Cert.ReferenceIdeal.defs _ _).mono (fun r h => ⟨fun c => (h c).2, sem_eq_zero_of_no_sems (by decide) r.2⟩)
    (Cert.ReferenceIdeal.Value.run (F := Ideal) m ρ)

/-- Each device's result array after the run. -/
theorem ends_out (r : PUnit × MemSt nD τ sig (Elt F)) (h : Ends m ρ r) (c : Dev nD) : r.2.mem ((c.tc : Thread nD τ).loc main_v1) = result m ρ c :=
  (h.1 c (3 : Fin 4)).trans (finalA_o m ρ c)

end Cert.A2A

end
-- ==== Proof.Arith.lean ====
/-
  The numbers of the claim: a product of signed bytes as an integer sum and as an extended real, the mask that bounds it,
  and the two ways of writing the activation, `y · logistic y` and `y / (1 + exp (-y))`.
-/
module

public import proofs.«01_k».proof.ReferenceIdeal
public import proofs.«01_k».proof.On_products_fit
public import proofs.«01_k».proof.Proof.Gen.ReferenceIdeal
public import Idealize.ShloMosaic.Lib.StackMember
public import Idealize.ShloMosaic.Lib.MatmulPlain
public import Idealize.ShloMosaic.Lib.IntMxu
public import Idealize.ShloMosaic.Lib.IdealHost

@[expose] public section

noncomputable section

namespace Cert.A2A

open Idealize.ShloMosaic Idealize.ShloMosaic.ValueIdx

/-! ## Sums of products of bytes -/

section Sums
variable {M K N : ℕ} (l : IVec ⟨2, ![M, K]⟩ 8) (r : IVec ⟨2, ![K, N]⟩ 8) (a : Fin M) (b : Fin N)

/-- The product's element, in integers. -/
def prodI : ℤ := ∑ k : Fin K, (l (ix2 a k)).toInt * (r (ix2 k b)).toInt
/-- The total of its terms' magnitudes. -/
def prodAbs : ℕ := ∑ k : Fin K, ((l (ix2 a k)).toInt * (r (ix2 k b)).toInt).natAbs

theorem lhs_at (k : Fin K) : (DotDims.plain M K N).lhsIdx (ix2 a b) ((DotDims.plainContr M K N).symm k) = ix2 a k := by
  have hk := contrEquiv1_symm_val _ K (DotDims.plain_contr_rank M K N) (DotDims.plain_contr_size M K N) k
  funext x; apply Fin.ext
  match x with
  | ⟨0, _⟩ => rfl
  | ⟨1, _⟩ => exact hk
theorem rhs_at (k : Fin K) : (DotDims.plain M K N).rhsIdx (ix2 a b) ((DotDims.plainContr M K N).symm k) = ix2 k b := by
  have hk := contrEquiv1_symm_val _ K (DotDims.plain_contr_rank M K N) (DotDims.plain_contr_size M K N) k
  funext x; apply Fin.ext
  match x with
  | ⟨0, _⟩ => exact hk
  | ⟨1, _⟩ => rfl

theorem dotI8_plain : dotI8 (DotDims.plain M K N) l r (ix2 a b) = prodI l r a b := by
  unfold dotI8 prodI
  rw [← Equiv.sum_comp (DotDims.plainContr M K N).symm]
  exact Finset.sum_congr rfl fun k _ => by rw [lhs_at, rhs_at]
theorem absDotI8_plain : absDotI8 (DotDims.plain M K N) l r (ix2 a b) = prodAbs l r a b := by
  unfold absDotI8 prodAbs
  rw [← Equiv.sum_comp (DotDims.plainContr M K N).symm]
  exact Finset.sum_congr rfl fun k _ => by rw [lhs_at, rhs_at]

/-- A sum of reals is the same sum of extended reals. -/
theorem coe_sum {ι : Type} (s : Finset ι) (f : ι → ℝ) : ((∑ i ∈ s, f i : ℝ) : EReal) = ∑ i ∈ s, (f i : EReal) := by
  classical
  induction s using Finset.induction_on with
  | empty => simp
  | insert x s hx ih => rw [Finset.sum_insert hx, Finset.sum_insert hx, EReal.coe_add, ih]

theorem prodI_coe : (((prodI l r a b : ℤ) : ℝ) : EReal)
    = ∑ k : Fin K, ((((l (ix2 a k)).toInt : ℝ) : EReal) * (((r (ix2 k b)).toInt : ℝ) : EReal)) := by
  unfold prodI
  rw [Int.cast_sum, coe_sum]
  exact Finset.sum_congr rfl fun k _ => by rw [Int.cast_mul, EReal.coe_mul]

theorem max_neg_coe (z : ℤ) : max ((z : ℝ) : EReal) (-((z : ℝ) : EReal)) = (((z.natAbs : ℕ) : ℝ) : EReal) := by
  rw [← EReal.coe_neg, ← EReal.coe_strictMono.monotone.map_max, Nat.cast_natAbs, Int.cast_abs]
  rfl

theorem prodAbs_coe : (((prodAbs l r a b : ℕ) : ℝ) : EReal)
    = ∑ k : Fin K, (max (((l (ix2 a k)).toInt : ℝ) : EReal) (-(((l (ix2 a k)).toInt : ℝ) : EReal))
        * max (((r (ix2 k b)).toInt : ℝ) : EReal) (-(((r (ix2 k b)).toInt : ℝ) : EReal))) := by
  unfold prodAbs
  rw [Nat.cast_sum, coe_sum]
  exact Finset.sum_congr rfl fun k _ => by rw [max_neg_coe, max_neg_coe, Int.natAbs_mul, Nat.cast_mul, EReal.coe_mul]

end Sums

/-- Widening a signed byte keeps its value. -/
theorem toInt_wide (b : BitVec 8) : (b.signExtend 32).toInt = b.toInt := BitVec.toInt_signExtend_of_le (by decide)

/-! ## The activation -/

/-- `y · logistic y`. -/
def silu (y : EReal) : EReal := y * Ideal.logistic y

theorem exp_nonneg (y : EReal) : 0 ≤ Ideal.exp y := by
  unfold Ideal.exp
  split
  · exact le_refl _
  · exact le_top
  · exact EReal.coe_nonneg.2 (Real.exp_nonneg _)

/-- `y / (1 + exp (-y))`, the same at every extended real. -/
theorem silu_div (y : EReal) : Ideal.div y (1 + Ideal.exp (-y)) = silu y := by
  have h : (1 : EReal) + Ideal.exp (-y) ≠ 0 := fun h0 => by
    have h1 : (1 : EReal) ≤ 1 + Ideal.exp (-y) := le_add_of_nonneg_right (exp_nonneg _)
    rw [h0] at h1
    exact absurd h1 (not_le.2 zero_lt_one)
  unfold silu Ideal.logistic Ideal.div
  rw [if_neg h, if_neg h, one_mul]

/-- The quotient the host writes, read at an element. -/
theorem host_quotient {s : Shape} (v o : FVec Ideal s .f32) (p : s.Idx) :
    Host.divf v (addf o (Host.exp (Host.negf v))) p = Ideal.div (v p) (o p + Ideal.exp (-(v p))) := rfl
/-- Where the comparison is set, it holds. -/
theorem less_at {s : Shape} (a b : FVec Ideal s .f32) (p : s.Idx) (h : cmpf .olt a b p = 1#1) : a p < b p := by
  by_contra hn
  have h' : BitVec.ofBool (decide (a p < b p)) = 1#1 := h
  rw [decide_eq_false hn] at h'
  exact absurd h' (by decide)

/-! ## The reference's value -/

section Ref
open Cert.ReferenceIdeal Cert.ReferenceIdeal.Gen Cert.ReferenceIdeal.Facts

variable (x : IVec S4096x4096 8) (w : IVec S4096x8192 8) (sx sw : FVec Ideal S1 .f32)

/-- The one index of a scale. -/
def one : S1.Idx := fun a => ⟨0, by revert a; decide⟩
theorem one_only (p q : S1.Idx) : p = q := funext fun a => Fin.ext (by
  have h : ∀ a : Fin S1.rank, S1.size a = 1 := by decide
  have hp := (p a).isLt
  have hq := (q a).isLt
  have := h a
  omega)

/-- The product times the scales. -/
def refY : FVec Ideal S4096x8192 .f32 :=
  mulf (Host.dotGeneral dot_S4096x4096_S4096x8192_S4096x8192_1_0_0_1_n_n (some .fp32) (sitofp .f32 (extsi 32 x natLt_8_32)) (sitofp .f32 (extsi 32 w natLt_8_32)))
    (broadcastInDim S4096x8192 ![0, 1] bcast_S1x1_S4096x8192_0_1 (broadcastInDim S1x1 ![1] bcast_S1_S1x1_1 (mulf sx sw)))
/-- The reference's result. -/
def refOut : FVec Ideal S4096x8192 .f32 :=
  Host.divf (refY x w sx sw) (addf (broadcastInDim S4096x8192 ![] bcast_S_S4096x8192 (constant S_ .f32 0x3F800000#32)) (Host.exp (Host.negf (refY x w sx sw))))

theorem refY_at (i : Fin 4096) (j : Fin 8192) :
    refY x w sx sw (ix2 i j) = (((prodI x w i j : ℤ) : ℝ) : EReal) * (sx one * sw one) := by
  have hd : Host.dotGeneral dot_S4096x4096_S4096x8192_S4096x8192_1_0_0_1_n_n (some .fp32) (sitofp (F := Ideal) .f32 (extsi 32 x natLt_8_32))
      (sitofp (F := Ideal) .f32 (extsi 32 w natLt_8_32)) (ix2 i j) = (((prodI x w i j : ℤ) : ℝ) : EReal) := by
    refine (StackMember.dotGeneral_plain_apply (some .fp32) _ _ i j).trans ?_
    rw [prodI_coe]
    refine Finset.sum_congr rfl fun k _ => ?_
    show (((((x (ix2 i k)).signExtend 32).toInt : ℝ) : EReal)) * (((((w (ix2 k j)).signExtend 32).toInt : ℝ) : EReal)) = _
    rw [toInt_wide, toInt_wide]
  have hs : ∀ p, broadcastInDim S4096x8192 ![0, 1] bcast_S1x1_S4096x8192_0_1 (broadcastInDim S1x1 ![1] bcast_S1_S1x1_1 (mulf sx sw)) p = sx one * sw one :=
    fun p => congrArg (mulf sx sw) (one_only _ one)
  unfold refY
  refine congrArg₂ (fun a b : EReal => a * b) hd (hs _)

theorem refOut_at (i : Fin 4096) (j : Fin 8192) :
    refOut x w sx sw (ix2 i j) = silu ((((prodI x w i j : ℤ) : ℝ) : EReal) * (sx one * sw one)) := by
  have h1 : broadcastInDim S4096x8192 ![] bcast_S_S4096x8192 (constant (F := Ideal) S_ .f32 0x3F800000#32) (ix2 i j) = (1 : EReal) := Ideal.ofBits_one_f32
  unfold refOut
  rw [host_quotient, h1, silu_div, refY_at]

end Ref

/-! ## The mask -/

/-- The mask's side conditions. -/
theorem maskFacts : Cert.On_products_fit.Facts where
  natLt_8_32 := by decide
  bcast_S_S4096x8192 := by decide
  dot_S4096x4096_S4096x8192_S4096x8192_1_0_0_1_n_n_wf := (DotDims.plain 4096 4096 8192).wf

theorem ofBits_bound : Ideal.ofBits .f32 0x4B800000#32 = ((16777216 : ℝ) : EReal) := by
  simp [Ideal.ofBits, Ideal.ieee, -EReal.coe_mul]; norm_num

section Mask
open Cert.On_products_fit
attribute [local instance] maskFacts

/-- Where the mask is set, the terms' magnitudes total within what the matrix unit sums exactly. -/
theorem mask_bound (x : IVec S4096x4096 8) (w : IVec S4096x8192 8) (sx sw : FVec Ideal S1 .f32) (i : Fin 4096) (j : Fin 8192)
    (h : Cert.On_products_fit.fn (F := Ideal) x w sx sw (ix2 i j) = 1#1) : prodAbs x w i j ≤ IntMxuNumerics.v7x.exactUpTo := by
  have hd : Host.dotGeneral dot_S4096x4096_S4096x8192_S4096x8192_1_0_0_1_n_n (some .fp32) (Host.absf (sitofp (F := Ideal) .f32 (extsi 32 x Facts.natLt_8_32)))
      (Host.absf (sitofp (F := Ideal) .f32 (extsi 32 w Facts.natLt_8_32))) (ix2 i j) = (((prodAbs x w i j : ℕ) : ℝ) : EReal) := by
    refine (StackMember.dotGeneral_plain_apply (some .fp32) _ _ i j).trans ?_
    rw [prodAbs_coe]
    refine Finset.sum_congr rfl fun k _ => ?_
    show max (((((x (ix2 i k)).signExtend 32).toInt : ℝ) : EReal)) (-((((x (ix2 i k)).signExtend 32).toInt : ℝ) : EReal))
      * max (((((w (ix2 k j)).signExtend 32).toInt : ℝ) : EReal)) (-((((w (ix2 k j)).signExtend 32).toInt : ℝ) : EReal)) = _
    rw [toInt_wide, toInt_wide]
  have hlt : (((prodAbs x w i j : ℕ) : ℝ) : EReal) < ((16777216 : ℝ) : EReal) :=
    lt_of_eq_of_lt hd.symm (lt_of_lt_of_eq (less_at _ _ (ix2 i j) h) ofBits_bound)
  have h2 : prodAbs x w i j < 16777216 := by exact_mod_cast EReal.coe_lt_coe_iff.1 hlt
  show _ ≤ 2 ^ 24 - 1
  omega

end Mask

end Cert.A2A

end
-- ==== Proof.Value.lean ====
/-
  What the run leaves, over the extended reals: every element the mask sets is the reference's element.
-/
module

public import proofs.«01_k».proof.Defs
public import proofs.«01_k».proof.Proof.Frames
public import proofs.«01_k».proof.Proof.Arith

@[expose] public section

noncomputable section

namespace Cert.A2A

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (ρ : Dev nD → PrngReg)

/-! ## The operands -/

/-- Device `d`'s operands: its rows, its copy of the weights, its copies of the two scales. -/
def xOf (d : Dev nD) : IVec S128x4096 8 := m ((d : Thread nD τ).loc main_arg0)
def wOf (d : Dev nD) : IVec S4096x8192 8 := m ((d : Thread nD τ).loc main_arg1)
def sxOf (d : Dev nD) : FVec Ideal S1 .f32 := m ((d : Thread nD τ).loc main_arg2)
def swOf (d : Dev nD) : FVec Ideal S1 .f32 := m ((d : Thread nD τ).loc main_arg3)

/-! ## The operands as the body reads them -/

theorem xstg_eq (c : Dev nD) : xstg m ρ c = m ((c : Thread nD τ).loc main_arg0) :=
  funext fun i => congrArg (m ((c : Thread nD τ).loc main_arg0)) (funext fun a => Fin.ext (by
    have h : ∀ a, (win0_0.rect (0 : Fin 1)).off a = 0 ∧ (win0_0.rect (0 : Fin 1)).stride a = 1 := by decide
    show (win0_0.rect (0 : Fin 1)).off a + (win0_0.rect (0 : Fin 1)).stride a * (i a).val = (i a).val
    rw [(h a).1, (h a).2]; omega))
theorem sxstg_eq (c : Dev nD) : sxstg m ρ c = m ((c : Thread nD τ).loc main_arg2) :=
  funext fun i => congrArg (m ((c : Thread nD τ).loc main_arg2)) (funext fun a => Fin.ext (by
    have h : ∀ a, (win0_1.rect (0 : Fin 1)).off a = 0 ∧ (win0_1.rect (0 : Fin 1)).stride a = 1 := by decide
    show (win0_1.rect (0 : Fin 1)).off a + (win0_1.rect (0 : Fin 1)).stride a * (i a).val = (i a).val
    rw [(h a).1, (h a).2]; omega))
theorem swstg_eq (c : Dev nD) : swstg m ρ c = m ((c : Thread nD τ).loc main_arg3) :=
  funext fun i => congrArg (m ((c : Thread nD τ).loc main_arg3)) (funext fun a => Fin.ext (by
    have h : ∀ a, (win0_2.rect (0 : Fin 1)).off a = 0 ∧ (win0_2.rect (0 : Fin 1)).stride a = 1 := by decide
    show (win0_2.rect (0 : Fin 1)).off a + (win0_2.rect (0 : Fin 1)).stride a * (i a).val = (i a).val
    rw [(h a).1, (h a).2]; omega))

/-- A column of a panel is a column of the weights. -/
theorem pan_at (g : Fin 4) (f : main_arg1.ty.Contents (Elt Ideal)) (k : Fin 4096) (n : Fin 2048) :
    (pan g).view.read (Elt Ideal) f (ix2 k n) = f (ix2 k (⟨2048 * g.val + n.val, by omega⟩ : Fin 8192)) :=
  congrArg f (funext fun a => Fin.ext (match a with
    | ⟨0, _⟩ => by show 0 + 1 * k.val = k.val; omega
    | ⟨1, _⟩ => by show 2048 * g.val + 1 * n.val = 2048 * g.val + n.val; omega))

/-! ## The body's values -/

/-- A panel's element: the activation of the product's element times the scale. -/
theorem pay_at (s : Ideal .f32) (x : Vec Ideal S128x4096 .i8) (p : IVec S4096x2048 8) (hc : S4096x2048.ShapeCasts S1x4096x2048)
    (r : Fin 128) (n : Fin 2048) (hb : prodAbs (x : IVec S128x4096 8) p r n ≤ IntMxuNumerics.v7x.exactUpTo) :
    k0_pay2 s x (shapeCast S1x4096x2048 p hc) (ix2 r n) = silu ((((prodI (x : IVec S128x4096 8) p r n : ℤ) : ℝ) : EReal) * s) := by
  have hm : (matmulI8 IntMxuNumerics.v7x (DotDims.plain 128 4096 2048) x p (constantI S128x2048 32 0#32) (ix2 r n)).toInt = prodI (x : IVec S128x4096 8) p r n := by
    rw [matmulI8_toInt _ _ _ _ _ _ rfl (by rw [absDotI8_plain]; exact hb), dotI8_plain]
  rw [← hm]
  unfold k0_pay2
  rw [shapeCast_shapeCast, shapeCast_self]
  rfl

/-- Over the extended reals the trip through the narrower format changes nothing. -/
theorem out_eq (c d : Dev nD) : out m ρ c d = blk m ρ d c := by
  unfold out
  split
  · next h => rw [h]
  · unfold sent k0_pay71 k0_pay4
    exact shapeCast_shapeCast (blk m ρ d c) _ _

/-- A column of a column block is a column of its panel. -/
theorem colBlk_val (v : FVec Ideal S128x2048 .f32) (j : Fin 8) (r : Fin 128) (n : Fin 256) (u : Fin 2048) (hu : u.val = 256 * j.val + n.val) :
    colBlk j v (ix2 r n) = v (ix2 r u) :=
  extractStridedSlice_apply ![0, 256 * j.val] v (slices8 j) (ix2 r n) (ix2 r u) (fun a => match a with
    | ⟨0, _⟩ => by show r.val = 0 + r.val; omega
    | ⟨1, _⟩ => hu)

/-- A panel's element, from its device's operands. -/
theorem act_val (d : Dev nD) (g : Fin 4) (r : Fin 128) (u : Fin 2048) (q : Fin 8192) (hq : q.val = 2048 * g.val + u.val)
    (hb : prodAbs (xOf m d) (wOf m d) r q ≤ IntMxuNumerics.v7x.exactUpTo) :
    act m ρ d g (ix2 r u) = silu ((((prodI (xOf m d) (wOf m d) r q : ℤ) : ℝ) : EReal) * (sxOf m d first * swOf m d first)) := by
  obtain ⟨p, hp⟩ : ∃ p : IVec S4096x2048 8, p = (pan g).view.read (Elt Ideal) (warr m d) := ⟨_, rfl⟩
  have hcol : ∀ k : Fin 4096, p (ix2 k u) = wOf m d (ix2 k q) := fun k => by
    rw [hp]
    refine (pan_at g (warr m d) k u).trans ?_
    rw [show (⟨2048 * g.val + u.val, by omega⟩ : Fin 8192) = q from Fin.ext hq.symm]
    rfl
  have hI : prodI (xOf m d) p r u = prodI (xOf m d) (wOf m d) r q := by
    unfold prodI
    exact Finset.sum_congr rfl fun k _ => by rw [hcol k]
  have hA : prodAbs (xOf m d) p r u = prodAbs (xOf m d) (wOf m d) r q := by
    unfold prodAbs
    exact Finset.sum_congr rfl fun k _ => by rw [hcol k]
  rw [← hI]
  unfold act panel scale
  rw [xstg_eq, sxstg_eq, swstg_eq, ← hp]
  exact pay_at _ _ p _ r u (hA.trans_le hb)

/-- A block's element, from its device's operands. -/
theorem blk_val (d c : Dev nD) (r : Fin 128) (n : Fin 256) (q : Fin 8192) (hq : q.val = 256 * c.val + n.val)
    (hb : prodAbs (xOf m d) (wOf m d) r q ≤ IntMxuNumerics.v7x.exactUpTo) :
    blk m ρ d c (ix2 r n) = silu ((((prodI (xOf m d) (wOf m d) r q : ℤ) : ℝ) : EReal) * (sxOf m d first * swOf m d first)) := by
  have hc : c.val < 32 := c.isLt
  have hn : n.val < 256 := n.isLt
  unfold blk
  rw [colBlk_val _ _ r n ⟨256 * (c.val % 8) + n.val, by omega⟩ rfl]
  exact act_val m ρ d _ r _ q (by show q.val = 2048 * (c.val / 8) + (256 * (c.val % 8) + n.val); omega) hb

/-- A result's element, from the operands of the device its row is from. -/
theorem result_val (c d : Dev nD) (i : Fin 4096) (r : Fin 128) (n : Fin 256) (q : Fin 8192) (hi : i.val = 128 * d.val + r.val) (hq : q.val = 256 * c.val + n.val)
    (hb : prodAbs (xOf m d) (wOf m d) r q ≤ IntMxuNumerics.v7x.exactUpTo) :
    result m ρ c (ix2 i n) = silu ((((prodI (xOf m d) (wOf m d) r q : ℤ) : ℝ) : EReal)
      * (sxOf m d first * swOf m d first)) := by
  have hr : r.val < 128 := r.isLt
  rw [← blk_val m ρ d c r n q hq hb, ← out_eq]
  have hd : (⟨i.val / 128, by have := i.isLt; show _ < 32; omega⟩ : Dev nD) = d := Fin.ext (by show i.val / 128 = d.val; omega)
  show out m ρ c (⟨i.val / 128, _⟩ : Dev nD) _ = _
  rw [hd]
  exact congrArg (out m ρ c d) (funext fun a => Fin.ext (match a with
    | ⟨0, _⟩ => by show i.val % 128 = r.val; omega
    | ⟨1, _⟩ => rfl))

/-! ## The claim -/

attribute [local instance] maskFacts in
theorem equals : Cert.algebraic_KernelIdeal_ReferenceIdeal_on_products_fit := by
  intro m ρ m' ρ' _ hargs
  let X : IVec ⟨2, ![4096, 4096]⟩ 8 := m' (((0 : Dev Cert.ReferenceIdeal.nD).tc : Thread Cert.ReferenceIdeal.nD Cert.ReferenceIdeal.τ).loc Cert.ReferenceIdeal.main_arg0)
  let W : IVec S4096x8192 8 := m' (((0 : Dev Cert.ReferenceIdeal.nD).tc : Thread Cert.ReferenceIdeal.nD Cert.ReferenceIdeal.τ).loc Cert.ReferenceIdeal.main_arg1)
  let sx : FVec Ideal S1 .f32 := m' (((0 : Dev Cert.ReferenceIdeal.nD).tc : Thread Cert.ReferenceIdeal.nD Cert.ReferenceIdeal.τ).loc Cert.ReferenceIdeal.main_arg2)
  let sw : FVec Ideal S1 .f32 := m' (((0 : Dev Cert.ReferenceIdeal.nD).tc : Thread Cert.ReferenceIdeal.nD Cert.ReferenceIdeal.τ).loc Cert.ReferenceIdeal.main_arg3)
  refine ⟨refOut X W sx sw, ?_, ?_⟩
  · refine (θ_run Cert.KernelIdeal.defs _ _).mono (fun r h c => ⟨fun i hi => ?_, (kept m ρ r h).1 c⟩) (run_main (F := Ideal) m ρ)
    rw [ends_out m ρ r h c, eq_ix2 i]
    rw [eq_ix2 i] at hi
    generalize i 0 = a at hi ⊢
    generalize i 1 = n at hi ⊢
    have ha : a.val < 4096 := a.isLt
    have hn : n.val < 256 := n.isLt
    have hc : c.val < 32 := c.isLt
    let d : Dev nD := ⟨a.val / 128, by show _ < 32; omega⟩
    let t : Fin 128 := ⟨a.val % 128, Nat.mod_lt _ (by decide)⟩
    let q : Fin 8192 := ⟨c.val * 256 + n.val, by omega⟩
    have hidx : (by decide : Layout.Tiles ⟨2, ![4096, 256]⟩ ⟨2, ![4096, 8192]⟩ 1 32).idx c (ix2 a n) = ix2 a q :=
      funext fun b => Fin.ext (match b with | ⟨0, _⟩ => rfl | ⟨1, _⟩ => rfl)
    have hmask : prodAbs X W a q ≤ IntMxuNumerics.v7x.exactUpTo :=
      mask_bound X W sx sw a q ((congrArg (Cert.On_products_fit.fn (F := Ideal) X W sx sw) hidx).symm.trans hi)
    have hx : ∀ k : Fin 4096, xOf m d (ix2 t k) = X (ix2 a k) := fun k =>
      (congrFun (hargs d).1 (ix2 t k)).trans (congrArg X (funext fun b => Fin.ext (match b with
        | ⟨0, _⟩ => by show a.val / 128 * 128 + a.val % 128 = a.val; omega
        | ⟨1, _⟩ => rfl)))
    have hw : wOf m d = W := (hargs d).2.1
    have hI : prodI (xOf m d) (wOf m d) t q = prodI X W a q := by
      rw [hw]; unfold prodI
      exact Finset.sum_congr rfl fun k _ => by rw [hx k]
    have hA : prodAbs (xOf m d) (wOf m d) t q = prodAbs X W a q := by
      rw [hw]; unfold prodAbs
      exact Finset.sum_congr rfl fun k _ => by rw [hx k]
    have hsx : sxOf m d = sx := (hargs d).2.2.1
    have hsw : swOf m d = sw := (hargs d).2.2.2
    refine (result_val m ρ c d a t n q (by show a.val = 128 * (a.val / 128) + a.val % 128; omega) (by show c.val * 256 + n.val = _; omega) (hA.trans_le hmask)).trans ?_
    rw [hI, hsx, hsw]
    exact (refOut_at X W sx sw a q).symm.trans (congrArg (refOut X W sx sw) hidx).symm
  · exact (θ_run Cert.ReferenceIdeal.defs _ _).mono (fun r h => ⟨fun i _ => congrFun (h 0).1 i, (h 0).2⟩)
      (Cert.ReferenceIdeal.Value.run (F := Ideal) m' ρ')

end Cert.A2A

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.A2A.maskFacts,
    Cert.A2A.frame_kernel, Cert.A2A.frame_kernelIdeal, Cert.A2A.frame_reference, trivial, Cert.A2A.equals⟩

end Cert.Proof

end
